-- ==== Defs.lean ====
def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_COut (m : (ℓ : Loc Cert.COut.nD Cert.COut.τ Cert.COut.sig) → Buf (Elt Bits) ℓ) : Prop :=
  True

def Pre_COutIdeal (m : (ℓ : Loc Cert.COutIdeal.nD Cert.COutIdeal.τ Cert.COutIdeal.sig) → Buf (Elt Ideal) ℓ) : Prop :=
  True

def Pre_COutRefIdeal (m : (ℓ : Loc Cert.COutRefIdeal.nD Cert.COutRefIdeal.τ Cert.COutRefIdeal.sig) → Buf (Elt Ideal) ℓ) : Prop :=
  True

def Pre_AbOut (m : (ℓ : Loc Cert.AbOut.nD Cert.AbOut.τ Cert.AbOut.sig) → Buf (Elt Bits) ℓ) : Prop :=
  True

def Pre_AbOutIdeal (m : (ℓ : Loc Cert.AbOutIdeal.nD Cert.AbOutIdeal.τ Cert.AbOutIdeal.sig) → Buf (Elt Ideal) ℓ) : Prop :=
  True

def Pre_AbOutRefIdeal (m : (ℓ : Loc Cert.AbOutRefIdeal.nD Cert.AbOutRefIdeal.τ Cert.AbOutRefIdeal.sig) → Buf (Elt Ideal) ℓ) : Prop :=
  True

def Pre_CIn (m : (ℓ : Loc Cert.CIn.nD Cert.CIn.τ Cert.CIn.sig) → Buf (Elt Bits) ℓ) : Prop :=
  True

def Pre_CInIdeal (m : (ℓ : Loc Cert.CInIdeal.nD Cert.CInIdeal.τ Cert.CInIdeal.sig) → Buf (Elt Ideal) ℓ) : Prop :=
  True

def Pre_CInRefIdeal (m : (ℓ : Loc Cert.CInRefIdeal.nD Cert.CInRefIdeal.τ Cert.CInRefIdeal.sig) → Buf (Elt Ideal) ℓ) : Prop :=
  True

def Pre_AbIn (m : (ℓ : Loc Cert.AbIn.nD Cert.AbIn.τ Cert.AbIn.sig) → Buf (Elt Bits) ℓ) : Prop :=
  True

def Pre_AbInIdeal (m : (ℓ : Loc Cert.AbInIdeal.nD Cert.AbInIdeal.τ Cert.AbInIdeal.sig) → Buf (Elt Ideal) ℓ) : Prop :=
  True

def Pre_AbInRefIdeal (m : (ℓ : Loc Cert.AbInRefIdeal.nD Cert.AbInRefIdeal.τ Cert.AbInRefIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepRefIdeal (m : (ℓ : Loc Cert.PrepRefIdeal.nD Cert.PrepRefIdeal.τ Cert.PrepRefIdeal.sig) → Buf (Elt Ideal) ℓ) : Prop :=
  True

def Pre_RopeRows (m : (ℓ : Loc Cert.RopeRows.nD Cert.RopeRows.τ Cert.RopeRows.sig) → Buf (Elt Bits) ℓ) : Prop :=
  True

def Pre_RopeRowsIdeal (m : (ℓ : Loc Cert.RopeRowsIdeal.nD Cert.RopeRowsIdeal.τ Cert.RopeRowsIdeal.sig) → Buf (Elt Ideal) ℓ) : Prop :=
  True

def Pre_RopeRowsRefIdeal (m : (ℓ : Loc Cert.RopeRowsRefIdeal.nD Cert.RopeRowsRefIdeal.τ Cert.RopeRowsRefIdeal.sig) → Buf (Elt Ideal) ℓ) : Prop :=
  True

def Pre_FfnMid (m : (ℓ : Loc Cert.FfnMid.nD Cert.FfnMid.τ Cert.FfnMid.sig) → Buf (Elt Bits) ℓ) : Prop :=
  True

def Pre_FfnMidIdeal (m : (ℓ : Loc Cert.FfnMidIdeal.nD Cert.FfnMidIdeal.τ Cert.FfnMidIdeal.sig) → Buf (Elt Ideal) ℓ) : Prop :=
  True

def Pre_FfnMidRefIdeal (m : (ℓ : Loc Cert.FfnMidRefIdeal.nD Cert.FfnMidRefIdeal.τ Cert.FfnMidRefIdeal.sig) → Buf (Elt Ideal) ℓ) : Prop :=
  True

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalRefIdeal (m : (ℓ : Loc Cert.FinalRefIdeal.nD Cert.FinalRefIdeal.τ Cert.FinalRefIdeal.sig) → Buf (Elt Ideal) ℓ) : Prop :=
  True

def Pre_FinalStep (m : (ℓ : Loc Cert.FinalStep.nD Cert.FinalStep.τ Cert.FinalStep.sig) → Buf (Elt Bits) ℓ) : Prop :=
  True

def Pre_FinalStepIdeal (m : (ℓ : Loc Cert.FinalStepIdeal.nD Cert.FinalStepIdeal.τ Cert.FinalStepIdeal.sig) → Buf (Elt Ideal) ℓ) : Prop :=
  True

def Pre_FinalStepRefIdeal (m : (ℓ : Loc Cert.FinalStepRefIdeal.nD Cert.FinalStepRefIdeal.τ Cert.FinalStepRefIdeal.sig) → Buf (Elt Ideal) ℓ) : Prop :=
  True

def Pre_MlstmStep (m : (ℓ : Loc Cert.MlstmStep.nD Cert.MlstmStep.τ Cert.MlstmStep.sig) → Buf (Elt Bits) ℓ) : Prop :=
  True

def Pre_MlstmStepIdeal (m : (ℓ : Loc Cert.MlstmStepIdeal.nD Cert.MlstmStepIdeal.τ Cert.MlstmStepIdeal.sig) → Buf (Elt Ideal) ℓ) : Prop :=
  True

def Pre_MlstmStepRefIdeal (m : (ℓ : Loc Cert.MlstmStepRefIdeal.nD Cert.MlstmStepRefIdeal.τ Cert.MlstmStepRefIdeal.sig) → Buf (Elt Ideal) ℓ) : Prop :=
  True

def Pre_GdnStep (m : (ℓ : Loc Cert.GdnStep.nD Cert.GdnStep.τ Cert.GdnStep.sig) → Buf (Elt Bits) ℓ) : Prop :=
  True

def Pre_GdnStepIdeal (m : (ℓ : Loc Cert.GdnStepIdeal.nD Cert.GdnStepIdeal.τ Cert.GdnStepIdeal.sig) → Buf (Elt Ideal) ℓ) : Prop :=
  True

def Pre_GdnStepRefIdeal (m : (ℓ : Loc Cert.GdnStepRefIdeal.nD Cert.GdnStepRefIdeal.τ Cert.GdnStepRefIdeal.sig) → Buf (Elt Ideal) ℓ) : Prop :=
  True

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_COut [hCOut : Cert.COut.Facts] : Prop :=
  ∀ (m : (ℓ : Loc Cert.COut.nD Cert.COut.τ Cert.COut.sig) → Buf (Elt Bits) ℓ) (g : Dev Cert.COut.nD → PrngReg), Pre_COut m →
    θ_run (Cert.COut.defs (F := Bits)) (onTc (τ := Cert.COut.τ) (Cert.COut.main (F := Bits))) ⟨m, fun _ => 0, g⟩ (fun r => (∀ c : Dev Cert.COut.nD,
      r.2.mem ((c.tc : Thread Cert.COut.nD Cert.COut.τ).loc Cert.COut.main_arg0) = m ((c.tc : Thread Cert.COut.nD Cert.COut.τ).loc Cert.COut.main_arg0)
      ∧ r.2.mem ((c.tc : Thread Cert.COut.nD Cert.COut.τ).loc Cert.COut.main_arg1) = m ((c.tc : Thread Cert.COut.nD Cert.COut.τ).loc Cert.COut.main_arg1)
      ∧ r.2.mem ((c.tc : Thread Cert.COut.nD Cert.COut.τ).loc Cert.COut.main_arg2) = m ((c.tc : Thread Cert.COut.nD Cert.COut.τ).loc Cert.COut.main_arg2))
      ∧ r.2.sem = fun _ => 0)

def quiescent_COutIdeal [hCOutIdeal : Cert.COutIdeal.Facts] : Prop :=
  ∀ (m : (ℓ : Loc Cert.COutIdeal.nD Cert.COutIdeal.τ Cert.COutIdeal.sig) → Buf (Elt Ideal) ℓ) (g : Dev Cert.COutIdeal.nD → PrngReg), Pre_COutIdeal m →
    θ_run (Cert.COutIdeal.defs (F := Ideal)) (onTc (τ := Cert.COutIdeal.τ) (Cert.COutIdeal.main (F := Ideal))) ⟨m, fun _ => 0, g⟩ (fun r => (∀ c : Dev Cert.COutIdeal.nD,
      r.2.mem ((c.tc : Thread Cert.COutIdeal.nD Cert.COutIdeal.τ).loc Cert.COutIdeal.main_arg0) = m ((c.tc : Thread Cert.COutIdeal.nD Cert.COutIdeal.τ).loc Cert.COutIdeal.main_arg0)
      ∧ r.2.mem ((c.tc : Thread Cert.COutIdeal.nD Cert.COutIdeal.τ).loc Cert.COutIdeal.main_arg1) = m ((c.tc : Thread Cert.COutIdeal.nD Cert.COutIdeal.τ).loc Cert.COutIdeal.main_arg1)
      ∧ r.2.mem ((c.tc : Thread Cert.COutIdeal.nD Cert.COutIdeal.τ).loc Cert.COutIdeal.main_arg2) = m ((c.tc : Thread Cert.COutIdeal.nD Cert.COutIdeal.τ).loc Cert.COutIdeal.main_arg2))
      ∧ r.2.sem = fun _ => 0)

def quiescent_COutRefIdeal [hCOutRefIdeal : Cert.COutRefIdeal.Facts] : Prop :=
  ∀ (m : (ℓ : Loc Cert.COutRefIdeal.nD Cert.COutRefIdeal.τ Cert.COutRefIdeal.sig) → Buf (Elt Ideal) ℓ) (g : Dev Cert.COutRefIdeal.nD → PrngReg), Pre_COutRefIdeal m →
    θ_run (Cert.COutRefIdeal.defs (F := Ideal)) (onTc (τ := Cert.COutRefIdeal.τ) (Cert.COutRefIdeal.main (F := Ideal))) ⟨m, fun _ => 0, g⟩ (fun r => (∀ c : Dev Cert.COutRefIdeal.nD,
      r.2.mem ((c.tc : Thread Cert.COutRefIdeal.nD Cert.COutRefIdeal.τ).loc Cert.COutRefIdeal.main_arg0) = m ((c.tc : Thread Cert.COutRefIdeal.nD Cert.COutRefIdeal.τ).loc Cert.COutRefIdeal.main_arg0)
      ∧ r.2.mem ((c.tc : Thread Cert.COutRefIdeal.nD Cert.COutRefIdeal.τ).loc Cert.COutRefIdeal.main_arg1) = m ((c.tc : Thread Cert.COutRefIdeal.nD Cert.COutRefIdeal.τ).loc Cert.COutRefIdeal.main_arg1)
      ∧ r.2.mem ((c.tc : Thread Cert.COutRefIdeal.nD Cert.COutRefIdeal.τ).loc Cert.COutRefIdeal.main_arg2) = m ((c.tc : Thread Cert.COutRefIdeal.nD Cert.COutRefIdeal.τ).loc Cert.COutRefIdeal.main_arg2))
      ∧ r.2.sem = fun _ => 0)

def quiescent_AbOut [hAbOut : Cert.AbOut.Facts] : Prop :=
  ∀ (m : (ℓ : Loc Cert.AbOut.nD Cert.AbOut.τ Cert.AbOut.sig) → Buf (Elt Bits) ℓ) (g : Dev Cert.AbOut.nD → PrngReg), Pre_AbOut m →
    θ_run (Cert.AbOut.defs (F := Bits)) (onTc (τ := Cert.AbOut.τ) (Cert.AbOut.main (F := Bits))) ⟨m, fun _ => 0, g⟩ (fun r => (∀ c : Dev Cert.AbOut.nD,
      r.2.mem ((c.tc : Thread Cert.AbOut.nD Cert.AbOut.τ).loc Cert.AbOut.main_arg0) = m ((c.tc : Thread Cert.AbOut.nD Cert.AbOut.τ).loc Cert.AbOut.main_arg0)
      ∧ r.2.mem ((c.tc : Thread Cert.AbOut.nD Cert.AbOut.τ).loc Cert.AbOut.main_arg1) = m ((c.tc : Thread Cert.AbOut.nD Cert.AbOut.τ).loc Cert.AbOut.main_arg1)
      ∧ r.2.mem ((c.tc : Thread Cert.AbOut.nD Cert.AbOut.τ).loc Cert.AbOut.main_arg2) = m ((c.tc : Thread Cert.AbOut.nD Cert.AbOut.τ).loc Cert.AbOut.main_arg2)
      ∧ r.2.mem ((c.tc : Thread Cert.AbOut.nD Cert.AbOut.τ).loc Cert.AbOut.main_arg3) = m ((c.tc : Thread Cert.AbOut.nD Cert.AbOut.τ).loc Cert.AbOut.main_arg3))
      ∧ r.2.sem = fun _ => 0)

def quiescent_AbOutIdeal [hAbOutIdeal : Cert.AbOutIdeal.Facts] : Prop :=
  ∀ (m : (ℓ : Loc Cert.AbOutIdeal.nD Cert.AbOutIdeal.τ Cert.AbOutIdeal.sig) → Buf (Elt Ideal) ℓ) (g : Dev Cert.AbOutIdeal.nD → PrngReg), Pre_AbOutIdeal m →
    θ_run (Cert.AbOutIdeal.defs (F := Ideal)) (onTc (τ := Cert.AbOutIdeal.τ) (Cert.AbOutIdeal.main (F := Ideal))) ⟨m, fun _ => 0, g⟩ (fun r => (∀ c : Dev Cert.AbOutIdeal.nD,
      r.2.mem ((c.tc : Thread Cert.AbOutIdeal.nD Cert.AbOutIdeal.τ).loc Cert.AbOutIdeal.main_arg0) = m ((c.tc : Thread Cert.AbOutIdeal.nD Cert.AbOutIdeal.τ).loc Cert.AbOutIdeal.main_arg0)
      ∧ r.2.mem ((c.tc : Thread Cert.AbOutIdeal.nD Cert.AbOutIdeal.τ).loc Cert.AbOutIdeal.main_arg1) = m ((c.tc : Thread Cert.AbOutIdeal.nD Cert.AbOutIdeal.τ).loc Cert.AbOutIdeal.main_arg1)
      ∧ r.2.mem ((c.tc : Thread Cert.AbOutIdeal.nD Cert.AbOutIdeal.τ).loc Cert.AbOutIdeal.main_arg2) = m ((c.tc : Thread Cert.AbOutIdeal.nD Cert.AbOutIdeal.τ).loc Cert.AbOutIdeal.main_arg2)
      ∧ r.2.mem ((c.tc : Thread Cert.AbOutIdeal.nD Cert.AbOutIdeal.τ).loc Cert.AbOutIdeal.main_arg3) = m ((c.tc : Thread Cert.AbOutIdeal.nD Cert.AbOutIdeal.τ).loc Cert.AbOutIdeal.main_arg3))
      ∧ r.2.sem = fun _ => 0)

def quiescent_AbOutRefIdeal [hAbOutRefIdeal : Cert.AbOutRefIdeal.Facts] : Prop :=
  ∀ (m : (ℓ : Loc Cert.AbOutRefIdeal.nD Cert.AbOutRefIdeal.τ Cert.AbOutRefIdeal.sig) → Buf (Elt Ideal) ℓ) (g : Dev Cert.AbOutRefIdeal.nD → PrngReg), Pre_AbOutRefIdeal m →
    θ_run (Cert.AbOutRefIdeal.defs (F := Ideal)) (onTc (τ := Cert.AbOutRefIdeal.τ) (Cert.AbOutRefIdeal.main (F := Ideal))) ⟨m, fun _ => 0, g⟩ (fun r => (∀ c : Dev Cert.AbOutRefIdeal.nD,
      r.2.mem ((c.tc : Thread Cert.AbOutRefIdeal.nD Cert.AbOutRefIdeal.τ).loc Cert.AbOutRefIdeal.main_arg0) = m ((c.tc : Thread Cert.AbOutRefIdeal.nD Cert.AbOutRefIdeal.τ).loc Cert.AbOutRefIdeal.main_arg0)
      ∧ r.2.mem ((c.tc : Thread Cert.AbOutRefIdeal.nD Cert.AbOutRefIdeal.τ).loc Cert.AbOutRefIdeal.main_arg1) = m ((c.tc : Thread Cert.AbOutRefIdeal.nD Cert.AbOutRefIdeal.τ).loc Cert.AbOutRefIdeal.main_arg1)
      ∧ r.2.mem ((c.tc : Thread Cert.AbOutRefIdeal.nD Cert.AbOutRefIdeal.τ).loc Cert.AbOutRefIdeal.main_arg2) = m ((c.tc : Thread Cert.AbOutRefIdeal.nD Cert.AbOutRefIdeal.τ).loc Cert.AbOutRefIdeal.main_arg2)
      ∧ r.2.mem ((c.tc : Thread Cert.AbOutRefIdeal.nD Cert.AbOutRefIdeal.τ).loc Cert.AbOutRefIdeal.main_arg3) = m ((c.tc : Thread Cert.AbOutRefIdeal.nD Cert.AbOutRefIdeal.τ).loc Cert.AbOutRefIdeal.main_arg3))
      ∧ r.2.sem = fun _ => 0)

def quiescent_CIn [hCIn : Cert.CIn.Facts] : Prop :=
  ∀ (m : (ℓ : Loc Cert.CIn.nD Cert.CIn.τ Cert.CIn.sig) → Buf (Elt Bits) ℓ) (g : Dev Cert.CIn.nD → PrngReg), Pre_CIn m →
    θ_run (Cert.CIn.defs (F := Bits)) (onTc (τ := Cert.CIn.τ) (Cert.CIn.main (F := Bits))) ⟨m, fun _ => 0, g⟩ (fun r => (∀ c : Dev Cert.CIn.nD,
      r.2.mem ((c.tc : Thread Cert.CIn.nD Cert.CIn.τ).loc Cert.CIn.main_arg0) = m ((c.tc : Thread Cert.CIn.nD Cert.CIn.τ).loc Cert.CIn.main_arg0)
      ∧ r.2.mem ((c.tc : Thread Cert.CIn.nD Cert.CIn.τ).loc Cert.CIn.main_arg1) = m ((c.tc : Thread Cert.CIn.nD Cert.CIn.τ).loc Cert.CIn.main_arg1)
      ∧ r.2.mem ((c.tc : Thread Cert.CIn.nD Cert.CIn.τ).loc Cert.CIn.main_arg2) = m ((c.tc : Thread Cert.CIn.nD Cert.CIn.τ).loc Cert.CIn.main_arg2))
      ∧ r.2.sem = fun _ => 0)

def quiescent_CInIdeal [hCInIdeal : Cert.CInIdeal.Facts] : Prop :=
  ∀ (m : (ℓ : Loc Cert.CInIdeal.nD Cert.CInIdeal.τ Cert.CInIdeal.sig) → Buf (Elt Ideal) ℓ) (g : Dev Cert.CInIdeal.nD → PrngReg), Pre_CInIdeal m →
    θ_run (Cert.CInIdeal.defs (F := Ideal)) (onTc (τ := Cert.CInIdeal.τ) (Cert.CInIdeal.main (F := Ideal))) ⟨m, fun _ => 0, g⟩ (fun r => (∀ c : Dev Cert.CInIdeal.nD,
      r.2.mem ((c.tc : Thread Cert.CInIdeal.nD Cert.CInIdeal.τ).loc Cert.CInIdeal.main_arg0) = m ((c.tc : Thread Cert.CInIdeal.nD Cert.CInIdeal.τ).loc Cert.CInIdeal.main_arg0)
      ∧ r.2.mem ((c.tc : Thread Cert.CInIdeal.nD Cert.CInIdeal.τ).loc Cert.CInIdeal.main_arg1) = m ((c.tc : Thread Cert.CInIdeal.nD Cert.CInIdeal.τ).loc Cert.CInIdeal.main_arg1)
      ∧ r.2.mem ((c.tc : Thread Cert.CInIdeal.nD Cert.CInIdeal.τ).loc Cert.CInIdeal.main_arg2) = m ((c.tc : Thread Cert.CInIdeal.nD Cert.CInIdeal.τ).loc Cert.CInIdeal.main_arg2))
      ∧ r.2.sem = fun _ => 0)

def quiescent_CInRefIdeal [hCInRefIdeal : Cert.CInRefIdeal.Facts] : Prop :=
  ∀ (m : (ℓ : Loc Cert.CInRefIdeal.nD Cert.CInRefIdeal.τ Cert.CInRefIdeal.sig) → Buf (Elt Ideal) ℓ) (g : Dev Cert.CInRefIdeal.nD → PrngReg), Pre_CInRefIdeal m →
    θ_run (Cert.CInRefIdeal.defs (F := Ideal)) (onTc (τ := Cert.CInRefIdeal.τ) (Cert.CInRefIdeal.main (F := Ideal))) ⟨m, fun _ => 0, g⟩ (fun r => (∀ c : Dev Cert.CInRefIdeal.nD,
      r.2.mem ((c.tc : Thread Cert.CInRefIdeal.nD Cert.CInRefIdeal.τ).loc Cert.CInRefIdeal.main_arg0) = m ((c.tc : Thread Cert.CInRefIdeal.nD Cert.CInRefIdeal.τ).loc Cert.CInRefIdeal.main_arg0)
      ∧ r.2.mem ((c.tc : Thread Cert.CInRefIdeal.nD Cert.CInRefIdeal.τ).loc Cert.CInRefIdeal.main_arg1) = m ((c.tc : Thread Cert.CInRefIdeal.nD Cert.CInRefIdeal.τ).loc Cert.CInRefIdeal.main_arg1)
      ∧ r.2.mem ((c.tc : Thread Cert.CInRefIdeal.nD Cert.CInRefIdeal.τ).loc Cert.CInRefIdeal.main_arg2) = m ((c.tc : Thread Cert.CInRefIdeal.nD Cert.CInRefIdeal.τ).loc Cert.CInRefIdeal.main_arg2))
      ∧ r.2.sem = fun _ => 0)

def quiescent_AbIn [hAbIn : Cert.AbIn.Facts] : Prop :=
  ∀ (m : (ℓ : Loc Cert.AbIn.nD Cert.AbIn.τ Cert.AbIn.sig) → Buf (Elt Bits) ℓ) (g : Dev Cert.AbIn.nD → PrngReg), Pre_AbIn m →
    θ_run (Cert.AbIn.defs (F := Bits)) (onTc (τ := Cert.AbIn.τ) (Cert.AbIn.main (F := Bits))) ⟨m, fun _ => 0, g⟩ (fun r => (∀ c : Dev Cert.AbIn.nD,
      r.2.mem ((c.tc : Thread Cert.AbIn.nD Cert.AbIn.τ).loc Cert.AbIn.main_arg0) = m ((c.tc : Thread Cert.AbIn.nD Cert.AbIn.τ).loc Cert.AbIn.main_arg0)
      ∧ r.2.mem ((c.tc : Thread Cert.AbIn.nD Cert.AbIn.τ).loc Cert.AbIn.main_arg1) = m ((c.tc : Thread Cert.AbIn.nD Cert.AbIn.τ).loc Cert.AbIn.main_arg1)
      ∧ r.2.mem ((c.tc : Thread Cert.AbIn.nD Cert.AbIn.τ).loc Cert.AbIn.main_arg2) = m ((c.tc : Thread Cert.AbIn.nD Cert.AbIn.τ).loc Cert.AbIn.main_arg2))
      ∧ r.2.sem = fun _ => 0)

def quiescent_AbInIdeal [hAbInIdeal : Cert.AbInIdeal.Facts] : Prop :=
  ∀ (m : (ℓ : Loc Cert.AbInIdeal.nD Cert.AbInIdeal.τ Cert.AbInIdeal.sig) → Buf (Elt Ideal) ℓ) (g : Dev Cert.AbInIdeal.nD → PrngReg), Pre_AbInIdeal m →
    θ_run (Cert.AbInIdeal.defs (F := Ideal)) (onTc (τ := Cert.AbInIdeal.τ) (Cert.AbInIdeal.main (F := Ideal))) ⟨m, fun _ => 0, g⟩ (fun r => (∀ c : Dev Cert.AbInIdeal.nD,
      r.2.mem ((c.tc : Thread Cert.AbInIdeal.nD Cert.AbInIdeal.τ).loc Cert.AbInIdeal.main_arg0) = m ((c.tc : Thread Cert.AbInIdeal.nD Cert.AbInIdeal.τ).loc Cert.AbInIdeal.main_arg0)
      ∧ r.2.mem ((c.tc : Thread Cert.AbInIdeal.nD Cert.AbInIdeal.τ).loc Cert.AbInIdeal.main_arg1) = m ((c.tc : Thread Cert.AbInIdeal.nD Cert.AbInIdeal.τ).loc Cert.AbInIdeal.main_arg1)
      ∧ r.2.mem ((c.tc : Thread Cert.AbInIdeal.nD Cert.AbInIdeal.τ).loc Cert.AbInIdeal.main_arg2) = m ((c.tc : Thread Cert.AbInIdeal.nD Cert.AbInIdeal.τ).loc Cert.AbInIdeal.main_arg2))
      ∧ r.2.sem = fun _ => 0)

def quiescent_AbInRefIdeal [hAbInRefIdeal : Cert.AbInRefIdeal.Facts] : Prop :=
  ∀ (m : (ℓ : Loc Cert.AbInRefIdeal.nD Cert.AbInRefIdeal.τ Cert.AbInRefIdeal.sig) → Buf (Elt Ideal) ℓ) (g : Dev Cert.AbInRefIdeal.nD → PrngReg), Pre_AbInRefIdeal m →
    θ_run (Cert.AbInRefIdeal.defs (F := Ideal)) (onTc (τ := Cert.AbInRefIdeal.τ) (Cert.AbInRefIdeal.main (F := Ideal))) ⟨m, fun _ => 0, g⟩ (fun r => (∀ c : Dev Cert.AbInRefIdeal.nD,
      r.2.mem ((c.tc : Thread Cert.AbInRefIdeal.nD Cert.AbInRefIdeal.τ).loc Cert.AbInRefIdeal.main_arg0) = m ((c.tc : Thread Cert.AbInRefIdeal.nD Cert.AbInRefIdeal.τ).loc Cert.AbInRefIdeal.main_arg0)
      ∧ r.2.mem ((c.tc : Thread Cert.AbInRefIdeal.nD Cert.AbInRefIdeal.τ).loc Cert.AbInRefIdeal.main_arg1) = m ((c.tc : Thread Cert.AbInRefIdeal.nD Cert.AbInRefIdeal.τ).loc Cert.AbInRefIdeal.main_arg1)
      ∧ r.2.mem ((c.tc : Thread Cert.AbInRefIdeal.nD Cert.AbInRefIdeal.τ).loc Cert.AbInRefIdeal.main_arg2) = m ((c.tc : Thread Cert.AbInRefIdeal.nD Cert.AbInRefIdeal.τ).loc Cert.AbInRefIdeal.main_arg2))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2)
      ∧ r.2.mem ((c.tc : Thread Cert.FfnUp.nD Cert.FfnUp.τ).loc Cert.FfnUp.main_arg3) = m ((c.tc : Thread Cert.FfnUp.nD Cert.FfnUp.τ).loc Cert.FfnUp.main_arg3)
      ∧ r.2.mem ((c.tc : Thread Cert.FfnUp.nD Cert.FfnUp.τ).loc Cert.FfnUp.main_arg4) = m ((c.tc : Thread Cert.FfnUp.nD Cert.FfnUp.τ).loc Cert.FfnUp.main_arg4))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2)
      ∧ r.2.mem ((c.tc : Thread Cert.FfnUpIdeal.nD Cert.FfnUpIdeal.τ).loc Cert.FfnUpIdeal.main_arg3) = m ((c.tc : Thread Cert.FfnUpIdeal.nD Cert.FfnUpIdeal.τ).loc Cert.FfnUpIdeal.main_arg3)
      ∧ r.2.mem ((c.tc : Thread Cert.FfnUpIdeal.nD Cert.FfnUpIdeal.τ).loc Cert.FfnUpIdeal.main_arg4) = m ((c.tc : Thread Cert.FfnUpIdeal.nD Cert.FfnUpIdeal.τ).loc Cert.FfnUpIdeal.main_arg4))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1)
      ∧ r.2.mem ((c.tc : Thread Cert.FfnUpRefIdeal.nD Cert.FfnUpRefIdeal.τ).loc Cert.FfnUpRefIdeal.main_arg2) = m ((c.tc : Thread Cert.FfnUpRefIdeal.nD Cert.FfnUpRefIdeal.τ).loc Cert.FfnUpRefIdeal.main_arg2)
      ∧ r.2.mem ((c.tc : Thread Cert.FfnUpRefIdeal.nD Cert.FfnUpRefIdeal.τ).loc Cert.FfnUpRefIdeal.main_arg3) = m ((c.tc : Thread Cert.FfnUpRefIdeal.nD Cert.FfnUpRefIdeal.τ).loc Cert.FfnUpRefIdeal.main_arg3)
      ∧ r.2.mem ((c.tc : Thread Cert.FfnUpRefIdeal.nD Cert.FfnUpRefIdeal.τ).loc Cert.FfnUpRefIdeal.main_arg4) = m ((c.tc : Thread Cert.FfnUpRefIdeal.nD Cert.FfnUpRefIdeal.τ).loc Cert.FfnUpRefIdeal.main_arg4))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0))
      ∧ r.2.sem = fun _ => 0)

def quiescent_RopeRows [hRopeRows : Cert.RopeRows.Facts] : Prop :=
  ∀ (m : (ℓ : Loc Cert.RopeRows.nD Cert.RopeRows.τ Cert.RopeRows.sig) → Buf (Elt Bits) ℓ) (g : Dev Cert.RopeRows.nD → PrngReg), Pre_RopeRows m →
    θ_run (Cert.RopeRows.defs (F := Bits)) (onTc (τ := Cert.RopeRows.τ) (Cert.RopeRows.main (F := Bits))) ⟨m, fun _ => 0, g⟩ (fun r => (∀ c : Dev Cert.RopeRows.nD,
      r.2.mem ((c.tc : Thread Cert.RopeRows.nD Cert.RopeRows.τ).loc Cert.RopeRows.main_arg0) = m ((c.tc : Thread Cert.RopeRows.nD Cert.RopeRows.τ).loc Cert.RopeRows.main_arg0))
      ∧ r.2.sem = fun _ => 0)

def quiescent_RopeRowsIdeal [hRopeRowsIdeal : Cert.RopeRowsIdeal.Facts] : Prop :=
  ∀ (m : (ℓ : Loc Cert.RopeRowsIdeal.nD Cert.RopeRowsIdeal.τ Cert.RopeRowsIdeal.sig) → Buf (Elt Ideal) ℓ) (g : Dev Cert.RopeRowsIdeal.nD → PrngReg), Pre_RopeRowsIdeal m →
    θ_run (Cert.RopeRowsIdeal.defs (F := Ideal)) (onTc (τ := Cert.RopeRowsIdeal.τ) (Cert.RopeRowsIdeal.main (F := Ideal))) ⟨m, fun _ => 0, g⟩ (fun r => (∀ c : Dev Cert.RopeRowsIdeal.nD,
      r.2.mem ((c.tc : Thread Cert.RopeRowsIdeal.nD Cert.RopeRowsIdeal.τ).loc Cert.RopeRowsIdeal.main_arg0) = m ((c.tc : Thread Cert.RopeRowsIdeal.nD Cert.RopeRowsIdeal.τ).loc Cert.RopeRowsIdeal.main_arg0))
      ∧ r.2.sem = fun _ => 0)

def quiescent_RopeRowsRefIdeal [hRopeRowsRefIdeal : Cert.RopeRowsRefIdeal.Facts] : Prop :=
  ∀ (m : (ℓ : Loc Cert.RopeRowsRefIdeal.nD Cert.RopeRowsRefIdeal.τ Cert.RopeRowsRefIdeal.sig) → Buf (Elt Ideal) ℓ) (g : Dev Cert.RopeRowsRefIdeal.nD → PrngReg), Pre_RopeRowsRefIdeal m →
    θ_run (Cert.RopeRowsRefIdeal.defs (F := Ideal)) (onTc (τ := Cert.RopeRowsRefIdeal.τ) (Cert.RopeRowsRefIdeal.main (F := Ideal))) ⟨m, fun _ => 0, g⟩ (fun r => (∀ c : Dev Cert.RopeRowsRefIdeal.nD,
      r.2.mem ((c.tc : Thread Cert.RopeRowsRefIdeal.nD Cert.RopeRowsRefIdeal.τ).loc Cert.RopeRowsRefIdeal.main_arg0) = m ((c.tc : Thread Cert.RopeRowsRefIdeal.nD Cert.RopeRowsRefIdeal.τ).loc Cert.RopeRowsRefIdeal.main_arg0))
      ∧ r.2.sem = fun _ => 0)

def quiescent_FfnMid [hFfnMid : Cert.FfnMid.Facts] : Prop :=
  ∀ (m : (ℓ : Loc Cert.FfnMid.nD Cert.FfnMid.τ Cert.FfnMid.sig) → Buf (Elt Bits) ℓ) (g : Dev Cert.FfnMid.nD → PrngReg), Pre_FfnMid m →
    θ_run (Cert.FfnMid.defs (F := Bits)) (onTc (τ := Cert.FfnMid.τ) (Cert.FfnMid.main (F := Bits))) ⟨m, fun _ => 0, g⟩ (fun r => (∀ c : Dev Cert.FfnMid.nD,
      r.2.mem ((c.tc : Thread Cert.FfnMid.nD Cert.FfnMid.τ).loc Cert.FfnMid.main_arg0) = m ((c.tc : Thread Cert.FfnMid.nD Cert.FfnMid.τ).loc Cert.FfnMid.main_arg0)
      ∧ r.2.mem ((c.tc : Thread Cert.FfnMid.nD Cert.FfnMid.τ).loc Cert.FfnMid.main_arg1) = m ((c.tc : Thread Cert.FfnMid.nD Cert.FfnMid.τ).loc Cert.FfnMid.main_arg1)
      ∧ r.2.mem ((c.tc : Thread Cert.FfnMid.nD Cert.FfnMid.τ).loc Cert.FfnMid.main_arg2) = m ((c.tc : Thread Cert.FfnMid.nD Cert.FfnMid.τ).loc Cert.FfnMid.main_arg2)
      ∧ r.2.mem ((c.tc : Thread Cert.FfnMid.nD Cert.FfnMid.τ).loc Cert.FfnMid.main_arg3) = m ((c.tc : Thread Cert.FfnMid.nD Cert.FfnMid.τ).loc Cert.FfnMid.main_arg3))
      ∧ r.2.sem = fun _ => 0)

def quiescent_FfnMidIdeal [hFfnMidIdeal : Cert.FfnMidIdeal.Facts] : Prop :=
  ∀ (m : (ℓ : Loc Cert.FfnMidIdeal.nD Cert.FfnMidIdeal.τ Cert.FfnMidIdeal.sig) → Buf (Elt Ideal) ℓ) (g : Dev Cert.FfnMidIdeal.nD → PrngReg), Pre_FfnMidIdeal m →
    θ_run (Cert.FfnMidIdeal.defs (F := Ideal)) (onTc (τ := Cert.FfnMidIdeal.τ) (Cert.FfnMidIdeal.main (F := Ideal))) ⟨m, fun _ => 0, g⟩ (fun r => (∀ c : Dev Cert.FfnMidIdeal.nD,
      r.2.mem ((c.tc : Thread Cert.FfnMidIdeal.nD Cert.FfnMidIdeal.τ).loc Cert.FfnMidIdeal.main_arg0) = m ((c.tc : Thread Cert.FfnMidIdeal.nD Cert.FfnMidIdeal.τ).loc Cert.FfnMidIdeal.main_arg0)
      ∧ r.2.mem ((c.tc : Thread Cert.FfnMidIdeal.nD Cert.FfnMidIdeal.τ).loc Cert.FfnMidIdeal.main_arg1) = m ((c.tc : Thread Cert.FfnMidIdeal.nD Cert.FfnMidIdeal.τ).loc Cert.FfnMidIdeal.main_arg1)
      ∧ r.2.mem ((c.tc : Thread Cert.FfnMidIdeal.nD Cert.FfnMidIdeal.τ).loc Cert.FfnMidIdeal.main_arg2) = m ((c.tc : Thread Cert.FfnMidIdeal.nD Cert.FfnMidIdeal.τ).loc Cert.FfnMidIdeal.main_arg2)
      ∧ r.2.mem ((c.tc : Thread Cert.FfnMidIdeal.nD Cert.FfnMidIdeal.τ).loc Cert.FfnMidIdeal.main_arg3) = m ((c.tc : Thread Cert.FfnMidIdeal.nD Cert.FfnMidIdeal.τ).loc Cert.FfnMidIdeal.main_arg3))
      ∧ r.2.sem = fun _ => 0)

def quiescent_FfnMidRefIdeal [hFfnMidRefIdeal : Cert.FfnMidRefIdeal.Facts] : Prop :=
  ∀ (m : (ℓ : Loc Cert.FfnMidRefIdeal.nD Cert.FfnMidRefIdeal.τ Cert.FfnMidRefIdeal.sig) → Buf (Elt Ideal) ℓ) (g : Dev Cert.FfnMidRefIdeal.nD → PrngReg), Pre_FfnMidRefIdeal m →
    θ_run (Cert.FfnMidRefIdeal.defs (F := Ideal)) (onTc (τ := Cert.FfnMidRefIdeal.τ) (Cert.FfnMidRefIdeal.main (F := Ideal))) ⟨m, fun _ => 0, g⟩ (fun r => (∀ c : Dev Cert.FfnMidRefIdeal.nD,
      r.2.mem ((c.tc : Thread Cert.FfnMidRefIdeal.nD Cert.FfnMidRefIdeal.τ).loc Cert.FfnMidRefIdeal.main_arg0) = m ((c.tc : Thread Cert.FfnMidRefIdeal.nD Cert.FfnMidRefIdeal.τ).loc Cert.FfnMidRefIdeal.main_arg0)
      ∧ r.2.mem ((c.tc : Thread Cert.FfnMidRefIdeal.nD Cert.FfnMidRefIdeal.τ).loc Cert.FfnMidRefIdeal.main_arg1) = m ((c.tc : Thread Cert.FfnMidRefIdeal.nD Cert.FfnMidRefIdeal.τ).loc Cert.FfnMidRefIdeal.main_arg1)
      ∧ r.2.mem ((c.tc : Thread Cert.FfnMidRefIdeal.nD Cert.FfnMidRefIdeal.τ).loc Cert.FfnMidRefIdeal.main_arg2) = m ((c.tc : Thread Cert.FfnMidRefIdeal.nD Cert.FfnMidRefIdeal.τ).loc Cert.FfnMidRefIdeal.main_arg2)
      ∧ r.2.mem ((c.tc : Thread Cert.FfnMidRefIdeal.nD Cert.FfnMidRefIdeal.τ).loc Cert.FfnMidRefIdeal.main_arg3) = m ((c.tc : Thread Cert.FfnMidRefIdeal.nD Cert.FfnMidRefIdeal.τ).loc Cert.FfnMidRefIdeal.main_arg3))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1))
      ∧ r.2.sem = fun _ => 0)

def quiescent_FinalRefIdeal [hFinalRefIdeal : Cert.FinalRefIdeal.Facts] : Prop :=
  ∀ (m : (ℓ : Loc Cert.FinalRefIdeal.nD Cert.FinalRefIdeal.τ Cert.FinalRefIdeal.sig) → Buf (Elt Ideal) ℓ) (g : Dev Cert.FinalRefIdeal.nD → PrngReg), Pre_FinalRefIdeal m →
    θ_run (Cert.FinalRefIdeal.defs (F := Ideal)) (onTc (τ := Cert.FinalRefIdeal.τ) (Cert.FinalRefIdeal.main (F := Ideal))) ⟨m, fun _ => 0, g⟩ (fun r => (∀ c : Dev Cert.FinalRefIdeal.nD,
      r.2.mem ((c.tc : Thread Cert.FinalRefIdeal.nD Cert.FinalRefIdeal.τ).loc Cert.FinalRefIdeal.main_arg0) = m ((c.tc : Thread Cert.FinalRefIdeal.nD Cert.FinalRefIdeal.τ).loc Cert.FinalRefIdeal.main_arg0)
      ∧ r.2.mem ((c.tc : Thread Cert.FinalRefIdeal.nD Cert.FinalRefIdeal.τ).loc Cert.FinalRefIdeal.main_arg1) = m ((c.tc : Thread Cert.FinalRefIdeal.nD Cert.FinalRefIdeal.τ).loc Cert.FinalRefIdeal.main_arg1))
      ∧ r.2.sem = fun _ => 0)

def quiescent_FinalStep [hFinalStep : Cert.FinalStep.Facts] : Prop :=
  ∀ (m : (ℓ : Loc Cert.FinalStep.nD Cert.FinalStep.τ Cert.FinalStep.sig) → Buf (Elt Bits) ℓ) (g : Dev Cert.FinalStep.nD → PrngReg), Pre_FinalStep m →
    θ_run (Cert.FinalStep.defs (F := Bits)) (onTc (τ := Cert.FinalStep.τ) (Cert.FinalStep.main (F := Bits))) ⟨m, fun _ => 0, g⟩ (fun r => (∀ c : Dev Cert.FinalStep.nD,
      r.2.mem ((c.tc : Thread Cert.FinalStep.nD Cert.FinalStep.τ).loc Cert.FinalStep.main_arg0) = m ((c.tc : Thread Cert.FinalStep.nD Cert.FinalStep.τ).loc Cert.FinalStep.main_arg0)
      ∧ r.2.mem ((c.tc : Thread Cert.FinalStep.nD Cert.FinalStep.τ).loc Cert.FinalStep.main_arg1) = m ((c.tc : Thread Cert.FinalStep.nD Cert.FinalStep.τ).loc Cert.FinalStep.main_arg1))
      ∧ r.2.sem = fun _ => 0)

def quiescent_FinalStepIdeal [hFinalStepIdeal : Cert.FinalStepIdeal.Facts] : Prop :=
  ∀ (m : (ℓ : Loc Cert.FinalStepIdeal.nD Cert.FinalStepIdeal.τ Cert.FinalStepIdeal.sig) → Buf (Elt Ideal) ℓ) (g : Dev Cert.FinalStepIdeal.nD → PrngReg), Pre_FinalStepIdeal m →
    θ_run (Cert.FinalStepIdeal.defs (F := Ideal)) (onTc (τ := Cert.FinalStepIdeal.τ) (Cert.FinalStepIdeal.main (F := Ideal))) ⟨m, fun _ => 0, g⟩ (fun r => (∀ c : Dev Cert.FinalStepIdeal.nD,
      r.2.mem ((c.tc : Thread Cert.FinalStepIdeal.nD Cert.FinalStepIdeal.τ).loc Cert.FinalStepIdeal.main_arg0) = m ((c.tc : Thread Cert.FinalStepIdeal.nD Cert.FinalStepIdeal.τ).loc Cert.FinalStepIdeal.main_arg0)
      ∧ r.2.mem ((c.tc : Thread Cert.FinalStepIdeal.nD Cert.FinalStepIdeal.τ).loc Cert.FinalStepIdeal.main_arg1) = m ((c.tc : Thread Cert.FinalStepIdeal.nD Cert.FinalStepIdeal.τ).loc Cert.FinalStepIdeal.main_arg1))
      ∧ r.2.sem = fun _ => 0)

def quiescent_FinalStepRefIdeal [hFinalStepRefIdeal : Cert.FinalStepRefIdeal.Facts] : Prop :=
  ∀ (m : (ℓ : Loc Cert.FinalStepRefIdeal.nD Cert.FinalStepRefIdeal.τ Cert.FinalStepRefIdeal.sig) → Buf (Elt Ideal) ℓ) (g : Dev Cert.FinalStepRefIdeal.nD → PrngReg), Pre_FinalStepRefIdeal m →
    θ_run (Cert.FinalStepRefIdeal.defs (F := Ideal)) (onTc (τ := Cert.FinalStepRefIdeal.τ) (Cert.FinalStepRefIdeal.main (F := Ideal))) ⟨m, fun _ => 0, g⟩ (fun r => (∀ c : Dev Cert.FinalStepRefIdeal.nD,
      r.2.mem ((c.tc : Thread Cert.FinalStepRefIdeal.nD Cert.FinalStepRefIdeal.τ).loc Cert.FinalStepRefIdeal.main_arg0) = m ((c.tc : Thread Cert.FinalStepRefIdeal.nD Cert.FinalStepRefIdeal.τ).loc Cert.FinalStepRefIdeal.main_arg0)
      ∧ r.2.mem ((c.tc : Thread Cert.FinalStepRefIdeal.nD Cert.FinalStepRefIdeal.τ).loc Cert.FinalStepRefIdeal.main_arg1) = m ((c.tc : Thread Cert.FinalStepRefIdeal.nD Cert.FinalStepRefIdeal.τ).loc Cert.FinalStepRefIdeal.main_arg1))
      ∧ r.2.sem = fun _ => 0)

def quiescent_MlstmStep [hMlstmStep : Cert.MlstmStep.Facts] : Prop :=
  ∀ (m : (ℓ : Loc Cert.MlstmStep.nD Cert.MlstmStep.τ Cert.MlstmStep.sig) → Buf (Elt Bits) ℓ) (g : Dev Cert.MlstmStep.nD → PrngReg), Pre_MlstmStep m →
    θ_run (Cert.MlstmStep.defs (F := Bits)) (onTc (τ := Cert.MlstmStep.τ) (Cert.MlstmStep.main (F := Bits))) ⟨m, fun _ => 0, g⟩ (fun r => (∀ c : Dev Cert.MlstmStep.nD,
      r.2.mem ((c.tc : Thread Cert.MlstmStep.nD Cert.MlstmStep.τ).loc Cert.MlstmStep.main_arg0) = m ((c.tc : Thread Cert.MlstmStep.nD Cert.MlstmStep.τ).loc Cert.MlstmStep.main_arg0)
      ∧ r.2.mem ((c.tc : Thread Cert.MlstmStep.nD Cert.MlstmStep.τ).loc Cert.MlstmStep.main_arg1) = m ((c.tc : Thread Cert.MlstmStep.nD Cert.MlstmStep.τ).loc Cert.MlstmStep.main_arg1)
      ∧ r.2.mem ((c.tc : Thread Cert.MlstmStep.nD Cert.MlstmStep.τ).loc Cert.MlstmStep.main_arg2) = m ((c.tc : Thread Cert.MlstmStep.nD Cert.MlstmStep.τ).loc Cert.MlstmStep.main_arg2)
      ∧ r.2.mem ((c.tc : Thread Cert.MlstmStep.nD Cert.MlstmStep.τ).loc Cert.MlstmStep.main_arg3) = m ((c.tc : Thread Cert.MlstmStep.nD Cert.MlstmStep.τ).loc Cert.MlstmStep.main_arg3)
      ∧ r.2.mem ((c.tc : Thread Cert.MlstmStep.nD Cert.MlstmStep.τ).loc Cert.MlstmStep.main_arg4) = m ((c.tc : Thread Cert.MlstmStep.nD Cert.MlstmStep.τ).loc Cert.MlstmStep.main_arg4)
      ∧ r.2.mem ((c.tc : Thread Cert.MlstmStep.nD Cert.MlstmStep.τ).loc Cert.MlstmStep.main_arg5) = m ((c.tc : Thread Cert.MlstmStep.nD Cert.MlstmStep.τ).loc Cert.MlstmStep.main_arg5)
      ∧ r.2.mem ((c.tc : Thread Cert.MlstmStep.nD Cert.MlstmStep.τ).loc Cert.MlstmStep.main_arg6) = m ((c.tc : Thread Cert.MlstmStep.nD Cert.MlstmStep.τ).loc Cert.MlstmStep.main_arg6)
      ∧ r.2.mem ((c.tc : Thread Cert.MlstmStep.nD Cert.MlstmStep.τ).loc Cert.MlstmStep.main_arg7) = m ((c.tc : Thread Cert.MlstmStep.nD Cert.MlstmStep.τ).loc Cert.MlstmStep.main_arg7))
      ∧ r.2.sem = fun _ => 0)

def quiescent_MlstmStepIdeal [hMlstmStepIdeal : Cert.MlstmStepIdeal.Facts] : Prop :=
  ∀ (m : (ℓ : Loc Cert.MlstmStepIdeal.nD Cert.MlstmStepIdeal.τ Cert.MlstmStepIdeal.sig) → Buf (Elt Ideal) ℓ) (g : Dev Cert.MlstmStepIdeal.nD → PrngReg), Pre_MlstmStepIdeal m →
    θ_run (Cert.MlstmStepIdeal.defs (F := Ideal)) (onTc (τ := Cert.MlstmStepIdeal.τ) (Cert.MlstmStepIdeal.main (F := Ideal))) ⟨m, fun _ => 0, g⟩ (fun r => (∀ c : Dev Cert.MlstmStepIdeal.nD,
      r.2.mem ((c.tc : Thread Cert.MlstmStepIdeal.nD Cert.MlstmStepIdeal.τ).loc Cert.MlstmStepIdeal.main_arg0) = m ((c.tc : Thread Cert.MlstmStepIdeal.nD Cert.MlstmStepIdeal.τ).loc Cert.MlstmStepIdeal.main_arg0)
      ∧ r.2.mem ((c.tc : Thread Cert.MlstmStepIdeal.nD Cert.MlstmStepIdeal.τ).loc Cert.MlstmStepIdeal.main_arg1) = m ((c.tc : Thread Cert.MlstmStepIdeal.nD Cert.MlstmStepIdeal.τ).loc Cert.MlstmStepIdeal.main_arg1)
      ∧ r.2.mem ((c.tc : Thread Cert.MlstmStepIdeal.nD Cert.MlstmStepIdeal.τ).loc Cert.MlstmStepIdeal.main_arg2) = m ((c.tc : Thread Cert.MlstmStepIdeal.nD Cert.MlstmStepIdeal.τ).loc Cert.MlstmStepIdeal.main_arg2)
      ∧ r.2.mem ((c.tc : Thread Cert.MlstmStepIdeal.nD Cert.MlstmStepIdeal.τ).loc Cert.MlstmStepIdeal.main_arg3) = m ((c.tc : Thread Cert.MlstmStepIdeal.nD Cert.MlstmStepIdeal.τ).loc Cert.MlstmStepIdeal.main_arg3)
      ∧ r.2.mem ((c.tc : Thread Cert.MlstmStepIdeal.nD Cert.MlstmStepIdeal.τ).loc Cert.MlstmStepIdeal.main_arg4) = m ((c.tc : Thread Cert.MlstmStepIdeal.nD Cert.MlstmStepIdeal.τ).loc Cert.MlstmStepIdeal.main_arg4)
      ∧ r.2.mem ((c.tc : Thread Cert.MlstmStepIdeal.nD Cert.MlstmStepIdeal.τ).loc Cert.MlstmStepIdeal.main_arg5) = m ((c.tc : Thread Cert.MlstmStepIdeal.nD Cert.MlstmStepIdeal.τ).loc Cert.MlstmStepIdeal.main_arg5)
      ∧ r.2.mem ((c.tc : Thread Cert.MlstmStepIdeal.nD Cert.MlstmStepIdeal.τ).loc Cert.MlstmStepIdeal.main_arg6) = m ((c.tc : Thread Cert.MlstmStepIdeal.nD Cert.MlstmStepIdeal.τ).loc Cert.MlstmStepIdeal.main_arg6)
      ∧ r.2.mem ((c.tc : Thread Cert.MlstmStepIdeal.nD Cert.MlstmStepIdeal.τ).loc Cert.MlstmStepIdeal.main_arg7) = m ((c.tc : Thread Cert.MlstmStepIdeal.nD Cert.MlstmStepIdeal.τ).loc Cert.MlstmStepIdeal.main_arg7))
      ∧ r.2.sem = fun _ => 0)

def quiescent_MlstmStepRefIdeal [hMlstmStepRefIdeal : Cert.MlstmStepRefIdeal.Facts] : Prop :=
  ∀ (m : (ℓ : Loc Cert.MlstmStepRefIdeal.nD Cert.MlstmStepRefIdeal.τ Cert.MlstmStepRefIdeal.sig) → Buf (Elt Ideal) ℓ) (g : Dev Cert.MlstmStepRefIdeal.nD → PrngReg), Pre_MlstmStepRefIdeal m →
    θ_run (Cert.MlstmStepRefIdeal.defs (F := Ideal)) (onTc (τ := Cert.MlstmStepRefIdeal.τ) (Cert.MlstmStepRefIdeal.main (F := Ideal))) ⟨m, fun _ => 0, g⟩ (fun r => (∀ c : Dev Cert.MlstmStepRefIdeal.nD,
      r.2.mem ((c.tc : Thread Cert.MlstmStepRefIdeal.nD Cert.MlstmStepRefIdeal.τ).loc Cert.MlstmStepRefIdeal.main_arg0) = m ((c.tc : Thread Cert.MlstmStepRefIdeal.nD Cert.MlstmStepRefIdeal.τ).loc Cert.MlstmStepRefIdeal.main_arg0)
      ∧ r.2.mem ((c.tc : Thread Cert.MlstmStepRefIdeal.nD Cert.MlstmStepRefIdeal.τ).loc Cert.MlstmStepRefIdeal.main_arg1) = m ((c.tc : Thread Cert.MlstmStepRefIdeal.nD Cert.MlstmStepRefIdeal.τ).loc Cert.MlstmStepRefIdeal.main_arg1)
      ∧ r.2.mem ((c.tc : Thread Cert.MlstmStepRefIdeal.nD Cert.MlstmStepRefIdeal.τ).loc Cert.MlstmStepRefIdeal.main_arg2) = m ((c.tc : Thread Cert.MlstmStepRefIdeal.nD Cert.MlstmStepRefIdeal.τ).loc Cert.MlstmStepRefIdeal.main_arg2)
      ∧ r.2.mem ((c.tc : Thread Cert.MlstmStepRefIdeal.nD Cert.MlstmStepRefIdeal.τ).loc Cert.MlstmStepRefIdeal.main_arg3) = m ((c.tc : Thread Cert.MlstmStepRefIdeal.nD Cert.MlstmStepRefIdeal.τ).loc Cert.MlstmStepRefIdeal.main_arg3)
      ∧ r.2.mem ((c.tc : Thread Cert.MlstmStepRefIdeal.nD Cert.MlstmStepRefIdeal.τ).loc Cert.MlstmStepRefIdeal.main_arg4) = m ((c.tc : Thread Cert.MlstmStepRefIdeal.nD Cert.MlstmStepRefIdeal.τ).loc Cert.MlstmStepRefIdeal.main_arg4)
      ∧ r.2.mem ((c.tc : Thread Cert.MlstmStepRefIdeal.nD Cert.MlstmStepRefIdeal.τ).loc Cert.MlstmStepRefIdeal.main_arg5) = m ((c.tc : Thread Cert.MlstmStepRefIdeal.nD Cert.MlstmStepRefIdeal.τ).loc Cert.MlstmStepRefIdeal.main_arg5)
      ∧ r.2.mem ((c.tc : Thread Cert.MlstmStepRefIdeal.nD Cert.MlstmStepRefIdeal.τ).loc Cert.MlstmStepRefIdeal.main_arg6) = m ((c.tc : Thread Cert.MlstmStepRefIdeal.nD Cert.MlstmStepRefIdeal.τ).loc Cert.MlstmStepRefIdeal.main_arg6)
      ∧ r.2.mem ((c.tc : Thread Cert.MlstmStepRefIdeal.nD Cert.MlstmStepRefIdeal.τ).loc Cert.MlstmStepRefIdeal.main_arg7) = m ((c.tc : Thread Cert.MlstmStepRefIdeal.nD Cert.MlstmStepRefIdeal.τ).loc Cert.MlstmStepRefIdeal.main_arg7))
      ∧ r.2.sem = fun _ => 0)

def quiescent_GdnStep [hGdnStep : Cert.GdnStep.Facts] : Prop :=
  ∀ (m : (ℓ : Loc Cert.GdnStep.nD Cert.GdnStep.τ Cert.GdnStep.sig) → Buf (Elt Bits) ℓ) (g : Dev Cert.GdnStep.nD → PrngReg), Pre_GdnStep m →
    θ_run (Cert.GdnStep.defs (F := Bits)) (onTc (τ := Cert.GdnStep.τ) (Cert.GdnStep.main (F := Bits))) ⟨m, fun _ => 0, g⟩ (fun r => (∀ c : Dev Cert.GdnStep.nD,
      r.2.mem ((c.tc : Thread Cert.GdnStep.nD Cert.GdnStep.τ).loc Cert.GdnStep.main_arg0) = m ((c.tc : Thread Cert.GdnStep.nD Cert.GdnStep.τ).loc Cert.GdnStep.main_arg0)
      ∧ r.2.mem ((c.tc : Thread Cert.GdnStep.nD Cert.GdnStep.τ).loc Cert.GdnStep.main_arg1) = m ((c.tc : Thread Cert.GdnStep.nD Cert.GdnStep.τ).loc Cert.GdnStep.main_arg1)
      ∧ r.2.mem ((c.tc : Thread Cert.GdnStep.nD Cert.GdnStep.τ).loc Cert.GdnStep.main_arg2) = m ((c.tc : Thread Cert.GdnStep.nD Cert.GdnStep.τ).loc Cert.GdnStep.main_arg2)
      ∧ r.2.mem ((c.tc : Thread Cert.GdnStep.nD Cert.GdnStep.τ).loc Cert.GdnStep.main_arg3) = m ((c.tc : Thread Cert.GdnStep.nD Cert.GdnStep.τ).loc Cert.GdnStep.main_arg3)
      ∧ r.2.mem ((c.tc : Thread Cert.GdnStep.nD Cert.GdnStep.τ).loc Cert.GdnStep.main_arg4) = m ((c.tc : Thread Cert.GdnStep.nD Cert.GdnStep.τ).loc Cert.GdnStep.main_arg4)
      ∧ r.2.mem ((c.tc : Thread Cert.GdnStep.nD Cert.GdnStep.τ).loc Cert.GdnStep.main_arg5) = m ((c.tc : Thread Cert.GdnStep.nD Cert.GdnStep.τ).loc Cert.GdnStep.main_arg5)
      ∧ r.2.mem ((c.tc : Thread Cert.GdnStep.nD Cert.GdnStep.τ).loc Cert.GdnStep.main_arg6) = m ((c.tc : Thread Cert.GdnStep.nD Cert.GdnStep.τ).loc Cert.GdnStep.main_arg6)
      ∧ r.2.mem ((c.tc : Thread Cert.GdnStep.nD Cert.GdnStep.τ).loc Cert.GdnStep.main_arg7) = m ((c.tc : Thread Cert.GdnStep.nD Cert.GdnStep.τ).loc Cert.GdnStep.main_arg7))
      ∧ r.2.sem = fun _ => 0)

def quiescent_GdnStepIdeal [hGdnStepIdeal : Cert.GdnStepIdeal.Facts] : Prop :=
  ∀ (m : (ℓ : Loc Cert.GdnStepIdeal.nD Cert.GdnStepIdeal.τ Cert.GdnStepIdeal.sig) → Buf (Elt Ideal) ℓ) (g : Dev Cert.GdnStepIdeal.nD → PrngReg), Pre_GdnStepIdeal m →
    θ_run (Cert.GdnStepIdeal.defs (F := Ideal)) (onTc (τ := Cert.GdnStepIdeal.τ) (Cert.GdnStepIdeal.main (F := Ideal))) ⟨m, fun _ => 0, g⟩ (fun r => (∀ c : Dev Cert.GdnStepIdeal.nD,
      r.2.mem ((c.tc : Thread Cert.GdnStepIdeal.nD Cert.GdnStepIdeal.τ).loc Cert.GdnStepIdeal.main_arg0) = m ((c.tc : Thread Cert.GdnStepIdeal.nD Cert.GdnStepIdeal.τ).loc Cert.GdnStepIdeal.main_arg0)
      ∧ r.2.mem ((c.tc : Thread Cert.GdnStepIdeal.nD Cert.GdnStepIdeal.τ).loc Cert.GdnStepIdeal.main_arg1) = m ((c.tc : Thread Cert.GdnStepIdeal.nD Cert.GdnStepIdeal.τ).loc Cert.GdnStepIdeal.main_arg1)
      ∧ r.2.mem ((c.tc : Thread Cert.GdnStepIdeal.nD Cert.GdnStepIdeal.τ).loc Cert.GdnStepIdeal.main_arg2) = m ((c.tc : Thread Cert.GdnStepIdeal.nD Cert.GdnStepIdeal.τ).loc Cert.GdnStepIdeal.main_arg2)
      ∧ r.2.mem ((c.tc : Thread Cert.GdnStepIdeal.nD Cert.GdnStepIdeal.τ).loc Cert.GdnStepIdeal.main_arg3) = m ((c.tc : Thread Cert.GdnStepIdeal.nD Cert.GdnStepIdeal.τ).loc Cert.GdnStepIdeal.main_arg3)
      ∧ r.2.mem ((c.tc : Thread Cert.GdnStepIdeal.nD Cert.GdnStepIdeal.τ).loc Cert.GdnStepIdeal.main_arg4) = m ((c.tc : Thread Cert.GdnStepIdeal.nD Cert.GdnStepIdeal.τ).loc Cert.GdnStepIdeal.main_arg4)
      ∧ r.2.mem ((c.tc : Thread Cert.GdnStepIdeal.nD Cert.GdnStepIdeal.τ).loc Cert.GdnStepIdeal.main_arg5) = m ((c.tc : Thread Cert.GdnStepIdeal.nD Cert.GdnStepIdeal.τ).loc Cert.GdnStepIdeal.main_arg5)
      ∧ r.2.mem ((c.tc : Thread Cert.GdnStepIdeal.nD Cert.GdnStepIdeal.τ).loc Cert.GdnStepIdeal.main_arg6) = m ((c.tc : Thread Cert.GdnStepIdeal.nD Cert.GdnStepIdeal.τ).loc Cert.GdnStepIdeal.main_arg6)
      ∧ r.2.mem ((c.tc : Thread Cert.GdnStepIdeal.nD Cert.GdnStepIdeal.τ).loc Cert.GdnStepIdeal.main_arg7) = m ((c.tc : Thread Cert.GdnStepIdeal.nD Cert.GdnStepIdeal.τ).loc Cert.GdnStepIdeal.main_arg7))
      ∧ r.2.sem = fun _ => 0)

def quiescent_GdnStepRefIdeal [hGdnStepRefIdeal : Cert.GdnStepRefIdeal.Facts] : Prop :=
  ∀ (m : (ℓ : Loc Cert.GdnStepRefIdeal.nD Cert.GdnStepRefIdeal.τ Cert.GdnStepRefIdeal.sig) → Buf (Elt Ideal) ℓ) (g : Dev Cert.GdnStepRefIdeal.nD → PrngReg), Pre_GdnStepRefIdeal m →
    θ_run (Cert.GdnStepRefIdeal.defs (F := Ideal)) (onTc (τ := Cert.GdnStepRefIdeal.τ) (Cert.GdnStepRefIdeal.main (F := Ideal))) ⟨m, fun _ => 0, g⟩ (fun r => (∀ c : Dev Cert.GdnStepRefIdeal.nD,
      r.2.mem ((c.tc : Thread Cert.GdnStepRefIdeal.nD Cert.GdnStepRefIdeal.τ).loc Cert.GdnStepRefIdeal.main_arg0) = m ((c.tc : Thread Cert.GdnStepRefIdeal.nD Cert.GdnStepRefIdeal.τ).loc Cert.GdnStepRefIdeal.main_arg0)
      ∧ r.2.mem ((c.tc : Thread Cert.GdnStepRefIdeal.nD Cert.GdnStepRefIdeal.τ).loc Cert.GdnStepRefIdeal.main_arg1) = m ((c.tc : Thread Cert.GdnStepRefIdeal.nD Cert.GdnStepRefIdeal.τ).loc Cert.GdnStepRefIdeal.main_arg1)
      ∧ r.2.mem ((c.tc : Thread Cert.GdnStepRefIdeal.nD Cert.GdnStepRefIdeal.τ).loc Cert.GdnStepRefIdeal.main_arg2) = m ((c.tc : Thread Cert.GdnStepRefIdeal.nD Cert.GdnStepRefIdeal.τ).loc Cert.GdnStepRefIdeal.main_arg2)
      ∧ r.2.mem ((c.tc : Thread Cert.GdnStepRefIdeal.nD Cert.GdnStepRefIdeal.τ).loc Cert.GdnStepRefIdeal.main_arg3) = m ((c.tc : Thread Cert.GdnStepRefIdeal.nD Cert.GdnStepRefIdeal.τ).loc Cert.GdnStepRefIdeal.main_arg3)
      ∧ r.2.mem ((c.tc : Thread Cert.GdnStepRefIdeal.nD Cert.GdnStepRefIdeal.τ).loc Cert.GdnStepRefIdeal.main_arg4) = m ((c.tc : Thread Cert.GdnStepRefIdeal.nD Cert.GdnStepRefIdeal.τ).loc Cert.GdnStepRefIdeal.main_arg4)
      ∧ r.2.mem ((c.tc : Thread Cert.GdnStepRefIdeal.nD Cert.GdnStepRefIdeal.τ).loc Cert.GdnStepRefIdeal.main_arg5) = m ((c.tc : Thread Cert.GdnStepRefIdeal.nD Cert.GdnStepRefIdeal.τ).loc Cert.GdnStepRefIdeal.main_arg5)
      ∧ r.2.mem ((c.tc : Thread Cert.GdnStepRefIdeal.nD Cert.GdnStepRefIdeal.τ).loc Cert.GdnStepRefIdeal.main_arg6) = m ((c.tc : Thread Cert.GdnStepRefIdeal.nD Cert.GdnStepRefIdeal.τ).loc Cert.GdnStepRefIdeal.main_arg6)
      ∧ r.2.mem ((c.tc : Thread Cert.GdnStepRefIdeal.nD Cert.GdnStepRefIdeal.τ).loc Cert.GdnStepRefIdeal.main_arg7) = m ((c.tc : Thread Cert.GdnStepRefIdeal.nD Cert.GdnStepRefIdeal.τ).loc Cert.GdnStepRefIdeal.main_arg7))
      ∧ r.2.sem = fun _ => 0)

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v4) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_COut_COutIdeal : Prop :=
  True

def algebraic_COutIdeal_COutRefIdeal [hCOutIdeal : Cert.COutIdeal.Facts] [hCOutRefIdeal : Cert.COutRefIdeal.Facts] : Prop :=
  ∀ (m : (ℓ : Loc Cert.COutIdeal.nD Cert.COutIdeal.τ Cert.COutIdeal.sig) → Buf (Elt Ideal) ℓ) (g : Dev Cert.COutIdeal.nD → PrngReg)
    (m' : (ℓ : Loc Cert.COutRefIdeal.nD Cert.COutRefIdeal.τ Cert.COutRefIdeal.sig) → Buf (Elt Ideal) ℓ) (g' : Dev Cert.COutRefIdeal.nD → PrngReg), Pre_COutIdeal m →
    (∀ c : Dev Cert.COutIdeal.nD,
      m' ((c.tc : Thread Cert.COutRefIdeal.nD Cert.COutRefIdeal.τ).loc Cert.COutRefIdeal.main_arg0) = m ((c.tc : Thread Cert.COutIdeal.nD Cert.COutIdeal.τ).loc Cert.COutIdeal.main_arg0)
      ∧ m' ((c.tc : Thread Cert.COutRefIdeal.nD Cert.COutRefIdeal.τ).loc Cert.COutRefIdeal.main_arg1) = m ((c.tc : Thread Cert.COutIdeal.nD Cert.COutIdeal.τ).loc Cert.COutIdeal.main_arg1)
      ∧ m' ((c.tc : Thread Cert.COutRefIdeal.nD Cert.COutRefIdeal.τ).loc Cert.COutRefIdeal.main_arg2) = m ((c.tc : Thread Cert.COutIdeal.nD Cert.COutIdeal.τ).loc Cert.COutIdeal.main_arg2)) →
    ∃ (v0 : (c : Dev Cert.COutIdeal.nD) → Buf (Elt Ideal) ((c.tc : Thread Cert.COutIdeal.nD Cert.COutIdeal.τ).loc Cert.COutIdeal.main_v0)),
      θ_run (Cert.COutIdeal.defs (F := Ideal)) (onTc (τ := Cert.COutIdeal.τ) (Cert.COutIdeal.main (F := Ideal))) ⟨m, fun _ => 0, g⟩ (fun r => ∀ c : Dev Cert.COutIdeal.nD,
          r.2.mem ((c.tc : Thread Cert.COutIdeal.nD Cert.COutIdeal.τ).loc Cert.COutIdeal.main_v0) = v0 c
          ∧ r.2.mem ((c.tc : Thread Cert.COutIdeal.nD Cert.COutIdeal.τ).loc Cert.COutIdeal.main_arg0) = m ((c.tc : Thread Cert.COutIdeal.nD Cert.COutIdeal.τ).loc Cert.COutIdeal.main_arg0)
          ∧ r.2.mem ((c.tc : Thread Cert.COutIdeal.nD Cert.COutIdeal.τ).loc Cert.COutIdeal.main_arg1) = m ((c.tc : Thread Cert.COutIdeal.nD Cert.COutIdeal.τ).loc Cert.COutIdeal.main_arg1)
          ∧ r.2.mem ((c.tc : Thread Cert.COutIdeal.nD Cert.COutIdeal.τ).loc Cert.COutIdeal.main_arg2) = m ((c.tc : Thread Cert.COutIdeal.nD Cert.COutIdeal.τ).loc Cert.COutIdeal.main_arg2))
      ∧ θ_run (Cert.COutRefIdeal.defs (F := Ideal)) (onTc (τ := Cert.COutRefIdeal.τ) (Cert.COutRefIdeal.main (F := Ideal))) ⟨m', fun _ => 0, g'⟩ (fun r => ∀ c : Dev Cert.COutRefIdeal.nD,
          r.2.mem ((c.tc : Thread Cert.COutRefIdeal.nD Cert.COutRefIdeal.τ).loc Cert.COutRefIdeal.main_v4) = v0 c
          ∧ r.2.mem ((c.tc : Thread Cert.COutRefIdeal.nD Cert.COutRefIdeal.τ).loc Cert.COutRefIdeal.main_arg0) = m' ((c.tc : Thread Cert.COutRefIdeal.nD Cert.COutRefIdeal.τ).loc Cert.COutRefIdeal.main_arg0)
          ∧ r.2.mem ((c.tc : Thread Cert.COutRefIdeal.nD Cert.COutRefIdeal.τ).loc Cert.COutRefIdeal.main_arg1) = m' ((c.tc : Thread Cert.COutRefIdeal.nD Cert.COutRefIdeal.τ).loc Cert.COutRefIdeal.main_arg1)
          ∧ r.2.mem ((c.tc : Thread Cert.COutRefIdeal.nD Cert.COutRefIdeal.τ).loc Cert.COutRefIdeal.main_arg2) = m' ((c.tc : Thread Cert.COutRefIdeal.nD Cert.COutRefIdeal.τ).loc Cert.COutRefIdeal.main_arg2))

def preserves_AbOut_AbOutIdeal : Prop :=
  True

def algebraic_AbOutIdeal_AbOutRefIdeal [hAbOutIdeal : Cert.AbOutIdeal.Facts] [hAbOutRefIdeal : Cert.AbOutRefIdeal.Facts] : Prop :=
  ∀ (m : (ℓ : Loc Cert.AbOutIdeal.nD Cert.AbOutIdeal.τ Cert.AbOutIdeal.sig) → Buf (Elt Ideal) ℓ) (g : Dev Cert.AbOutIdeal.nD → PrngReg)
    (m' : (ℓ : Loc Cert.AbOutRefIdeal.nD Cert.AbOutRefIdeal.τ Cert.AbOutRefIdeal.sig) → Buf (Elt Ideal) ℓ) (g' : Dev Cert.AbOutRefIdeal.nD → PrngReg), Pre_AbOutIdeal m →
    (∀ c : Dev Cert.AbOutIdeal.nD,
      m' ((c.tc : Thread Cert.AbOutRefIdeal.nD Cert.AbOutRefIdeal.τ).loc Cert.AbOutRefIdeal.main_arg0) = m ((c.tc : Thread Cert.AbOutIdeal.nD Cert.AbOutIdeal.τ).loc Cert.AbOutIdeal.main_arg0)
      ∧ m' ((c.tc : Thread Cert.AbOutRefIdeal.nD Cert.AbOutRefIdeal.τ).loc Cert.AbOutRefIdeal.main_arg1) = m ((c.tc : Thread Cert.AbOutIdeal.nD Cert.AbOutIdeal.τ).loc Cert.AbOutIdeal.main_arg1)
      ∧ m' ((c.tc : Thread Cert.AbOutRefIdeal.nD Cert.AbOutRefIdeal.τ).loc Cert.AbOutRefIdeal.main_arg2) = m ((c.tc : Thread Cert.AbOutIdeal.nD Cert.AbOutIdeal.τ).loc Cert.AbOutIdeal.main_arg2)
      ∧ m' ((c.tc : Thread Cert.AbOutRefIdeal.nD Cert.AbOutRefIdeal.τ).loc Cert.AbOutRefIdeal.main_arg3) = m ((c.tc : Thread Cert.AbOutIdeal.nD Cert.AbOutIdeal.τ).loc Cert.AbOutIdeal.main_arg3)) →
    ∃ (v0 : (c : Dev Cert.AbOutIdeal.nD) → Buf (Elt Ideal) ((c.tc : Thread Cert.AbOutIdeal.nD Cert.AbOutIdeal.τ).loc Cert.AbOutIdeal.main_v0)),
      θ_run (Cert.AbOutIdeal.defs (F := Ideal)) (onTc (τ := Cert.AbOutIdeal.τ) (Cert.AbOutIdeal.main (F := Ideal))) ⟨m, fun _ => 0, g⟩ (fun r => ∀ c : Dev Cert.AbOutIdeal.nD,
          r.2.mem ((c.tc : Thread Cert.AbOutIdeal.nD Cert.AbOutIdeal.τ).loc Cert.AbOutIdeal.main_v0) = v0 c
          ∧ r.2.mem ((c.tc : Thread Cert.AbOutIdeal.nD Cert.AbOutIdeal.τ).loc Cert.AbOutIdeal.main_arg0) = m ((c.tc : Thread Cert.AbOutIdeal.nD Cert.AbOutIdeal.τ).loc Cert.AbOutIdeal.main_arg0)
          ∧ r.2.mem ((c.tc : Thread Cert.AbOutIdeal.nD Cert.AbOutIdeal.τ).loc Cert.AbOutIdeal.main_arg1) = m ((c.tc : Thread Cert.AbOutIdeal.nD Cert.AbOutIdeal.τ).loc Cert.AbOutIdeal.main_arg1)
          ∧ r.2.mem ((c.tc : Thread Cert.AbOutIdeal.nD Cert.AbOutIdeal.τ).loc Cert.AbOutIdeal.main_arg2) = m ((c.tc : Thread Cert.AbOutIdeal.nD Cert.AbOutIdeal.τ).loc Cert.AbOutIdeal.main_arg2)
          ∧ r.2.mem ((c.tc : Thread Cert.AbOutIdeal.nD Cert.AbOutIdeal.τ).loc Cert.AbOutIdeal.main_arg3) = m ((c.tc : Thread Cert.AbOutIdeal.nD Cert.AbOutIdeal.τ).loc Cert.AbOutIdeal.main_arg3))
      ∧ θ_run (Cert.AbOutRefIdeal.defs (F := Ideal)) (onTc (τ := Cert.AbOutRefIdeal.τ) (Cert.AbOutRefIdeal.main (F := Ideal))) ⟨m', fun _ => 0, g'⟩ (fun r => ∀ c : Dev Cert.AbOutRefIdeal.nD,
          r.2.mem ((c.tc : Thread Cert.AbOutRefIdeal.nD Cert.AbOutRefIdeal.τ).loc Cert.AbOutRefIdeal.main_v6) = v0 c
          ∧ r.2.mem ((c.tc : Thread Cert.AbOutRefIdeal.nD Cert.AbOutRefIdeal.τ).loc Cert.AbOutRefIdeal.main_arg0) = m' ((c.tc : Thread Cert.AbOutRefIdeal.nD Cert.AbOutRefIdeal.τ).loc Cert.AbOutRefIdeal.main_arg0)
          ∧ r.2.mem ((c.tc : Thread Cert.AbOutRefIdeal.nD Cert.AbOutRefIdeal.τ).loc Cert.AbOutRefIdeal.main_arg1) = m' ((c.tc : Thread Cert.AbOutRefIdeal.nD Cert.AbOutRefIdeal.τ).loc Cert.AbOutRefIdeal.main_arg1)
          ∧ r.2.mem ((c.tc : Thread Cert.AbOutRefIdeal.nD Cert.AbOutRefIdeal.τ).loc Cert.AbOutRefIdeal.main_arg2) = m' ((c.tc : Thread Cert.AbOutRefIdeal.nD Cert.AbOutRefIdeal.τ).loc Cert.AbOutRefIdeal.main_arg2)
          ∧ r.2.mem ((c.tc : Thread Cert.AbOutRefIdeal.nD Cert.AbOutRefIdeal.τ).loc Cert.AbOutRefIdeal.main_arg3) = m' ((c.tc : Thread Cert.AbOutRefIdeal.nD Cert.AbOutRefIdeal.τ).loc Cert.AbOutRefIdeal.main_arg3))

def preserves_CIn_CInIdeal : Prop :=
  True

def algebraic_CInIdeal_CInRefIdeal [hCInIdeal : Cert.CInIdeal.Facts] [hCInRefIdeal : Cert.CInRefIdeal.Facts] : Prop :=
  ∀ (m : (ℓ : Loc Cert.CInIdeal.nD Cert.CInIdeal.τ Cert.CInIdeal.sig) → Buf (Elt Ideal) ℓ) (g : Dev Cert.CInIdeal.nD → PrngReg)
    (m' : (ℓ : Loc Cert.CInRefIdeal.nD Cert.CInRefIdeal.τ Cert.CInRefIdeal.sig) → Buf (Elt Ideal) ℓ) (g' : Dev Cert.CInRefIdeal.nD → PrngReg), Pre_CInIdeal m →
    (∀ c : Dev Cert.CInIdeal.nD,
      m' ((c.tc : Thread Cert.CInRefIdeal.nD Cert.CInRefIdeal.τ).loc Cert.CInRefIdeal.main_arg0) = m ((c.tc : Thread Cert.CInIdeal.nD Cert.CInIdeal.τ).loc Cert.CInIdeal.main_arg0)
      ∧ m' ((c.tc : Thread Cert.CInRefIdeal.nD Cert.CInRefIdeal.τ).loc Cert.CInRefIdeal.main_arg1) = m ((c.tc : Thread Cert.CInIdeal.nD Cert.CInIdeal.τ).loc Cert.CInIdeal.main_arg1)
      ∧ m' ((c.tc : Thread Cert.CInRefIdeal.nD Cert.CInRefIdeal.τ).loc Cert.CInRefIdeal.main_arg2) = m ((c.tc : Thread Cert.CInIdeal.nD Cert.CInIdeal.τ).loc Cert.CInIdeal.main_arg2)) →
    ∃ (v0 : (c : Dev Cert.CInIdeal.nD) → Buf (Elt Ideal) ((c.tc : Thread Cert.CInIdeal.nD Cert.CInIdeal.τ).loc Cert.CInIdeal.main_v2_0)) (v1 : (c : Dev Cert.CInIdeal.nD) → Buf (Elt Ideal) ((c.tc : Thread Cert.CInIdeal.nD Cert.CInIdeal.τ).loc Cert.CInIdeal.main_v2_1)),
      θ_run (Cert.CInIdeal.defs (F := Ideal)) (onTc (τ := Cert.CInIdeal.τ) (Cert.CInIdeal.main (F := Ideal))) ⟨m, fun _ => 0, g⟩ (fun r => ∀ c : Dev Cert.CInIdeal.nD,
          r.2.mem ((c.tc : Thread Cert.CInIdeal.nD Cert.CInIdeal.τ).loc Cert.CInIdeal.main_v2_0) = v0 c
          ∧ r.2.mem ((c.tc : Thread Cert.CInIdeal.nD Cert.CInIdeal.τ).loc Cert.CInIdeal.main_v2_1) = v1 c
          ∧ r.2.mem ((c.tc : Thread Cert.CInIdeal.nD Cert.CInIdeal.τ).loc Cert.CInIdeal.main_arg0) = m ((c.tc : Thread Cert.CInIdeal.nD Cert.CInIdeal.τ).loc Cert.CInIdeal.main_arg0)
          ∧ r.2.mem ((c.tc : Thread Cert.CInIdeal.nD Cert.CInIdeal.τ).loc Cert.CInIdeal.main_arg1) = m ((c.tc : Thread Cert.CInIdeal.nD Cert.CInIdeal.τ).loc Cert.CInIdeal.main_arg1)
          ∧ r.2.mem ((c.tc : Thread Cert.CInIdeal.nD Cert.CInIdeal.τ).loc Cert.CInIdeal.main_arg2) = m ((c.tc : Thread Cert.CInIdeal.nD Cert.CInIdeal.τ).loc Cert.CInIdeal.main_arg2))
      ∧ θ_run (Cert.CInRefIdeal.defs (F := Ideal)) (onTc (τ := Cert.CInRefIdeal.τ) (Cert.CInRefIdeal.main (F := Ideal))) ⟨m', fun _ => 0, g'⟩ (fun r => ∀ c : Dev Cert.CInRefIdeal.nD,
          r.2.mem ((c.tc : Thread Cert.CInRefIdeal.nD Cert.CInRefIdeal.τ).loc Cert.CInRefIdeal.main_v16) = v0 c
          ∧ r.2.mem ((c.tc : Thread Cert.CInRefIdeal.nD Cert.CInRefIdeal.τ).loc Cert.CInRefIdeal.main_v17) = v1 c
          ∧ r.2.mem ((c.tc : Thread Cert.CInRefIdeal.nD Cert.CInRefIdeal.τ).loc Cert.CInRefIdeal.main_arg0) = m' ((c.tc : Thread Cert.CInRefIdeal.nD Cert.CInRefIdeal.τ).loc Cert.CInRefIdeal.main_arg0)
          ∧ r.2.mem ((c.tc : Thread Cert.CInRefIdeal.nD Cert.CInRefIdeal.τ).loc Cert.CInRefIdeal.main_arg1) = m' ((c.tc : Thread Cert.CInRefIdeal.nD Cert.CInRefIdeal.τ).loc Cert.CInRefIdeal.main_arg1)
          ∧ r.2.mem ((c.tc : Thread Cert.CInRefIdeal.nD Cert.CInRefIdeal.τ).loc Cert.CInRefIdeal.main_arg2) = m' ((c.tc : Thread Cert.CInRefIdeal.nD Cert.CInRefIdeal.τ).loc Cert.CInRefIdeal.main_arg2))

def preserves_AbIn_AbInIdeal : Prop :=
  True

def algebraic_AbInIdeal_AbInRefIdeal [hAbInIdeal : Cert.AbInIdeal.Facts] [hAbInRefIdeal : Cert.AbInRefIdeal.Facts] : Prop :=
  ∀ (m : (ℓ : Loc Cert.AbInIdeal.nD Cert.AbInIdeal.τ Cert.AbInIdeal.sig) → Buf (Elt Ideal) ℓ) (g : Dev Cert.AbInIdeal.nD → PrngReg)
    (m' : (ℓ : Loc Cert.AbInRefIdeal.nD Cert.AbInRefIdeal.τ Cert.AbInRefIdeal.sig) → Buf (Elt Ideal) ℓ) (g' : Dev Cert.AbInRefIdeal.nD → PrngReg), Pre_AbInIdeal m →
    (∀ c : Dev Cert.AbInIdeal.nD,
      m' ((c.tc : Thread Cert.AbInRefIdeal.nD Cert.AbInRefIdeal.τ).loc Cert.AbInRefIdeal.main_arg0) = m ((c.tc : Thread Cert.AbInIdeal.nD Cert.AbInIdeal.τ).loc Cert.AbInIdeal.main_arg0)
      ∧ m' ((c.tc : Thread Cert.AbInRefIdeal.nD Cert.AbInRefIdeal.τ).loc Cert.AbInRefIdeal.main_arg1) = m ((c.tc : Thread Cert.AbInIdeal.nD Cert.AbInIdeal.τ).loc Cert.AbInIdeal.main_arg1)
      ∧ m' ((c.tc : Thread Cert.AbInRefIdeal.nD Cert.AbInRefIdeal.τ).loc Cert.AbInRefIdeal.main_arg2) = m ((c.tc : Thread Cert.AbInIdeal.nD Cert.AbInIdeal.τ).loc Cert.AbInIdeal.main_arg2)) →
    ∃ (v0 : (c : Dev Cert.AbInIdeal.nD) → Buf (Elt Ideal) ((c.tc : Thread Cert.AbInIdeal.nD Cert.AbInIdeal.τ).loc Cert.AbInIdeal.main_v3_0)) (v1 : (c : Dev Cert.AbInIdeal.nD) → Buf (Elt Ideal) ((c.tc : Thread Cert.AbInIdeal.nD Cert.AbInIdeal.τ).loc Cert.AbInIdeal.main_v3_1)),
      θ_run (Cert.AbInIdeal.defs (F := Ideal)) (onTc (τ := Cert.AbInIdeal.τ) (Cert.AbInIdeal.main (F := Ideal))) ⟨m, fun _ => 0, g⟩ (fun r => ∀ c : Dev Cert.AbInIdeal.nD,
          r.2.mem ((c.tc : Thread Cert.AbInIdeal.nD Cert.AbInIdeal.τ).loc Cert.AbInIdeal.main_v3_0) = v0 c
          ∧ r.2.mem ((c.tc : Thread Cert.AbInIdeal.nD Cert.AbInIdeal.τ).loc Cert.AbInIdeal.main_v3_1) = v1 c
          ∧ r.2.mem ((c.tc : Thread Cert.AbInIdeal.nD Cert.AbInIdeal.τ).loc Cert.AbInIdeal.main_arg0) = m ((c.tc : Thread Cert.AbInIdeal.nD Cert.AbInIdeal.τ).loc Cert.AbInIdeal.main_arg0)
          ∧ r.2.mem ((c.tc : Thread Cert.AbInIdeal.nD Cert.AbInIdeal.τ).loc Cert.AbInIdeal.main_arg1) = m ((c.tc : Thread Cert.AbInIdeal.nD Cert.AbInIdeal.τ).loc Cert.AbInIdeal.main_arg1)
          ∧ r.2.mem ((c.tc : Thread Cert.AbInIdeal.nD Cert.AbInIdeal.τ).loc Cert.AbInIdeal.main_arg2) = m ((c.tc : Thread Cert.AbInIdeal.nD Cert.AbInIdeal.τ).loc Cert.AbInIdeal.main_arg2))
      ∧ θ_run (Cert.AbInRefIdeal.defs (F := Ideal)) (onTc (τ := Cert.AbInRefIdeal.τ) (Cert.AbInRefIdeal.main (F := Ideal))) ⟨m', fun _ => 0, g'⟩ (fun r => ∀ c : Dev Cert.AbInRefIdeal.nD,
          r.2.mem ((c.tc : Thread Cert.AbInRefIdeal.nD Cert.AbInRefIdeal.τ).loc Cert.AbInRefIdeal.main_v18) = v0 c
          ∧ r.2.mem ((c.tc : Thread Cert.AbInRefIdeal.nD Cert.AbInRefIdeal.τ).loc Cert.AbInRefIdeal.main_v19) = v1 c
          ∧ r.2.mem ((c.tc : Thread Cert.AbInRefIdeal.nD Cert.AbInRefIdeal.τ).loc Cert.AbInRefIdeal.main_arg0) = m' ((c.tc : Thread Cert.AbInRefIdeal.nD Cert.AbInRefIdeal.τ).loc Cert.AbInRefIdeal.main_arg0)
          ∧ r.2.mem ((c.tc : Thread Cert.AbInRefIdeal.nD Cert.AbInRefIdeal.τ).loc Cert.AbInRefIdeal.main_arg1) = m' ((c.tc : Thread Cert.AbInRefIdeal.nD Cert.AbInRefIdeal.τ).loc Cert.AbInRefIdeal.main_arg1)
          ∧ r.2.mem ((c.tc : Thread Cert.AbInRefIdeal.nD Cert.AbInRefIdeal.τ).loc Cert.AbInRefIdeal.main_arg2) = m' ((c.tc : Thread Cert.AbInRefIdeal.nD Cert.AbInRefIdeal.τ).loc Cert.AbInRefIdeal.main_arg2))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)
      ∧ m' ((c.tc : Thread Cert.FfnUpRefIdeal.nD Cert.FfnUpRefIdeal.τ).loc Cert.FfnUpRefIdeal.main_arg2) = m ((c.tc : Thread Cert.FfnUpIdeal.nD Cert.FfnUpIdeal.τ).loc Cert.FfnUpIdeal.main_arg2)
      ∧ m' ((c.tc : Thread Cert.FfnUpRefIdeal.nD Cert.FfnUpRefIdeal.τ).loc Cert.FfnUpRefIdeal.main_arg3) = m ((c.tc : Thread Cert.FfnUpIdeal.nD Cert.FfnUpIdeal.τ).loc Cert.FfnUpIdeal.main_arg3)
      ∧ m' ((c.tc : Thread Cert.FfnUpRefIdeal.nD Cert.FfnUpRefIdeal.τ).loc Cert.FfnUpRefIdeal.main_arg4) = m ((c.tc : Thread Cert.FfnUpIdeal.nD Cert.FfnUpIdeal.τ).loc Cert.FfnUpIdeal.main_arg4)) →
    ∃ (v0 : (c : Dev Cert.FfnUpIdeal.nD) → Buf (Elt Ideal) ((c.tc : Thread Cert.FfnUpIdeal.nD Cert.FfnUpIdeal.τ).loc Cert.FfnUpIdeal.main_v7_0)) (v1 : (c : Dev Cert.FfnUpIdeal.nD) → Buf (Elt Ideal) ((c.tc : Thread Cert.FfnUpIdeal.nD Cert.FfnUpIdeal.τ).loc Cert.FfnUpIdeal.main_v7_1)) (v2 : (c : Dev Cert.FfnUpIdeal.nD) → Buf (Elt Ideal) ((c.tc : Thread Cert.FfnUpIdeal.nD Cert.FfnUpIdeal.τ).loc Cert.FfnUpIdeal.main_v7_2)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v7_0) = v0 c
          ∧ r.2.mem ((c.tc : Thread Cert.FfnUpIdeal.nD Cert.FfnUpIdeal.τ).loc Cert.FfnUpIdeal.main_v7_1) = v1 c
          ∧ r.2.mem ((c.tc : Thread Cert.FfnUpIdeal.nD Cert.FfnUpIdeal.τ).loc Cert.FfnUpIdeal.main_v7_2) = v2 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2)
          ∧ r.2.mem ((c.tc : Thread Cert.FfnUpIdeal.nD Cert.FfnUpIdeal.τ).loc Cert.FfnUpIdeal.main_arg3) = m ((c.tc : Thread Cert.FfnUpIdeal.nD Cert.FfnUpIdeal.τ).loc Cert.FfnUpIdeal.main_arg3)
          ∧ r.2.mem ((c.tc : Thread Cert.FfnUpIdeal.nD Cert.FfnUpIdeal.τ).loc Cert.FfnUpIdeal.main_arg4) = m ((c.tc : Thread Cert.FfnUpIdeal.nD Cert.FfnUpIdeal.τ).loc Cert.FfnUpIdeal.main_arg4))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v47) = v0 c
          ∧ r.2.mem ((c.tc : Thread Cert.FfnUpRefIdeal.nD Cert.FfnUpRefIdeal.τ).loc Cert.FfnUpRefIdeal.main_v50) = v1 c
          ∧ r.2.mem ((c.tc : Thread Cert.FfnUpRefIdeal.nD Cert.FfnUpRefIdeal.τ).loc Cert.FfnUpRefIdeal.main_v51) = v2 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1)
          ∧ r.2.mem ((c.tc : Thread Cert.FfnUpRefIdeal.nD Cert.FfnUpRefIdeal.τ).loc Cert.FfnUpRefIdeal.main_arg2) = m' ((c.tc : Thread Cert.FfnUpRefIdeal.nD Cert.FfnUpRefIdeal.τ).loc Cert.FfnUpRefIdeal.main_arg2)
          ∧ r.2.mem ((c.tc : Thread Cert.FfnUpRefIdeal.nD Cert.FfnUpRefIdeal.τ).loc Cert.FfnUpRefIdeal.main_arg3) = m' ((c.tc : Thread Cert.FfnUpRefIdeal.nD Cert.FfnUpRefIdeal.τ).loc Cert.FfnUpRefIdeal.main_arg3)
          ∧ r.2.mem ((c.tc : Thread Cert.FfnUpRefIdeal.nD Cert.FfnUpRefIdeal.τ).loc Cert.FfnUpRefIdeal.main_arg4) = m' ((c.tc : Thread Cert.FfnUpRefIdeal.nD Cert.FfnUpRefIdeal.τ).loc Cert.FfnUpRefIdeal.main_arg4))

def preserves_Prep_PrepIdeal : Prop :=
  True

def algebraic_PrepIdeal_PrepRefIdeal [hPrepIdeal : Cert.PrepIdeal.Facts] [hPrepRefIdeal : Cert.PrepRefIdeal.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)) →
    ∃ (v0 : (c : Dev Cert.PrepIdeal.nD) → Buf (Elt Ideal) ((c.tc : Thread Cert.PrepIdeal.nD Cert.PrepIdeal.τ).loc Cert.PrepIdeal.main_v23_0)) (v1 : (c : Dev Cert.PrepIdeal.nD) → Buf (Elt Ideal) ((c.tc : Thread Cert.PrepIdeal.nD Cert.PrepIdeal.τ).loc Cert.PrepIdeal.main_v23_1)) (v2 : (c : Dev Cert.PrepIdeal.nD) → Buf (Elt Ideal) ((c.tc : Thread Cert.PrepIdeal.nD Cert.PrepIdeal.τ).loc Cert.PrepIdeal.main_v23_2)) (v3 : (c : Dev Cert.PrepIdeal.nD) → Buf (Elt Ideal) ((c.tc : Thread Cert.PrepIdeal.nD Cert.PrepIdeal.τ).loc Cert.PrepIdeal.main_v23_3)) (v4 : (c : Dev Cert.PrepIdeal.nD) → Buf (Elt Ideal) ((c.tc : Thread Cert.PrepIdeal.nD Cert.PrepIdeal.τ).loc Cert.PrepIdeal.main_v23_4)) (v5 : (c : Dev Cert.PrepIdeal.nD) → Buf (Elt Ideal) ((c.tc : Thread Cert.PrepIdeal.nD Cert.PrepIdeal.τ).loc Cert.PrepIdeal.main_v23_5)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v23_0) = v0 c
          ∧ r.2.mem ((c.tc : Thread Cert.PrepIdeal.nD Cert.PrepIdeal.τ).loc Cert.PrepIdeal.main_v23_1) = v1 c
          ∧ r.2.mem ((c.tc : Thread Cert.PrepIdeal.nD Cert.PrepIdeal.τ).loc Cert.PrepIdeal.main_v23_2) = v2 c
          ∧ r.2.mem ((c.tc : Thread Cert.PrepIdeal.nD Cert.PrepIdeal.τ).loc Cert.PrepIdeal.main_v23_3) = v3 c
          ∧ r.2.mem ((c.tc : Thread Cert.PrepIdeal.nD Cert.PrepIdeal.τ).loc Cert.PrepIdeal.main_v23_4) = v4 c
          ∧ r.2.mem ((c.tc : Thread Cert.PrepIdeal.nD Cert.PrepIdeal.τ).loc Cert.PrepIdeal.main_v23_5) = v5 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v80) = v0 c
          ∧ r.2.mem ((c.tc : Thread Cert.PrepRefIdeal.nD Cert.PrepRefIdeal.τ).loc Cert.PrepRefIdeal.main_v81) = v1 c
          ∧ r.2.mem ((c.tc : Thread Cert.PrepRefIdeal.nD Cert.PrepRefIdeal.τ).loc Cert.PrepRefIdeal.main_v82) = v2 c
          ∧ r.2.mem ((c.tc : Thread Cert.PrepRefIdeal.nD Cert.PrepRefIdeal.τ).loc Cert.PrepRefIdeal.main_v83) = v3 c
          ∧ r.2.mem ((c.tc : Thread Cert.PrepRefIdeal.nD Cert.PrepRefIdeal.τ).loc Cert.PrepRefIdeal.main_v84) = v4 c
          ∧ r.2.mem ((c.tc : Thread Cert.PrepRefIdeal.nD Cert.PrepRefIdeal.τ).loc Cert.PrepRefIdeal.main_v79) = v5 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0))

def preserves_RopeRows_RopeRowsIdeal : Prop :=
  True

def algebraic_RopeRowsIdeal_RopeRowsRefIdeal [hRopeRowsIdeal : Cert.RopeRowsIdeal.Facts] [hRopeRowsRefIdeal : Cert.RopeRowsRefIdeal.Facts] : Prop :=
  ∀ (m : (ℓ : Loc Cert.RopeRowsIdeal.nD Cert.RopeRowsIdeal.τ Cert.RopeRowsIdeal.sig) → Buf (Elt Ideal) ℓ) (g : Dev Cert.RopeRowsIdeal.nD → PrngReg)
    (m' : (ℓ : Loc Cert.RopeRowsRefIdeal.nD Cert.RopeRowsRefIdeal.τ Cert.RopeRowsRefIdeal.sig) → Buf (Elt Ideal) ℓ) (g' : Dev Cert.RopeRowsRefIdeal.nD → PrngReg), Pre_RopeRowsIdeal m →
    (∀ c : Dev Cert.RopeRowsIdeal.nD,
      m' ((c.tc : Thread Cert.RopeRowsRefIdeal.nD Cert.RopeRowsRefIdeal.τ).loc Cert.RopeRowsRefIdeal.main_arg0) = m ((c.tc : Thread Cert.RopeRowsIdeal.nD Cert.RopeRowsIdeal.τ).loc Cert.RopeRowsIdeal.main_arg0)) →
    ∃ (v0 : (c : Dev Cert.RopeRowsIdeal.nD) → Buf (Elt Ideal) ((c.tc : Thread Cert.RopeRowsIdeal.nD Cert.RopeRowsIdeal.τ).loc Cert.RopeRowsIdeal.main_v22_0)) (v1 : (c : Dev Cert.RopeRowsIdeal.nD) → Buf (Elt Ideal) ((c.tc : Thread Cert.RopeRowsIdeal.nD Cert.RopeRowsIdeal.τ).loc Cert.RopeRowsIdeal.main_v22_1)) (v2 : (c : Dev Cert.RopeRowsIdeal.nD) → Buf (Elt Ideal) ((c.tc : Thread Cert.RopeRowsIdeal.nD Cert.RopeRowsIdeal.τ).loc Cert.RopeRowsIdeal.main_v22_2)),
      θ_run (Cert.RopeRowsIdeal.defs (F := Ideal)) (onTc (τ := Cert.RopeRowsIdeal.τ) (Cert.RopeRowsIdeal.main (F := Ideal))) ⟨m, fun _ => 0, g⟩ (fun r => ∀ c : Dev Cert.RopeRowsIdeal.nD,
          r.2.mem ((c.tc : Thread Cert.RopeRowsIdeal.nD Cert.RopeRowsIdeal.τ).loc Cert.RopeRowsIdeal.main_v22_0) = v0 c
          ∧ r.2.mem ((c.tc : Thread Cert.RopeRowsIdeal.nD Cert.RopeRowsIdeal.τ).loc Cert.RopeRowsIdeal.main_v22_1) = v1 c
          ∧ r.2.mem ((c.tc : Thread Cert.RopeRowsIdeal.nD Cert.RopeRowsIdeal.τ).loc Cert.RopeRowsIdeal.main_v22_2) = v2 c
          ∧ r.2.mem ((c.tc : Thread Cert.RopeRowsIdeal.nD Cert.RopeRowsIdeal.τ).loc Cert.RopeRowsIdeal.main_arg0) = m ((c.tc : Thread Cert.RopeRowsIdeal.nD Cert.RopeRowsIdeal.τ).loc Cert.RopeRowsIdeal.main_arg0))
      ∧ θ_run (Cert.RopeRowsRefIdeal.defs (F := Ideal)) (onTc (τ := Cert.RopeRowsRefIdeal.τ) (Cert.RopeRowsRefIdeal.main (F := Ideal))) ⟨m', fun _ => 0, g'⟩ (fun r => ∀ c : Dev Cert.RopeRowsRefIdeal.nD,
          r.2.mem ((c.tc : Thread Cert.RopeRowsRefIdeal.nD Cert.RopeRowsRefIdeal.τ).loc Cert.RopeRowsRefIdeal.main_v72) = v0 c
          ∧ r.2.mem ((c.tc : Thread Cert.RopeRowsRefIdeal.nD Cert.RopeRowsRefIdeal.τ).loc Cert.RopeRowsRefIdeal.main_v73) = v1 c
          ∧ r.2.mem ((c.tc : Thread Cert.RopeRowsRefIdeal.nD Cert.RopeRowsRefIdeal.τ).loc Cert.RopeRowsRefIdeal.main_v74) = v2 c
          ∧ r.2.mem ((c.tc : Thread Cert.RopeRowsRefIdeal.nD Cert.RopeRowsRefIdeal.τ).loc Cert.RopeRowsRefIdeal.main_arg0) = m' ((c.tc : Thread Cert.RopeRowsRefIdeal.nD Cert.RopeRowsRefIdeal.τ).loc Cert.RopeRowsRefIdeal.main_arg0))

def preserves_FfnMid_FfnMidIdeal : Prop :=
  True

def algebraic_FfnMidIdeal_FfnMidRefIdeal [hFfnMidIdeal : Cert.FfnMidIdeal.Facts] [hFfnMidRefIdeal : Cert.FfnMidRefIdeal.Facts] : Prop :=
  ∀ (m : (ℓ : Loc Cert.FfnMidIdeal.nD Cert.FfnMidIdeal.τ Cert.FfnMidIdeal.sig) → Buf (Elt Ideal) ℓ) (g : Dev Cert.FfnMidIdeal.nD → PrngReg)
    (m' : (ℓ : Loc Cert.FfnMidRefIdeal.nD Cert.FfnMidRefIdeal.τ Cert.FfnMidRefIdeal.sig) → Buf (Elt Ideal) ℓ) (g' : Dev Cert.FfnMidRefIdeal.nD → PrngReg), Pre_FfnMidIdeal m →
    (∀ c : Dev Cert.FfnMidIdeal.nD,
      m' ((c.tc : Thread Cert.FfnMidRefIdeal.nD Cert.FfnMidRefIdeal.τ).loc Cert.FfnMidRefIdeal.main_arg0) = m ((c.tc : Thread Cert.FfnMidIdeal.nD Cert.FfnMidIdeal.τ).loc Cert.FfnMidIdeal.main_arg0)
      ∧ m' ((c.tc : Thread Cert.FfnMidRefIdeal.nD Cert.FfnMidRefIdeal.τ).loc Cert.FfnMidRefIdeal.main_arg1) = m ((c.tc : Thread Cert.FfnMidIdeal.nD Cert.FfnMidIdeal.τ).loc Cert.FfnMidIdeal.main_arg1)
      ∧ m' ((c.tc : Thread Cert.FfnMidRefIdeal.nD Cert.FfnMidRefIdeal.τ).loc Cert.FfnMidRefIdeal.main_arg2) = m ((c.tc : Thread Cert.FfnMidIdeal.nD Cert.FfnMidIdeal.τ).loc Cert.FfnMidIdeal.main_arg2)
      ∧ m' ((c.tc : Thread Cert.FfnMidRefIdeal.nD Cert.FfnMidRefIdeal.τ).loc Cert.FfnMidRefIdeal.main_arg3) = m ((c.tc : Thread Cert.FfnMidIdeal.nD Cert.FfnMidIdeal.τ).loc Cert.FfnMidIdeal.main_arg3)) →
    ∃ (v0 : (c : Dev Cert.FfnMidIdeal.nD) → Buf (Elt Ideal) ((c.tc : Thread Cert.FfnMidIdeal.nD Cert.FfnMidIdeal.τ).loc Cert.FfnMidIdeal.main_v1_0)) (v1 : (c : Dev Cert.FfnMidIdeal.nD) → Buf (Elt Ideal) ((c.tc : Thread Cert.FfnMidIdeal.nD Cert.FfnMidIdeal.τ).loc Cert.FfnMidIdeal.main_v1_1)),
      θ_run (Cert.FfnMidIdeal.defs (F := Ideal)) (onTc (τ := Cert.FfnMidIdeal.τ) (Cert.FfnMidIdeal.main (F := Ideal))) ⟨m, fun _ => 0, g⟩ (fun r => ∀ c : Dev Cert.FfnMidIdeal.nD,
          r.2.mem ((c.tc : Thread Cert.FfnMidIdeal.nD Cert.FfnMidIdeal.τ).loc Cert.FfnMidIdeal.main_v1_0) = v0 c
          ∧ r.2.mem ((c.tc : Thread Cert.FfnMidIdeal.nD Cert.FfnMidIdeal.τ).loc Cert.FfnMidIdeal.main_v1_1) = v1 c
          ∧ r.2.mem ((c.tc : Thread Cert.FfnMidIdeal.nD Cert.FfnMidIdeal.τ).loc Cert.FfnMidIdeal.main_arg0) = m ((c.tc : Thread Cert.FfnMidIdeal.nD Cert.FfnMidIdeal.τ).loc Cert.FfnMidIdeal.main_arg0)
          ∧ r.2.mem ((c.tc : Thread Cert.FfnMidIdeal.nD Cert.FfnMidIdeal.τ).loc Cert.FfnMidIdeal.main_arg1) = m ((c.tc : Thread Cert.FfnMidIdeal.nD Cert.FfnMidIdeal.τ).loc Cert.FfnMidIdeal.main_arg1)
          ∧ r.2.mem ((c.tc : Thread Cert.FfnMidIdeal.nD Cert.FfnMidIdeal.τ).loc Cert.FfnMidIdeal.main_arg2) = m ((c.tc : Thread Cert.FfnMidIdeal.nD Cert.FfnMidIdeal.τ).loc Cert.FfnMidIdeal.main_arg2)
          ∧ r.2.mem ((c.tc : Thread Cert.FfnMidIdeal.nD Cert.FfnMidIdeal.τ).loc Cert.FfnMidIdeal.main_arg3) = m ((c.tc : Thread Cert.FfnMidIdeal.nD Cert.FfnMidIdeal.τ).loc Cert.FfnMidIdeal.main_arg3))
      ∧ θ_run (Cert.FfnMidRefIdeal.defs (F := Ideal)) (onTc (τ := Cert.FfnMidRefIdeal.τ) (Cert.FfnMidRefIdeal.main (F := Ideal))) ⟨m', fun _ => 0, g'⟩ (fun r => ∀ c : Dev Cert.FfnMidRefIdeal.nD,
          r.2.mem ((c.tc : Thread Cert.FfnMidRefIdeal.nD Cert.FfnMidRefIdeal.τ).loc Cert.FfnMidRefIdeal.main_v29) = v0 c
          ∧ r.2.mem ((c.tc : Thread Cert.FfnMidRefIdeal.nD Cert.FfnMidRefIdeal.τ).loc Cert.FfnMidRefIdeal.main_v30) = v1 c
          ∧ r.2.mem ((c.tc : Thread Cert.FfnMidRefIdeal.nD Cert.FfnMidRefIdeal.τ).loc Cert.FfnMidRefIdeal.main_arg0) = m' ((c.tc : Thread Cert.FfnMidRefIdeal.nD Cert.FfnMidRefIdeal.τ).loc Cert.FfnMidRefIdeal.main_arg0)
          ∧ r.2.mem ((c.tc : Thread Cert.FfnMidRefIdeal.nD Cert.FfnMidRefIdeal.τ).loc Cert.FfnMidRefIdeal.main_arg1) = m' ((c.tc : Thread Cert.FfnMidRefIdeal.nD Cert.FfnMidRefIdeal.τ).loc Cert.FfnMidRefIdeal.main_arg1)
          ∧ r.2.mem ((c.tc : Thread Cert.FfnMidRefIdeal.nD Cert.FfnMidRefIdeal.τ).loc Cert.FfnMidRefIdeal.main_arg2) = m' ((c.tc : Thread Cert.FfnMidRefIdeal.nD Cert.FfnMidRefIdeal.τ).loc Cert.FfnMidRefIdeal.main_arg2)
          ∧ r.2.mem ((c.tc : Thread Cert.FfnMidRefIdeal.nD Cert.FfnMidRefIdeal.τ).loc Cert.FfnMidRefIdeal.main_arg3) = m' ((c.tc : Thread Cert.FfnMidRefIdeal.nD Cert.FfnMidRefIdeal.τ).loc Cert.FfnMidRefIdeal.main_arg3))

def preserves_Final_FinalIdeal : Prop :=
  True

def algebraic_FinalIdeal_FinalRefIdeal [hFinalIdeal : Cert.FinalIdeal.Facts] [hFinalRefIdeal : Cert.FinalRefIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalRefIdeal.nD Cert.FinalRefIdeal.τ Cert.FinalRefIdeal.sig) → Buf (Elt Ideal) ℓ) (g' : Dev Cert.FinalRefIdeal.nD → PrngReg), Pre_FinalIdeal m →
    (∀ c : Dev Cert.FinalIdeal.nD,
      m' ((c.tc : Thread Cert.FinalRefIdeal.nD Cert.FinalRefIdeal.τ).loc Cert.FinalRefIdeal.main_arg0) = m ((c.tc : Thread Cert.FinalIdeal.nD Cert.FinalIdeal.τ).loc Cert.FinalIdeal.main_arg0)
      ∧ m' ((c.tc : Thread Cert.FinalRefIdeal.nD Cert.FinalRefIdeal.τ).loc Cert.FinalRefIdeal.main_arg1) = m ((c.tc : Thread Cert.FinalIdeal.nD Cert.FinalIdeal.τ).loc Cert.FinalIdeal.main_arg1)) →
    ∃ (v0 : (c : Dev Cert.FinalIdeal.nD) → Buf (Elt Ideal) ((c.tc : Thread Cert.FinalIdeal.nD Cert.FinalIdeal.τ).loc Cert.FinalIdeal.main_v1)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v1) = v0 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1))
      ∧ θ_run (Cert.FinalRefIdeal.defs (F := Ideal)) (onTc (τ := Cert.FinalRefIdeal.τ) (Cert.FinalRefIdeal.main (F := Ideal))) ⟨m', fun _ => 0, g'⟩ (fun r => ∀ c : Dev Cert.FinalRefIdeal.nD,
          r.2.mem ((c.tc : Thread Cert.FinalRefIdeal.nD Cert.FinalRefIdeal.τ).loc Cert.FinalRefIdeal.main_v12) = v0 c
          ∧ r.2.mem ((c.tc : Thread Cert.FinalRefIdeal.nD Cert.FinalRefIdeal.τ).loc Cert.FinalRefIdeal.main_arg0) = m' ((c.tc : Thread Cert.FinalRefIdeal.nD Cert.FinalRefIdeal.τ).loc Cert.FinalRefIdeal.main_arg0)
          ∧ r.2.mem ((c.tc : Thread Cert.FinalRefIdeal.nD Cert.FinalRefIdeal.τ).loc Cert.FinalRefIdeal.main_arg1) = m' ((c.tc : Thread Cert.FinalRefIdeal.nD Cert.FinalRefIdeal.τ).loc Cert.FinalRefIdeal.main_arg1))

def preserves_FinalStep_FinalStepIdeal : Prop :=
  True

def algebraic_FinalStepIdeal_FinalStepRefIdeal [hFinalStepIdeal : Cert.FinalStepIdeal.Facts] [hFinalStepRefIdeal : Cert.FinalStepRefIdeal.Facts] : Prop :=
  ∀ (m : (ℓ : Loc Cert.FinalStepIdeal.nD Cert.FinalStepIdeal.τ Cert.FinalStepIdeal.sig) → Buf (Elt Ideal) ℓ) (g : Dev Cert.FinalStepIdeal.nD → PrngReg)
    (m' : (ℓ : Loc Cert.FinalStepRefIdeal.nD Cert.FinalStepRefIdeal.τ Cert.FinalStepRefIdeal.sig) → Buf (Elt Ideal) ℓ) (g' : Dev Cert.FinalStepRefIdeal.nD → PrngReg), Pre_FinalStepIdeal m →
    (∀ c : Dev Cert.FinalStepIdeal.nD,
      m' ((c.tc : Thread Cert.FinalStepRefIdeal.nD Cert.FinalStepRefIdeal.τ).loc Cert.FinalStepRefIdeal.main_arg0) = m ((c.tc : Thread Cert.FinalStepIdeal.nD Cert.FinalStepIdeal.τ).loc Cert.FinalStepIdeal.main_arg0)
      ∧ m' ((c.tc : Thread Cert.FinalStepRefIdeal.nD Cert.FinalStepRefIdeal.τ).loc Cert.FinalStepRefIdeal.main_arg1) = m ((c.tc : Thread Cert.FinalStepIdeal.nD Cert.FinalStepIdeal.τ).loc Cert.FinalStepIdeal.main_arg1)) →
    ∃ (v0 : (c : Dev Cert.FinalStepIdeal.nD) → Buf (Elt Ideal) ((c.tc : Thread Cert.FinalStepIdeal.nD Cert.FinalStepIdeal.τ).loc Cert.FinalStepIdeal.main_v1)),
      θ_run (Cert.FinalStepIdeal.defs (F := Ideal)) (onTc (τ := Cert.FinalStepIdeal.τ) (Cert.FinalStepIdeal.main (F := Ideal))) ⟨m, fun _ => 0, g⟩ (fun r => ∀ c : Dev Cert.FinalStepIdeal.nD,
          r.2.mem ((c.tc : Thread Cert.FinalStepIdeal.nD Cert.FinalStepIdeal.τ).loc Cert.FinalStepIdeal.main_v1) = v0 c
          ∧ r.2.mem ((c.tc : Thread Cert.FinalStepIdeal.nD Cert.FinalStepIdeal.τ).loc Cert.FinalStepIdeal.main_arg0) = m ((c.tc : Thread Cert.FinalStepIdeal.nD Cert.FinalStepIdeal.τ).loc Cert.FinalStepIdeal.main_arg0)
          ∧ r.2.mem ((c.tc : Thread Cert.FinalStepIdeal.nD Cert.FinalStepIdeal.τ).loc Cert.FinalStepIdeal.main_arg1) = m ((c.tc : Thread Cert.FinalStepIdeal.nD Cert.FinalStepIdeal.τ).loc Cert.FinalStepIdeal.main_arg1))
      ∧ θ_run (Cert.FinalStepRefIdeal.defs (F := Ideal)) (onTc (τ := Cert.FinalStepRefIdeal.τ) (Cert.FinalStepRefIdeal.main (F := Ideal))) ⟨m', fun _ => 0, g'⟩ (fun r => ∀ c : Dev Cert.FinalStepRefIdeal.nD,
          r.2.mem ((c.tc : Thread Cert.FinalStepRefIdeal.nD Cert.FinalStepRefIdeal.τ).loc Cert.FinalStepRefIdeal.main_v12) = v0 c
          ∧ r.2.mem ((c.tc : Thread Cert.FinalStepRefIdeal.nD Cert.FinalStepRefIdeal.τ).loc Cert.FinalStepRefIdeal.main_arg0) = m' ((c.tc : Thread Cert.FinalStepRefIdeal.nD Cert.FinalStepRefIdeal.τ).loc Cert.FinalStepRefIdeal.main_arg0)
          ∧ r.2.mem ((c.tc : Thread Cert.FinalStepRefIdeal.nD Cert.FinalStepRefIdeal.τ).loc Cert.FinalStepRefIdeal.main_arg1) = m' ((c.tc : Thread Cert.FinalStepRefIdeal.nD Cert.FinalStepRefIdeal.τ).loc Cert.FinalStepRefIdeal.main_arg1))

def preserves_MlstmStep_MlstmStepIdeal : Prop :=
  True

def algebraic_MlstmStepIdeal_MlstmStepRefIdeal [hMlstmStepIdeal : Cert.MlstmStepIdeal.Facts] [hMlstmStepRefIdeal : Cert.MlstmStepRefIdeal.Facts] : Prop :=
  ∀ (m : (ℓ : Loc Cert.MlstmStepIdeal.nD Cert.MlstmStepIdeal.τ Cert.MlstmStepIdeal.sig) → Buf (Elt Ideal) ℓ) (g : Dev Cert.MlstmStepIdeal.nD → PrngReg)
    (m' : (ℓ : Loc Cert.MlstmStepRefIdeal.nD Cert.MlstmStepRefIdeal.τ Cert.MlstmStepRefIdeal.sig) → Buf (Elt Ideal) ℓ) (g' : Dev Cert.MlstmStepRefIdeal.nD → PrngReg), Pre_MlstmStepIdeal m →
    (∀ c : Dev Cert.MlstmStepIdeal.nD,
      m' ((c.tc : Thread Cert.MlstmStepRefIdeal.nD Cert.MlstmStepRefIdeal.τ).loc Cert.MlstmStepRefIdeal.main_arg0) = m ((c.tc : Thread Cert.MlstmStepIdeal.nD Cert.MlstmStepIdeal.τ).loc Cert.MlstmStepIdeal.main_arg0)
      ∧ m' ((c.tc : Thread Cert.MlstmStepRefIdeal.nD Cert.MlstmStepRefIdeal.τ).loc Cert.MlstmStepRefIdeal.main_arg1) = m ((c.tc : Thread Cert.MlstmStepIdeal.nD Cert.MlstmStepIdeal.τ).loc Cert.MlstmStepIdeal.main_arg1)
      ∧ m' ((c.tc : Thread Cert.MlstmStepRefIdeal.nD Cert.MlstmStepRefIdeal.τ).loc Cert.MlstmStepRefIdeal.main_arg2) = m ((c.tc : Thread Cert.MlstmStepIdeal.nD Cert.MlstmStepIdeal.τ).loc Cert.MlstmStepIdeal.main_arg2)
      ∧ m' ((c.tc : Thread Cert.MlstmStepRefIdeal.nD Cert.MlstmStepRefIdeal.τ).loc Cert.MlstmStepRefIdeal.main_arg3) = m ((c.tc : Thread Cert.MlstmStepIdeal.nD Cert.MlstmStepIdeal.τ).loc Cert.MlstmStepIdeal.main_arg3)
      ∧ m' ((c.tc : Thread Cert.MlstmStepRefIdeal.nD Cert.MlstmStepRefIdeal.τ).loc Cert.MlstmStepRefIdeal.main_arg4) = m ((c.tc : Thread Cert.MlstmStepIdeal.nD Cert.MlstmStepIdeal.τ).loc Cert.MlstmStepIdeal.main_arg4)
      ∧ m' ((c.tc : Thread Cert.MlstmStepRefIdeal.nD Cert.MlstmStepRefIdeal.τ).loc Cert.MlstmStepRefIdeal.main_arg5) = m ((c.tc : Thread Cert.MlstmStepIdeal.nD Cert.MlstmStepIdeal.τ).loc Cert.MlstmStepIdeal.main_arg5)
      ∧ m' ((c.tc : Thread Cert.MlstmStepRefIdeal.nD Cert.MlstmStepRefIdeal.τ).loc Cert.MlstmStepRefIdeal.main_arg6) = m ((c.tc : Thread Cert.MlstmStepIdeal.nD Cert.MlstmStepIdeal.τ).loc Cert.MlstmStepIdeal.main_arg6)
      ∧ m' ((c.tc : Thread Cert.MlstmStepRefIdeal.nD Cert.MlstmStepRefIdeal.τ).loc Cert.MlstmStepRefIdeal.main_arg7) = m ((c.tc : Thread Cert.MlstmStepIdeal.nD Cert.MlstmStepIdeal.τ).loc Cert.MlstmStepIdeal.main_arg7)) →
    ∃ (v0 : (c : Dev Cert.MlstmStepIdeal.nD) → Buf (Elt Ideal) ((c.tc : Thread Cert.MlstmStepIdeal.nD Cert.MlstmStepIdeal.τ).loc Cert.MlstmStepIdeal.main_v4_0)) (v1 : (c : Dev Cert.MlstmStepIdeal.nD) → Buf (Elt Ideal) ((c.tc : Thread Cert.MlstmStepIdeal.nD Cert.MlstmStepIdeal.τ).loc Cert.MlstmStepIdeal.main_v4_1)) (v2 : (c : Dev Cert.MlstmStepIdeal.nD) → Buf (Elt Ideal) ((c.tc : Thread Cert.MlstmStepIdeal.nD Cert.MlstmStepIdeal.τ).loc Cert.MlstmStepIdeal.main_v4_2)) (v3 : (c : Dev Cert.MlstmStepIdeal.nD) → Buf (Elt Ideal) ((c.tc : Thread Cert.MlstmStepIdeal.nD Cert.MlstmStepIdeal.τ).loc Cert.MlstmStepIdeal.main_v4_3)),
      θ_run (Cert.MlstmStepIdeal.defs (F := Ideal)) (onTc (τ := Cert.MlstmStepIdeal.τ) (Cert.MlstmStepIdeal.main (F := Ideal))) ⟨m, fun _ => 0, g⟩ (fun r => ∀ c : Dev Cert.MlstmStepIdeal.nD,
          r.2.mem ((c.tc : Thread Cert.MlstmStepIdeal.nD Cert.MlstmStepIdeal.τ).loc Cert.MlstmStepIdeal.main_v4_0) = v0 c
          ∧ r.2.mem ((c.tc : Thread Cert.MlstmStepIdeal.nD Cert.MlstmStepIdeal.τ).loc Cert.MlstmStepIdeal.main_v4_1) = v1 c
          ∧ r.2.mem ((c.tc : Thread Cert.MlstmStepIdeal.nD Cert.MlstmStepIdeal.τ).loc Cert.MlstmStepIdeal.main_v4_2) = v2 c
          ∧ r.2.mem ((c.tc : Thread Cert.MlstmStepIdeal.nD Cert.MlstmStepIdeal.τ).loc Cert.MlstmStepIdeal.main_v4_3) = v3 c
          ∧ r.2.mem ((c.tc : Thread Cert.MlstmStepIdeal.nD Cert.MlstmStepIdeal.τ).loc Cert.MlstmStepIdeal.main_arg0) = m ((c.tc : Thread Cert.MlstmStepIdeal.nD Cert.MlstmStepIdeal.τ).loc Cert.MlstmStepIdeal.main_arg0)
          ∧ r.2.mem ((c.tc : Thread Cert.MlstmStepIdeal.nD Cert.MlstmStepIdeal.τ).loc Cert.MlstmStepIdeal.main_arg1) = m ((c.tc : Thread Cert.MlstmStepIdeal.nD Cert.MlstmStepIdeal.τ).loc Cert.MlstmStepIdeal.main_arg1)
          ∧ r.2.mem ((c.tc : Thread Cert.MlstmStepIdeal.nD Cert.MlstmStepIdeal.τ).loc Cert.MlstmStepIdeal.main_arg2) = m ((c.tc : Thread Cert.MlstmStepIdeal.nD Cert.MlstmStepIdeal.τ).loc Cert.MlstmStepIdeal.main_arg2)
          ∧ r.2.mem ((c.tc : Thread Cert.MlstmStepIdeal.nD Cert.MlstmStepIdeal.τ).loc Cert.MlstmStepIdeal.main_arg3) = m ((c.tc : Thread Cert.MlstmStepIdeal.nD Cert.MlstmStepIdeal.τ).loc Cert.MlstmStepIdeal.main_arg3)
          ∧ r.2.mem ((c.tc : Thread Cert.MlstmStepIdeal.nD Cert.MlstmStepIdeal.τ).loc Cert.MlstmStepIdeal.main_arg4) = m ((c.tc : Thread Cert.MlstmStepIdeal.nD Cert.MlstmStepIdeal.τ).loc Cert.MlstmStepIdeal.main_arg4)
          ∧ r.2.mem ((c.tc : Thread Cert.MlstmStepIdeal.nD Cert.MlstmStepIdeal.τ).loc Cert.MlstmStepIdeal.main_arg5) = m ((c.tc : Thread Cert.MlstmStepIdeal.nD Cert.MlstmStepIdeal.τ).loc Cert.MlstmStepIdeal.main_arg5)
          ∧ r.2.mem ((c.tc : Thread Cert.MlstmStepIdeal.nD Cert.MlstmStepIdeal.τ).loc Cert.MlstmStepIdeal.main_arg6) = m ((c.tc : Thread Cert.MlstmStepIdeal.nD Cert.MlstmStepIdeal.τ).loc Cert.MlstmStepIdeal.main_arg6)
          ∧ r.2.mem ((c.tc : Thread Cert.MlstmStepIdeal.nD Cert.MlstmStepIdeal.τ).loc Cert.MlstmStepIdeal.main_arg7) = m ((c.tc : Thread Cert.MlstmStepIdeal.nD Cert.MlstmStepIdeal.τ).loc Cert.MlstmStepIdeal.main_arg7))
      ∧ θ_run (Cert.MlstmStepRefIdeal.defs (F := Ideal)) (onTc (τ := Cert.MlstmStepRefIdeal.τ) (Cert.MlstmStepRefIdeal.main (F := Ideal))) ⟨m', fun _ => 0, g'⟩ (fun r => ∀ c : Dev Cert.MlstmStepRefIdeal.nD,
          r.2.mem ((c.tc : Thread Cert.MlstmStepRefIdeal.nD Cert.MlstmStepRefIdeal.τ).loc Cert.MlstmStepRefIdeal.main_v91) = v0 c
          ∧ r.2.mem ((c.tc : Thread Cert.MlstmStepRefIdeal.nD Cert.MlstmStepRefIdeal.τ).loc Cert.MlstmStepRefIdeal.main_v62) = v1 c
          ∧ r.2.mem ((c.tc : Thread Cert.MlstmStepRefIdeal.nD Cert.MlstmStepRefIdeal.τ).loc Cert.MlstmStepRefIdeal.main_v69) = v2 c
          ∧ r.2.mem ((c.tc : Thread Cert.MlstmStepRefIdeal.nD Cert.MlstmStepRefIdeal.τ).loc Cert.MlstmStepRefIdeal.main_v93) = v3 c
          ∧ r.2.mem ((c.tc : Thread Cert.MlstmStepRefIdeal.nD Cert.MlstmStepRefIdeal.τ).loc Cert.MlstmStepRefIdeal.main_arg0) = m' ((c.tc : Thread Cert.MlstmStepRefIdeal.nD Cert.MlstmStepRefIdeal.τ).loc Cert.MlstmStepRefIdeal.main_arg0)
          ∧ r.2.mem ((c.tc : Thread Cert.MlstmStepRefIdeal.nD Cert.MlstmStepRefIdeal.τ).loc Cert.MlstmStepRefIdeal.main_arg1) = m' ((c.tc : Thread Cert.MlstmStepRefIdeal.nD Cert.MlstmStepRefIdeal.τ).loc Cert.MlstmStepRefIdeal.main_arg1)
          ∧ r.2.mem ((c.tc : Thread Cert.MlstmStepRefIdeal.nD Cert.MlstmStepRefIdeal.τ).loc Cert.MlstmStepRefIdeal.main_arg2) = m' ((c.tc : Thread Cert.MlstmStepRefIdeal.nD Cert.MlstmStepRefIdeal.τ).loc Cert.MlstmStepRefIdeal.main_arg2)
          ∧ r.2.mem ((c.tc : Thread Cert.MlstmStepRefIdeal.nD Cert.MlstmStepRefIdeal.τ).loc Cert.MlstmStepRefIdeal.main_arg3) = m' ((c.tc : Thread Cert.MlstmStepRefIdeal.nD Cert.MlstmStepRefIdeal.τ).loc Cert.MlstmStepRefIdeal.main_arg3)
          ∧ r.2.mem ((c.tc : Thread Cert.MlstmStepRefIdeal.nD Cert.MlstmStepRefIdeal.τ).loc Cert.MlstmStepRefIdeal.main_arg4) = m' ((c.tc : Thread Cert.MlstmStepRefIdeal.nD Cert.MlstmStepRefIdeal.τ).loc Cert.MlstmStepRefIdeal.main_arg4)
          ∧ r.2.mem ((c.tc : Thread Cert.MlstmStepRefIdeal.nD Cert.MlstmStepRefIdeal.τ).loc Cert.MlstmStepRefIdeal.main_arg5) = m' ((c.tc : Thread Cert.MlstmStepRefIdeal.nD Cert.MlstmStepRefIdeal.τ).loc Cert.MlstmStepRefIdeal.main_arg5)
          ∧ r.2.mem ((c.tc : Thread Cert.MlstmStepRefIdeal.nD Cert.MlstmStepRefIdeal.τ).loc Cert.MlstmStepRefIdeal.main_arg6) = m' ((c.tc : Thread Cert.MlstmStepRefIdeal.nD Cert.MlstmStepRefIdeal.τ).loc Cert.MlstmStepRefIdeal.main_arg6)
          ∧ r.2.mem ((c.tc : Thread Cert.MlstmStepRefIdeal.nD Cert.MlstmStepRefIdeal.τ).loc Cert.MlstmStepRefIdeal.main_arg7) = m' ((c.tc : Thread Cert.MlstmStepRefIdeal.nD Cert.MlstmStepRefIdeal.τ).loc Cert.MlstmStepRefIdeal.main_arg7))

def preserves_GdnStep_GdnStepIdeal : Prop :=
  True

def algebraic_GdnStepIdeal_GdnStepRefIdeal [hGdnStepIdeal : Cert.GdnStepIdeal.Facts] [hGdnStepRefIdeal : Cert.GdnStepRefIdeal.Facts] : Prop :=
  ∀ (m : (ℓ : Loc Cert.GdnStepIdeal.nD Cert.GdnStepIdeal.τ Cert.GdnStepIdeal.sig) → Buf (Elt Ideal) ℓ) (g : Dev Cert.GdnStepIdeal.nD → PrngReg)
    (m' : (ℓ : Loc Cert.GdnStepRefIdeal.nD Cert.GdnStepRefIdeal.τ Cert.GdnStepRefIdeal.sig) → Buf (Elt Ideal) ℓ) (g' : Dev Cert.GdnStepRefIdeal.nD → PrngReg), Pre_GdnStepIdeal m →
    (∀ c : Dev Cert.GdnStepIdeal.nD,
      m' ((c.tc : Thread Cert.GdnStepRefIdeal.nD Cert.GdnStepRefIdeal.τ).loc Cert.GdnStepRefIdeal.main_arg0) = m ((c.tc : Thread Cert.GdnStepIdeal.nD Cert.GdnStepIdeal.τ).loc Cert.GdnStepIdeal.main_arg0)
      ∧ m' ((c.tc : Thread Cert.GdnStepRefIdeal.nD Cert.GdnStepRefIdeal.τ).loc Cert.GdnStepRefIdeal.main_arg1) = m ((c.tc : Thread Cert.GdnStepIdeal.nD Cert.GdnStepIdeal.τ).loc Cert.GdnStepIdeal.main_arg1)
      ∧ m' ((c.tc : Thread Cert.GdnStepRefIdeal.nD Cert.GdnStepRefIdeal.τ).loc Cert.GdnStepRefIdeal.main_arg2) = m ((c.tc : Thread Cert.GdnStepIdeal.nD Cert.GdnStepIdeal.τ).loc Cert.GdnStepIdeal.main_arg2)
      ∧ m' ((c.tc : Thread Cert.GdnStepRefIdeal.nD Cert.GdnStepRefIdeal.τ).loc Cert.GdnStepRefIdeal.main_arg3) = m ((c.tc : Thread Cert.GdnStepIdeal.nD Cert.GdnStepIdeal.τ).loc Cert.GdnStepIdeal.main_arg3)
      ∧ m' ((c.tc : Thread Cert.GdnStepRefIdeal.nD Cert.GdnStepRefIdeal.τ).loc Cert.GdnStepRefIdeal.main_arg4) = m ((c.tc : Thread Cert.GdnStepIdeal.nD Cert.GdnStepIdeal.τ).loc Cert.GdnStepIdeal.main_arg4)
      ∧ m' ((c.tc : Thread Cert.GdnStepRefIdeal.nD Cert.GdnStepRefIdeal.τ).loc Cert.GdnStepRefIdeal.main_arg5) = m ((c.tc : Thread Cert.GdnStepIdeal.nD Cert.GdnStepIdeal.τ).loc Cert.GdnStepIdeal.main_arg5)
      ∧ m' ((c.tc : Thread Cert.GdnStepRefIdeal.nD Cert.GdnStepRefIdeal.τ).loc Cert.GdnStepRefIdeal.main_arg6) = m ((c.tc : Thread Cert.GdnStepIdeal.nD Cert.GdnStepIdeal.τ).loc Cert.GdnStepIdeal.main_arg6)
      ∧ m' ((c.tc : Thread Cert.GdnStepRefIdeal.nD Cert.GdnStepRefIdeal.τ).loc Cert.GdnStepRefIdeal.main_arg7) = m ((c.tc : Thread Cert.GdnStepIdeal.nD Cert.GdnStepIdeal.τ).loc Cert.GdnStepIdeal.main_arg7)) →
    ∃ (v0 : (c : Dev Cert.GdnStepIdeal.nD) → Buf (Elt Ideal) ((c.tc : Thread Cert.GdnStepIdeal.nD Cert.GdnStepIdeal.τ).loc Cert.GdnStepIdeal.main_v9)) (v1 : (c : Dev Cert.GdnStepIdeal.nD) → Buf (Elt Ideal) ((c.tc : Thread Cert.GdnStepIdeal.nD Cert.GdnStepIdeal.τ).loc Cert.GdnStepIdeal.main_v8_2)) (v2 : (c : Dev Cert.GdnStepIdeal.nD) → Buf (Elt Ideal) ((c.tc : Thread Cert.GdnStepIdeal.nD Cert.GdnStepIdeal.τ).loc Cert.GdnStepIdeal.main_v8_1)),
      θ_run (Cert.GdnStepIdeal.defs (F := Ideal)) (onTc (τ := Cert.GdnStepIdeal.τ) (Cert.GdnStepIdeal.main (F := Ideal))) ⟨m, fun _ => 0, g⟩ (fun r => ∀ c : Dev Cert.GdnStepIdeal.nD,
          r.2.mem ((c.tc : Thread Cert.GdnStepIdeal.nD Cert.GdnStepIdeal.τ).loc Cert.GdnStepIdeal.main_v9) = v0 c
          ∧ r.2.mem ((c.tc : Thread Cert.GdnStepIdeal.nD Cert.GdnStepIdeal.τ).loc Cert.GdnStepIdeal.main_v8_2) = v1 c
          ∧ r.2.mem ((c.tc : Thread Cert.GdnStepIdeal.nD Cert.GdnStepIdeal.τ).loc Cert.GdnStepIdeal.main_v8_1) = v2 c
          ∧ r.2.mem ((c.tc : Thread Cert.GdnStepIdeal.nD Cert.GdnStepIdeal.τ).loc Cert.GdnStepIdeal.main_arg0) = m ((c.tc : Thread Cert.GdnStepIdeal.nD Cert.GdnStepIdeal.τ).loc Cert.GdnStepIdeal.main_arg0)
          ∧ r.2.mem ((c.tc : Thread Cert.GdnStepIdeal.nD Cert.GdnStepIdeal.τ).loc Cert.GdnStepIdeal.main_arg1) = m ((c.tc : Thread Cert.GdnStepIdeal.nD Cert.GdnStepIdeal.τ).loc Cert.GdnStepIdeal.main_arg1)
          ∧ r.2.mem ((c.tc : Thread Cert.GdnStepIdeal.nD Cert.GdnStepIdeal.τ).loc Cert.GdnStepIdeal.main_arg2) = m ((c.tc : Thread Cert.GdnStepIdeal.nD Cert.GdnStepIdeal.τ).loc Cert.GdnStepIdeal.main_arg2)
          ∧ r.2.mem ((c.tc : Thread Cert.GdnStepIdeal.nD Cert.GdnStepIdeal.τ).loc Cert.GdnStepIdeal.main_arg3) = m ((c.tc : Thread Cert.GdnStepIdeal.nD Cert.GdnStepIdeal.τ).loc Cert.GdnStepIdeal.main_arg3)
          ∧ r.2.mem ((c.tc : Thread Cert.GdnStepIdeal.nD Cert.GdnStepIdeal.τ).loc Cert.GdnStepIdeal.main_arg4) = m ((c.tc : Thread Cert.GdnStepIdeal.nD Cert.GdnStepIdeal.τ).loc Cert.GdnStepIdeal.main_arg4)
          ∧ r.2.mem ((c.tc : Thread Cert.GdnStepIdeal.nD Cert.GdnStepIdeal.τ).loc Cert.GdnStepIdeal.main_arg5) = m ((c.tc : Thread Cert.GdnStepIdeal.nD Cert.GdnStepIdeal.τ).loc Cert.GdnStepIdeal.main_arg5)
          ∧ r.2.mem ((c.tc : Thread Cert.GdnStepIdeal.nD Cert.GdnStepIdeal.τ).loc Cert.GdnStepIdeal.main_arg6) = m ((c.tc : Thread Cert.GdnStepIdeal.nD Cert.GdnStepIdeal.τ).loc Cert.GdnStepIdeal.main_arg6)
          ∧ r.2.mem ((c.tc : Thread Cert.GdnStepIdeal.nD Cert.GdnStepIdeal.τ).loc Cert.GdnStepIdeal.main_arg7) = m ((c.tc : Thread Cert.GdnStepIdeal.nD Cert.GdnStepIdeal.τ).loc Cert.GdnStepIdeal.main_arg7))
      ∧ θ_run (Cert.GdnStepRefIdeal.defs (F := Ideal)) (onTc (τ := Cert.GdnStepRefIdeal.τ) (Cert.GdnStepRefIdeal.main (F := Ideal))) ⟨m', fun _ => 0, g'⟩ (fun r => ∀ c : Dev Cert.GdnStepRefIdeal.nD,
          r.2.mem ((c.tc : Thread Cert.GdnStepRefIdeal.nD Cert.GdnStepRefIdeal.τ).loc Cert.GdnStepRefIdeal.main_v126) = v0 c
          ∧ r.2.mem ((c.tc : Thread Cert.GdnStepRefIdeal.nD Cert.GdnStepRefIdeal.τ).loc Cert.GdnStepRefIdeal.main_v109) = v1 c
          ∧ r.2.mem ((c.tc : Thread Cert.GdnStepRefIdeal.nD Cert.GdnStepRefIdeal.τ).loc Cert.GdnStepRefIdeal.main_v32) = v2 c
          ∧ r.2.mem ((c.tc : Thread Cert.GdnStepRefIdeal.nD Cert.GdnStepRefIdeal.τ).loc Cert.GdnStepRefIdeal.main_arg0) = m' ((c.tc : Thread Cert.GdnStepRefIdeal.nD Cert.GdnStepRefIdeal.τ).loc Cert.GdnStepRefIdeal.main_arg0)
          ∧ r.2.mem ((c.tc : Thread Cert.GdnStepRefIdeal.nD Cert.GdnStepRefIdeal.τ).loc Cert.GdnStepRefIdeal.main_arg1) = m' ((c.tc : Thread Cert.GdnStepRefIdeal.nD Cert.GdnStepRefIdeal.τ).loc Cert.GdnStepRefIdeal.main_arg1)
          ∧ r.2.mem ((c.tc : Thread Cert.GdnStepRefIdeal.nD Cert.GdnStepRefIdeal.τ).loc Cert.GdnStepRefIdeal.main_arg2) = m' ((c.tc : Thread Cert.GdnStepRefIdeal.nD Cert.GdnStepRefIdeal.τ).loc Cert.GdnStepRefIdeal.main_arg2)
          ∧ r.2.mem ((c.tc : Thread Cert.GdnStepRefIdeal.nD Cert.GdnStepRefIdeal.τ).loc Cert.GdnStepRefIdeal.main_arg3) = m' ((c.tc : Thread Cert.GdnStepRefIdeal.nD Cert.GdnStepRefIdeal.τ).loc Cert.GdnStepRefIdeal.main_arg3)
          ∧ r.2.mem ((c.tc : Thread Cert.GdnStepRefIdeal.nD Cert.GdnStepRefIdeal.τ).loc Cert.GdnStepRefIdeal.main_arg4) = m' ((c.tc : Thread Cert.GdnStepRefIdeal.nD Cert.GdnStepRefIdeal.τ).loc Cert.GdnStepRefIdeal.main_arg4)
          ∧ r.2.mem ((c.tc : Thread Cert.GdnStepRefIdeal.nD Cert.GdnStepRefIdeal.τ).loc Cert.GdnStepRefIdeal.main_arg5) = m' ((c.tc : Thread Cert.GdnStepRefIdeal.nD Cert.GdnStepRefIdeal.τ).loc Cert.GdnStepRefIdeal.main_arg5)
          ∧ r.2.mem ((c.tc : Thread Cert.GdnStepRefIdeal.nD Cert.GdnStepRefIdeal.τ).loc Cert.GdnStepRefIdeal.main_arg6) = m' ((c.tc : Thread Cert.GdnStepRefIdeal.nD Cert.GdnStepRefIdeal.τ).loc Cert.GdnStepRefIdeal.main_arg6)
          ∧ r.2.mem ((c.tc : Thread Cert.GdnStepRefIdeal.nD Cert.GdnStepRefIdeal.τ).loc Cert.GdnStepRefIdeal.main_arg7) = m' ((c.tc : Thread Cert.GdnStepRefIdeal.nD Cert.GdnStepRefIdeal.τ).loc Cert.GdnStepRefIdeal.main_arg7))

def Claim : Prop :=
  ∃ (hDown : Cert.Down.Facts) (hDownIdeal : Cert.DownIdeal.Facts) (hDownRefIdeal : Cert.DownRefIdeal.Facts) (hCOut : Cert.COut.Facts) (hCOutIdeal : Cert.COutIdeal.Facts) (hCOutRefIdeal : Cert.COutRefIdeal.Facts) (hAbOut : Cert.AbOut.Facts) (hAbOutIdeal : Cert.AbOutIdeal.Facts) (hAbOutRefIdeal : Cert.AbOutRefIdeal.Facts) (hCIn : Cert.CIn.Facts) (hCInIdeal : Cert.CInIdeal.Facts) (hCInRefIdeal : Cert.CInRefIdeal.Facts) (hAbIn : Cert.AbIn.Facts) (hAbInIdeal : Cert.AbInIdeal.Facts) (hAbInRefIdeal : Cert.AbInRefIdeal.Facts) (hFfnUp : Cert.FfnUp.Facts) (hFfnUpIdeal : Cert.FfnUpIdeal.Facts) (hFfnUpRefIdeal : Cert.FfnUpRefIdeal.Facts) (hPrep : Cert.Prep.Facts) (hPrepIdeal : Cert.PrepIdeal.Facts) (hPrepRefIdeal : Cert.PrepRefIdeal.Facts) (hRopeRows : Cert.RopeRows.Facts) (hRopeRowsIdeal : Cert.RopeRowsIdeal.Facts) (hRopeRowsRefIdeal : Cert.RopeRowsRefIdeal.Facts) (hFfnMid : Cert.FfnMid.Facts) (hFfnMidIdeal : Cert.FfnMidIdeal.Facts) (hFfnMidRefIdeal : Cert.FfnMidRefIdeal.Facts) (hFinal : Cert.Final.Facts) (hFinalIdeal : Cert.FinalIdeal.Facts) (hFinalRefIdeal : Cert.FinalRefIdeal.Facts) (hFinalStep : Cert.FinalStep.Facts) (hFinalStepIdeal : Cert.FinalStepIdeal.Facts) (hFinalStepRefIdeal : Cert.FinalStepRefIdeal.Facts) (hMlstmStep : Cert.MlstmStep.Facts) (hMlstmStepIdeal : Cert.MlstmStepIdeal.Facts) (hMlstmStepRefIdeal : Cert.MlstmStepRefIdeal.Facts) (hGdnStep : Cert.GdnStep.Facts) (hGdnStepIdeal : Cert.GdnStepIdeal.Facts) (hGdnStepRefIdeal : Cert.GdnStepRefIdeal.Facts),
    quiescent_Down (hDown := hDown)
    ∧ quiescent_DownIdeal (hDownIdeal := hDownIdeal)
    ∧ quiescent_DownRefIdeal (hDownRefIdeal := hDownRefIdeal)
    ∧ quiescent_COut (hCOut := hCOut)
    ∧ quiescent_COutIdeal (hCOutIdeal := hCOutIdeal)
    ∧ quiescent_COutRefIdeal (hCOutRefIdeal := hCOutRefIdeal)
    ∧ quiescent_AbOut (hAbOut := hAbOut)
    ∧ quiescent_AbOutIdeal (hAbOutIdeal := hAbOutIdeal)
    ∧ quiescent_AbOutRefIdeal (hAbOutRefIdeal := hAbOutRefIdeal)
    ∧ quiescent_CIn (hCIn := hCIn)
    ∧ quiescent_CInIdeal (hCInIdeal := hCInIdeal)
    ∧ quiescent_CInRefIdeal (hCInRefIdeal := hCInRefIdeal)
    ∧ quiescent_AbIn (hAbIn := hAbIn)
    ∧ quiescent_AbInIdeal (hAbInIdeal := hAbInIdeal)
    ∧ quiescent_AbInRefIdeal (hAbInRefIdeal := hAbInRefIdeal)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_Prep (hPrep := hPrep)
    ∧ quiescent_PrepIdeal (hPrepIdeal := hPrepIdeal)
    ∧ quiescent_PrepRefIdeal (hPrepRefIdeal := hPrepRefIdeal)
    ∧ quiescent_RopeRows (hRopeRows := hRopeRows)
    ∧ quiescent_RopeRowsIdeal (hRopeRowsIdeal := hRopeRowsIdeal)
    ∧ quiescent_RopeRowsRefIdeal (hRopeRowsRefIdeal := hRopeRowsRefIdeal)
    ∧ quiescent_FfnMid (hFfnMid := hFfnMid)
    ∧ quiescent_FfnMidIdeal (hFfnMidIdeal := hFfnMidIdeal)
    ∧ quiescent_FfnMidRefIdeal (hFfnMidRefIdeal := hFfnMidRefIdeal)
    ∧ quiescent_Final (hFinal := hFinal)
    ∧ quiescent_FinalIdeal (hFinalIdeal := hFinalIdeal)
    ∧ quiescent_FinalRefIdeal (hFinalRefIdeal := hFinalRefIdeal)
    ∧ quiescent_FinalStep (hFinalStep := hFinalStep)
    ∧ quiescent_FinalStepIdeal (hFinalStepIdeal := hFinalStepIdeal)
    ∧ quiescent_FinalStepRefIdeal (hFinalStepRefIdeal := hFinalStepRefIdeal)
    ∧ quiescent_MlstmStep (hMlstmStep := hMlstmStep)
    ∧ quiescent_MlstmStepIdeal (hMlstmStepIdeal := hMlstmStepIdeal)
    ∧ quiescent_MlstmStepRefIdeal (hMlstmStepRefIdeal := hMlstmStepRefIdeal)
    ∧ quiescent_GdnStep (hGdnStep := hGdnStep)
    ∧ quiescent_GdnStepIdeal (hGdnStepIdeal := hGdnStepIdeal)
    ∧ quiescent_GdnStepRefIdeal (hGdnStepRefIdeal := hGdnStepRefIdeal)
    ∧ preserves_Down_DownIdeal
    ∧ algebraic_DownIdeal_DownRefIdeal (hDownIdeal := hDownIdeal) (hDownRefIdeal := hDownRefIdeal)
    ∧ preserves_COut_COutIdeal
    ∧ algebraic_COutIdeal_COutRefIdeal (hCOutIdeal := hCOutIdeal) (hCOutRefIdeal := hCOutRefIdeal)
    ∧ preserves_AbOut_AbOutIdeal
    ∧ algebraic_AbOutIdeal_AbOutRefIdeal (hAbOutIdeal := hAbOutIdeal) (hAbOutRefIdeal := hAbOutRefIdeal)
    ∧ preserves_CIn_CInIdeal
    ∧ algebraic_CInIdeal_CInRefIdeal (hCInIdeal := hCInIdeal) (hCInRefIdeal := hCInRefIdeal)
    ∧ preserves_AbIn_AbInIdeal
    ∧ algebraic_AbInIdeal_AbInRefIdeal (hAbInIdeal := hAbInIdeal) (hAbInRefIdeal := hAbInRefIdeal)
    ∧ preserves_FfnUp_FfnUpIdeal
    ∧ algebraic_FfnUpIdeal_FfnUpRefIdeal (hFfnUpIdeal := hFfnUpIdeal) (hFfnUpRefIdeal := hFfnUpRefIdeal)
    ∧ preserves_Prep_PrepIdeal
    ∧ algebraic_PrepIdeal_PrepRefIdeal (hPrepIdeal := hPrepIdeal) (hPrepRefIdeal := hPrepRefIdeal)
    ∧ preserves_RopeRows_RopeRowsIdeal
    ∧ algebraic_RopeRowsIdeal_RopeRowsRefIdeal (hRopeRowsIdeal := hRopeRowsIdeal) (hRopeRowsRefIdeal := hRopeRowsRefIdeal)
    ∧ preserves_FfnMid_FfnMidIdeal
    ∧ algebraic_FfnMidIdeal_FfnMidRefIdeal (hFfnMidIdeal := hFfnMidIdeal) (hFfnMidRefIdeal := hFfnMidRefIdeal)
    ∧ preserves_Final_FinalIdeal
    ∧ algebraic_FinalIdeal_FinalRefIdeal (hFinalIdeal := hFinalIdeal) (hFinalRefIdeal := hFinalRefIdeal)
    ∧ preserves_FinalStep_FinalStepIdeal
    ∧ algebraic_FinalStepIdeal_FinalStepRefIdeal (hFinalStepIdeal := hFinalStepIdeal) (hFinalStepRefIdeal := hFinalStepRefIdeal)
    ∧ preserves_MlstmStep_MlstmStepIdeal
    ∧ algebraic_MlstmStepIdeal_MlstmStepRefIdeal (hMlstmStepIdeal := hMlstmStepIdeal) (hMlstmStepRefIdeal := hMlstmStepRefIdeal)
    ∧ preserves_GdnStep_GdnStepIdeal
    ∧ algebraic_GdnStepIdeal_GdnStepRefIdeal (hGdnStepIdeal := hGdnStepIdeal) (hGdnStepRefIdeal := hGdnStepRefIdeal)
-- ==== Down.lean ====
abbrev S8192x5504 : Shape := ⟨2, ![8192, 5504]⟩
abbrev S4x5504x2048 : Shape := ⟨3, ![4, 5504, 2048]⟩
abbrev S8192x2048 : Shape := ⟨2, ![8192, 2048]⟩
abbrev S1024x5504 : Shape := ⟨2, ![1024, 5504]⟩
abbrev S1x5504x256 : Shape := ⟨3, ![1, 5504, 256]⟩
abbrev S1024x256 : Shape := ⟨2, ![1024, 256]⟩
abbrev S5504x256 : Shape := ⟨2, ![5504, 256]⟩

abbrev nBuf : Space → Nat
  | .hbm => 4
  | .vmem => 8
  | .smem => 0
  | _ => 0

abbrev bufTy : (tb : Table) → Fin (tcTables nBuf tb) → BufTy
  | .hbm, ⟨0, _⟩ => ⟨S8192x5504, .bf16⟩
  | .hbm, ⟨1, _⟩ => ⟨S4x5504x2048, .f32⟩
  | .hbm, ⟨2, _⟩ => ⟨S8192x2048, .f32⟩
  | .hbm, ⟨3, _⟩ => ⟨S8192x2048, .f32⟩
  | .local _ .vmem, ⟨0, _⟩ => ⟨S1024x5504, .bf16⟩
  | .local _ .vmem, ⟨1, _⟩ => ⟨S1024x5504, .bf16⟩
  | .local _ .vmem, ⟨2, _⟩ => ⟨S1x5504x256, .f32⟩
  | .local _ .vmem, ⟨3, _⟩ => ⟨S1x5504x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | _, _ => ⟨S8192x5504, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x5504 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x5504x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DownRefIdeal.lean ====
abbrev S8192x5504 : Shape := ⟨2, ![8192, 5504]⟩
abbrev S4x5504x2048 : Shape := ⟨3, ![4, 5504, 2048]⟩
abbrev S8192x2048 : Shape := ⟨2, ![8192, 2048]⟩
abbrev S1x5504x2048 : Shape := ⟨3, ![1, 5504, 2048]⟩
abbrev S5504x2048 : Shape := ⟨2, ![5504, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x5504, .bf16⟩
  | .hbm, ⟨1, _⟩ => ⟨S4x5504x2048, .f32⟩
  | .hbm, ⟨2, _⟩ => ⟨S8192x2048, .f32⟩
  | .hbm, ⟨3, _⟩ => ⟨S8192x5504, .f32⟩
  | .hbm, ⟨4, _⟩ => ⟨S1x5504x2048, .f32⟩
  | .hbm, ⟨5, _⟩ => ⟨S5504x2048, .f32⟩
  | .hbm, ⟨6, _⟩ => ⟨S8192x2048, .f32⟩
  | .hbm, ⟨7, _⟩ => ⟨S8192x2048, .f32⟩
  | _, _ => ⟨S8192x5504, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== COut.lean ====
abbrev S8192x4096 : Shape := ⟨2, ![8192, 4096]⟩
abbrev S2x4096x2048 : Shape := ⟨3, ![2, 4096, 2048]⟩
abbrev S8192x2048 : Shape := ⟨2, ![8192, 2048]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 4
  | .vmem => 8
  | .smem => 0
  | _ => 0

abbrev bufTy : (tb : Table) → Fin (tcTables nBuf tb) → BufTy
  | .hbm, ⟨0, _⟩ => ⟨S8192x4096, .bf16⟩
  | .hbm, ⟨1, _⟩ => ⟨S2x4096x2048, .f32⟩
  | .hbm, ⟨2, _⟩ => ⟨S8192x2048, .f32⟩
  | .hbm, ⟨3, _⟩ => ⟨S8192x2048, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== COutRefIdeal.lean ====
abbrev S8192x4096 : Shape := ⟨2, ![8192, 4096]⟩
abbrev S2x4096x2048 : Shape := ⟨3, ![2, 4096, 2048]⟩
abbrev S8192x2048 : Shape := ⟨2, ![8192, 2048]⟩
abbrev S1x4096x2048 : Shape := ⟨3, ![1, 4096, 2048]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x2048, .f32⟩
  | .hbm, ⟨2, _⟩ => ⟨S8192x2048, .f32⟩
  | .hbm, ⟨3, _⟩ => ⟨S8192x4096, .f32⟩
  | .hbm, ⟨4, _⟩ => ⟨S1x4096x2048, .f32⟩
  | .hbm, ⟨5, _⟩ => ⟨S4096x2048, .f32⟩
  | .hbm, ⟨6, _⟩ => ⟨S8192x2048, .f32⟩
  | .hbm, ⟨7, _⟩ => ⟨S8192x2048, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== AbOut.lean ====
abbrev S8192x1024 : Shape := ⟨2, ![8192, 1024]⟩
abbrev S2x2048x2048 : Shape := ⟨3, ![2, 2048, 2048]⟩
abbrev S8192x2048 : Shape := ⟨2, ![8192, 2048]⟩
abbrev S1024x1024 : Shape := ⟨2, ![1024, 1024]⟩
abbrev S1x1024x512 : Shape := ⟨3, ![1, 1024, 512]⟩
abbrev S1024x512 : Shape := ⟨2, ![1024, 512]⟩

abbrev nBuf : Space → Nat
  | .hbm => 5
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S2x2048x2048, .f32⟩
  | .hbm, ⟨3, _⟩ => ⟨S8192x2048, .f32⟩
  | .hbm, ⟨4, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x512, .f32⟩
  | .local _ .vmem, ⟨5, _⟩ => ⟨S1x1024x512, .f32⟩
  | .local _ .vmem, ⟨6, _⟩ => ⟨S1x1024x512, .f32⟩
  | .local _ .vmem, ⟨7, _⟩ => ⟨S1x1024x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![c0_i32.toNat, c1_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== AbOutRefIdeal.lean ====
abbrev S8192x1024 : Shape := ⟨2, ![8192, 1024]⟩
abbrev S2x2048x2048 : Shape := ⟨3, ![2, 2048, 2048]⟩
abbrev S8192x2048 : Shape := ⟨2, ![8192, 2048]⟩
abbrev S1x2048x2048 : Shape := ⟨3, ![1, 2048, 2048]⟩
abbrev S2048x2048 : Shape := ⟨2, ![2048, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S2x2048x2048, .f32⟩
  | .hbm, ⟨3, _⟩ => ⟨S8192x2048, .f32⟩
  | .hbm, ⟨4, _⟩ => ⟨S8192x1024, .f32⟩
  | .hbm, ⟨5, _⟩ => ⟨S8192x1024, .f32⟩
  | .hbm, ⟨6, _⟩ => ⟨S8192x2048, .f32⟩
  | .hbm, ⟨7, _⟩ => ⟨S1x2048x2048, .f32⟩
  | .hbm, ⟨8, _⟩ => ⟨S2048x2048, .f32⟩
  | .hbm, ⟨9, _⟩ => ⟨S8192x2048, .f32⟩
  | .hbm, ⟨10, _⟩ => ⟨S8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== CIn.lean ====
abbrev S8192x2048 : Shape := ⟨2, ![8192, 2048]⟩
abbrev S2048 : Shape := ⟨1, ![2048]⟩
abbrev S2x2048x12352 : Shape := ⟨3, ![2, 2048, 12352]⟩
abbrev S2x12352x2048 : Shape := ⟨3, ![2, 12352, 2048]⟩
abbrev S1x2048 : Shape := ⟨2, ![1, 2048]⟩
abbrev S8192x12288 : Shape := ⟨2, ![8192, 12288]⟩
abbrev S8192x64 : Shape := ⟨2, ![8192, 64]⟩
abbrev S1024x2048 : Shape := ⟨2, ![1024, 2048]⟩
abbrev S1x1024x2048 : Shape := ⟨3, ![1, 1024, 2048]⟩
abbrev S1x64x2048 : Shape := ⟨3, ![1, 64, 2048]⟩
abbrev S1024x1024 : Shape := ⟨2, ![1024, 1024]⟩
abbrev S1024x64 : Shape := ⟨2, ![1024, 64]⟩
abbrev S1024 : Shape := ⟨1, ![1024]⟩
abbrev S1024x1 : Shape := ⟨2, ![1024, 1]⟩
abbrev S64x2048 : Shape := ⟨2, ![64, 2048]⟩

abbrev nBuf : Space → Nat
  | .hbm => 7
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2x2048x12352, .f32⟩
  | .hbm, ⟨3, _⟩ => ⟨S2x12352x2048, .f32⟩
  | .hbm, ⟨4, _⟩ => ⟨S1x2048, .f32⟩
  | .hbm, ⟨5, _⟩ => ⟨S8192x12288, .f32⟩
  | .hbm, ⟨6, _⟩ => ⟨S8192x64, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x1024x2048, .f32⟩
  | .local _ .vmem, ⟨4, _⟩ => ⟨S1x1024x2048, .f32⟩
  | .local _ .vmem, ⟨5, _⟩ => ⟨S1x64x2048, .f32⟩
  | .local _ .vmem, ⟨6, _⟩ => ⟨S1024x1024, .f32⟩
  | .local _ .vmem, ⟨7, _⟩ => ⟨S1024x1024, .f32⟩
  | .local _ .vmem, ⟨8, _⟩ => ⟨S1024x64, .f32⟩
  | .local _ .vmem, ⟨9, _⟩ => ⟨S1024x64, .f32⟩
  | .local _ .vmem, ⟨10, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 12], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c192_i32 : BitVec 32 := 192#32
  let c0_i32_0 : BitVec 32 := 0#32
  let c0_i32_1 : BitVec 32 := 0#32
  ![c0_i32.toNat, c192_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x64x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== CInRefIdeal.lean ====
abbrev S8192x2048 : Shape := ⟨2, ![8192, 2048]⟩
abbrev S2048 : Shape := ⟨1, ![2048]⟩
abbrev S2x2048x12352 : Shape := ⟨3, ![2, 2048, 12352]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S1x2048x12352 : Shape := ⟨3, ![1, 2048, 12352]⟩
abbrev S2048x12352 : Shape := ⟨2, ![2048, 12352]⟩
abbrev S8192x12352 : Shape := ⟨2, ![8192, 12352]⟩
abbrev S8192x12288 : Shape := ⟨2, ![8192, 12288]⟩
abbrev S8192x64 : Shape := ⟨2, ![8192, 64]⟩

abbrev nBuf : Space → Nat
  | .hbm => 24
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2x2048x12352, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S1x2048x12352, .f32⟩
  | .hbm, ⟨20, _⟩ => ⟨S2048x12352, .f32⟩
  | .hbm, ⟨21, _⟩ => ⟨S8192x12352, .f32⟩
  | .hbm, ⟨22, _⟩ => ⟨S8192x12288, .f32⟩
  | .hbm, ⟨23, _⟩ => ⟨S8192x64, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== AbIn.lean ====
abbrev S8192x2048 : Shape := ⟨2, ![8192, 2048]⟩
abbrev S2048 : Shape := ⟨1, ![2048]⟩
abbrev S2x2048x6160 : Shape := ⟨3, ![2, 2048, 6160]⟩
abbrev S2x6160x2048 : Shape := ⟨3, ![2, 6160, 2048]⟩
abbrev S2x3072x2048 : Shape := ⟨3, ![2, 3072, 2048]⟩
abbrev S1x2048 : Shape := ⟨2, ![1, 2048]⟩
abbrev S8192x6144 : Shape := ⟨2, ![8192, 6144]⟩
abbrev S8192x128 : Shape := ⟨2, ![8192, 128]⟩
abbrev S1024x2048 : Shape := ⟨2, ![1024, 2048]⟩
abbrev S1x512x2048 : Shape := ⟨3, ![1, 512, 2048]⟩
abbrev S1x128x2048 : Shape := ⟨3, ![1, 128, 2048]⟩
abbrev S1024x512 : Shape := ⟨2, ![1024, 512]⟩
abbrev S1024x128 : Shape := ⟨2, ![1024, 128]⟩
abbrev S1024 : Shape := ⟨1, ![1024]⟩
abbrev S1024x1 : Shape := ⟨2, ![1024, 1]⟩
abbrev S128x2048 : Shape := ⟨2, ![128, 2048]⟩
abbrev S512x2048 : Shape := ⟨2, ![512, 2048]⟩

abbrev nBuf : Space → Nat
  | .hbm => 8
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2x2048x6160, .f32⟩
  | .hbm, ⟨3, _⟩ => ⟨S2x6160x2048, .f32⟩
  | .hbm, ⟨4, _⟩ => ⟨S2x3072x2048, .f32⟩
  | .hbm, ⟨5, _⟩ => ⟨S1x2048, .f32⟩
  | .hbm, ⟨6, _⟩ => ⟨S8192x6144, .f32⟩
  | .hbm, ⟨7, _⟩ => ⟨S8192x128, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x512x2048, .f32⟩
  | .local _ .vmem, ⟨4, _⟩ => ⟨S1x512x2048, .f32⟩
  | .local _ .vmem, ⟨5, _⟩ => ⟨S1x512x2048, .f32⟩
  | .local _ .vmem, ⟨6, _⟩ => ⟨S1x512x2048, .f32⟩
  | .local _ .vmem, ⟨7, _⟩ => ⟨S1x128x2048, .f32⟩
  | .local _ .vmem, ⟨8, _⟩ => ⟨S1024x512, .f32⟩
  | .local _ .vmem, ⟨9, _⟩ => ⟨S1024x512, .f32⟩
  | .local _ .vmem, ⟨10, _⟩ => ⟨S1024x128, .f32⟩
  | .local _ .vmem, ⟨11, _⟩ => ⟨S1024x128, .f32⟩
  | .local _ .vmem, ⟨12, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 12], ![false, false]⟩

def k0_cond2 (i : grid0.Coords) : BitVec 1 :=
  let arg1 : BitVec 32 := BitVec.ofNat 32 (i 1).val
  let c6_i32 : BitVec 32 := 6#32
  let v3 : BitVec 1 := Scalar.cmpi .slt arg1 c6_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c6_i32_2 : BitVec 32 := 6#32
  let v6 : BitVec 1 := Scalar.cmpi .sge arg1 c6_i32_2
  let v7 : BitVec 32 := Scalar.extui v6
  let c0_i32_3 : BitVec 32 := 0#32
  let v8 : BitVec 1 := Scalar.cmpi .ne v7 c0_i32_3
  v8

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c5_i32 : BitVec 32 := 5#32
  let v0 : BitVec 32 := Scalar.minsi arg1 c5_i32
  let c0_i32 : BitVec 32 := 0#32
  let c0_i32_0 : BitVec 32 := 0#32
  let c0_i32_1 : BitVec 32 := 0#32
  ![c0_i32.toNat, v0.toNat, c0_i32_0.toNat]

def cc0_transform_3 (i : grid0.Coords) : Fin 3 → Nat :=
  let arg0 : BitVec 32 := BitVec.ofNat 32 (i 0).val
  let arg1 : BitVec 32 := BitVec.ofNat 32 (i 1).val
  let c6_i32 : BitVec 32 := 6#32
  let v0 : BitVec 32 := Scalar.subi arg1 c6_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, v1.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c24_i32 : BitVec 32 := 24#32
  let c0_i32_0 : BitVec 32 := 0#32
  let c0_i32_1 : BitVec 32 := 0#32
  ![c0_i32.toNat, c24_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x128x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== AbInRefIdeal.lean ====
abbrev S8192x2048 : Shape := ⟨2, ![8192, 2048]⟩
abbrev S2048 : Shape := ⟨1, ![2048]⟩
abbrev S2x2048x6160 : Shape := ⟨3, ![2, 2048, 6160]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S1x2048x6160 : Shape := ⟨3, ![1, 2048, 6160]⟩
abbrev S2048x6160 : Shape := ⟨2, ![2048, 6160]⟩
abbrev S8192x6160 : Shape := ⟨2, ![8192, 6160]⟩
abbrev S8192x3072 : Shape := ⟨2, ![8192, 3072]⟩
abbrev S8192x6144 : Shape := ⟨2, ![8192, 6144]⟩
abbrev S8192x128 : Shape := ⟨2, ![8192, 128]⟩

abbrev nBuf : Space → Nat
  | .hbm => 26
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2x2048x6160, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S1x2048x6160, .f32⟩
  | .hbm, ⟨20, _⟩ => ⟨S2048x6160, .f32⟩
  | .hbm, ⟨21, _⟩ => ⟨S8192x6160, .f32⟩
  | .hbm, ⟨22, _⟩ => ⟨S8192x3072, .f32⟩
  | .hbm, ⟨23, _⟩ => ⟨S8192x3072, .f32⟩
  | .hbm, ⟨24, _⟩ => ⟨S8192x6144, .f32⟩
  | .hbm, ⟨25, _⟩ => ⟨S8192x128, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== FfnUp.lean ====
abbrev S8192x2048 : Shape := ⟨2, ![8192, 2048]⟩
abbrev S2048 : Shape := ⟨1, ![2048]⟩
abbrev S4x2048x11008 : Shape := ⟨3, ![4, 2048, 11008]⟩
abbrev S3x11008 : Shape := ⟨2, ![3, 11008]⟩
abbrev S11008 : Shape := ⟨1, ![11008]⟩
abbrev S3x5504 : Shape := ⟨2, ![3, 5504]⟩
abbrev S5504 : Shape := ⟨1, ![5504]⟩
abbrev S1x5504 : Shape := ⟨2, ![1, 5504]⟩
abbrev S1x2048 : Shape := ⟨2, ![1, 2048]⟩
abbrev S8192x5504 : Shape := ⟨2, ![8192, 5504]⟩
abbrev S8x8x5504 : Shape := ⟨3, ![8, 8, 5504]⟩
abbrev S16x2048 : Shape := ⟨2, ![16, 2048]⟩
abbrev S1024x2048 : Shape := ⟨2, ![1024, 2048]⟩
abbrev S1x2048x512 : Shape := ⟨3, ![1, 2048, 512]⟩
abbrev S1x2048x128 : Shape := ⟨3, ![1, 2048, 128]⟩
abbrev S3x512 : Shape := ⟨2, ![3, 512]⟩
abbrev S1x512 : Shape := ⟨2, ![1, 512]⟩
abbrev S1024x512 : Shape := ⟨2, ![1024, 512]⟩
abbrev S1x8x512 : Shape := ⟨3, ![1, 8, 512]⟩
abbrev S1040x2048 : Shape := ⟨2, ![1040, 2048]⟩
abbrev S2048x1024 : Shape := ⟨2, ![2048, 1024]⟩
abbrev S1024 : Shape := ⟨1, ![1024]⟩
abbrev S1024x1 : Shape := ⟨2, ![1024, 1]⟩
abbrev S16 : Shape := ⟨1, ![16]⟩
abbrev S16x1 : Shape := ⟨2, ![16, 1]⟩
abbrev S2048x512 : Shape := ⟨2, ![2048, 512]⟩
abbrev S2048x128 : Shape := ⟨2, ![2048, 128]⟩
abbrev S1040x1024 : Shape := ⟨2, ![1040, 1024]⟩
abbrev S1040x512 : Shape := ⟨2, ![1040, 512]⟩
abbrev S8x512 : Shape := ⟨2, ![8, 512]⟩

abbrev nBuf : Space → Nat
  | .hbm => 15
  | .vmem => 31
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S4x2048x11008, .f32⟩
  | .hbm, ⟨3, _⟩ => ⟨S3x11008, .f32⟩
  | .hbm, ⟨4, _⟩ => ⟨S11008, .f32⟩
  | .hbm, ⟨5, _⟩ => ⟨S3x5504, .f32⟩
  | .hbm, ⟨6, _⟩ => ⟨S3x5504, .f32⟩
  | .hbm, ⟨7, _⟩ => ⟨S5504, .f32⟩
  | .hbm, ⟨8, _⟩ => ⟨S1x5504, .f32⟩
  | .hbm, ⟨9, _⟩ => ⟨S5504, .f32⟩
  | .hbm, ⟨10, _⟩ => ⟨S1x5504, .f32⟩
  | .hbm, ⟨11, _⟩ => ⟨S1x2048, .f32⟩
  | .hbm, ⟨12, _⟩ => ⟨S8192x5504, .bf16⟩
  | .hbm, ⟨13, _⟩ => ⟨S8x8x5504, .f32⟩
  | .hbm, ⟨14, _⟩ => ⟨S8x8x5504, .f32⟩
  | .local _ .vmem, ⟨0, _⟩ => ⟨S16x2048, .f32⟩
  | .local _ .vmem, ⟨1, _⟩ => ⟨S16x2048, .f32⟩
  | .local _ .vmem, ⟨2, _⟩ => ⟨S1024x2048, .f32⟩
  | .local _ .vmem, ⟨3, _⟩ => ⟨S1024x2048, .f32⟩
  | .local _ .vmem, ⟨4, _⟩ => ⟨S1x2048, .f32⟩
  | .local _ .vmem, ⟨5, _⟩ => ⟨S1x2048x512, .f32⟩
  | .local _ .vmem, ⟨6, _⟩ => ⟨S1x2048x512, .f32⟩
  | .local _ .vmem, ⟨7, _⟩ => ⟨S1x2048x128, .f32⟩
  | .local _ .vmem, ⟨8, _⟩ => ⟨S1x2048x128, .f32⟩
  | .local _ .vmem, ⟨9, _⟩ => ⟨S1x2048x128, .f32⟩
  | .local _ .vmem, ⟨10, _⟩ => ⟨S1x2048x128, .f32⟩
  | .local _ .vmem, ⟨11, _⟩ => ⟨S1x2048x128, .f32⟩
  | .local _ .vmem, ⟨12, _⟩ => ⟨S1x2048x128, .f32⟩
  | .local _ .vmem, ⟨13, _⟩ => ⟨S1x2048x128, .f32⟩
  | .local _ .vmem, ⟨14, _⟩ => ⟨S1x2048x128, .f32⟩
  | .local _ .vmem, ⟨15, _⟩ => ⟨S3x512, .f32⟩
  | .local _ .vmem, ⟨16, _⟩ => ⟨S3x512, .f32⟩
  | .local _ .vmem, ⟨17, _⟩ => ⟨S3x512, .f32⟩
  | .local _ .vmem, ⟨18, _⟩ => ⟨S3x512, .f32⟩
  | .local _ .vmem, ⟨19, _⟩ => ⟨S1x512, .f32⟩
  | .local _ .vmem, ⟨20, _⟩ => ⟨S1x512, .f32⟩
  | .local _ .vmem, ⟨21, _⟩ => ⟨S1x512, .f32⟩
  | .local _ .vmem, ⟨22, _⟩ => ⟨S1x512, .f32⟩
  | .local _ .vmem, ⟨23, _⟩ => ⟨S1024x512, .bf16⟩
  | .local _ .vmem, ⟨24, _⟩ => ⟨S1024x512, .bf16⟩
  | .local _ .vmem, ⟨25, _⟩ => ⟨S1x8x512, .f32⟩
  | .local _ .vmem, ⟨26, _⟩ => ⟨S1x8x512, .f32⟩
  | .local _ .vmem, ⟨27, _⟩ => ⟨S1x8x512, .f32⟩
  | .local _ .vmem, ⟨28, _⟩ => ⟨S1x8x512, .f32⟩
  | .local _ .vmem, ⟨29, _⟩ => ⟨S1040x2048, .bf16⟩
  | .local _ .vmem, ⟨30, _⟩ => ⟨S2048x1024, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_scratch0 : Ref sig .tc := ⟨.vmem, 29, rfl⟩
abbrev cc0_scratch1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c0_i32 : BitVec 32 := 0#32
  let v1 : BitVec 32 := Scalar.addi v0 c0_i32
  let c42_i32 : BitVec 32 := 42#32
  let v2 : BitVec 32 := Scalar.minsi v1 c42_i32
  let c43_i32 : BitVec 32 := 43#32
  let v3 : BitVec 32 := Scalar.addi c43_i32 v2
  let c0_i32_0 : BitVec 32 := 0#32
  let c0_i32_1 : BitVec 32 := 0#32
  let c0_i32_2 : BitVec 32 := 0#32
  ![c0_i32_0.toNat, c0_i32_1.toNat, v3.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.addi v0 c1_i32
  let c42_i32 : BitVec 32 := 42#32
  let v2 : BitVec 32 := Scalar.minsi v1 c42_i32
  let c43_i32 : BitVec 32 := 43#32
  let v3 : BitVec 32 := Scalar.addi c43_i32 v2
  let c0_i32 : BitVec 32 := 0#32
  let c0_i32_0 : BitVec 32 := 0#32
  let c0_i32_1 : BitVec 32 := 0#32
  ![c0_i32.toNat, c0_i32_0.toNat, v3.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c2_i32 : BitVec 32 := 2#32
  let v1 : BitVec 32 := Scalar.addi v0 c2_i32
  let c42_i32 : BitVec 32 := 42#32
  let v2 : BitVec 32 := Scalar.minsi v1 c42_i32
  let c43_i32 : BitVec 32 := 43#32
  let v3 : BitVec 32 := Scalar.addi c43_i32 v2
  let c0_i32 : BitVec 32 := 0#32
  let c0_i32_0 : BitVec 32 := 0#32
  let c0_i32_1 : BitVec 32 := 0#32
  ![c0_i32.toNat, c0_i32_0.toNat, v3.toNat]

def cc0_transform_7 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c3_i32 : BitVec 32 := 3#32
  let v1 : BitVec 32 := Scalar.addi v0 c3_i32
  let c42_i32 : BitVec 32 := 42#32
  let v2 : BitVec 32 := Scalar.minsi v1 c42_i32
  let c43_i32 : BitVec 32 := 43#32
  let v3 : BitVec 32 := Scalar.addi c43_i32 v2
  let c0_i32 : BitVec 32 := 0#32
  let c0_i32_0 : BitVec 32 := 0#32
  let c0_i32_1 : BitVec 32 := 0#32
  ![c0_i32.toNat, c0_i32_0.toNat, v3.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S16x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S3x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S3x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S1024x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x8x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x8x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== FfnUpRefIdeal.lean ====
abbrev S8192x2048 : Shape := ⟨2, ![8192, 2048]⟩
abbrev S2048 : Shape := ⟨1, ![2048]⟩
abbrev S4x2048x11008 : Shape := ⟨3, ![4, 2048, 11008]⟩
abbrev S3x11008 : Shape := ⟨2, ![3, 11008]⟩
abbrev S11008 : Shape := ⟨1, ![11008]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S1x2048x11008 : Shape := ⟨3, ![1, 2048, 11008]⟩
abbrev S2048x11008 : Shape := ⟨2, ![2048, 11008]⟩
abbrev S8192x11008 : Shape := ⟨2, ![8192, 11008]⟩
abbrev S2x4096x11008 : Shape := ⟨3, ![2, 4096, 11008]⟩
abbrev S2x2x11008 : Shape := ⟨3, ![2, 2, 11008]⟩
abbrev S2x4098x11008 : Shape := ⟨3, ![2, 4098, 11008]⟩
abbrev S1x11008 : Shape := ⟨2, ![1, 11008]⟩
abbrev S1x1x11008 : Shape := ⟨3, ![1, 1, 11008]⟩
abbrev S2x4096x5504 : Shape := ⟨3, ![2, 4096, 5504]⟩
abbrev S8192x5504 : Shape := ⟨2, ![8192, 5504]⟩
abbrev S8x1024x11008 : Shape := ⟨3, ![8, 1024, 11008]⟩
abbrev S8x8x11008 : Shape := ⟨3, ![8, 8, 11008]⟩
abbrev S8x8x5504 : Shape := ⟨3, ![8, 8, 5504]⟩

abbrev nBuf : Space → Nat
  | .hbm => 69
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S4x2048x11008, .f32⟩
  | .hbm, ⟨3, _⟩ => ⟨S3x11008, .f32⟩
  | .hbm, ⟨4, _⟩ => ⟨S11008, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S1x2048, .f32⟩
  | .hbm, ⟨19, _⟩ => ⟨S8192x2048, .f32⟩
  | .hbm, ⟨20, _⟩ => ⟨S8192x2048, .f32⟩
  | .hbm, ⟨21, _⟩ => ⟨S1x2048x11008, .f32⟩
  | .hbm, ⟨22, _⟩ => ⟨S2048x11008, .f32⟩
  | .hbm, ⟨23, _⟩ => ⟨S8192x11008, .f32⟩
  | .hbm, ⟨24, _⟩ => ⟨S2x4096x11008, .f32⟩
  | .hbm, ⟨25, _⟩ => ⟨S_, .f32⟩
  | .hbm, ⟨26, _⟩ => ⟨S2x2x11008, .f32⟩
  | .hbm, ⟨27, _⟩ => ⟨S2x4098x11008, .f32⟩
  | .hbm, ⟨28, _⟩ => ⟨S2x4096x11008, .f32⟩
  | .hbm, ⟨29, _⟩ => ⟨S1x11008, .f32⟩
  | .hbm, ⟨30, _⟩ => ⟨S11008, .f32⟩
  | .hbm, ⟨31, _⟩ => ⟨S1x1x11008, .f32⟩
  | .hbm, ⟨32, _⟩ => ⟨S2x4096x11008, .f32⟩
  | .hbm, ⟨33, _⟩ => ⟨S2x4096x11008, .f32⟩
  | .hbm, ⟨34, _⟩ => ⟨S2x4096x11008, .f32⟩
  | .hbm, ⟨35, _⟩ => ⟨S1x11008, .f32⟩
  | .hbm, ⟨36, _⟩ => ⟨S11008, .f32⟩
  | .hbm, ⟨37, _⟩ => ⟨S1x1x11008, .f32⟩
  | .hbm, ⟨38, _⟩ => ⟨S2x4096x11008, .f32⟩
  | .hbm, ⟨39, _⟩ => ⟨S2x4096x11008, .f32⟩
  | .hbm, ⟨40, _⟩ => ⟨S2x4096x11008, .f32⟩
  | .hbm, ⟨41, _⟩ => ⟨S2x4096x11008, .f32⟩
  | .hbm, ⟨42, _⟩ => ⟨S1x11008, .f32⟩
  | .hbm, ⟨43, _⟩ => ⟨S11008, .f32⟩
  | .hbm, ⟨44, _⟩ => ⟨S1x1x11008, .f32⟩
  | .hbm, ⟨45, _⟩ => ⟨S2x4096x11008, .f32⟩
  | .hbm, ⟨46, _⟩ => ⟨S2x4096x11008, .f32⟩
  | .hbm, ⟨47, _⟩ => ⟨S2x4096x11008, .f32⟩
  | .hbm, ⟨48, _⟩ => ⟨S1x1x11008, .f32⟩
  | .hbm, ⟨49, _⟩ => ⟨S2x4096x11008, .f32⟩
  | .hbm, ⟨50, _⟩ => ⟨S2x4096x11008, .f32⟩
  | .hbm, ⟨51, _⟩ => ⟨S2x4096x5504, .f32⟩
  | .hbm, ⟨52, _⟩ => ⟨S2x4096x5504, .f32⟩
  | .hbm, ⟨53, _⟩ => ⟨S2x4096x5504, .f32⟩
  | .hbm, ⟨54, _⟩ => ⟨S2x4096x5504, .f32⟩
  | .hbm, ⟨55, _⟩ => ⟨S_, .f32⟩
  | .hbm, ⟨56, _⟩ => ⟨S2x4096x5504, .f32⟩
  | .hbm, ⟨57, _⟩ => ⟨S2x4096x5504, .f32⟩
  | .hbm, ⟨58, _⟩ => ⟨S_, .f32⟩
  | .hbm, ⟨59, _⟩ => ⟨S2x4096x5504, .f32⟩
  | .hbm, ⟨60, _⟩ => ⟨S2x4096x5504, .f32⟩
  | .hbm, ⟨61, _⟩ => ⟨S2x4096x5504, .f32⟩
  | .hbm, ⟨62, _⟩ => ⟨S2x4096x5504, .f32⟩
  | .hbm, ⟨63, _⟩ => ⟨S2x4096x5504, .bf16⟩
  | .hbm, ⟨64, _⟩ => ⟨S8192x5504, .bf16⟩
  | .hbm, ⟨65, _⟩ => ⟨S8x1024x11008, .f32⟩
  | .hbm, ⟨66, _⟩ => ⟨S8x8x11008, .f32⟩
  | .hbm, ⟨67, _⟩ => ⟨S8x8x5504, .f32⟩
  | .hbm, ⟨68, _⟩ => ⟨S8x8x5504, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_call0_v0 : Ref sig .tc := ⟨.hbm, 53, rfl⟩
abbrev main_call0_v1 : Ref sig .tc := ⟨.hbm, 54, rfl⟩
abbrev main_call0_cst : Ref sig .tc := ⟨.hbm, 55, rfl⟩
abbrev main_call0_v2 : Ref sig .tc := ⟨.hbm, 56, rfl⟩
abbrev main_call0_v3 : Ref sig .tc := ⟨.hbm, 57, rfl⟩
abbrev main_call0_cst_0 : Ref sig .tc := ⟨.hbm, 58, rfl⟩
abbrev main_call0_v4 : Ref sig .tc := ⟨.hbm, 59, rfl⟩
abbrev main_call0_v5 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩

abbrev nD : Nat := 1
abbrev τ : Topo := Topo.v7x

variable {F : FTy → Type} [FloatOps F]
-- ==== Prep.lean ====
abbrev S8192x6144 : Shape := ⟨2, ![8192, 6144]⟩
abbrev S4096 : Shape := ⟨1, ![4096]⟩
abbrev S16 : Shape := ⟨1, ![16]⟩
abbrev S_ : Shape := ⟨0, ![]⟩
abbrev S4096x1 : Shape := ⟨2, ![4096, 1]⟩
abbrev S1x16 : Shape := ⟨2, ![1, 16]⟩
abbrev S4096x16 : Shape := ⟨2, ![4096, 16]⟩
abbrev S4096x96 : Shape := ⟨2, ![4096, 96]⟩
abbrev S4096x128 : Shape := ⟨2, ![4096, 128]⟩
abbrev S4096x112 : Shape := ⟨2, ![4096, 112]⟩
abbrev S8192x1024 : Shape := ⟨2, ![8192, 1024]⟩
abbrev S32x8x1024 : Shape := ⟨3, ![32, 8, 1024]⟩
abbrev S256x1024 : Shape := ⟨2, ![256, 1024]⟩
abbrev S256x128 : Shape := ⟨2, ![256, 128]⟩
abbrev S1x8x1024 : Shape := ⟨3, ![1, 8, 1024]⟩
abbrev S128 : Shape := ⟨1, ![128]⟩
abbrev S1x128 : Shape := ⟨2, ![1, 128]⟩
abbrev S8x128 : Shape := ⟨2, ![8, 128]⟩
abbrev S1x8x128 : Shape := ⟨3, ![1, 8, 128]⟩

abbrev nBuf : Space → Nat
  | .hbm => 36
  | .vmem => 24
  | .smem => 0
  | _ => 0

abbrev bufTy : (tb : Table) → Fin (tcTables nBuf tb) → BufTy
  | .hbm, ⟨0, _⟩ => ⟨S8192x6144, .f32⟩
  | .hbm, ⟨1, _⟩ => ⟨S4096, .i32⟩
  | .hbm, ⟨2, _⟩ => ⟨S16, .f32⟩
  | .hbm, ⟨3, _⟩ => ⟨S16, .f32⟩
  | .hbm, ⟨4, _⟩ => ⟨S_, .f32⟩
  | .hbm, ⟨5, _⟩ => ⟨S16, .f32⟩
  | .hbm, ⟨6, _⟩ => ⟨S16, .f32⟩
  | .hbm, ⟨7, _⟩ => ⟨S_, .f32⟩
  | .hbm, ⟨8, _⟩ => ⟨S16, .f32⟩
  | .hbm, ⟨9, _⟩ => ⟨S16, .f32⟩
  | .hbm, ⟨10, _⟩ => ⟨S4096, .f32⟩
  | .hbm, ⟨11, _⟩ => ⟨S4096x1, .f32⟩
  | .hbm, ⟨12, _⟩ => ⟨S1x16, .f32⟩
  | .hbm, ⟨13, _⟩ => ⟨S4096x16, .f32⟩
  | .hbm, ⟨14, _⟩ => ⟨S4096x16, .f32⟩
  | .hbm, ⟨15, _⟩ => ⟨S4096x16, .f32⟩
  | .hbm, ⟨16, _⟩ => ⟨S4096x16, .f32⟩
  | .hbm, ⟨17, _⟩ => ⟨S4096x16, .f32⟩
  | .hbm, ⟨18, _⟩ => ⟨S_, .f32⟩
  | .hbm, ⟨19, _⟩ => ⟨S4096x96, .f32⟩
  | .hbm, ⟨20, _⟩ => ⟨S4096x128, .f32⟩
  | .hbm, ⟨21, _⟩ => ⟨S4096x16, .f32⟩
  | .hbm, ⟨22, _⟩ => ⟨S_, .f32⟩
  | .hbm, ⟨23, _⟩ => ⟨S4096x112, .f32⟩
  | .hbm, ⟨24, _⟩ => ⟨S4096x128, .f32⟩
  | .hbm, ⟨25, _⟩ => ⟨S_, .f32⟩
  | .hbm, ⟨26, _⟩ => ⟨S4096x16, .f32⟩
  | .hbm, ⟨27, _⟩ => ⟨S_, .f32⟩
  | .hbm, ⟨28, _⟩ => ⟨S4096x96, .f32⟩
  | .hbm, ⟨29, _⟩ => ⟨S4096x128, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .bf16⟩
  | .hbm, ⟨34, _⟩ => ⟨S8192x1024, .bf16⟩
  | .hbm, ⟨35, _⟩ => ⟨S32x8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S1x8x1024, .f32⟩
  | .local _ .vmem, ⟨23, _⟩ => ⟨S1x8x1024, .f32⟩
  | _, _ => ⟨S8192x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst_1 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_2 : Ref sig .tc := ⟨.hbm, 22, rfl⟩
abbrev main_v18 : Ref sig .tc := ⟨.hbm, 23, rfl⟩
abbrev main_v19 : Ref sig .tc := ⟨.hbm, 24, rfl⟩
abbrev main_cst_3 : Ref sig .tc := ⟨.hbm, 25, rfl⟩
abbrev main_v20 : Ref sig .tc := ⟨.hbm, 26, rfl⟩
abbrev main_cst_4 : Ref sig .tc := ⟨.hbm, 27, rfl⟩
abbrev main_v21 : Ref sig .tc := ⟨.hbm, 28, rfl⟩
abbrev main_v22 : Ref sig .tc := ⟨.hbm, 29, rfl⟩
abbrev main_v23_0 : Ref sig .tc := ⟨.hbm, 30, rfl⟩
abbrev main_v23_1 : Ref sig .tc := ⟨.hbm, 31, rfl⟩
abbrev main_v23_2 : Ref sig .tc := ⟨.hbm, 32, rfl⟩
abbrev main_v23_3 : Ref sig .tc := ⟨.hbm, 33, rfl⟩
abbrev main_v23_4 : Ref sig .tc := ⟨.hbm, 34, rfl⟩
abbrev main_v23_5 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x8x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== PrepRefIdeal.lean ====
abbrev S8192x6144 : Shape := ⟨2, ![8192, 6144]⟩
abbrev S8192x3072 : Shape := ⟨2, ![8192, 3072]⟩
abbrev S8192x1024 : Shape := ⟨2, ![8192, 1024]⟩
abbrev S4096 : Shape := ⟨1, ![4096]⟩
abbrev S_ : Shape := ⟨0, ![]⟩
abbrev S2x4096x8x128 : Shape := ⟨4, ![2, 4096, 8, 128]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S1x4096x1x16 : Shape := ⟨4, ![1, 4096, 1, 16]⟩
abbrev S2x4096x8x32 : Shape := ⟨4, ![2, 4096, 8, 32]⟩
abbrev S2x4096x8x16 : Shape := ⟨4, ![2, 4096, 8, 16]⟩
abbrev S2x4096x8x96 : Shape := ⟨4, ![2, 4096, 8, 96]⟩
abbrev S2x16x256x8x128 : Shape := ⟨5, ![2, 16, 256, 8, 128]⟩
abbrev S2x16x8x128 : Shape := ⟨4, ![2, 16, 8, 128]⟩
abbrev S32x1x1024 : Shape := ⟨3, ![32, 1, 1024]⟩
abbrev S32x8x1024 : Shape := ⟨3, ![32, 8, 1024]⟩

abbrev nBuf : Space → Nat
  | .hbm => 93
  | .vmem => 0
  | .smem => 0
  | _ => 0

abbrev bufTy : (tb : Table) → Fin (tcTables nBuf tb) → BufTy
  | .hbm, ⟨0, _⟩ => ⟨S8192x6144, .f32⟩
  | .hbm, ⟨1, _⟩ => ⟨S8192x3072, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S4096, .i32⟩
  | .hbm, ⟨6, _⟩ => ⟨S_, .i32⟩
  | .hbm, ⟨7, _⟩ => ⟨S4096, .i32⟩
  | .hbm, ⟨8, _⟩ => ⟨S4096, .i32⟩
  | .hbm, ⟨9, _⟩ => ⟨S2x4096x8x128, .f32⟩
  | .hbm, ⟨10, _⟩ => ⟨S16, .f32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S4096, .f32⟩
  | .hbm, ⟨19, _⟩ => ⟨S4096x1, .f32⟩
  | .hbm, ⟨20, _⟩ => ⟨S1x16, .f32⟩
  | .hbm, ⟨21, _⟩ => ⟨S4096x16, .f32⟩
  | .hbm, ⟨22, _⟩ => ⟨S4096x16, .f32⟩
  | .hbm, ⟨23, _⟩ => ⟨S4096x16, .f32⟩
  | .hbm, ⟨24, _⟩ => ⟨S4096x16, .f32⟩
  | .hbm, ⟨25, _⟩ => ⟨S1x4096x1x16, .f32⟩
  | .hbm, ⟨26, _⟩ => ⟨S4096x16, .f32⟩
  | .hbm, ⟨27, _⟩ => ⟨S1x4096x1x16, .f32⟩
  | .hbm, ⟨28, _⟩ => ⟨S2x4096x8x32, .f32⟩
  | .hbm, ⟨29, _⟩ => ⟨S2x4096x8x16, .f32⟩
  | .hbm, ⟨30, _⟩ => ⟨S2x4096x8x16, .f32⟩
  | .hbm, ⟨31, _⟩ => ⟨S2x4096x8x16, .f32⟩
  | .hbm, ⟨32, _⟩ => ⟨S2x4096x8x16, .f32⟩
  | .hbm, ⟨33, _⟩ => ⟨S2x4096x8x16, .f32⟩
  | .hbm, ⟨34, _⟩ => ⟨S2x4096x8x16, .f32⟩
  | .hbm, ⟨35, _⟩ => ⟨S2x4096x8x16, .f32⟩
  | .hbm, ⟨36, _⟩ => ⟨S2x4096x8x16, .f32⟩
  | .hbm, ⟨37, _⟩ => ⟨S2x4096x8x16, .f32⟩
  | .hbm, ⟨38, _⟩ => ⟨S2x4096x8x16, .f32⟩
  | .hbm, ⟨39, _⟩ => ⟨S2x4096x8x16, .f32⟩
  | .hbm, ⟨40, _⟩ => ⟨S2x4096x8x16, .f32⟩
  | .hbm, ⟨41, _⟩ => ⟨S2x4096x8x32, .f32⟩
  | .hbm, ⟨42, _⟩ => ⟨S2x4096x8x96, .f32⟩
  | .hbm, ⟨43, _⟩ => ⟨S2x4096x8x128, .f32⟩
  | .hbm, ⟨44, _⟩ => ⟨S2x4096x8x128, .f32⟩
  | .hbm, ⟨45, _⟩ => ⟨S16, .f32⟩
  | .hbm, ⟨46, _⟩ => ⟨S16, .f32⟩
  | .hbm, ⟨47, _⟩ => ⟨S_, .f32⟩
  | .hbm, ⟨48, _⟩ => ⟨S16, .f32⟩
  | .hbm, ⟨49, _⟩ => ⟨S16, .f32⟩
  | .hbm, ⟨50, _⟩ => ⟨S_, .f32⟩
  | .hbm, ⟨51, _⟩ => ⟨S16, .f32⟩
  | .hbm, ⟨52, _⟩ => ⟨S16, .f32⟩
  | .hbm, ⟨53, _⟩ => ⟨S4096, .f32⟩
  | .hbm, ⟨54, _⟩ => ⟨S4096x1, .f32⟩
  | .hbm, ⟨55, _⟩ => ⟨S1x16, .f32⟩
  | .hbm, ⟨56, _⟩ => ⟨S4096x16, .f32⟩
  | .hbm, ⟨57, _⟩ => ⟨S4096x16, .f32⟩
  | .hbm, ⟨58, _⟩ => ⟨S4096x16, .f32⟩
  | .hbm, ⟨59, _⟩ => ⟨S4096x16, .f32⟩
  | .hbm, ⟨60, _⟩ => ⟨S1x4096x1x16, .f32⟩
  | .hbm, ⟨61, _⟩ => ⟨S4096x16, .f32⟩
  | .hbm, ⟨62, _⟩ => ⟨S1x4096x1x16, .f32⟩
  | .hbm, ⟨63, _⟩ => ⟨S2x4096x8x32, .f32⟩
  | .hbm, ⟨64, _⟩ => ⟨S2x4096x8x16, .f32⟩
  | .hbm, ⟨65, _⟩ => ⟨S2x4096x8x16, .f32⟩
  | .hbm, ⟨66, _⟩ => ⟨S2x4096x8x16, .f32⟩
  | .hbm, ⟨67, _⟩ => ⟨S2x4096x8x16, .f32⟩
  | .hbm, ⟨68, _⟩ => ⟨S2x4096x8x16, .f32⟩
  | .hbm, ⟨69, _⟩ => ⟨S2x4096x8x16, .f32⟩
  | .hbm, ⟨70, _⟩ => ⟨S2x4096x8x16, .f32⟩
  | .hbm, ⟨71, _⟩ => ⟨S2x4096x8x16, .f32⟩
  | .hbm, ⟨72, _⟩ => ⟨S2x4096x8x16, .f32⟩
  | .hbm, ⟨73, _⟩ => ⟨S2x4096x8x16, .f32⟩
  | .hbm, ⟨74, _⟩ => ⟨S2x4096x8x16, .f32⟩
  | .hbm, ⟨75, _⟩ => ⟨S2x4096x8x16, .f32⟩
  | .hbm, ⟨76, _⟩ => ⟨S2x4096x8x32, .f32⟩
  | .hbm, ⟨77, _⟩ => ⟨S2x4096x8x96, .f32⟩
  | .hbm, ⟨78, _⟩ => ⟨S2x4096x8x128, .f32⟩
  | .hbm, ⟨79, _⟩ => ⟨S2x4096x8x128, .f32⟩
  | .hbm, ⟨80, _⟩ => ⟨S2x16x256x8x128, .f32⟩
  | .hbm, ⟨81, _⟩ => ⟨S_, .f32⟩
  | .hbm, ⟨82, _⟩ => ⟨S2x16x8x128, .f32⟩
  | .hbm, ⟨83, _⟩ => ⟨S_, .f32⟩
  | .hbm, ⟨84, _⟩ => ⟨S2x16x8x128, .f32⟩
  | .hbm, ⟨85, _⟩ => ⟨S2x16x8x128, .f32⟩
  | .hbm, ⟨86, _⟩ => ⟨S32x1x1024, .f32⟩
  | .hbm, ⟨87, _⟩ => ⟨S32x8x1024, .f32⟩
  | .hbm, ⟨88, _⟩ => ⟨S8192x1024, .f32⟩
  | .hbm, ⟨89, _⟩ => ⟨S8192x1024, .f32⟩
  | .hbm, ⟨90, _⟩ => ⟨S8192x1024, .f32⟩
  | .hbm, ⟨91, _⟩ => ⟨S8192x1024, .bf16⟩
  | .hbm, ⟨92, _⟩ => ⟨S8192x1024, .bf16⟩
  | _, _ => ⟨S8192x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_c : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_cst_1 : Ref sig .tc := ⟨.hbm, 47, rfl⟩
abbrev main_v43 : Ref sig .tc := ⟨.hbm, 48, rfl⟩
abbrev main_v44 : Ref sig .tc := ⟨.hbm, 49, rfl⟩
abbrev main_cst_2 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩
abbrev main_cst_3 : Ref sig .tc := ⟨.hbm, 81, rfl⟩
abbrev main_v75 : Ref sig .tc := ⟨.hbm, 82, rfl⟩
abbrev main_cst_4 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩

abbrev nD : Nat := 1
abbrev τ : Topo := Topo.v7x

variable {F : FTy → Type} [FloatOps F]
-- ==== RopeRows.lean ====
abbrev S8x6144 : Shape := ⟨2, ![8, 6144]⟩
abbrev S_ : Shape := ⟨0, ![]⟩
abbrev S1 : Shape := ⟨1, ![1]⟩
abbrev S16 : Shape := ⟨1, ![16]⟩
abbrev S1x1 : Shape := ⟨2, ![1, 1]⟩
abbrev S1x16 : Shape := ⟨2, ![1, 16]⟩
abbrev S1x96 : Shape := ⟨2, ![1, 96]⟩
abbrev S1x128 : Shape := ⟨2, ![1, 128]⟩
abbrev S1x112 : Shape := ⟨2, ![1, 112]⟩
abbrev S8x1024 : Shape := ⟨2, ![8, 1024]⟩
abbrev S8x128 : Shape := ⟨2, ![8, 128]⟩

abbrev nBuf : Space → Nat
  | .hbm => 33
  | .vmem => 9
  | .smem => 0
  | _ => 0

abbrev bufTy : (tb : Table) → Fin (tcTables nBuf tb) → BufTy
  | .hbm, ⟨0, _⟩ => ⟨S8x6144, .f32⟩
  | .hbm, ⟨1, _⟩ => ⟨S_, .i32⟩
  | .hbm, ⟨2, _⟩ => ⟨S1, .i32⟩
  | .hbm, ⟨3, _⟩ => ⟨S16, .f32⟩
  | .hbm, ⟨4, _⟩ => ⟨S16, .f32⟩
  | .hbm, ⟨5, _⟩ => ⟨S_, .f32⟩
  | .hbm, ⟨6, _⟩ => ⟨S16, .f32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S1, .f32⟩
  | .hbm, ⟨12, _⟩ => ⟨S1x1, .f32⟩
  | .hbm, ⟨13, _⟩ => ⟨S1x16, .f32⟩
  | .hbm, ⟨14, _⟩ => ⟨S1x16, .f32⟩
  | .hbm, ⟨15, _⟩ => ⟨S1x16, .f32⟩
  | .hbm, ⟨16, _⟩ => ⟨S1x16, .f32⟩
  | .hbm, ⟨17, _⟩ => ⟨S1x16, .f32⟩
  | .hbm, ⟨18, _⟩ => ⟨S_, .f32⟩
  | .hbm, ⟨19, _⟩ => ⟨S1x96, .f32⟩
  | .hbm, ⟨20, _⟩ => ⟨S1x128, .f32⟩
  | .hbm, ⟨21, _⟩ => ⟨S1x16, .f32⟩
  | .hbm, ⟨22, _⟩ => ⟨S_, .f32⟩
  | .hbm, ⟨23, _⟩ => ⟨S1x112, .f32⟩
  | .hbm, ⟨24, _⟩ => ⟨S1x128, .f32⟩
  | .hbm, ⟨25, _⟩ => ⟨S_, .f32⟩
  | .hbm, ⟨26, _⟩ => ⟨S1x16, .f32⟩
  | .hbm, ⟨27, _⟩ => ⟨S_, .f32⟩
  | .hbm, ⟨28, _⟩ => ⟨S1x96, .f32⟩
  | .hbm, ⟨29, _⟩ => ⟨S1x128, .f32⟩
  | .hbm, ⟨30, _⟩ => ⟨S8x1024, .f32⟩
  | .hbm, ⟨31, _⟩ => ⟨S8x1024, .f32⟩
  | .hbm, ⟨32, _⟩ => ⟨S8x1024, .f32⟩
  | .local _ .vmem, ⟨0, _⟩ => ⟨S8x1024, .f32⟩
  | .local _ .vmem, ⟨1, _⟩ => ⟨S8x1024, .f32⟩
  | .local _ .vmem, ⟨2, _⟩ => ⟨S8x1024, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S8x1024, .f32⟩
  | .local _ .vmem, ⟨7, _⟩ => ⟨S8x1024, .f32⟩
  | .local _ .vmem, ⟨8, _⟩ => ⟨S8x1024, .f32⟩
  | _, _ => ⟨S8x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩
abbrev main_v21 : Ref sig .tc := ⟨.hbm, 29, rfl⟩
abbrev main_v22_0 : Ref sig .tc := ⟨.hbm, 30, rfl⟩
abbrev main_v22_1 : Ref sig .tc := ⟨.hbm, 31, rfl⟩
abbrev main_v22_2 : Ref sig .tc := ⟨.hbm, 32, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c3_i32 : BitVec 32 := 3#32
  let c0_i32_0 : BitVec 32 := 0#32
  ![c0_i32.toNat, c3_i32.toNat]

def cc0_transform_1 (i : grid0.Coords) : Fin 2 → Nat :=
  let arg0 : BitVec 32 := BitVec.ofNat 32 (i 0).val
  let c0_i32 : BitVec 32 := 0#32
  let c4_i32 : BitVec 32 := 4#32
  let c0_i32_0 : BitVec 32 := 0#32
  ![c0_i32.toNat, c4_i32.toNat]

def cc0_transform_2 (i : grid0.Coords) : Fin 2 → Nat :=
  let arg0 : BitVec 32 := BitVec.ofNat 32 (i 0).val
  let c0_i32 : BitVec 32 := 0#32
  let c5_i32 : BitVec 32 := 5#32
  let c0_i32_0 : BitVec 32 := 0#32
  ![c0_i32.toNat, c5_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== RopeRowsRefIdeal.lean ====
abbrev S8x6144 : Shape := ⟨2, ![8, 6144]⟩
abbrev S8x3072 : Shape := ⟨2, ![8, 3072]⟩
abbrev S8x1024 : Shape := ⟨2, ![8, 1024]⟩
abbrev S1 : Shape := ⟨1, ![1]⟩
abbrev S_ : Shape := ⟨0, ![]⟩
abbrev S8x1x8x128 : Shape := ⟨4, ![8, 1, 8, 128]⟩
abbrev S16 : Shape := ⟨1, ![16]⟩
abbrev S1x1 : Shape := ⟨2, ![1, 1]⟩
abbrev S1x16 : Shape := ⟨2, ![1, 16]⟩
abbrev S1x1x1x16 : Shape := ⟨4, ![1, 1, 1, 16]⟩
abbrev S8x1x8x32 : Shape := ⟨4, ![8, 1, 8, 32]⟩
abbrev S8x1x8x16 : Shape := ⟨4, ![8, 1, 8, 16]⟩
abbrev S8x1x8x96 : Shape := ⟨4, ![8, 1, 8, 96]⟩

abbrev nBuf : Space → Nat
  | .hbm => 81
  | .vmem => 0
  | .smem => 0
  | _ => 0

abbrev bufTy : (tb : Table) → Fin (tcTables nBuf tb) → BufTy
  | .hbm, ⟨0, _⟩ => ⟨S8x6144, .f32⟩
  | .hbm, ⟨1, _⟩ => ⟨S8x3072, .f32⟩
  | .hbm, ⟨2, _⟩ => ⟨S8x1024, .f32⟩
  | .hbm, ⟨3, _⟩ => ⟨S8x1024, .f32⟩
  | .hbm, ⟨4, _⟩ => ⟨S8x1024, .f32⟩
  | .hbm, ⟨5, _⟩ => ⟨S1, .i32⟩
  | .hbm, ⟨6, _⟩ => ⟨S_, .i32⟩
  | .hbm, ⟨7, _⟩ => ⟨S1, .i32⟩
  | .hbm, ⟨8, _⟩ => ⟨S1, .i32⟩
  | .hbm, ⟨9, _⟩ => ⟨S8x1x8x128, .f32⟩
  | .hbm, ⟨10, _⟩ => ⟨S16, .f32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S1, .f32⟩
  | .hbm, ⟨19, _⟩ => ⟨S1x1, .f32⟩
  | .hbm, ⟨20, _⟩ => ⟨S1x16, .f32⟩
  | .hbm, ⟨21, _⟩ => ⟨S1x16, .f32⟩
  | .hbm, ⟨22, _⟩ => ⟨S1x16, .f32⟩
  | .hbm, ⟨23, _⟩ => ⟨S1x16, .f32⟩
  | .hbm, ⟨24, _⟩ => ⟨S1x1x1x16, .f32⟩
  | .hbm, ⟨25, _⟩ => ⟨S1x16, .f32⟩
  | .hbm, ⟨26, _⟩ => ⟨S1x1x1x16, .f32⟩
  | .hbm, ⟨27, _⟩ => ⟨S8x1x8x32, .f32⟩
  | .hbm, ⟨28, _⟩ => ⟨S8x1x8x16, .f32⟩
  | .hbm, ⟨29, _⟩ => ⟨S8x1x8x16, .f32⟩
  | .hbm, ⟨30, _⟩ => ⟨S8x1x8x16, .f32⟩
  | .hbm, ⟨31, _⟩ => ⟨S8x1x8x16, .f32⟩
  | .hbm, ⟨32, _⟩ => ⟨S8x1x8x16, .f32⟩
  | .hbm, ⟨33, _⟩ => ⟨S8x1x8x16, .f32⟩
  | .hbm, ⟨34, _⟩ => ⟨S8x1x8x16, .f32⟩
  | .hbm, ⟨35, _⟩ => ⟨S8x1x8x16, .f32⟩
  | .hbm, ⟨36, _⟩ => ⟨S8x1x8x16, .f32⟩
  | .hbm, ⟨37, _⟩ => ⟨S8x1x8x16, .f32⟩
  | .hbm, ⟨38, _⟩ => ⟨S8x1x8x16, .f32⟩
  | .hbm, ⟨39, _⟩ => ⟨S8x1x8x16, .f32⟩
  | .hbm, ⟨40, _⟩ => ⟨S8x1x8x32, .f32⟩
  | .hbm, ⟨41, _⟩ => ⟨S8x1x8x96, .f32⟩
  | .hbm, ⟨42, _⟩ => ⟨S8x1x8x128, .f32⟩
  | .hbm, ⟨43, _⟩ => ⟨S8x1x8x128, .f32⟩
  | .hbm, ⟨44, _⟩ => ⟨S16, .f32⟩
  | .hbm, ⟨45, _⟩ => ⟨S16, .f32⟩
  | .hbm, ⟨46, _⟩ => ⟨S_, .f32⟩
  | .hbm, ⟨47, _⟩ => ⟨S16, .f32⟩
  | .hbm, ⟨48, _⟩ => ⟨S16, .f32⟩
  | .hbm, ⟨49, _⟩ => ⟨S_, .f32⟩
  | .hbm, ⟨50, _⟩ => ⟨S16, .f32⟩
  | .hbm, ⟨51, _⟩ => ⟨S16, .f32⟩
  | .hbm, ⟨52, _⟩ => ⟨S1, .f32⟩
  | .hbm, ⟨53, _⟩ => ⟨S1x1, .f32⟩
  | .hbm, ⟨54, _⟩ => ⟨S1x16, .f32⟩
  | .hbm, ⟨55, _⟩ => ⟨S1x16, .f32⟩
  | .hbm, ⟨56, _⟩ => ⟨S1x16, .f32⟩
  | .hbm, ⟨57, _⟩ => ⟨S1x16, .f32⟩
  | .hbm, ⟨58, _⟩ => ⟨S1x1x1x16, .f32⟩
  | .hbm, ⟨59, _⟩ => ⟨S1x16, .f32⟩
  | .hbm, ⟨60, _⟩ => ⟨S1x1x1x16, .f32⟩
  | .hbm, ⟨61, _⟩ => ⟨S8x1x8x32, .f32⟩
  | .hbm, ⟨62, _⟩ => ⟨S8x1x8x16, .f32⟩
  | .hbm, ⟨63, _⟩ => ⟨S8x1x8x16, .f32⟩
  | .hbm, ⟨64, _⟩ => ⟨S8x1x8x16, .f32⟩
  | .hbm, ⟨65, _⟩ => ⟨S8x1x8x16, .f32⟩
  | .hbm, ⟨66, _⟩ => ⟨S8x1x8x16, .f32⟩
  | .hbm, ⟨67, _⟩ => ⟨S8x1x8x16, .f32⟩
  | .hbm, ⟨68, _⟩ => ⟨S8x1x8x16, .f32⟩
  | .hbm, ⟨69, _⟩ => ⟨S8x1x8x16, .f32⟩
  | .hbm, ⟨70, _⟩ => ⟨S8x1x8x16, .f32⟩
  | .hbm, ⟨71, _⟩ => ⟨S8x1x8x16, .f32⟩
  | .hbm, ⟨72, _⟩ => ⟨S8x1x8x16, .f32⟩
  | .hbm, ⟨73, _⟩ => ⟨S8x1x8x16, .f32⟩
  | .hbm, ⟨74, _⟩ => ⟨S8x1x8x32, .f32⟩
  | .hbm, ⟨75, _⟩ => ⟨S8x1x8x96, .f32⟩
  | .hbm, ⟨76, _⟩ => ⟨S8x1x8x128, .f32⟩
  | .hbm, ⟨77, _⟩ => ⟨S8x1x8x128, .f32⟩
  | .hbm, ⟨78, _⟩ => ⟨S8x1024, .f32⟩
  | .hbm, ⟨79, _⟩ => ⟨S8x1024, .f32⟩
  | .hbm, ⟨80, _⟩ => ⟨S8x1024, .f32⟩
  | _, _ => ⟨S8x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_c : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_cst_1 : Ref sig .tc := ⟨.hbm, 46, rfl⟩
abbrev main_v42 : Ref sig .tc := ⟨.hbm, 47, rfl⟩
abbrev main_v43 : Ref sig .tc := ⟨.hbm, 48, rfl⟩
abbrev main_cst_2 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩

abbrev nD : Nat := 1
abbrev τ : Topo := Topo.v7x

variable {F : FTy → Type} [FloatOps F]
-- ==== FfnMid.lean ====
abbrev S8x11008 : Shape := ⟨2, ![8, 11008]⟩
abbrev S8x2x11008 : Shape := ⟨3, ![8, 2, 11008]⟩
abbrev S3x11008 : Shape := ⟨2, ![3, 11008]⟩
abbrev S11008 : Shape := ⟨1, ![11008]⟩
abbrev S1x11008 : Shape := ⟨2, ![1, 11008]⟩
abbrev S8x5504 : Shape := ⟨2, ![8, 5504]⟩
abbrev S8x1x11008 : Shape := ⟨3, ![8, 1, 11008]⟩

abbrev nBuf : Space → Nat
  | .hbm => 7
  | .vmem => 6
  | .smem => 0
  | _ => 0

abbrev bufTy : (tb : Table) → Fin (tcTables nBuf tb) → BufTy
  | .hbm, ⟨0, _⟩ => ⟨S8x11008, .f32⟩
  | .hbm, ⟨1, _⟩ => ⟨S8x2x11008, .f32⟩
  | .hbm, ⟨2, _⟩ => ⟨S3x11008, .f32⟩
  | .hbm, ⟨3, _⟩ => ⟨S11008, .f32⟩
  | .hbm, ⟨4, _⟩ => ⟨S1x11008, .f32⟩
  | .hbm, ⟨5, _⟩ => ⟨S8x5504, .f32⟩
  | .hbm, ⟨6, _⟩ => ⟨S8x2x11008, .f32⟩
  | .local _ .vmem, ⟨0, _⟩ => ⟨S8x11008, .f32⟩
  | .local _ .vmem, ⟨1, _⟩ => ⟨S8x2x11008, .f32⟩
  | .local _ .vmem, ⟨2, _⟩ => ⟨S3x11008, .f32⟩
  | .local _ .vmem, ⟨3, _⟩ => ⟨S1x11008, .f32⟩
  | .local _ .vmem, ⟨4, _⟩ => ⟨S8x5504, .f32⟩
  | .local _ .vmem, ⟨5, _⟩ => ⟨S8x2x11008, .f32⟩
  | _, _ => ⟨S8x11008, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S8x11008 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x2x11008 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x11008 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x11008 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x5504 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x2x11008 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== FfnMidRefIdeal.lean ====
abbrev S8x11008 : Shape := ⟨2, ![8, 11008]⟩
abbrev S8x2x11008 : Shape := ⟨3, ![8, 2, 11008]⟩
abbrev S3x11008 : Shape := ⟨2, ![3, 11008]⟩
abbrev S11008 : Shape := ⟨1, ![11008]⟩
abbrev S8x1x11008 : Shape := ⟨3, ![8, 1, 11008]⟩
abbrev S8x3x11008 : Shape := ⟨3, ![8, 3, 11008]⟩
abbrev S1x11008 : Shape := ⟨2, ![1, 11008]⟩
abbrev S1x1x11008 : Shape := ⟨3, ![1, 1, 11008]⟩
abbrev S8x1x5504 : Shape := ⟨3, ![8, 1, 5504]⟩
abbrev S_ : Shape := ⟨0, ![]⟩
abbrev S8x5504 : Shape := ⟨2, ![8, 5504]⟩

abbrev nBuf : Space → Nat
  | .hbm => 43
  | .vmem => 0
  | .smem => 0
  | _ => 0

abbrev bufTy : (tb : Table) → Fin (tcTables nBuf tb) → BufTy
  | .hbm, ⟨0, _⟩ => ⟨S8x11008, .f32⟩
  | .hbm, ⟨1, _⟩ => ⟨S8x2x11008, .f32⟩
  | .hbm, ⟨2, _⟩ => ⟨S3x11008, .f32⟩
  | .hbm, ⟨3, _⟩ => ⟨S11008, .f32⟩
  | .hbm, ⟨4, _⟩ => ⟨S8x1x11008, .f32⟩
  | .hbm, ⟨5, _⟩ => ⟨S8x3x11008, .f32⟩
  | .hbm, ⟨6, _⟩ => ⟨S8x1x11008, .f32⟩
  | .hbm, ⟨7, _⟩ => ⟨S1x11008, .f32⟩
  | .hbm, ⟨8, _⟩ => ⟨S11008, .f32⟩
  | .hbm, ⟨9, _⟩ => ⟨S1x1x11008, .f32⟩
  | .hbm, ⟨10, _⟩ => ⟨S8x1x11008, .f32⟩
  | .hbm, ⟨11, _⟩ => ⟨S8x1x11008, .f32⟩
  | .hbm, ⟨12, _⟩ => ⟨S8x1x11008, .f32⟩
  | .hbm, ⟨13, _⟩ => ⟨S1x11008, .f32⟩
  | .hbm, ⟨14, _⟩ => ⟨S11008, .f32⟩
  | .hbm, ⟨15, _⟩ => ⟨S1x1x11008, .f32⟩
  | .hbm, ⟨16, _⟩ => ⟨S8x1x11008, .f32⟩
  | .hbm, ⟨17, _⟩ => ⟨S8x1x11008, .f32⟩
  | .hbm, ⟨18, _⟩ => ⟨S8x1x11008, .f32⟩
  | .hbm, ⟨19, _⟩ => ⟨S8x1x11008, .f32⟩
  | .hbm, ⟨20, _⟩ => ⟨S1x11008, .f32⟩
  | .hbm, ⟨21, _⟩ => ⟨S11008, .f32⟩
  | .hbm, ⟨22, _⟩ => ⟨S1x1x11008, .f32⟩
  | .hbm, ⟨23, _⟩ => ⟨S8x1x11008, .f32⟩
  | .hbm, ⟨24, _⟩ => ⟨S8x1x11008, .f32⟩
  | .hbm, ⟨25, _⟩ => ⟨S8x1x11008, .f32⟩
  | .hbm, ⟨26, _⟩ => ⟨S1x1x11008, .f32⟩
  | .hbm, ⟨27, _⟩ => ⟨S8x1x11008, .f32⟩
  | .hbm, ⟨28, _⟩ => ⟨S8x1x11008, .f32⟩
  | .hbm, ⟨29, _⟩ => ⟨S8x1x5504, .f32⟩
  | .hbm, ⟨30, _⟩ => ⟨S8x1x5504, .f32⟩
  | .hbm, ⟨31, _⟩ => ⟨S8x1x5504, .f32⟩
  | .hbm, ⟨32, _⟩ => ⟨S8x1x5504, .f32⟩
  | .hbm, ⟨33, _⟩ => ⟨S_, .f32⟩
  | .hbm, ⟨34, _⟩ => ⟨S8x1x5504, .f32⟩
  | .hbm, ⟨35, _⟩ => ⟨S8x1x5504, .f32⟩
  | .hbm, ⟨36, _⟩ => ⟨S_, .f32⟩
  | .hbm, ⟨37, _⟩ => ⟨S8x1x5504, .f32⟩
  | .hbm, ⟨38, _⟩ => ⟨S8x1x5504, .f32⟩
  | .hbm, ⟨39, _⟩ => ⟨S8x1x5504, .f32⟩
  | .hbm, ⟨40, _⟩ => ⟨S8x1x5504, .f32⟩
  | .hbm, ⟨41, _⟩ => ⟨S8x5504, .f32⟩
  | .hbm, ⟨42, _⟩ => ⟨S8x2x11008, .f32⟩
  | _, _ => ⟨S8x11008, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]
-- ==== Final.lean ====
abbrev S8192x2048 : Shape := ⟨2, ![8192, 2048]⟩
abbrev S2048 : Shape := ⟨1, ![2048]⟩
abbrev S1x2048 : Shape := ⟨2, ![1, 2048]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048, .f32⟩
  | .hbm, ⟨3, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1024x2048, .f32⟩
  | .local _ .vmem, ⟨4, _⟩ => ⟨S1024x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FinalRefIdeal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 18
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S1x2048, .f32⟩
  | .hbm, ⟨16, _⟩ => ⟨S8192x2048, .f32⟩
  | .hbm, ⟨17, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== FinalStep.lean ====
abbrev S8x2048 : Shape := ⟨2, ![8, 2048]⟩
abbrev S2048 : Shape := ⟨1, ![2048]⟩
abbrev S1x2048 : Shape := ⟨2, ![1, 2048]⟩
abbrev S8 : Shape := ⟨1, ![8]⟩
abbrev S8x1 : Shape := ⟨2, ![8, 1]⟩

abbrev nBuf : Space → Nat
  | .hbm => 4
  | .vmem => 3
  | .smem => 0
  | _ => 0

abbrev bufTy : (tb : Table) → Fin (tcTables nBuf tb) → BufTy
  | .hbm, ⟨0, _⟩ => ⟨S8x2048, .f32⟩
  | .hbm, ⟨1, _⟩ => ⟨S2048, .f32⟩
  | .hbm, ⟨2, _⟩ => ⟨S1x2048, .f32⟩
  | .hbm, ⟨3, _⟩ => ⟨S8x2048, .f32⟩
  | .local _ .vmem, ⟨0, _⟩ => ⟨S8x2048, .f32⟩
  | .local _ .vmem, ⟨1, _⟩ => ⟨S1x2048, .f32⟩
  | .local _ .vmem, ⟨2, _⟩ => ⟨S8x2048, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== FinalStepRefIdeal.lean ====
abbrev S8x2048 : Shape := ⟨2, ![8, 2048]⟩
abbrev S2048 : Shape := ⟨1, ![2048]⟩
abbrev S_ : Shape := ⟨0, ![]⟩
abbrev S8 : Shape := ⟨1, ![8]⟩
abbrev S8x1 : Shape := ⟨2, ![8, 1]⟩
abbrev S1x2048 : Shape := ⟨2, ![1, 2048]⟩

abbrev nBuf : Space → Nat
  | .hbm => 18
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S2048, .f32⟩
  | .hbm, ⟨2, _⟩ => ⟨S8x2048, .f32⟩
  | .hbm, ⟨3, _⟩ => ⟨S_, .f32⟩
  | .hbm, ⟨4, _⟩ => ⟨S8, .f32⟩
  | .hbm, ⟨5, _⟩ => ⟨S8x1, .f32⟩
  | .hbm, ⟨6, _⟩ => ⟨S_, .f32⟩
  | .hbm, ⟨7, _⟩ => ⟨S8x1, .f32⟩
  | .hbm, ⟨8, _⟩ => ⟨S8x1, .f32⟩
  | .hbm, ⟨9, _⟩ => ⟨S_, .f32⟩
  | .hbm, ⟨10, _⟩ => ⟨S8x1, .f32⟩
  | .hbm, ⟨11, _⟩ => ⟨S8x1, .f32⟩
  | .hbm, ⟨12, _⟩ => ⟨S8x1, .f32⟩
  | .hbm, ⟨13, _⟩ => ⟨S8x2048, .f32⟩
  | .hbm, ⟨14, _⟩ => ⟨S8x2048, .f32⟩
  | .hbm, ⟨15, _⟩ => ⟨S1x2048, .f32⟩
  | .hbm, ⟨16, _⟩ => ⟨S8x2048, .f32⟩
  | .hbm, ⟨17, _⟩ => ⟨S8x2048, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== MlstmStep.lean ====
abbrev S8x6144 : Shape := ⟨2, ![8, 6144]⟩
abbrev S8x128 : Shape := ⟨2, ![8, 128]⟩
abbrev S8 : Shape := ⟨1, ![8]⟩
abbrev S1024 : Shape := ⟨1, ![1024]⟩
abbrev S8x8x64x128 : Shape := ⟨4, ![8, 8, 64, 128]⟩
abbrev S8x8x64 : Shape := ⟨3, ![8, 8, 64]⟩
abbrev S8x8 : Shape := ⟨2, ![8, 8]⟩
abbrev S_ : Shape := ⟨0, ![]⟩
abbrev S112 : Shape := ⟨1, ![112]⟩
abbrev S128 : Shape := ⟨1, ![128]⟩
abbrev S1x128 : Shape := ⟨2, ![1, 128]⟩
abbrev S1x1024 : Shape := ⟨2, ![1, 1024]⟩
abbrev S8x1024 : Shape := ⟨2, ![8, 1024]⟩
abbrev S8x512 : Shape := ⟨2, ![8, 512]⟩
abbrev S8x1 : Shape := ⟨2, ![8, 1]⟩
abbrev S8x64 : Shape := ⟨2, ![8, 64]⟩
abbrev S8x1x64 : Shape := ⟨3, ![8, 1, 64]⟩
abbrev S1x1x64x128 : Shape := ⟨4, ![1, 1, 64, 128]⟩
abbrev S64x128 : Shape := ⟨2, ![64, 128]⟩
abbrev S1x64 : Shape := ⟨2, ![1, 64]⟩
abbrev S64x64 : Shape := ⟨2, ![64, 64]⟩
abbrev S64 : Shape := ⟨1, ![64]⟩
abbrev S64x1 : Shape := ⟨2, ![64, 1]⟩
abbrev S1x1 : Shape := ⟨2, ![1, 1]⟩

abbrev nBuf : Space → Nat
  | .hbm => 17
  | .vmem => 14
  | .smem => 0
  | _ => 0

abbrev bufTy : (tb : Table) → Fin (tcTables nBuf tb) → BufTy
  | .hbm, ⟨0, _⟩ => ⟨S8x6144, .f32⟩
  | .hbm, ⟨1, _⟩ => ⟨S8x128, .f32⟩
  | .hbm, ⟨2, _⟩ => ⟨S8, .f32⟩
  | .hbm, ⟨3, _⟩ => ⟨S8, .f32⟩
  | .hbm, ⟨4, _⟩ => ⟨S1024, .f32⟩
  | .hbm, ⟨5, _⟩ => ⟨S8x8x64x128, .f32⟩
  | .hbm, ⟨6, _⟩ => ⟨S8x8x64, .f32⟩
  | .hbm, ⟨7, _⟩ => ⟨S8x8, .f32⟩
  | .hbm, ⟨8, _⟩ => ⟨S_, .f32⟩
  | .hbm, ⟨9, _⟩ => ⟨S112, .f32⟩
  | .hbm, ⟨10, _⟩ => ⟨S128, .f32⟩
  | .hbm, ⟨11, _⟩ => ⟨S1x128, .f32⟩
  | .hbm, ⟨12, _⟩ => ⟨S1x1024, .f32⟩
  | .hbm, ⟨13, _⟩ => ⟨S8x1024, .f32⟩
  | .hbm, ⟨14, _⟩ => ⟨S8x8x64x128, .f32⟩
  | .hbm, ⟨15, _⟩ => ⟨S8x8x64, .f32⟩
  | .hbm, ⟨16, _⟩ => ⟨S8x128, .f32⟩
  | .local _ .vmem, ⟨0, _⟩ => ⟨S8x512, .f32⟩
  | .local _ .vmem, ⟨1, _⟩ => ⟨S8x512, .f32⟩
  | .local _ .vmem, ⟨2, _⟩ => ⟨S8x1024, .f32⟩
  | .local _ .vmem, ⟨3, _⟩ => ⟨S8x1024, .f32⟩
  | .local _ .vmem, ⟨4, _⟩ => ⟨S8x128, .f32⟩
  | .local _ .vmem, ⟨5, _⟩ => ⟨S1x128, .f32⟩
  | .local _ .vmem, ⟨6, _⟩ => ⟨S1x1024, .f32⟩
  | .local _ .vmem, ⟨7, _⟩ => ⟨S8x8x64x128, .f32⟩
  | .local _ .vmem, ⟨8, _⟩ => ⟨S8x8x64, .f32⟩
  | .local _ .vmem, ⟨9, _⟩ => ⟨S8x8, .f32⟩
  | .local _ .vmem, ⟨10, _⟩ => ⟨S8x1024, .f32⟩
  | .local _ .vmem, ⟨11, _⟩ => ⟨S8x8x64x128, .f32⟩
  | .local _ .vmem, ⟨12, _⟩ => ⟨S8x8x64, .f32⟩
  | .local _ .vmem, ⟨13, _⟩ => ⟨S8x128, .f32⟩
  | _, _ => ⟨S8x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v4_2 : Ref sig .tc := ⟨.hbm, 15, rfl⟩
abbrev main_v4_3 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_2 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_3 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x8x64x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x8x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x8x64x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x8x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== MlstmStepRefIdeal.lean ====
abbrev S8x6144 : Shape := ⟨2, ![8, 6144]⟩
abbrev S8x128 : Shape := ⟨2, ![8, 128]⟩
abbrev S8 : Shape := ⟨1, ![8]⟩
abbrev S1024 : Shape := ⟨1, ![1024]⟩
abbrev S8x8x64x128 : Shape := ⟨4, ![8, 8, 64, 128]⟩
abbrev S8x8x64 : Shape := ⟨3, ![8, 8, 64]⟩
abbrev S8x8 : Shape := ⟨2, ![8, 8]⟩
abbrev S8x512 : Shape := ⟨2, ![8, 512]⟩
abbrev S_ : Shape := ⟨0, ![]⟩
abbrev S8x1024 : Shape := ⟨2, ![8, 1024]⟩
abbrev S8x8x128 : Shape := ⟨3, ![8, 8, 128]⟩
abbrev S1x8 : Shape := ⟨2, ![1, 8]⟩
abbrev S8x8x1 : Shape := ⟨3, ![8, 8, 1]⟩
abbrev S8x8x1x1 : Shape := ⟨4, ![8, 8, 1, 1]⟩
abbrev S8x8x64x1 : Shape := ⟨4, ![8, 8, 64, 1]⟩
abbrev S8x8x1x128 : Shape := ⟨4, ![8, 8, 1, 128]⟩
abbrev S1x8x128 : Shape := ⟨3, ![1, 8, 128]⟩
abbrev S8x120 : Shape := ⟨2, ![8, 120]⟩

abbrev nBuf : Space → Nat
  | .hbm => 124
  | .vmem => 0
  | .smem => 0
  | _ => 0

abbrev bufTy : (tb : Table) → Fin (tcTables nBuf tb) → BufTy
  | .hbm, ⟨0, _⟩ => ⟨S8x6144, .f32⟩
  | .hbm, ⟨1, _⟩ => ⟨S8x128, .f32⟩
  | .hbm, ⟨2, _⟩ => ⟨S8, .f32⟩
  | .hbm, ⟨3, _⟩ => ⟨S8, .f32⟩
  | .hbm, ⟨4, _⟩ => ⟨S1024, .f32⟩
  | .hbm, ⟨5, _⟩ => ⟨S8x8x64x128, .f32⟩
  | .hbm, ⟨6, _⟩ => ⟨S8x8x64, .f32⟩
  | .hbm, ⟨7, _⟩ => ⟨S8x8, .f32⟩
  | .hbm, ⟨8, _⟩ => ⟨S8x512, .f32⟩
  | .hbm, ⟨9, _⟩ => ⟨S8x8x64, .f32⟩
  | .hbm, ⟨10, _⟩ => ⟨S8x512, .f32⟩
  | .hbm, ⟨11, _⟩ => ⟨S8x8x64, .f32⟩
  | .hbm, ⟨12, _⟩ => ⟨S_, .f32⟩
  | .hbm, ⟨13, _⟩ => ⟨S8x8x64, .f32⟩
  | .hbm, ⟨14, _⟩ => ⟨S8x8x64, .f32⟩
  | .hbm, ⟨15, _⟩ => ⟨S8x1024, .f32⟩
  | .hbm, ⟨16, _⟩ => ⟨S8x8x128, .f32⟩
  | .hbm, ⟨17, _⟩ => ⟨S8x1024, .f32⟩
  | .hbm, ⟨18, _⟩ => ⟨S8x8, .f32⟩
  | .hbm, ⟨19, _⟩ => ⟨S1x8, .f32⟩
  | .hbm, ⟨20, _⟩ => ⟨S8x8, .f32⟩
  | .hbm, ⟨21, _⟩ => ⟨S8x8, .f32⟩
  | .hbm, ⟨22, _⟩ => ⟨S8x8, .f32⟩
  | .hbm, ⟨23, _⟩ => ⟨S1x8, .f32⟩
  | .hbm, ⟨24, _⟩ => ⟨S8x8, .f32⟩
  | .hbm, ⟨25, _⟩ => ⟨S8x8, .f32⟩
  | .hbm, ⟨26, _⟩ => ⟨S8x8, .f32⟩
  | .hbm, ⟨27, _⟩ => ⟨S_, .f32⟩
  | .hbm, ⟨28, _⟩ => ⟨S8x8, .f32⟩
  | .hbm, ⟨29, _⟩ => ⟨S8x8, .f32⟩
  | .hbm, ⟨30, _⟩ => ⟨S8x8, .f32⟩
  | .hbm, ⟨31, _⟩ => ⟨S8x8, .f32⟩
  | .hbm, ⟨32, _⟩ => ⟨S8x8, .i1⟩
  | .hbm, ⟨33, _⟩ => ⟨S8x8, .f32⟩
  | .hbm, ⟨34, _⟩ => ⟨S8x8, .f32⟩
  | .hbm, ⟨35, _⟩ => ⟨S8x8, .f32⟩
  | .hbm, ⟨36, _⟩ => ⟨S8x8, .f32⟩
  | .hbm, ⟨37, _⟩ => ⟨S8x8, .f32⟩
  | .hbm, ⟨38, _⟩ => ⟨S8x8, .f32⟩
  | .hbm, ⟨39, _⟩ => ⟨S8x8, .f32⟩
  | .hbm, ⟨40, _⟩ => ⟨S8x8, .f32⟩
  | .hbm, ⟨41, _⟩ => ⟨S8x8, .f32⟩
  | .hbm, ⟨42, _⟩ => ⟨S8x8, .f32⟩
  | .hbm, ⟨43, _⟩ => ⟨S8x8, .f32⟩
  | .hbm, ⟨44, _⟩ => ⟨S8x8, .f32⟩
  | .hbm, ⟨45, _⟩ => ⟨S8x8, .f32⟩
  | .hbm, ⟨46, _⟩ => ⟨S8x8, .f32⟩
  | .hbm, ⟨47, _⟩ => ⟨S8x8, .f32⟩
  | .hbm, ⟨48, _⟩ => ⟨S8x8, .f32⟩
  | .hbm, ⟨49, _⟩ => ⟨S8x8, .f32⟩
  | .hbm, ⟨50, _⟩ => ⟨S8x8x1, .f32⟩
  | .hbm, ⟨51, _⟩ => ⟨S8x8x128, .f32⟩
  | .hbm, ⟨52, _⟩ => ⟨S8x8x128, .f32⟩
  | .hbm, ⟨53, _⟩ => ⟨S8x8x128, .f32⟩
  | .hbm, ⟨54, _⟩ => ⟨S8x8x1, .f32⟩
  | .hbm, ⟨55, _⟩ => ⟨S8x8x128, .f32⟩
  | .hbm, ⟨56, _⟩ => ⟨S8x8x128, .f32⟩
  | .hbm, ⟨57, _⟩ => ⟨S8x8x128, .f32⟩
  | .hbm, ⟨58, _⟩ => ⟨S8x8, .f32⟩
  | .hbm, ⟨59, _⟩ => ⟨S8x8, .f32⟩
  | .hbm, ⟨60, _⟩ => ⟨S8x8, .f32⟩
  | .hbm, ⟨61, _⟩ => ⟨S8x8, .f32⟩
  | .hbm, ⟨62, _⟩ => ⟨S8x8, .f32⟩
  | .hbm, ⟨63, _⟩ => ⟨S8x8, .f32⟩
  | .hbm, ⟨64, _⟩ => ⟨S8x8, .f32⟩
  | .hbm, ⟨65, _⟩ => ⟨S8x8x1, .f32⟩
  | .hbm, ⟨66, _⟩ => ⟨S8x8x128, .f32⟩
  | .hbm, ⟨67, _⟩ => ⟨S8x8x128, .f32⟩
  | .hbm, ⟨68, _⟩ => ⟨S8x8, .f32⟩
  | .hbm, ⟨69, _⟩ => ⟨S8x8, .f32⟩
  | .hbm, ⟨70, _⟩ => ⟨S8x8, .f32⟩
  | .hbm, ⟨71, _⟩ => ⟨S8x8, .f32⟩
  | .hbm, ⟨72, _⟩ => ⟨S8x8, .f32⟩
  | .hbm, ⟨73, _⟩ => ⟨S8x8, .f32⟩
  | .hbm, ⟨74, _⟩ => ⟨S8x8, .f32⟩
  | .hbm, ⟨75, _⟩ => ⟨S8x8x1x1, .f32⟩
  | .hbm, ⟨76, _⟩ => ⟨S8x8x64x128, .f32⟩
  | .hbm, ⟨77, _⟩ => ⟨S8x8x64x128, .f32⟩
  | .hbm, ⟨78, _⟩ => ⟨S8x8x1, .f32⟩
  | .hbm, ⟨79, _⟩ => ⟨S8x8x64, .f32⟩
  | .hbm, ⟨80, _⟩ => ⟨S8x8x64, .f32⟩
  | .hbm, ⟨81, _⟩ => ⟨S8x8x64x1, .f32⟩
  | .hbm, ⟨82, _⟩ => ⟨S8x8x1x128, .f32⟩
  | .hbm, ⟨83, _⟩ => ⟨S8x8x64x128, .f32⟩
  | .hbm, ⟨84, _⟩ => ⟨S8x8x64x128, .f32⟩
  | .hbm, ⟨85, _⟩ => ⟨S8x8x64x128, .f32⟩
  | .hbm, ⟨86, _⟩ => ⟨S8x8x64x128, .f32⟩
  | .hbm, ⟨87, _⟩ => ⟨S8x8x1, .f32⟩
  | .hbm, ⟨88, _⟩ => ⟨S8x8x64, .f32⟩
  | .hbm, ⟨89, _⟩ => ⟨S8x8x64, .f32⟩
  | .hbm, ⟨90, _⟩ => ⟨S8x8x1, .f32⟩
  | .hbm, ⟨91, _⟩ => ⟨S8x8x64, .f32⟩
  | .hbm, ⟨92, _⟩ => ⟨S8x8x64, .f32⟩
  | .hbm, ⟨93, _⟩ => ⟨S8x8x64, .f32⟩
  | .hbm, ⟨94, _⟩ => ⟨S8x128, .f32⟩
  | .hbm, ⟨95, _⟩ => ⟨S8x8x128, .f32⟩
  | .hbm, ⟨96, _⟩ => ⟨S_, .f32⟩
  | .hbm, ⟨97, _⟩ => ⟨S8x8, .f32⟩
  | .hbm, ⟨98, _⟩ => ⟨S8x8x1, .f32⟩
  | .hbm, ⟨99, _⟩ => ⟨S_, .f32⟩
  | .hbm, ⟨100, _⟩ => ⟨S8x8x1, .f32⟩
  | .hbm, ⟨101, _⟩ => ⟨S8x8x1, .f32⟩
  | .hbm, ⟨102, _⟩ => ⟨S_, .f32⟩
  | .hbm, ⟨103, _⟩ => ⟨S8x8x1, .f32⟩
  | .hbm, ⟨104, _⟩ => ⟨S8x8x1, .f32⟩
  | .hbm, ⟨105, _⟩ => ⟨S8x8x1, .f32⟩
  | .hbm, ⟨106, _⟩ => ⟨S8x8x128, .f32⟩
  | .hbm, ⟨107, _⟩ => ⟨S8x8x128, .f32⟩
  | .hbm, ⟨108, _⟩ => ⟨S1x8x128, .f32⟩
  | .hbm, ⟨109, _⟩ => ⟨S8x8x128, .f32⟩
  | .hbm, ⟨110, _⟩ => ⟨S8x8x128, .f32⟩
  | .hbm, ⟨111, _⟩ => ⟨S8x1024, .f32⟩
  | .hbm, ⟨112, _⟩ => ⟨S8x1024, .f32⟩
  | .hbm, ⟨113, _⟩ => ⟨S8x1024, .f32⟩
  | .hbm, ⟨114, _⟩ => ⟨S_, .f32⟩
  | .hbm, ⟨115, _⟩ => ⟨S8x1024, .f32⟩
  | .hbm, ⟨116, _⟩ => ⟨S8x1024, .f32⟩
  | .hbm, ⟨117, _⟩ => ⟨S_, .f32⟩
  | .hbm, ⟨118, _⟩ => ⟨S8x1024, .f32⟩
  | .hbm, ⟨119, _⟩ => ⟨S8x1024, .f32⟩
  | .hbm, ⟨120, _⟩ => ⟨S8x1024, .f32⟩
  | .hbm, ⟨121, _⟩ => ⟨S_, .f32⟩
  | .hbm, ⟨122, _⟩ => ⟨S8x120, .f32⟩
  | .hbm, ⟨123, _⟩ => ⟨S8x128, .f32⟩
  | _, _ => ⟨S8x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_v0 : Ref sig .tc := ⟨.hbm, 26, rfl⟩
abbrev main_call0_call0_cst : Ref sig .tc := ⟨.hbm, 27, rfl⟩
abbrev main_call0_call0_v0 : Ref sig .tc := ⟨.hbm, 28, rfl⟩
abbrev main_call0_call0_v1 : Ref sig .tc := ⟨.hbm, 29, rfl⟩
abbrev main_call0_call0_v2 : Ref sig .tc := ⟨.hbm, 30, rfl⟩
abbrev main_call0_call0_v3 : Ref sig .tc := ⟨.hbm, 31, rfl⟩
abbrev main_call0_call0_v4 : Ref sig .tc := ⟨.hbm, 32, rfl⟩
abbrev main_call0_call0_v5 : Ref sig .tc := ⟨.hbm, 33, rfl⟩
abbrev main_call0_call0_v6 : Ref sig .tc := ⟨.hbm, 34, rfl⟩
abbrev main_call0_call0_v7 : Ref sig .tc := ⟨.hbm, 35, rfl⟩
abbrev main_call0_call0_v8 : Ref sig .tc := ⟨.hbm, 36, rfl⟩
abbrev main_call0_call0_v9 : Ref sig .tc := ⟨.hbm, 37, rfl⟩
abbrev main_call0_call0_v10 : Ref sig .tc := ⟨.hbm, 38, rfl⟩
abbrev main_call0_call0_v11 : Ref sig .tc := ⟨.hbm, 39, rfl⟩
abbrev main_call0_v1 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_cst_0 : Ref sig .tc := ⟨.hbm, 96, rfl⟩
abbrev main_v72 : Ref sig .tc := ⟨.hbm, 97, rfl⟩
abbrev main_v73 : Ref sig .tc := ⟨.hbm, 98, rfl⟩
abbrev main_cst_1 : Ref sig .tc := ⟨.hbm, 99, rfl⟩
abbrev main_v74 : Ref sig .tc := ⟨.hbm, 100, rfl⟩
abbrev main_v75 : Ref sig .tc := ⟨.hbm, 101, rfl⟩
abbrev main_cst_2 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_cst_3 : Ref sig .tc := ⟨.hbm, 114, rfl⟩
abbrev main_v87 : Ref sig .tc := ⟨.hbm, 115, rfl⟩
abbrev main_v88 : Ref sig .tc := ⟨.hbm, 116, rfl⟩
abbrev main_cst_4 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_cst_5 : Ref sig .tc := ⟨.hbm, 121, rfl⟩
abbrev main_v92 : Ref sig .tc := ⟨.hbm, 122, rfl⟩
abbrev main_v93 : Ref sig .tc := ⟨.hbm, 123, rfl⟩

abbrev nD : Nat := 1
abbrev τ : Topo := Topo.v7x

variable {F : FTy → Type} [FloatOps F]
-- ==== GdnStep.lean ====
abbrev S8x12288 : Shape := ⟨2, ![8, 12288]⟩
abbrev S8x64 : Shape := ⟨2, ![8, 64]⟩
abbrev S8x3x8192 : Shape := ⟨3, ![8, 3, 8192]⟩
abbrev S4x8192 : Shape := ⟨2, ![4, 8192]⟩
abbrev S32 : Shape := ⟨1, ![32]⟩
abbrev S128 : Shape := ⟨1, ![128]⟩
abbrev S8x32x128x128 : Shape := ⟨4, ![8, 32, 128, 128]⟩
abbrev S_ : Shape := ⟨0, ![]⟩
abbrev S64 : Shape := ⟨1, ![64]⟩
abbrev S1x64 : Shape := ⟨2, ![1, 64]⟩
abbrev S8x1x12288 : Shape := ⟨3, ![8, 1, 12288]⟩
abbrev S8x1x64 : Shape := ⟨3, ![8, 1, 64]⟩
abbrev S1x128 : Shape := ⟨2, ![1, 128]⟩
abbrev S8x1x4096 : Shape := ⟨3, ![8, 1, 4096]⟩
abbrev S1x1x12288 : Shape := ⟨3, ![1, 1, 12288]⟩
abbrev S1x1x64 : Shape := ⟨3, ![1, 1, 64]⟩
abbrev S1x3x8192 : Shape := ⟨3, ![1, 3, 8192]⟩
abbrev S1x32x128x128 : Shape := ⟨4, ![1, 32, 128, 128]⟩
abbrev S1x1x4096 : Shape := ⟨3, ![1, 1, 4096]⟩
abbrev S1x12288 : Shape := ⟨2, ![1, 12288]⟩
abbrev S1x8192 : Shape := ⟨2, ![1, 8192]⟩
abbrev S3x8192 : Shape := ⟨2, ![3, 8192]⟩
abbrev S2x8192 : Shape := ⟨2, ![2, 8192]⟩
abbrev S1 : Shape := ⟨1, ![1]⟩
abbrev S1x1 : Shape := ⟨2, ![1, 1]⟩
abbrev S128x128 : Shape := ⟨2, ![128, 128]⟩
abbrev S128x1 : Shape := ⟨2, ![128, 1]⟩
abbrev S1x1x128x128 : Shape := ⟨4, ![1, 1, 128, 128]⟩
abbrev S1x1x128 : Shape := ⟨3, ![1, 1, 128]⟩
abbrev S8x4096 : Shape := ⟨2, ![8, 4096]⟩

abbrev nBuf : Space → Nat
  | .hbm => 21
  | .vmem => 18
  | .smem => 0
  | _ => 0

abbrev bufTy : (tb : Table) → Fin (tcTables nBuf tb) → BufTy
  | .hbm, ⟨0, _⟩ => ⟨S8x12288, .f32⟩
  | .hbm, ⟨1, _⟩ => ⟨S8x64, .f32⟩
  | .hbm, ⟨2, _⟩ => ⟨S8x3x8192, .f32⟩
  | .hbm, ⟨3, _⟩ => ⟨S4x8192, .f32⟩
  | .hbm, ⟨4, _⟩ => ⟨S32, .f32⟩
  | .hbm, ⟨5, _⟩ => ⟨S32, .f32⟩
  | .hbm, ⟨6, _⟩ => ⟨S128, .f32⟩
  | .hbm, ⟨7, _⟩ => ⟨S8x32x128x128, .f32⟩
  | .hbm, ⟨8, _⟩ => ⟨S_, .f32⟩
  | .hbm, ⟨9, _⟩ => ⟨S32, .f32⟩
  | .hbm, ⟨10, _⟩ => ⟨S64, .f32⟩
  | .hbm, ⟨11, _⟩ => ⟨S1x64, .f32⟩
  | .hbm, ⟨12, _⟩ => ⟨S64, .f32⟩
  | .hbm, ⟨13, _⟩ => ⟨S1x64, .f32⟩
  | .hbm, ⟨14, _⟩ => ⟨S8x1x12288, .f32⟩
  | .hbm, ⟨15, _⟩ => ⟨S8x1x64, .f32⟩
  | .hbm, ⟨16, _⟩ => ⟨S1x128, .f32⟩
  | .hbm, ⟨17, _⟩ => ⟨S8x1x4096, .f32⟩
  | .hbm, ⟨18, _⟩ => ⟨S8x3x8192, .f32⟩
  | .hbm, ⟨19, _⟩ => ⟨S8x32x128x128, .f32⟩
  | .hbm, ⟨20, _⟩ => ⟨S8x4096, .f32⟩
  | .local _ .vmem, ⟨0, _⟩ => ⟨S1x1x12288, .f32⟩
  | .local _ .vmem, ⟨1, _⟩ => ⟨S1x1x12288, .f32⟩
  | .local _ .vmem, ⟨2, _⟩ => ⟨S1x1x64, .f32⟩
  | .local _ .vmem, ⟨3, _⟩ => ⟨S1x1x64, .f32⟩
  | .local _ .vmem, ⟨4, _⟩ => ⟨S1x3x8192, .f32⟩
  | .local _ .vmem, ⟨5, _⟩ => ⟨S1x3x8192, .f32⟩
  | .local _ .vmem, ⟨6, _⟩ => ⟨S4x8192, .f32⟩
  | .local _ .vmem, ⟨7, _⟩ => ⟨S1x64, .f32⟩
  | .local _ .vmem, ⟨8, _⟩ => ⟨S1x64, .f32⟩
  | .local _ .vmem, ⟨9, _⟩ => ⟨S1x128, .f32⟩
  | .local _ .vmem, ⟨10, _⟩ => ⟨S1x32x128x128, .f32⟩
  | .local _ .vmem, ⟨11, _⟩ => ⟨S1x32x128x128, .f32⟩
  | .local _ .vmem, ⟨12, _⟩ => ⟨S1x1x4096, .f32⟩
  | .local _ .vmem, ⟨13, _⟩ => ⟨S1x1x4096, .f32⟩
  | .local _ .vmem, ⟨14, _⟩ => ⟨S1x3x8192, .f32⟩
  | .local _ .vmem, ⟨15, _⟩ => ⟨S1x3x8192, .f32⟩
  | .local _ .vmem, ⟨16, _⟩ => ⟨S1x32x128x128, .f32⟩
  | .local _ .vmem, ⟨17, _⟩ => ⟨S1x32x128x128, .f32⟩
  | _, _ => ⟨S8x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev main_v8_2 : Ref sig .tc := ⟨.hbm, 19, rfl⟩
abbrev main_v9 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x1x12288 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x3x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x32x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x3x8192 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x32x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== GdnStepRefIdeal.lean ====
abbrev S8x12288 : Shape := ⟨2, ![8, 12288]⟩
abbrev S8x64 : Shape := ⟨2, ![8, 64]⟩
abbrev S8x3x8192 : Shape := ⟨3, ![8, 3, 8192]⟩
abbrev S4x8192 : Shape := ⟨2, ![4, 8192]⟩
abbrev S32 : Shape := ⟨1, ![32]⟩
abbrev S128 : Shape := ⟨1, ![128]⟩
abbrev S8x32x128x128 : Shape := ⟨4, ![8, 32, 128, 128]⟩
abbrev S8x8192 : Shape := ⟨2, ![8, 8192]⟩
abbrev S8x4096 : Shape := ⟨2, ![8, 4096]⟩
abbrev S8x1x8192 : Shape := ⟨3, ![8, 1, 8192]⟩
abbrev S8x4x8192 : Shape := ⟨3, ![8, 4, 8192]⟩
abbrev S1x8192 : Shape := ⟨2, ![1, 8192]⟩
abbrev S8192 : Shape := ⟨1, ![8192]⟩
abbrev S1x1x8192 : Shape := ⟨3, ![1, 1, 8192]⟩
abbrev S_ : Shape := ⟨0, ![]⟩
abbrev S8x1x2048 : Shape := ⟨3, ![8, 1, 2048]⟩
abbrev S8x1x4096 : Shape := ⟨3, ![8, 1, 4096]⟩
abbrev S8x16x128 : Shape := ⟨3, ![8, 16, 128]⟩
abbrev S8x16 : Shape := ⟨2, ![8, 16]⟩
abbrev S8x16x1 : Shape := ⟨3, ![8, 16, 1]⟩
abbrev S8x16x2x128 : Shape := ⟨4, ![8, 16, 2, 128]⟩
abbrev S8x32x128 : Shape := ⟨3, ![8, 32, 128]⟩
abbrev S8x32 : Shape := ⟨2, ![8, 32]⟩
abbrev S1x32 : Shape := ⟨2, ![1, 32]⟩
abbrev S8x32x1 : Shape := ⟨3, ![8, 32, 1]⟩
abbrev S8x32x1x1 : Shape := ⟨4, ![8, 32, 1, 1]⟩
abbrev S8x32x128x1 : Shape := ⟨4, ![8, 32, 128, 1]⟩
abbrev S8x32x1x128 : Shape := ⟨4, ![8, 32, 1, 128]⟩
abbrev S1x1x128 : Shape := ⟨3, ![1, 1, 128]⟩

abbrev nBuf : Space → Nat
  | .hbm => 174
  | .vmem => 0
  | .smem => 0
  | _ => 0

abbrev hbmTy0_0 (i : Nat) : BufTy := match i % 128 with
  | 0 => ⟨S8x12288, .f32⟩
  | 1 => ⟨S8x64, .f32⟩
  | 2 => ⟨S8x3x8192, .f32⟩
  | 3 => ⟨S4x8192, .f32⟩
  | 4 => ⟨S32, .f32⟩
  | 5 => ⟨S32, .f32⟩
  | 6 => ⟨S128, .f32⟩
  | 7 => ⟨S8x32x128x128, .f32⟩
  | 8 => ⟨S8x8192, .f32⟩
  | 9 => ⟨S8x4096, .f32⟩
  | 10 => ⟨S8x1x8192, .f32⟩
  | 11 => ⟨S8x4x8192, .f32⟩
  | 12 => ⟨S8x1x8192, .f32⟩
  | 13 => ⟨S1x8192, .f32⟩
  | 14 => ⟨S8192, .f32⟩
  | 15 => ⟨S1x1x8192, .f32⟩
  | 16 => ⟨S8x1x8192, .f32⟩
  | 17 => ⟨S8x1x8192, .f32⟩
  | 18 => ⟨S8x1x8192, .f32⟩
  | 19 => ⟨S1x8192, .f32⟩
  | 20 => ⟨S8192, .f32⟩
  | 21 => ⟨S1x1x8192, .f32⟩
  | 22 => ⟨S8x1x8192, .f32⟩
  | 23 => ⟨S8x1x8192, .f32⟩
  | 24 => ⟨S8x1x8192, .f32⟩
  | 25 => ⟨S8x1x8192, .f32⟩
  | 26 => ⟨S1x8192, .f32⟩
  | 27 => ⟨S8192, .f32⟩
  | 28 => ⟨S1x1x8192, .f32⟩
  | 29 => ⟨S8x1x8192, .f32⟩
  | 30 => ⟨S8x1x8192, .f32⟩
  | 31 => ⟨S8x1x8192, .f32⟩
  | 32 => ⟨S8x1x8192, .f32⟩
  | 33 => ⟨S1x8192, .f32⟩
  | 34 => ⟨S8192, .f32⟩
  | 35 => ⟨S1x1x8192, .f32⟩
  | 36 => ⟨S8x1x8192, .f32⟩
  | 37 => ⟨S8x1x8192, .f32⟩
  | 38 => ⟨S8x1x8192, .f32⟩
  | 39 => ⟨S8x1x8192, .f32⟩
  | 40 => ⟨S8x1x8192, .f32⟩
  | 41 => ⟨S_, .f32⟩
  | 42 => ⟨S8x1x8192, .f32⟩
  | 43 => ⟨S8x1x8192, .f32⟩
  | 44 => ⟨S_, .f32⟩
  | 45 => ⟨S8x1x8192, .f32⟩
  | 46 => ⟨S8x1x8192, .f32⟩
  | 47 => ⟨S8x1x8192, .f32⟩
  | 48 => ⟨S8x3x8192, .f32⟩
  | 49 => ⟨S8x1x2048, .f32⟩
  | 50 => ⟨S8x1x2048, .f32⟩
  | 51 => ⟨S8x1x4096, .f32⟩
  | 52 => ⟨S8x16x128, .f32⟩
  | 53 => ⟨S8x16x128, .f32⟩
  | 54 => ⟨S_, .f32⟩
  | 55 => ⟨S8x16, .f32⟩
  | 56 => ⟨S8x16x1, .f32⟩
  | 57 => ⟨S_, .f32⟩
  | 58 => ⟨S8x16x1, .f32⟩
  | 59 => ⟨S8x16x1, .f32⟩
  | 60 => ⟨S8x16x1, .f32⟩
  | 61 => ⟨S8x16x128, .f32⟩
  | 62 => ⟨S8x16x128, .f32⟩
  | 63 => ⟨S_, .f32⟩
  | 64 => ⟨S8x16x128, .f32⟩
  | 65 => ⟨S8x16x128, .f32⟩
  | 66 => ⟨S8x16x2x128, .f32⟩
  | 67 => ⟨S8x32x128, .f32⟩
  | 68 => ⟨S8x16x128, .f32⟩
  | 69 => ⟨S8x16x128, .f32⟩
  | 70 => ⟨S_, .f32⟩
  | 71 => ⟨S8x16, .f32⟩
  | 72 => ⟨S8x16x1, .f32⟩
  | 73 => ⟨S_, .f32⟩
  | 74 => ⟨S8x16x1, .f32⟩
  | 75 => ⟨S8x16x1, .f32⟩
  | 76 => ⟨S8x16x1, .f32⟩
  | 77 => ⟨S8x16x128, .f32⟩
  | 78 => ⟨S8x16x128, .f32⟩
  | 79 => ⟨S8x16x2x128, .f32⟩
  | 80 => ⟨S8x32x128, .f32⟩
  | 81 => ⟨S8x32x128, .f32⟩
  | 82 => ⟨S8x32, .f32⟩
  | 83 => ⟨S8x32, .f32⟩
  | 84 => ⟨S8x32, .f32⟩
  | 85 => ⟨S_, .f32⟩
  | 86 => ⟨S8x32, .f32⟩
  | 87 => ⟨S8x32, .f32⟩
  | 88 => ⟨S_, .f32⟩
  | 89 => ⟨S8x32, .f32⟩
  | 90 => ⟨S8x32, .f32⟩
  | 91 => ⟨S32, .f32⟩
  | 92 => ⟨S32, .f32⟩
  | 93 => ⟨S8x32, .f32⟩
  | 94 => ⟨S1x32, .f32⟩
  | 95 => ⟨S8x32, .f32⟩
  | 96 => ⟨S8x32, .f32⟩
  | 97 => ⟨S_, .f32⟩
  | 98 => ⟨S8x32, .f32⟩
  | 99 => ⟨S8x32, .f32⟩
  | 100 => ⟨S8x32, .f32⟩
  | 101 => ⟨S8x32, .f32⟩
  | 102 => ⟨S8x32, .i1⟩
  | 103 => ⟨S8x32, .f32⟩
  | 104 => ⟨S8x32, .f32⟩
  | 105 => ⟨S8x32, .f32⟩
  | 106 => ⟨S8x32, .f32⟩
  | 107 => ⟨S8x32, .f32⟩
  | 108 => ⟨S8x32, .f32⟩
  | 109 => ⟨S8x32, .f32⟩
  | 110 => ⟨S8x32, .f32⟩
  | 111 => ⟨S1x32, .f32⟩
  | 112 => ⟨S8x32, .f32⟩
  | 113 => ⟨S8x32, .f32⟩
  | 114 => ⟨S8x32x1, .f32⟩
  | 115 => ⟨S8x32x128, .f32⟩
  | 116 => ⟨S8x32x128, .f32⟩
  | 117 => ⟨S8x32x1, .f32⟩
  | 118 => ⟨S8x32x128, .f32⟩
  | 119 => ⟨S8x32x128, .f32⟩
  | 120 => ⟨S8x32, .f32⟩
  | 121 => ⟨S8x32x1, .f32⟩
  | 122 => ⟨S8x32x128, .f32⟩
  | 123 => ⟨S8x32x128, .f32⟩
  | 124 => ⟨S8x32x128, .f32⟩
  | 125 => ⟨S8x32x128, .f32⟩
  | 126 => ⟨S8x32, .f32⟩
  | 127 => ⟨S8x32, .f32⟩
  | _ => ⟨S8x12288, .f32⟩

abbrev hbmTy0_1 (i : Nat) : BufTy := match i % 128 with
  | 0 => ⟨S8x32x1, .f32⟩
  | 1 => ⟨S8x32x128, .f32⟩
  | 2 => ⟨S8x32x128, .f32⟩
  | 3 => ⟨S8x32x128, .f32⟩
  | 4 => ⟨S8x32x1, .f32⟩
  | 5 => ⟨S8x32x128, .f32⟩
  | 6 => ⟨S8x32x128, .f32⟩
  | 7 => ⟨S8x32x128, .f32⟩
  | 8 => ⟨S8x32, .f32⟩
  | 9 => ⟨S8x32x1x1, .f32⟩
  | 10 => ⟨S8x32x128x128, .f32⟩
  | 11 => ⟨S8x32x128x128, .f32⟩
  | 12 => ⟨S8x32x128x1, .f32⟩
  | 13 => ⟨S8x32x1x128, .f32⟩
  | 14 => ⟨S8x32x128x128, .f32⟩
  | 15 => ⟨S8x32x128x128, .f32⟩
  | 16 => ⟨S8x32x128x128, .f32⟩
  | 17 => ⟨S8x32x128x128, .f32⟩
  | 18 => ⟨S8x32x128, .f32⟩
  | 19 => ⟨S_, .f32⟩
  | 20 => ⟨S8x32, .f32⟩
  | 21 => ⟨S8x32x1, .f32⟩
  | 22 => ⟨S_, .f32⟩
  | 23 => ⟨S8x32x1, .f32⟩
  | 24 => ⟨S8x32x1, .f32⟩
  | 25 => ⟨S_, .f32⟩
  | 26 => ⟨S8x32x1, .f32⟩
  | 27 => ⟨S8x32x1, .f32⟩
  | 28 => ⟨S8x32x1, .f32⟩
  | 29 => ⟨S8x32x128, .f32⟩
  | 30 => ⟨S8x32x128, .f32⟩
  | 31 => ⟨S1x1x128, .f32⟩
  | 32 => ⟨S8x32x128, .f32⟩
  | 33 => ⟨S8x32x128, .f32⟩
  | 34 => ⟨S8x32x128, .f32⟩
  | 35 => ⟨S8x32x128, .f32⟩
  | 36 => ⟨S8x32x128, .f32⟩
  | 37 => ⟨S_, .f32⟩
  | 38 => ⟨S8x32x128, .f32⟩
  | 39 => ⟨S8x32x128, .f32⟩
  | 40 => ⟨S_, .f32⟩
  | 41 => ⟨S8x32x128, .f32⟩
  | 42 => ⟨S8x32x128, .f32⟩
  | 43 => ⟨S8x32x128, .f32⟩
  | 44 => ⟨S8x32x128, .f32⟩
  | 45 => ⟨S8x4096, .f32⟩
  | _ => ⟨S8x12288, .f32⟩

abbrev hbmTy (i : Nat) : BufTy := match i / 128 with
  | 0 => hbmTy0_0 i
  | 1 => hbmTy0_1 i
  | _ => ⟨S8x12288, .f32⟩

abbrev bufTy : (tb : Table) → Fin (tcTables nBuf tb) → BufTy
  | .hbm, ⟨i, _⟩ => hbmTy i
  | _, _ => ⟨S8x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst : Ref sig .tc := ⟨.hbm, 54, rfl⟩
abbrev main_v38 : Ref sig .tc := ⟨.hbm, 55, rfl⟩
abbrev main_v39 : Ref sig .tc := ⟨.hbm, 56, rfl⟩
abbrev main_cst_0 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_1 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_2 : Ref sig .tc := ⟨.hbm, 70, rfl⟩
abbrev main_v51 : Ref sig .tc := ⟨.hbm, 71, rfl⟩
abbrev main_v52 : Ref sig .tc := ⟨.hbm, 72, rfl⟩
abbrev main_cst_3 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_4 : Ref sig .tc := ⟨.hbm, 85, rfl⟩
abbrev main_v64 : Ref sig .tc := ⟨.hbm, 86, rfl⟩
abbrev main_v65 : Ref sig .tc := ⟨.hbm, 87, rfl⟩
abbrev main_cst_5 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_call1_cst : Ref sig .tc := ⟨.hbm, 97, rfl⟩
abbrev main_call1_v0 : Ref sig .tc := ⟨.hbm, 98, rfl⟩
abbrev main_call1_v1 : Ref sig .tc := ⟨.hbm, 99, rfl⟩
abbrev main_call1_v2 : Ref sig .tc := ⟨.hbm, 100, rfl⟩
abbrev main_call1_v3 : Ref sig .tc := ⟨.hbm, 101, rfl⟩
abbrev main_call1_v4 : Ref sig .tc := ⟨.hbm, 102, rfl⟩
abbrev main_call1_v5 : Ref sig .tc := ⟨.hbm, 103, rfl⟩
abbrev main_call1_v6 : Ref sig .tc := ⟨.hbm, 104, rfl⟩
abbrev main_call1_v7 : Ref sig .tc := ⟨.hbm, 105, rfl⟩
abbrev main_call1_v8 : Ref sig .tc := ⟨.hbm, 106, rfl⟩
abbrev main_call1_v9 : Ref sig .tc := ⟨.hbm, 107, rfl⟩
abbrev main_call1_v10 : Ref sig .tc := ⟨.hbm, 108, rfl⟩
abbrev main_call1_v11 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_cst_6 : Ref sig .tc := ⟨.hbm, 147, rfl⟩
abbrev main_v111 : Ref sig .tc := ⟨.hbm, 148, rfl⟩
abbrev main_v112 : Ref sig .tc := ⟨.hbm, 149, rfl⟩
abbrev main_cst_7 : Ref sig .tc := ⟨.hbm, 150, rfl⟩
abbrev main_v113 : Ref sig .tc := ⟨.hbm, 151, rfl⟩
abbrev main_v114 : Ref sig .tc := ⟨.hbm, 152, rfl⟩
abbrev main_cst_8 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_call2_v0 : Ref sig .tc := ⟨.hbm, 163, rfl⟩
abbrev main_call2_v1 : Ref sig .tc := ⟨.hbm, 164, rfl⟩
abbrev main_call2_cst : Ref sig .tc := ⟨.hbm, 165, rfl⟩
abbrev main_call2_v2 : Ref sig .tc := ⟨.hbm, 166, rfl⟩
abbrev main_call2_v3 : Ref sig .tc := ⟨.hbm, 167, rfl⟩
abbrev main_call2_cst_0 : Ref sig .tc := ⟨.hbm, 168, rfl⟩
abbrev main_call2_v4 : Ref sig .tc := ⟨.hbm, 169, rfl⟩
abbrev main_call2_v5 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩

abbrev nD : Nat := 1
abbrev τ : Topo := Topo.v7x

variable {F : FTy → Type} [FloatOps F]
-- ==== Proof.Products.lean ====
/-
  A product of two matrices read at an index, over the extended reals: the row by the column, for the dimension numbers every
  product of this certificate has, and the index of a block's element in its array.
-/
module

public import Idealize.ShloMosaic.Lib.MatmulPlain
public import Idealize.ShloMosaic.Lib.ValueIdx
public import Idealize.ShloMosaic.Lib.Pipeline.ValueKit

@[expose] public section

noncomputable section

namespace Cert.Products

open Idealize.ShloMosaic hiding ix1 ix2 ix3
open Idealize.ShloMosaic.ValueIdx

/-- A product accumulated onto the zero constant is, at row `r` and column `c`, the sum over the contracted coordinate. -/
theorem matmul_zero_apply {M K N : ℕ} {φ₁ φ₂ : FTy} (d : DotDims ⟨2, ![M, K]⟩ ⟨2, ![K, N]⟩ ⟨2, ![M, N]⟩) (hd : d = DotDims.plain M K N)
    (x : FVec Ideal ⟨2, ![M, K]⟩ φ₁) (w : FVec Ideal ⟨2, ![K, N]⟩ φ₂) (r : Fin M) (c : Fin N) :
    matmul d none x w (constant ⟨2, ![M, N]⟩ .f32 0x00000000#32) (ix2 r c) = ∑ k : Fin K, x (ix2 r k) * w (ix2 k c) := by
  subst hd
  show FloatOps.matmul (DotDims.plain M K N) none x w _ (ix2 r c) = _
  rw [Ideal.matmul_plain_apply]
  show Ideal.ofBits .f32 0x00000000#32 + _ = _
  rw [Ideal.ofBits_zero_f32, zero_add]

/-- The same for a second factor laid out columns first. -/
theorem matmulT_zero_apply {M K N : ℕ} {φ₁ φ₂ : FTy} (d : DotDims ⟨2, ![M, K]⟩ ⟨2, ![N, K]⟩ ⟨2, ![M, N]⟩) (hd : d = DotDims.transposedRhs M K N)
    (x : FVec Ideal ⟨2, ![M, K]⟩ φ₁) (w : FVec Ideal ⟨2, ![N, K]⟩ φ₂) (r : Fin M) (c : Fin N) :
    matmul d none x w (constant ⟨2, ![M, N]⟩ .f32 0x00000000#32) (ix2 r c) = ∑ k : Fin K, x (ix2 r k) * w (ix2 c k) := by
  subst hd
  show FloatOps.matmul (DotDims.transposedRhs M K N) none x w _ (ix2 r c) = _
  rw [Ideal.matmul_transposedRhs_apply]
  show Ideal.ofBits .f32 0x00000000#32 + _ = _
  rw [Ideal.ofBits_zero_f32, zero_add]

/-- A block `1 × K × N` cast to `K × N` reads the same element. -/
theorem drop_apply {α : Type} {K N : ℕ} (x : (⟨3, ![1, K, N]⟩ : Shape).Idx → α) (h : (⟨3, ![1, K, N]⟩ : Shape).ShapeCasts ⟨2, ![K, N]⟩)
    (k : Fin K) (c : Fin N) : shapeCast ⟨2, ![K, N]⟩ x h (ix2 k c) = x (ix3 0 k c) :=
  shapeCast_apply x h (ix2 k c) (ix3 0 k c) (by
    rewrite [Shape.rowMajor_val_three, Shape.rowMajor_val_two]; show (0 * K + k.val) * N + c.val = k.val * N + c.val
    rw [Nat.zero_mul, Nat.zero_add])

/-- A row of 2048 entries normalised by its root mean square and weighted, at an index: the mean is the sum of squares over 2048
    (the first constant), the second constant is the norm's 1e-6. -/
def normed (x w : Fin 2048 → EReal) (k : Fin 2048) : EReal :=
  x k * Ideal.rsqrt (Ideal.div (∑ j, x j * x j) (Ideal.ofBits .f32 0x45000000#32) + Ideal.ofBits .f32 0x358637BD#32) * w k

end Cert.Products

end
-- ==== Proof.DownValue.lean ====
/-
  The down projection: the array the kernel leaves is the residual plus the product of the activations by the down weights,
  read index by index.
-/
module

public import proofs.«01_k».proof.Defs
public import proofs.«01_k».proof.Proof.Products
public import proofs.«01_k».proof.Proof.Gen.DownIdeal.Value
public import proofs.«01_k».proof.Proof.Gen.DownRefIdeal.Read
public import Idealize.ShloMosaic.Lib.Quiescent

@[expose] public section

set_option maxRecDepth 16384

noncomputable section

namespace Cert.DownProof

open Cert.DownIdeal Cert.DownIdeal.Gen
open Idealize.ShloMosaic hiding ix1 ix2 ix3 eq_ix2
open Idealize.ShloMosaic.TcCoe Idealize.ShloMosaic.ValueIdx Idealize.SL.Sem
open Idealize.ShloMosaic.Pipeline (Dat)

variable (m : (ℓ : Loc nD τ sig) → Buf (Elt Ideal) ℓ)

/-- Which block each window is on at a point: rows by the point's quotient by 8, columns by its remainder. -/
theorem idx0 : ∀ t : Fin cfg0.N, win0_0.index t = ![t.val / 8, 0] := (by decide +kernel : ∀ t : Fin grid0.N, _)
theorem idx1 : ∀ t : Fin cfg0.N, win0_1.index t = ![0, 0, t.val % 8] := (by decide +kernel : ∀ t : Fin grid0.N, _)
theorem idx2 : ∀ t : Fin cfg0.N, win0_2.index t = ![t.val / 8, t.val % 8] := (by decide +kernel : ∀ t : Fin grid0.N, _)
theorem idx3 : ∀ t : Fin cfg0.N, win0_3.index t = ![t.val / 8, t.val % 8] := (by decide +kernel : ∀ t : Fin grid0.N, _)

/-- The residual plus the product, at row `r` and column `c`. -/
def full (a : S8192x5504.Idx → EReal) (w : S4x5504x2048.Idx → EReal) (x : S8192x2048.Idx → EReal) : S8192x2048.Idx → EReal :=
  fun i => x i + ∑ k : Fin 5504, a (ix2 (i 0) k) * w (ix3 0 k (i 1))

/-- The body's one payload at an index. -/
theorem pay_apply (v0 : Vec Ideal S1024x256 .f32) (v1 : Vec Ideal S1024x5504 .bf16) (v2 : Vec Ideal S1x5504x256 .f32)
    (r : Fin 1024) (c : Fin 256) :
    k0_pay1 v0 v1 v2 (ix2 r c) = (v0 (ix2 r c) + ∑ k : Fin 5504, v1 (ix2 r k) * v2 (ix3 0 k c) : EReal) := by
  unfold k0_pay1
  refine congrArg (v0 (ix2 r c) + ·) ((Products.matmul_zero_apply _ rfl _ _ r c).trans ?_)
  refine (Finset.sum_congr rfl fun k _ => congrArg _ ?_)
  exact Products.drop_apply v2 _ k c

/-- The array the kernel leaves. -/
theorem final (c : Dev nD) : (dats m 0 c).arrAt 3 cfg0.N
    = full (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  obtain ⟨r, q, rfl⟩ : ∃ (r : Fin 1024) (q : Fin 256), y = ix2 r q := ⟨y 0, y 1, eq_ix2 y⟩
  have ht : t.val < 64 := t.isLt
  have e : ((View.whole main_v0).slice (win0_3.rect t)).emb (ix2 r q)
      = (ix2 ⟨t.val / 8 * 1024 + r.val, by have := r.isLt; omega⟩ ⟨t.val % 8 * 256 + q.val, by have := q.isLt; omega⟩ : S8192x2048.Idx) := by
    blk_ext [idx3, ix2_0, ix2_1]
  rw [pay_apply, e]
  blk_simp [iblk, full]
  refine congrArg₂ (· + ·) (congrArg _ ?_) (Finset.sum_congr rfl fun k _ => congrArg₂ (· * ·) (congrArg _ ?_) (congrArg _ ?_))
  · blk_ext [idx2, ix2_0, ix2_1]
  · blk_ext [idx0, ix2_0, ix2_1]
  · blk_ext [idx1, ix3_0, ix3_1, ix3_2, ix2_1]

/-- The run, read: the result at the residual plus the product, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v0)
        = full (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (DownIdeal.Value.run_blocks m ρ)

/-- The reference's last value is the same function. -/
theorem ref_eq (a : S8192x5504.Idx → EReal) (w : S4x5504x2048.Idx → EReal) (x : S8192x2048.Idx → EReal) :
    DownRefIdeal.Read.val_main_v4 (F := Ideal) a w x = full a w x := by
  funext i
  rw [DownRefIdeal.Read.val_main_v4_apply]
  refine congrArg (x i + ·) ?_
  rw [DownRefIdeal.Read.val_main_v3_apply]
  refine Finset.sum_congr rfl fun k _ => congrArg₂ (· * ·) (congrArg a ?_) ?_
  · funext d; fin_cases d <;> rfl
  · rw [DownRefIdeal.Read.val_main_v2_apply, DownRefIdeal.Read.val_main_v1_apply]
    refine congrArg w (funext fun d => Fin.ext ?_)
    have h0 : k.val < 5504 := k.isLt
    have h1 : (i 1).val < 2048 := (i 1).isLt
    match d with
    | ⟨0, _⟩ => rfl
    | ⟨1, _⟩ => show (k.val * 2048 + (i 1).val) / 2048 % 5504 = k.val; omega
    | ⟨2, _⟩ => show (k.val * 2048 + (i 1).val) % 2048 = (i 1).val; omega

/-- Kernel and reference run, and from equal arguments end at the same array. -/
theorem algebraic : Cert.algebraic_DownIdeal_DownRefIdeal (hDownIdeal := DownIdeal.Gen.facts) (hDownRefIdeal := DownRefIdeal.Gen.facts) := by
  intro m g m' g' _ hargs
  refine ⟨fun c => full (m ((c.tc : Thread _ _).loc main_arg0)) (m ((c.tc : Thread _ _).loc main_arg1))
    (m ((c.tc : Thread _ _).loc main_arg2)), run m g, ?_⟩
  refine (θ_run (DownRefIdeal.defs (F := Ideal)) _ _).mono (fun r h c => ?_) (DownRefIdeal.Value.run (F := Ideal) m' g')
  obtain ⟨hv, h0, h1, h2⟩ := h c
  refine ⟨hv.trans ?_, h0, h1, h2⟩
  rw [(hargs c).1, (hargs c).2.1, (hargs c).2.2]
  exact (DownRefIdeal.Read.val_main_v4_eq _ _ _).trans (ref_eq _ _ _)

/-- The reference's frame: its run, read at the arguments; it has no semaphore. -/
theorem frame_ref : Cert.quiescent_DownRefIdeal (hDownRefIdeal := DownRefIdeal.Gen.facts) := fun m ρ _ =>
  (θ_run DownRefIdeal.defs _ _).mono (fun r h => ⟨fun c => (h c).2, Idealize.ShloMosaic.sem_eq_zero_of_no_sems (by decide) r.2⟩)
    (DownRefIdeal.Value.run (F := Ideal) m ρ)

end Cert.DownProof

end
-- ==== Proof.COutValue.lean ====
/-
  The output projection of the recurrent mixer: the array the kernel leaves is the residual plus the product of its argument by
  the weights,
  read index by index.
-/
module

public import proofs.«01_k».proof.Defs
public import proofs.«01_k».proof.Proof.Products
public import proofs.«01_k».proof.Proof.Gen.COutIdeal.Value
public import proofs.«01_k».proof.Proof.Gen.COutRefIdeal.Read
public import Idealize.ShloMosaic.Lib.Quiescent

@[expose] public section

set_option maxRecDepth 16384

noncomputable section

namespace Cert.COutProof

open Cert.COutIdeal Cert.COutIdeal.Gen
open Idealize.ShloMosaic hiding ix1 ix2 ix3 eq_ix2
open Idealize.ShloMosaic.TcCoe Idealize.ShloMosaic.ValueIdx Idealize.SL.Sem
open Idealize.ShloMosaic.Pipeline (Dat)

variable (m : (ℓ : Loc nD τ sig) → Buf (Elt Ideal) ℓ)

/-- Which block each window is on at a point: rows by the point's quotient by 4, columns by its remainder. -/
theorem idx0 : ∀ t : Fin cfg0.N, win0_0.index t = ![t.val / 4, 0] := (by decide +kernel : ∀ t : Fin grid0.N, _)
theorem idx1 : ∀ t : Fin cfg0.N, win0_1.index t = ![0, 0, t.val % 4] := (by decide +kernel : ∀ t : Fin grid0.N, _)
theorem idx2 : ∀ t : Fin cfg0.N, win0_2.index t = ![t.val / 4, t.val % 4] := (by decide +kernel : ∀ t : Fin grid0.N, _)
theorem idx3 : ∀ t : Fin cfg0.N, win0_3.index t = ![t.val / 4, t.val % 4] := (by decide +kernel : ∀ t : Fin grid0.N, _)

/-- The residual plus the product, at row `r` and column `c`. -/
def full (a : S8192x4096.Idx → EReal) (w : S2x4096x2048.Idx → EReal) (x : S8192x2048.Idx → EReal) : S8192x2048.Idx → EReal :=
  fun i => x i + ∑ k : Fin 4096, a (ix2 (i 0) k) * w (ix3 0 k (i 1))

/-- The body's one payload at an index. -/
theorem pay_apply (v0 : Vec Ideal S1024x512 .f32) (v1 : Vec Ideal S1024x4096 .bf16) (v2 : Vec Ideal S1x4096x512 .f32)
    (r : Fin 1024) (c : Fin 512) :
    k0_pay1 v0 v1 v2 (ix2 r c) = (v0 (ix2 r c) + ∑ k : Fin 4096, v1 (ix2 r k) * v2 (ix3 0 k c) : EReal) := by
  unfold k0_pay1
  refine congrArg (v0 (ix2 r c) + ·) ((Products.matmul_zero_apply _ rfl _ _ r c).trans ?_)
  refine (Finset.sum_congr rfl fun k _ => congrArg _ ?_)
  exact Products.drop_apply v2 _ k c

/-- The array the kernel leaves. -/
theorem final (c : Dev nD) : (dats m 0 c).arrAt 3 cfg0.N
    = full (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  obtain ⟨r, q, rfl⟩ : ∃ (r : Fin 1024) (q : Fin 512), y = ix2 r q := ⟨y 0, y 1, eq_ix2 y⟩
  have ht : t.val < 32 := t.isLt
  have e : ((View.whole main_v0).slice (win0_3.rect t)).emb (ix2 r q)
      = (ix2 ⟨t.val / 4 * 1024 + r.val, by have := r.isLt; omega⟩ ⟨t.val % 4 * 512 + q.val, by have := q.isLt; omega⟩ : S8192x2048.Idx) := by
    blk_ext [idx3, ix2_0, ix2_1]
  rw [pay_apply, e]
  blk_simp [iblk, full]
  refine congrArg₂ (· + ·) (congrArg _ ?_) (Finset.sum_congr rfl fun k _ => congrArg₂ (· * ·) (congrArg _ ?_) (congrArg _ ?_))
  · blk_ext [idx2, ix2_0, ix2_1]
  · blk_ext [idx0, ix2_0, ix2_1]
  · blk_ext [idx1, ix3_0, ix3_1, ix3_2, ix2_1]

/-- The run, read: the result at the residual plus the product, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v0)
        = full (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (COutIdeal.Value.run_blocks m ρ)

/-- The reference's last value is the same function. -/
theorem ref_eq (a : S8192x4096.Idx → EReal) (w : S2x4096x2048.Idx → EReal) (x : S8192x2048.Idx → EReal) :
    COutRefIdeal.Read.val_main_v4 (F := Ideal) a w x = full a w x := by
  funext i
  rw [COutRefIdeal.Read.val_main_v4_apply]
  refine congrArg (x i + ·) ?_
  rw [COutRefIdeal.Read.val_main_v3_apply]
  refine Finset.sum_congr rfl fun k _ => congrArg₂ (· * ·) (congrArg a ?_) ?_
  · funext d; fin_cases d <;> rfl
  · rw [COutRefIdeal.Read.val_main_v2_apply, COutRefIdeal.Read.val_main_v1_apply]
    refine congrArg w (funext fun d => Fin.ext ?_)
    have h0 : k.val < 4096 := k.isLt
    have h1 : (i 1).val < 2048 := (i 1).isLt
    match d with
    | ⟨0, _⟩ => rfl
    | ⟨1, _⟩ => show (k.val * 2048 + (i 1).val) / 2048 % 4096 = k.val; omega
    | ⟨2, _⟩ => show (k.val * 2048 + (i 1).val) % 2048 = (i 1).val; omega

/-- Kernel and reference run, and from equal arguments end at the same array. -/
theorem algebraic : Cert.algebraic_COutIdeal_COutRefIdeal (hCOutIdeal := COutIdeal.Gen.facts) (hCOutRefIdeal := COutRefIdeal.Gen.facts) := by
  intro m g m' g' _ hargs
  refine ⟨fun c => full (m ((c.tc : Thread _ _).loc main_arg0)) (m ((c.tc : Thread _ _).loc main_arg1))
    (m ((c.tc : Thread _ _).loc main_arg2)), run m g, ?_⟩
  refine (θ_run (COutRefIdeal.defs (F := Ideal)) _ _).mono (fun r h c => ?_) (COutRefIdeal.Value.run (F := Ideal) m' g')
  obtain ⟨hv, h0, h1, h2⟩ := h c
  refine ⟨hv.trans ?_, h0, h1, h2⟩
  rw [(hargs c).1, (hargs c).2.1, (hargs c).2.2]
  exact (COutRefIdeal.Read.val_main_v4_eq _ _ _).trans (ref_eq _ _ _)

/-- The reference's frame: its run, read at the arguments; it has no semaphore. -/
theorem frame_ref : Cert.quiescent_COutRefIdeal (hCOutRefIdeal := COutRefIdeal.Gen.facts) := fun m ρ _ =>
  (θ_run COutRefIdeal.defs _ _).mono (fun r h => ⟨fun c => (h c).2, Idealize.ShloMosaic.sem_eq_zero_of_no_sems (by decide) r.2⟩)
    (COutRefIdeal.Value.run (F := Ideal) m ρ)

end Cert.COutProof

end
-- ==== Proof.AbOutValue.lean ====
/-
  The output projection of the two-branch mixer: the array the kernel leaves is the residual plus the products of the two
  branches by the two halves of the weights' rows, which is the residual plus one product of the branches side by side.
-/
module

public import proofs.«01_k».proof.Defs
public import proofs.«01_k».proof.Proof.Products
public import proofs.«01_k».proof.Proof.Gen.AbOutIdeal.Value
public import proofs.«01_k».proof.Proof.Gen.AbOutRefIdeal.Read
public import Idealize.ShloMosaic.Lib.Quiescent

@[expose] public section

set_option maxRecDepth 16384

noncomputable section

namespace Cert.AbOutProof

open Cert.AbOutIdeal Cert.AbOutIdeal.Gen
open Idealize.ShloMosaic hiding ix1 ix2 ix3 eq_ix2
open Idealize.ShloMosaic.TcCoe Idealize.ShloMosaic.ValueIdx Idealize.SL.Sem
open Idealize.ShloMosaic.Pipeline (Dat)

variable (m : (ℓ : Loc nD τ sig) → Buf (Elt Ideal) ℓ)

/-- Which block each window is on at a point: rows by the point's quotient by 4, columns by its remainder; the two windows
    on the weights are on its upper and its lower rows. -/
theorem idx0 : ∀ t : Fin cfg0.N, win0_0.index t = ![t.val / 4, 0] := (by decide +kernel : ∀ t : Fin grid0.N, _)
theorem idx1 : ∀ t : Fin cfg0.N, win0_1.index t = ![t.val / 4, 0] := (by decide +kernel : ∀ t : Fin grid0.N, _)
theorem idx2 : ∀ t : Fin cfg0.N, win0_2.index t = ![0, 0, t.val % 4] := (by decide +kernel : ∀ t : Fin grid0.N, _)
theorem idx3 : ∀ t : Fin cfg0.N, win0_3.index t = ![0, 1, t.val % 4] := (by decide +kernel : ∀ t : Fin grid0.N, _)
theorem idx4 : ∀ t : Fin cfg0.N, win0_4.index t = ![t.val / 4, t.val % 4] := (by decide +kernel : ∀ t : Fin grid0.N, _)
theorem idx5 : ∀ t : Fin cfg0.N, win0_5.index t = ![t.val / 4, t.val % 4] := (by decide +kernel : ∀ t : Fin grid0.N, _)

/-- The residual plus the two products, at row `r` and column `c`. -/
def full (a b : S8192x1024.Idx → EReal) (w : S2x2048x2048.Idx → EReal) (x : S8192x2048.Idx → EReal) : S8192x2048.Idx → EReal :=
  fun i => x i + ∑ k : Fin 1024, a (ix2 (i 0) k) * w (ix3 0 (Fin.castAdd 1024 k) (i 1))
    + ∑ k : Fin 1024, b (ix2 (i 0) k) * w (ix3 0 (Fin.natAdd 1024 k) (i 1))

/-- The body's one payload at an index. -/
theorem pay_apply (v0 : Vec Ideal S1024x512 .f32) (v1 : Vec Ideal S1024x1024 .bf16) (v2 : Vec Ideal S1x1024x512 .f32)
    (v7 : Vec Ideal S1024x1024 .bf16) (v8 : Vec Ideal S1x1024x512 .f32) (r : Fin 1024) (c : Fin 512) :
    k0_pay1 v0 v1 v2 v7 v8 (ix2 r c) = (v0 (ix2 r c) + ∑ k : Fin 1024, v1 (ix2 r k) * v2 (ix3 0 k c)
      + ∑ k : Fin 1024, v7 (ix2 r k) * v8 (ix3 0 k c) : EReal) := by
  unfold k0_pay1
  refine congrArg₂ (· + ·) (congrArg (v0 (ix2 r c) + ·) ((Products.matmul_zero_apply _ rfl _ _ r c).trans ?_))
    ((Products.matmul_zero_apply _ rfl _ _ r c).trans ?_)
  · exact Finset.sum_congr rfl fun k _ => congrArg _ (Products.drop_apply v2 _ k c)
  · exact Finset.sum_congr rfl fun k _ => congrArg _ (Products.drop_apply v8 _ k c)

/-- The array the kernel leaves. -/
theorem final (c : Dev nD) : (dats m 0 c).arrAt 5 cfg0.N
    = full (m ((c : Thread nD τ).loc main_arg0)) (m ((c : Thread nD τ).loc main_arg1)) (m ((c : Thread nD τ).loc main_arg2))
        (m ((c : Thread nD τ).loc main_arg3)) := by
  refine (dats m 0 c).arrAt_eq_of_covers 5 _ (by decide +kernel) fun t hf y => ?_
  blk_simp
  rw [after0_5]
  frame_out
  obtain ⟨r, q, rfl⟩ : ∃ (r : Fin 1024) (q : Fin 512), y = ix2 r q := ⟨y 0, y 1, eq_ix2 y⟩
  have ht : t.val < 32 := t.isLt
  have e : ((View.whole main_v0).slice (win0_5.rect t)).emb (ix2 r q)
      = (ix2 ⟨t.val / 4 * 1024 + r.val, by have := r.isLt; omega⟩ ⟨t.val % 4 * 512 + q.val, by have := q.isLt; omega⟩ : S8192x2048.Idx) := by
    blk_ext [idx5, ix2_0, ix2_1]
  rw [pay_apply, e]
  blk_simp [iblk, full]
  refine congrArg₂ (· + ·) (congrArg₂ (· + ·) (congrArg _ ?_)
      (Finset.sum_congr rfl fun k _ => congrArg₂ (· * ·) (congrArg _ ?_) (congrArg _ ?_)))
    (Finset.sum_congr rfl fun k _ => congrArg₂ (· * ·) (congrArg _ ?_) (congrArg _ ?_))
  · blk_ext [idx4, ix2_0, ix2_1]
  · blk_ext [idx0, ix2_0, ix2_1]
  · blk_ext [idx2, ix3_0, ix3_1, ix3_2, ix2_1, Fin.val_castAdd]
  · blk_ext [idx1, ix2_0, ix2_1]
  · blk_ext [idx3, ix3_0, ix3_1, ix3_2, ix2_1, Fin.val_natAdd]

/-- The run, read: the result at the residual plus the two products, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v0)
        = full (m ((c : Thread nD τ).loc main_arg0)) (m ((c : Thread nD τ).loc main_arg1)) (m ((c : Thread nD τ).loc main_arg2))
            (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (AbOutIdeal.Value.run_blocks m ρ)

/-- The branches side by side, read on the left half and on the right half. -/
theorem cat_left (a b : S8192x1024.Idx → EReal) (r : Fin 8192) (k : Fin 1024) :
    AbOutRefIdeal.Read.val_main_v2 (F := Ideal) a b (ix2 r (Fin.castAdd 1024 k)) = a (ix2 r k) := by
  unfold AbOutRefIdeal.Read.val_main_v2
  exact concatenate_pair_apply_left (t := S8192x2048) (s₁ := S8192x1024) (s₂ := S8192x1024) (1 : Fin 2) a b _ (ix2 r (Fin.castAdd 1024 k)) rfl
    (ix2 r k) (fun d => match d with | ⟨0, _⟩ => rfl | ⟨1, _⟩ => rfl)
theorem cat_right (a b : S8192x1024.Idx → EReal) (r : Fin 8192) (k : Fin 1024) :
    AbOutRefIdeal.Read.val_main_v2 (F := Ideal) a b (ix2 r (Fin.natAdd 1024 k)) = b (ix2 r k) := by
  unfold AbOutRefIdeal.Read.val_main_v2
  exact concatenate_pair_apply_right (t := S8192x2048) (s₁ := S8192x1024) (s₂ := S8192x1024) (1 : Fin 2) a b _ (ix2 r (Fin.natAdd 1024 k)) rfl rfl
    (ix2 r k)
    (fun d hd => match d with | ⟨0, _⟩ => rfl | ⟨1, _⟩ => absurd rfl hd) (Nat.add_comm _ _)

/-- The reference's weights at an index. -/
theorem w_apply (w : S2x2048x2048.Idx → EReal) (k c : Fin 2048) :
    AbOutRefIdeal.Read.val_main_v4 (F := Ideal) w (ix2 k c) = w (ix3 0 k c) := by
  rw [AbOutRefIdeal.Read.val_main_v4_apply, AbOutRefIdeal.Read.val_main_v3_apply]
  refine congrArg w (funext fun d => Fin.ext ?_)
  have h0 : k.val < 2048 := k.isLt
  have h1 : c.val < 2048 := c.isLt
  match d with
  | ⟨0, _⟩ => rfl
  | ⟨1, _⟩ => show (k.val * 2048 + c.val) / 2048 % 2048 = k.val; omega
  | ⟨2, _⟩ => show (k.val * 2048 + c.val) % 2048 = c.val; omega

/-- The reference's last value is the same function. -/
theorem ref_eq (a b : S8192x1024.Idx → EReal) (w : S2x2048x2048.Idx → EReal) (x : S8192x2048.Idx → EReal) :
    AbOutRefIdeal.Read.val_main_v6 (F := Ideal) a b w x = full a b w x := by
  funext i
  obtain ⟨r, q, rfl⟩ : ∃ (r : Fin 8192) (q : Fin 2048), i = ix2 r q := ⟨i 0, i 1, eq_ix2 i⟩
  rw [AbOutRefIdeal.Read.val_main_v6_apply]
  refine (congrArg (x (ix2 r q) + ·) ?_).trans (add_assoc _ _ _).symm
  rw [AbOutRefIdeal.Read.val_main_v5_apply]
  refine (Fin.sum_univ_add (a := 1024) (b := 1024) _).trans (congrArg₂ (· + ·) ?_ ?_)
  · refine Finset.sum_congr rfl fun k _ => congrArg₂ (· * ·) ?_ ?_
    · exact (congrArg _ (by funext d; fin_cases d <;> rfl)).trans (cat_left a b r k)
    · exact (congrArg _ (by funext d; fin_cases d <;> rfl)).trans (w_apply w _ q)
  · refine Finset.sum_congr rfl fun k _ => congrArg₂ (· * ·) ?_ ?_
    · exact (congrArg _ (by funext d; fin_cases d <;> rfl)).trans (cat_right a b r k)
    · exact (congrArg _ (by funext d; fin_cases d <;> rfl)).trans (w_apply w _ q)

/-- Kernel and reference run, and from equal arguments end at the same array. -/
theorem algebraic : Cert.algebraic_AbOutIdeal_AbOutRefIdeal (hAbOutIdeal := AbOutIdeal.Gen.facts) (hAbOutRefIdeal := AbOutRefIdeal.Gen.facts) := by
  intro m g m' g' _ hargs
  refine ⟨fun c => full (m ((c.tc : Thread _ _).loc main_arg0)) (m ((c.tc : Thread _ _).loc main_arg1))
    (m ((c.tc : Thread _ _).loc main_arg2)) (m ((c.tc : Thread _ _).loc main_arg3)), run m g, ?_⟩
  refine (θ_run (AbOutRefIdeal.defs (F := Ideal)) _ _).mono (fun r h c => ?_) (AbOutRefIdeal.Value.run (F := Ideal) m' g')
  obtain ⟨hv, h0, h1, h2, h3⟩ := h c
  refine ⟨hv.trans ?_, h0, h1, h2, h3⟩
  rw [(hargs c).1, (hargs c).2.1, (hargs c).2.2.1, (hargs c).2.2.2]
  exact (AbOutRefIdeal.Read.val_main_v6_eq _ _ _ _).trans (ref_eq _ _ _ _)

/-- The reference's frame: its run, read at the arguments; it has no semaphore. -/
theorem frame_ref : Cert.quiescent_AbOutRefIdeal (hAbOutRefIdeal := AbOutRefIdeal.Gen.facts) := fun m ρ _ =>
  (θ_run AbOutRefIdeal.defs _ _).mono (fun r h => ⟨fun c => (h c).2, Idealize.ShloMosaic.sem_eq_zero_of_no_sems (by decide) r.2⟩)
    (AbOutRefIdeal.Value.run (F := Ideal) m ρ)

end Cert.AbOutProof

end
-- ==== Proof.CInBody.lean ====
/-
  The normalised input projection of the recurrent layers: what the kernel's body leaves at every grid point. The first point
  of a row of blocks stores the normalised rows into the kernel's scratch and the tail columns into the second output; every
  point multiplies the normalised rows by its block of the weights. So at every point the scratch holds the normalised rows of
  the point's row of blocks, and the second output's buffer the tail product of those rows.
-/
module

public import proofs.«01_k».proof.Defs
public import proofs.«01_k».proof.Proof.Gen.CInIdeal.Frame
public import proofs.«01_k».proof.Proof.Gen.CInIdeal.Skeleton
public import Idealize.ShloMosaic.Lib.Pipeline.ValueKit
public import Idealize.ShloMosaic.Lib.Pipeline.TableIdle
public import Idealize.ShloMosaic.Lib.VecWindow

@[expose] public section

set_option maxRecDepth 16384

noncomputable section

namespace Cert.CInProof

open Cert.CInIdeal Cert.CInIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The condition of the body's one branch: the point is the first of its row of blocks. -/
abbrev cond (i : grid0.Coords) : Prop := k0_cond1 i = 1#1

/-- It holds at the multiples of 12. -/
theorem cond_iff : ∀ t : Fin cfg0.N, cond (grid0.coords t) ↔ t.val % 12 = 0 :=
  (by decide +kernel : ∀ t : Fin grid0.N, cond (grid0.coords t) ↔ t.val % 12 = 0)

set_option maxHeartbeats 1000000 in
/-- The body at the first point of a row of blocks: the scratch ends with the normalised rows, the first output with their
    product with the weight block, the second with their product with the tail block. -/
theorem run_first (c : Dev nD) (i : grid0.Coords) (arg2 : Memref sig .tc .vmem S1024x2048 .f32) (harg2 : arg2.IsWhole) (arg3 : Memref sig .tc .vmem S1x2048 .f32) (harg3 : arg3.IsWhole)
    (arg4 : Memref sig .tc .vmem S1x1024x2048 .f32) (harg4 : arg4.IsWhole) (arg5 : Memref sig .tc .vmem S1x64x2048 .f32) (harg5 : arg5.IsWhole)
    (arg6 : Memref sig .tc .vmem S1024x1024 .f32) (harg6 : arg6.IsWhole) (arg7 : Memref sig .tc .vmem S1024x64 .f32) (harg7 : arg7.IsWhole)
    (arg8 : Memref sig .tc .vmem S1024x2048 .bf16) (harg8 : arg8.IsWhole) (hc : cond i)
    (x0 : Vec F S1024x2048 .f32) (x1 : Vec F S1x2048 .f32) (x2 : Vec F S1x1024x2048 .f32) (x3 : Vec F S1x64x2048 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ (∃ d, owns (c : Thread nD τ) arg7 fullShare d)
        ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k0_pay4 (k0_pay2 x0 x1) x2)
            ∗ owns (c : Thread nD τ) arg7 fullShare (k0_pay3 x0 x1 x3) ∗ owns (c : Thread nD τ) arg8 fullShare (k0_pay2 x0 x1)) -∗ K ⟨⟩))
      ⊢ wp frame (wpE (defs₀ (F := F)) Variants.none c none) E (cc0_norm_matmul i arg2 harg2 arg3 harg3 arg4 harg4 arg5 harg5 arg6 harg6 arg7 harg7 arg8 harg8) K := by
  simp only [cc0_norm_matmul_eq_skeleton]; unfold cc0_norm_matmul_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, Hk⟩
  obtain rfl := harg2.eq_unread hf0; obtain rfl := harg3.eq_unread hf1; obtain rfl := harg4.eq_unread hf2; obtain rfl := harg5.eq_unread hf3
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    refine (View.read_writes_full _ _ _ _ _).trans ?_
    frame_out
  isplitl [H5]
  · iexists _; isplitr; swap; · iexact H5
    ipureintro
    refine (View.read_writes_full _ _ _ _ _).trans ?_
    frame_out
  iexists _; isplitr; swap; · iexact HS0
  ipureintro
  refine (View.read_writes_full _ _ _ _ _).trans ?_
  frame_out

set_option maxHeartbeats 1000000 in
/-- The body at the other points: the scratch and the second output's buffer stay, the first output ends with the product of
    what the scratch holds by the weight block. -/
theorem run_next (c : Dev nD) (i : grid0.Coords) (arg2 : Memref sig .tc .vmem S1024x2048 .f32) (harg2 : arg2.IsWhole) (arg3 : Memref sig .tc .vmem S1x2048 .f32) (harg3 : arg3.IsWhole)
    (arg4 : Memref sig .tc .vmem S1x1024x2048 .f32) (harg4 : arg4.IsWhole) (arg5 : Memref sig .tc .vmem S1x64x2048 .f32) (harg5 : arg5.IsWhole)
    (arg6 : Memref sig .tc .vmem S1024x1024 .f32) (harg6 : arg6.IsWhole) (arg7 : Memref sig .tc .vmem S1024x64 .f32) (harg7 : arg7.IsWhole)
    (arg8 : Memref sig .tc .vmem S1024x2048 .bf16) (harg8 : arg8.IsWhole) (hc : ¬cond i)
    (x0 : Vec F S1024x2048 .f32) (x1 : Vec F S1x2048 .f32) (x2 : Vec F S1x1024x2048 .f32) (x3 : Vec F S1x64x2048 .f32)
    (x5 : Vec F S1024x64 .f32) (xs : Vec F S1024x2048 .bf16)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ owns (c : Thread nD τ) arg7 fullShare x5
        ∗ owns (c : Thread nD τ) arg8 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k0_pay4 xs x2)
            ∗ owns (c : Thread nD τ) arg7 fullShare x5 ∗ owns (c : Thread nD τ) arg8 fullShare xs) -∗ K ⟨⟩))
      ⊢ wp frame (wpE (defs₀ (F := F)) Variants.none c none) E (cc0_norm_matmul i arg2 harg2 arg3 harg3 arg4 harg4 arg5 harg5 arg6 harg6 arg7 harg7 arg8 harg8) K := by
  simp only [cc0_norm_matmul_eq_skeleton]; unfold cc0_norm_matmul_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs0, %hfs0, HS0⟩, Hk⟩
  obtain rfl := harg2.eq_unread hf0; obtain rfl := harg3.eq_unread hf1; obtain rfl := harg4.eq_unread hf2; obtain rfl := harg5.eq_unread hf3
  obtain rfl := harg7.eq_unread hf5; obtain rfl := harg8.eq_unread hfs0
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    refine (View.read_writes_full _ _ _ _ _).trans ?_
    frame_out
  isplitl [H5]
  · iexists _; isplitr; · ipureintro; exact harg7.read_unread _
    iexact H5
  iexists _; isplitr; · ipureintro; exact harg8.read_unread _
  iexact HS0

/-! ## What holds after each point -/

theorem index0 : ∀ t : Fin cfg0.N, win0_0.index t = ![t.val / 12, 0] := (by decide +kernel : ∀ t : Fin grid0.N, _)
theorem index1 : ∀ t : Fin cfg0.N, win0_1.index t = ![0, 0] := (by decide +kernel : ∀ t : Fin grid0.N, _)
theorem index3 : ∀ t : Fin cfg0.N, win0_3.index t = ![0, 192, 0] := (by decide +kernel : ∀ t : Fin grid0.N, _)

/-- The normalised rows of the point's row of blocks. -/
def rows (c : Dev nD) (t : Fin cfg0.N) : Vec F S1024x2048 .bf16 := k0_pay2 (iblk m c 0 t) (iblk m c 1 t)
/-- Their product with the tail block of the weights. -/
def tail (c : Dev nD) (t : Fin cfg0.N) : Vec F S1024x64 .f32 := k0_pay3 (iblk m c 0 t) (iblk m c 1 t) (iblk m c 3 t)

/-- The point before `t`. -/
abbrev prev (t : Fin cfg0.N) : Fin cfg0.N := ⟨t.val - 1, Nat.lt_of_le_of_lt (Nat.sub_le _ _) t.isLt⟩

/-- The blocks of rows, of the norm's weights and of the tail do not move inside a row of blocks. -/
theorem iblk0_prev (c : Dev nD) (t : Fin cfg0.N) (h : ¬t.val % 12 = 0) :
    (iblk m c 0 (prev t) : Vec F S1024x2048 .f32) = iblk m c 0 t := by
  funext y
  blk_simp [iblk]
  refine congrArg (V m c main_arg0) ?_
  have ht : t.val < 96 := lt_of_lt_of_eq t.isLt N_0
  blk_ext [index0]
theorem iblk1_prev (c : Dev nD) (t : Fin cfg0.N) :
    (iblk m c 1 (prev t) : Vec F S1x2048 .f32) = iblk m c 1 t := by
  funext y
  blk_simp [iblk]
  refine congrArg (V m c main_v1) ?_
  blk_ext [index1]
theorem iblk3_prev (c : Dev nD) (t : Fin cfg0.N) :
    (iblk m c 3 (prev t) : Vec F S1x64x2048 .f32) = iblk m c 3 t := by
  funext y
  blk_simp [iblk]
  refine congrArg (V m c main_v0) ?_
  blk_ext [index3]

theorem rows_prev (c : Dev nD) (t : Fin cfg0.N) (h : ¬t.val % 12 = 0) : rows m c (prev t) = rows m c t :=
  congrArg₂ (fun (a : Vec F S1024x2048 .f32) b => k0_pay2 a b) (iblk0_prev m c t h) (iblk1_prev m c t)
theorem tail_prev (c : Dev nD) (t : Fin cfg0.N) (h : ¬t.val % 12 = 0) : tail m c (prev t) = tail m c t := by
  refine (congrArg (fun a : Vec F S1024x2048 .f32 => k0_pay3 a (iblk m c 1 (prev t)) (iblk m c 3 (prev t))) (iblk0_prev m c t h)).trans ?_
  exact congrArg₂ (fun (a : Vec F S1x2048 .f32) b => k0_pay3 (iblk m c 0 t) a b) (iblk1_prev m c t) (iblk3_prev m c t)

/-- The kernel's scratch. -/
abbrev scr : Memref sig .tc .vmem S1024x2048 .bf16 := Memref.whole cc0_scratch0

theorem PhiA_eq (c : Dev nD) :
    (Pipeline.ΦA spec0 c : sProp 𝕄)
      = iprop(iprop((∃ d, owns (c : Thread nD τ) scr fullShare d)) ∗ (∃ r, prngReg c r)) := by
  unfold Pipeline.ΦA; rw [scopedRest0_eq]; simp only [scr, owns_whole]; try rfl

/-- Between points the scratch holds the normalised rows of the point before. -/
def Phi (c : Dev nD) : (n : ℕ) → n ≤ cfg0.N → sProp 𝕄
  | 0, _ => Pipeline.ΦA spec0 c
  | n + 1, hn => iprop(iprop(owns (c : Thread nD τ) scr fullShare (rows m c ⟨n, hn⟩)) ∗ (∃ r, prngReg c r))

theorem Phi_zero (c : Dev nD) (n : ℕ) (h : n ≤ cfg0.N) (hz : n = 0) : Phi m c n h = Pipeline.ΦA spec0 c := by
  subst hz; rfl

theorem Phi_pos (c : Dev nD) (n : ℕ) (h : n ≤ cfg0.N) (hz : n ≠ 0) :
    Phi m c n h = iprop(iprop(owns (c : Thread nD τ) scr fullShare (rows m c ⟨n - 1, by omega⟩)) ∗ (∃ r, prngReg c r)) := by
  cases n with
  | zero => exact absurd rfl hz
  | succ n => rfl

/-- The proof data: each input's buffer at its block, the outputs' at the products, the scratch at the normalised rows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => iblk m c 3 t
    | ⟨4, _⟩ => k0_pay4 (rows m c t) (X0_2 m c t)
    | ⟨5, _⟩ => tail m c t
  Φ t := Phi m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = X0_2 m c t := by dsimp only [dats]
theorem after3 (c : Dev nD) (t : Fin cfg0.N) : (dats m 0 c).after 3 t = iblk m c 3 t := by dsimp only [dats]
theorem after4 (c : Dev nD) (t : Fin cfg0.N) : (dats m 0 c).after 4 t = k0_pay4 (rows m c t) (X0_2 m c t) := by dsimp only [dats]
theorem after5 (c : Dev nD) (t : Fin cfg0.N) : (dats m 0 c).after 5 t = tail m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = X0_2 m c t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-- The second output's buffer is idle at every point but the first of a row of blocks. -/
theorem idle5 : ∀ t : Fin cfg0.N, cfg0.idle 5 (cfg0.grid.coords t) = true ↔ ¬t.val % 12 = 0 :=
  (by decide +kernel : ∀ t : Fin grid0.N, cfg0.idle 5 (grid0.coords t) = true ↔ ¬t.val % 12 = 0)
theorem fresh5 : ∀ t : Fin cfg0.N, cfg0.fresh 5 t.val = true → t.val % 12 = 0 :=
  (by decide +kernel : ∀ t : Fin grid0.N, cfg0.fresh 5 t.val = true → t.val % 12 = 0)

/-- Inside a row of blocks the second output's buffer still holds the tail product: it is written back at the row's end only. -/
theorem before5 (c : Dev nD) (t : Fin cfg0.N) (h : ¬t.val % 12 = 0) (d) : (dats m 0 c).before 5 t d = tail m c t := by
  rw [(dats m 0 c).before_out_traj 5 rfl (fun _ _ => rfl)
    (fun t _ hi _ => by rw [after5, after5]; exact (tail_prev m c t ((idle5 t).mp hi)).symm) t.val t rfl d,
    if_neg (fun e => h (fresh5 t e)), after5]
  exact tail_prev m c t h

/-- So at every point the second output's buffer may be left at the tail product. -/
theorem leaves5 (c : Dev nD) (t : Fin cfg0.N) :
    owns (c : Thread nD τ) (st0_5 t) fullShare (tail m c t) ⊢ (dats m 0 c).leavesExact 5 t := by
  unfold Dat.leavesExact
  cases hi : cfg0.idle 5 (cfg0.grid.coords t) with
  | false => exact .rfl
  | true =>
    cases hf : (cfg0.win 5).flush t with
    | true => exact .rfl
    | false =>
      simp only [before5 m c t ((idle5 t).mp hi)]
      iintro H
      iexists (tail m c t); iexact H

/-! ## The body's obligation -/

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- Before any point the scratch holds something. -/
theorem Phi_any (c : Dev nD) (t : Fin cfg0.N) : Phi m c t.val (Nat.le_of_lt t.isLt)
    ⊢ iprop(iprop((∃ d, owns (c : Thread nD τ) scr fullShare d)) ∗ (∃ r, prngReg c r)) := by
  by_cases hz : t.val = 0
  · rw [Phi_zero m c _ _ hz, PhiA_eq]
  · rw [Phi_pos m c _ _ hz]
    iintro ⟨HS, Hg⟩
    isplitl [HS]; · iexists _; iexact HS
    iexact Hg

set_option maxHeartbeats 3200000 in
/-- The body at any point, by whether it is the first of its row of blocks. -/
theorem body_ok (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl, after0, after1, after2, after3, after4, after5]
  rw [show (dats m 0 c).Φ t.succ
    = iprop(iprop(owns (c : Thread nD τ) scr fullShare (rows m c t)) ∗ (∃ r, prngReg c r)) from rfl]
  rw [show (dats m 0 c).Φ t.castSucc = Phi m c t.val (Nat.le_of_lt t.isLt) from by
    dsimp only [dats]; exact Pipeline.Dat.Φ_castSucc (Phi m c) t]
  by_cases h0 : t.val % 12 = 0
  · refine BIBase.Entails.trans (Q := iprop(iprop(iprop((∃ d, owns (c : Thread nD τ) scr fullShare d)) ∗ (∃ r, prngReg c r)) ∗ _)) (sep_mono (Phi_any m c t) .rfl) ?_
    iintro ⟨⟨HS0, Hg⟩, Ho, ⟨%d0, H0⟩, ⟨%d1, H1⟩, ⟨%d2, H2⟩, ⟨%d3, H3⟩, ⟨%d4, H4⟩, ⟨%d5, H5⟩⟩
    iapply (run_first c (grid0.coords t) _ _ _ _ _ _ _ _ _ _ _ _ _ _ ((cond_iff t).mpr h0) (iblk m c 0 t) (iblk m c 1 t) (X0_2 m c t) (iblk m c 3 t) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    iintro ⟨H0, H1, H2, H3, H4, H5, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    isplitl [H4]; · iexact H4
    iexact H5
  · have hz : t.val ≠ 0 := fun e => h0 (by rw [e])
    rw [Phi_pos m c _ _ hz, rows_prev m c t h0]
    simp only [before5 m c t h0]
    iintro ⟨⟨HS0, Hg⟩, Ho, ⟨%d0, H0⟩, ⟨%d1, H1⟩, ⟨%d2, H2⟩, ⟨%d3, H3⟩, ⟨%d4, H4⟩, ⟨%d5, H5⟩⟩
    iapply (run_next c (grid0.coords t) _ _ _ _ _ _ _ _ _ _ _ _ _ _ (fun h => h0 ((cond_iff t).mp h)) (iblk m c 0 t) (iblk m c 1 t) (X0_2 m c t) (iblk m c 3 t) (tail m c t) (rows m c t) Set.univ _)
    isplitl [H0]; · iexact H0
    isplitl [H1]; · iexact H1
    isplitl [H2]; · iexact H2
    isplitl [H3]; · iexact H3
    isplitl [H4]; · iexists _; iexact H4
    isplitl [H5]; · iexact H5
    isplitl [HS0]; · iexact HS0
    iintro ⟨H0, H1, H2, H3, H4, H5, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    isplitl [H4]; · iexact H4
    iexact H5

theorem body_row (t : Fin cfg0.N) :
    defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, body_row]
  exact triple_restated (body_ok m c t) rfl .rfl fun _ =>
    sep_mono .rfl (sep_mono .rfl (sep_mono .rfl (sep_mono .rfl (sep_mono .rfl (sep_mono .rfl (sep_mono .rfl
      (leaves5 m c t)))))))

theorem hin (c : Dev nD) : Pipeline.ΦA spec0 c ⊢ (dats m 0 c).Φ 0 := by
  rw [show (dats m 0 c).Φ 0 = Phi m c 0 (Nat.zero_le _) from rfl, Phi_zero m c 0 _ rfl]

theorem hout (c : Dev nD) : (dats m 0 c).Φ (Fin.last cfg0.N) ⊢ Pipeline.ΦA spec0 c := by
  have hN : cfg0.N = 96 := N_0
  rw [show (dats m 0 c).Φ (Fin.last cfg0.N) = Phi m c cfg0.N (Nat.le_refl _) from rfl, Phi_pos m c _ _ (by omega), PhiA_eq]
  iintro ⟨HS0, Hg⟩
  isplitl [HS0]
  · iexists _; iexact HS0
  iexact Hg

/-! ## The run and the frame -/

set_option backward.isDefEq.respectTransparency.types false in
/-- Every execution ends, with every array at what the proof data say and every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_quiescent m ρ)

/-- The argument arrays end unchanged and the machine is quiescent. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_quiescent m ρ))

end Cert.CInProof

end
-- ==== Proof.CInValue.lean ====
/-
  The normalised input projection of the recurrent layers: the two arrays the kernel leaves are the normalised rows times the
  weights' first 12288 columns and times their last 64, read index by index.
-/
module

public import proofs.«01_k».proof.Defs
public import proofs.«01_k».proof.Proof.Products
public import proofs.«01_k».proof.Proof.CInBody
public import proofs.«01_k».proof.Proof.Gen.CIn.Frame
public import proofs.«01_k».proof.Proof.Gen.CInRefIdeal.Read
public import Idealize.ShloMosaic.Lib.Quiescent
public import Idealize.ShloMosaic.Lib.Pointwise

@[expose] public section

set_option maxRecDepth 16384

noncomputable section

namespace Cert.CInProof

open Cert.CInIdeal Cert.CInIdeal.Gen Cert.Products
open Idealize.ShloMosaic hiding ix1 ix2 ix3 eq_ix2
open Idealize.ShloMosaic.TcCoe Idealize.ShloMosaic.ValueIdx Idealize.ShloMosaic.Tactic Idealize.SL.Sem
open Idealize.ShloMosaic.Pipeline (Dat)

/-! ## The frames -/

theorem frame_ideal : Cert.quiescent_CInIdeal (hCInIdeal := CInIdeal.Gen.facts) := fun m ρ _ => frame_any m ρ

/-- The two programs are the same text, so the machine's own frame is the same theorem. -/
theorem frame_same : Cert.quiescent_CIn (hCIn := CIn.Gen.facts) = (∀ (m : (ℓ : Loc nD τ sig) → Buf (Elt Bits) ℓ) (g : Dev nD → PrngReg), True →
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0)) := by sl_kernel_rfl
theorem frame : Cert.quiescent_CIn (hCIn := CIn.Gen.facts) := frame_same ▸ fun m ρ _ => frame_any m ρ

/-! ## The payloads at an index -/

theorem rows_apply (x : Vec Ideal S1024x2048 .f32) (w : Vec Ideal S1x2048 .f32) (r : Fin 1024) (k : Fin 2048) :
    k0_pay1 x w (ix2 r k) = normed (fun j => x (ix2 r j)) (fun j => w (ix2 0 j)) k := by
  pointwise [k0_pay1, normed]
  rfl

theorem pay2_apply (x : Vec Ideal S1024x2048 .f32) (w : Vec Ideal S1x2048 .f32) (r : Fin 1024) (k : Fin 2048) :
    k0_pay2 x w (ix2 r k) = normed (fun j => x (ix2 r j)) (fun j => w (ix2 0 j)) k := by
  unfold k0_pay2
  exact (shapeCast_apply (k0_pay1 x w) _ _ (ix2 r k) rfl).trans (rows_apply x w r k)

theorem pay4_apply (x : Vec Ideal S1024x2048 .bf16) (w : Vec Ideal S1x1024x2048 .f32) (r : Fin 1024) (q : Fin 1024) :
    k0_pay4 x w (ix2 r q) = (∑ k : Fin 2048, x (ix2 r k) * w (ix3 0 q k) : EReal) := by
  unfold k0_pay4
  refine (matmulT_zero_apply _ rfl _ _ r q).trans (Finset.sum_congr rfl fun k _ => congrArg _ ?_)
  exact drop_apply w _ q k

theorem pay3_apply (x : Vec Ideal S1024x2048 .f32) (nw : Vec Ideal S1x2048 .f32) (w : Vec Ideal S1x64x2048 .f32) (r : Fin 1024) (q : Fin 64) :
    k0_pay3 x nw w (ix2 r q) = (∑ k : Fin 2048, normed (fun j => x (ix2 r j)) (fun j => nw (ix2 0 j)) k * w (ix3 0 q k) : EReal) := by
  unfold k0_pay3
  refine (matmulT_zero_apply _ rfl _ _ r q).trans (Finset.sum_congr rfl fun k _ => congrArg₂ (· * ·) (rows_apply x nw r k) ?_)
  exact drop_apply w _ q k

variable (m : (ℓ : Loc nD τ sig) → Buf (Elt Ideal) ℓ)

/-! ## The arrays the region finds -/

/-- The weights as the kernel reads them: columns first. -/
theorem V_v0 (c : Dev nD) (a : Fin 2) (q : Fin 12352) (k : Fin 2048) :
    V m c main_v0 (ix3 a q k) = m ((c : Thread nD τ).loc main_arg2) (ix3 a k q) := by
  have e : V m c main_v0 = transpose S2x12352x2048 [0, 2, 1] (m ((c : Thread nD τ).loc main_arg2)) transposes_S2x2048x12352_S2x12352x2048_0_2_1 := by
    funext j; rfl
  rw [e]
  exact transpose_apply _ _ _ _ _ fun b => by fin_cases b <;> rfl
/-- The norm's weights as one row. -/
theorem V_v1 (c : Dev nD) (k : Fin 2048) :
    V m c main_v1 (ix2 0 k) = m ((c : Thread nD τ).loc main_arg1) (ix1 k) := by
  have e : V m c main_v1 = shapeCast S1x2048 (m ((c : Thread nD τ).loc main_arg1)) shapeCasts_S2048_S1x2048 := by
    funext j; rfl
  rw [e]
  refine shapeCast_apply (s := S2048) _ _ _ _ ?_
  rw [Shape.rowMajor_val_one, Shape.rowMajor_val_two]; show k.val = 0 * 2048 + k.val; omega

theorem idx2 : ∀ t : Fin cfg0.N, win0_2.index t = ![0, t.val % 12, 0] := (by decide +kernel : ∀ t : Fin grid0.N, _)
theorem idx4 : ∀ t : Fin cfg0.N, win0_4.index t = ![t.val / 12, t.val % 12] := (by decide +kernel : ∀ t : Fin grid0.N, _)
theorem idx5 : ∀ t : Fin cfg0.N, win0_5.index t = ![t.val / 12, 0] := (by decide +kernel : ∀ t : Fin grid0.N, _)

/-! ## The blocks at an index -/

theorem rows_at (c : Dev nD) (t : Fin cfg0.N) (r : Fin 1024) (k : Fin 2048) :
    (iblk m c 0 t : Vec Ideal S1024x2048 .f32) (ix2 r k)
      = m ((c : Thread nD τ).loc main_arg0) (ix2 ⟨t.val / 12 * 1024 + r.val, by have := r.isLt; have : t.val < 96 := t.isLt; omega⟩ k) := by
  have ht : t.val < 96 := t.isLt
  blk_simp [iblk]
  refine congrArg _ ?_
  blk_ext [index0, ix2_0, ix2_1]

theorem norm_at (c : Dev nD) (t : Fin cfg0.N) (k : Fin 2048) :
    (iblk m c 1 t : Vec Ideal S1x2048 .f32) (ix2 0 k) = m ((c : Thread nD τ).loc main_arg1) (ix1 k) := by
  refine Eq.trans ?_ (V_v1 m c k)
  blk_simp [iblk]
  refine congrArg (V m c main_v1) ?_
  blk_ext [index1, ix2_0, ix2_1]

theorem tail_at (c : Dev nD) (t : Fin cfg0.N) (q : Fin 64) (k : Fin 2048) :
    (iblk m c 3 t : Vec Ideal S1x64x2048 .f32) (ix3 0 q k)
      = m ((c : Thread nD τ).loc main_arg2) (ix3 0 k ⟨12288 + q.val, by have := q.isLt; omega⟩) := by
  refine Eq.trans ?_ (V_v0 m c 0 _ k)
  blk_simp [iblk]
  refine congrArg (V m c main_v0) ?_
  blk_ext [index3, ix3_0, ix3_1, ix3_2]

theorem weights_at (c : Dev nD) (t : Fin cfg0.N) (q : Fin 1024) (k : Fin 2048) :
    (X0_2 m c t : Vec Ideal S1x1024x2048 .f32) (ix3 0 q k)
      = m ((c : Thread nD τ).loc main_arg2) (ix3 0 k ⟨t.val % 12 * 1024 + q.val, by have := q.isLt; omega⟩) := by
  refine Eq.trans ?_ (V_v0 m c 0 _ k)
  unfold X0_2 Pipeline.Window.fill
  rw [dif_pos (moved0_2 t _)]
  blk_simp [iblk]
  refine congrArg (V m c main_v0) ?_
  blk_ext [idx2, ix3_0, ix3_1, ix3_2]

/-! ## What the kernel leaves -/

/-- The normalised rows times the weights' columns from `o` on. -/
def full (o n : ℕ) (h : o + n ≤ 12352) (x : S8192x2048.Idx → EReal) (nw : S2048.Idx → EReal) (w : S2x2048x12352.Idx → EReal) :
    (⟨2, ![8192, n]⟩ : Shape).Idx → EReal :=
  fun i => ∑ k : Fin 2048, normed (fun j => x (ix2 (i 0) j)) (fun j => nw (ix1 j)) k
    * w (ix3 0 k ⟨o + (i 1).val, by have : (i 1).val < n := (i 1).isLt; omega⟩)

/-- The normalised rows the scratch holds. -/
theorem normed_at (c : Dev nD) (t : Fin cfg0.N) (r : Fin 1024) (k : Fin 2048) :
    normed (fun j => (iblk m c 0 t : Vec Ideal S1024x2048 .f32) (ix2 r j)) (fun j => (iblk m c 1 t : Vec Ideal S1x2048 .f32) (ix2 0 j)) k
      = normed (fun j => m ((c : Thread nD τ).loc main_arg0) (ix2 ⟨t.val / 12 * 1024 + r.val, by have := r.isLt; have : t.val < 96 := t.isLt; omega⟩ j))
          (fun j => m ((c : Thread nD τ).loc main_arg1) (ix1 j)) k := by
  simp only [rows_at, norm_at]

/-- The first array the kernel leaves. -/
theorem final4 (c : Dev nD) : (dats m 0 c).arrAt 4 cfg0.N
    = full 0 12288 (by omega) (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after4]
  frame_out
  obtain ⟨r, q, rfl⟩ : ∃ (r : Fin 1024) (q : Fin 1024), y = ix2 r q := ⟨y 0, y 1, eq_ix2 y⟩
  have ht : t.val < 96 := t.isLt
  have e : ((View.whole main_v2_0).slice (win0_4.rect t)).emb (ix2 r q)
      = (ix2 ⟨t.val / 12 * 1024 + r.val, by have := r.isLt; omega⟩ ⟨t.val % 12 * 1024 + q.val, by have := q.isLt; omega⟩ : S8192x12288.Idx) := by
    blk_ext [idx4, ix2_0, ix2_1]
  rw [pay4_apply, e]
  unfold full
  refine Finset.sum_congr (M := EReal) rfl fun k _ => congrArg₂ (· * ·) ((pay2_apply _ _ r k).trans (normed_at m c t r k)) ((weights_at m c t q k).trans ?_)
  exact congrArg _ (congrArg (ix3 0 k) (Fin.ext (Nat.zero_add _).symm))

/-- The second. -/
theorem final5 (c : Dev nD) : (dats m 0 c).arrAt 5 cfg0.N
    = full 12288 64 (by omega) (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after5]
  frame_out
  obtain ⟨r, q, rfl⟩ : ∃ (r : Fin 1024) (q : Fin 64), y = ix2 r q := ⟨y 0, y 1, eq_ix2 y⟩
  have ht : t.val < 96 := t.isLt
  have e : ((View.whole main_v2_1).slice (win0_5.rect t)).emb (ix2 r q)
      = (ix2 ⟨t.val / 12 * 1024 + r.val, by have := r.isLt; omega⟩ q : S8192x64.Idx) := by
    blk_ext [idx5, ix2_0, ix2_1]
  rw [tail, pay3_apply, e]
  unfold full
  exact Finset.sum_congr (M := EReal) rfl fun k _ => congrArg₂ (· * ·) (normed_at m c t r k) (tail_at m c t q k)

/-! ## The claim -/

/-- The run, read: the results at the two products, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v2_0)
        = full 0 12288 (by omega) (m ((c : Thread nD τ).loc main_arg0)) (m ((c : Thread nD τ).loc main_arg1)) (m ((c : Thread nD τ).loc main_arg2))
      ∧ r.2.mem ((c : Thread nD τ).loc main_v2_1)
        = full 12288 64 (by omega) (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  refine (θ_run defs _ _).mono (fun r h c => ?_) (θ_run_and (run_main m ρ) (frame_any m ρ))
  exact ⟨(h.1.out_eq c 4).trans (final4 m c), (h.1.out_eq c 5).trans (final5 m c), h.2.1 c⟩

/-- The reference's normalised rows. -/
theorem ref_normed (x : S8192x2048.Idx → EReal) (nw : S2048.Idx → EReal) (r : Fin 8192) (k : Fin 2048) :
    CInRefIdeal.Read.val_main_v12 (F := Ideal) x nw (ix2 r k) = normed (fun j => x (ix2 r j)) (fun j => nw (ix1 j)) k := by
  pointwise [CInRefIdeal.Read.val_main_v12, CInRefIdeal.Read.val_main_v11, CInRefIdeal.Read.val_main_v10, CInRefIdeal.Read.val_main_v9,
    CInRefIdeal.Read.val_main_v8, CInRefIdeal.Read.val_main_v7, CInRefIdeal.Read.val_main_v6, CInRefIdeal.Read.val_main_v5,
    CInRefIdeal.Read.val_main_v4, CInRefIdeal.Read.val_main_v3, CInRefIdeal.Read.val_main_v2, CInRefIdeal.Read.val_main_v1,
    CInRefIdeal.Read.val_main_v0, CInRefIdeal.Read.val_main_cst, CInRefIdeal.Read.val_main_cst_0, CInRefIdeal.Read.val_main_cst_1, normed]
  rfl

/-- The reference's product. -/
theorem ref_product (x : S8192x2048.Idx → EReal) (nw : S2048.Idx → EReal) (w : S2x2048x12352.Idx → EReal) (r : Fin 8192) (q : Fin 12352) :
    CInRefIdeal.Read.val_main_v15 (F := Ideal) x nw w (ix2 r q)
      = ∑ k : Fin 2048, normed (fun j => x (ix2 r j)) (fun j => nw (ix1 j)) k * w (ix3 0 k q) := by
  rw [CInRefIdeal.Read.val_main_v15_apply]
  refine Finset.sum_congr rfl fun k _ => congrArg₂ (· * ·) ?_ ?_
  · rw [← ref_normed]
    exact congrArg _ (funext fun d => by fin_cases d <;> rfl)
  · rw [CInRefIdeal.Read.val_main_v14_apply, CInRefIdeal.Read.val_main_v13_apply]
    refine congrArg w (funext fun d => Fin.ext ?_)
    have h0 : k.val < 2048 := k.isLt
    have h1 : q.val < 12352 := q.isLt
    match d with
    | ⟨0, _⟩ => rfl
    | ⟨1, _⟩ => show (k.val * 12352 + q.val) / 12352 % 2048 = k.val; omega
    | ⟨2, _⟩ => show (k.val * 12352 + q.val) % 12352 = q.val; omega

theorem ref_eq4 (x : S8192x2048.Idx → EReal) (nw : S2048.Idx → EReal) (w : S2x2048x12352.Idx → EReal) :
    CInRefIdeal.Read.val_main_v16 (F := Ideal) x nw w = full 0 12288 (by omega) x nw w := by
  funext i
  rw [CInRefIdeal.Read.val_main_v16_apply]
  refine (congrArg _ ?_).trans (ref_product x nw w (i 0) ⟨0 + (i 1).val, by have : (i 1).val < 12288 := (i 1).isLt; omega⟩)
  funext d; fin_cases d
  · rfl
  · exact Fin.ext (Nat.zero_add _).symm
theorem ref_eq5 (x : S8192x2048.Idx → EReal) (nw : S2048.Idx → EReal) (w : S2x2048x12352.Idx → EReal) :
    CInRefIdeal.Read.val_main_v17 (F := Ideal) x nw w = full 12288 64 (by omega) x nw w := by
  funext i
  rw [CInRefIdeal.Read.val_main_v17_apply]
  refine (congrArg _ ?_).trans (ref_product x nw w (i 0) ⟨12288 + (i 1).val, by have : (i 1).val < 64 := (i 1).isLt; omega⟩)
  funext d; fin_cases d <;> rfl

/-- Kernel and reference run, and from equal arguments end at the same two arrays. -/
theorem algebraic : Cert.algebraic_CInIdeal_CInRefIdeal (hCInIdeal := CInIdeal.Gen.facts) (hCInRefIdeal := CInRefIdeal.Gen.facts) := by
  intro m g m' g' _ hargs
  refine ⟨fun c => full 0 12288 (by omega) (m ((c.tc : Thread _ _).loc main_arg0)) (m ((c.tc : Thread _ _).loc main_arg1))
    (m ((c.tc : Thread _ _).loc main_arg2)), fun c => full 12288 64 (by omega) (m ((c.tc : Thread _ _).loc main_arg0)) (m ((c.tc : Thread _ _).loc main_arg1))
    (m ((c.tc : Thread _ _).loc main_arg2)), run m g, ?_⟩
  refine (θ_run (CInRefIdeal.defs (F := Ideal)) _ _).mono (fun r h c => ?_) (CInRefIdeal.Value.run (F := Ideal) m' g')
  obtain ⟨hv, hw, h0, h1, h2⟩ := h c
  refine ⟨hv.trans ?_, hw.trans ?_, h0, h1, h2⟩
  · rw [(hargs c).1, (hargs c).2.1, (hargs c).2.2]
    exact (CInRefIdeal.Read.val_main_v16_eq _ _ _).trans (ref_eq4 _ _ _)
  · rw [(hargs c).1, (hargs c).2.1, (hargs c).2.2]
    exact (CInRefIdeal.Read.val_main_v17_eq _ _ _).trans (ref_eq5 _ _ _)

/-- The reference's frame: its run, read at the arguments; it has no semaphore. -/
theorem frame_ref : Cert.quiescent_CInRefIdeal (hCInRefIdeal := CInRefIdeal.Gen.facts) := fun m ρ _ =>
  (θ_run CInRefIdeal.defs _ _).mono (fun r h => ⟨fun c => (h c).2.2, Idealize.ShloMosaic.sem_eq_zero_of_no_sems (by decide) r.2⟩)
    (CInRefIdeal.Value.run (F := Ideal) m ρ)

end Cert.CInProof

end
-- ==== Proof.AbInBody.lean ====
/-
  The normalised input projection of the attention and recurrent mixers: what the kernel's body leaves at every grid point. The
  first point of a row of blocks stores the normalised rows into the kernel's scratch and the gate columns into the second
  output; the row's first six points multiply the normalised rows by a block of the weights' first columns, its other six by a
  block of the columns behind the gates. So at every point the scratch holds the normalised rows of the point's row of blocks,
  and the second output's buffer the gate product of those rows.
-/
module

public import proofs.«01_k».proof.Defs
public import proofs.«01_k».proof.Proof.Gen.AbInIdeal.Frame
public import proofs.«01_k».proof.Proof.Gen.AbInIdeal.Skeleton
public import Idealize.ShloMosaic.Lib.Pipeline.ValueKit
public import Idealize.ShloMosaic.Lib.Pipeline.TableIdle
public import Idealize.ShloMosaic.Lib.VecWindow

@[expose] public section

set_option maxRecDepth 16384

noncomputable section

namespace Cert.AbInProof

open Cert.AbInIdeal Cert.AbInIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The conditions of the body's three branches at a point: the first of its row of blocks, among the first six, among the others. -/
theorem cond1_iff : ∀ t : Fin cfg0.N, k0_cond1 (grid0.coords t) = 1#1 ↔ t.val % 12 = 0 :=
  (by decide +kernel : ∀ t : Fin grid0.N, k0_cond1 (grid0.coords t) = 1#1 ↔ t.val % 12 = 0)
theorem cond2_iff : ∀ t : Fin cfg0.N, k0_cond2 (grid0.coords t) = 1#1 ↔ t.val % 12 < 6 :=
  (by decide +kernel : ∀ t : Fin grid0.N, k0_cond2 (grid0.coords t) = 1#1 ↔ t.val % 12 < 6)
theorem cond3_iff : ∀ t : Fin cfg0.N, k0_cond3 (grid0.coords t) = 1#1 ↔ ¬t.val % 12 < 6 :=
  (by decide +kernel : ∀ t : Fin grid0.N, k0_cond3 (grid0.coords t) = 1#1 ↔ ¬t.val % 12 < 6)

set_option maxHeartbeats 1000000 in
/-- The body at the first point of a row of blocks: the scratch ends with the normalised rows, the first output with their
    product with the first weight block, the second with their product with the gate block. -/
theorem run_first (c : Dev nD) (i : grid0.Coords) (arg2 : Memref sig .tc .vmem S1024x2048 .f32) (harg2 : arg2.IsWhole) (arg3 : Memref sig .tc .vmem S1x2048 .f32) (harg3 : arg3.IsWhole)
    (arg4 : Memref sig .tc .vmem S1x512x2048 .f32) (harg4 : arg4.IsWhole) (arg5 : Memref sig .tc .vmem S1x512x2048 .f32) (harg5 : arg5.IsWhole)
    (arg6 : Memref sig .tc .vmem S1x128x2048 .f32) (harg6 : arg6.IsWhole) (arg7 : Memref sig .tc .vmem S1024x512 .f32) (harg7 : arg7.IsWhole)
    (arg8 : Memref sig .tc .vmem S1024x128 .f32) (harg8 : arg8.IsWhole) (arg9 : Memref sig .tc .vmem S1024x2048 .bf16) (harg9 : arg9.IsWhole)
    (hc1 : k0_cond1 i = 1#1) (hc2 : k0_cond2 i = 1#1) (hc3 : ¬k0_cond3 i = 1#1)
    (x0 : Vec F S1024x2048 .f32) (x1 : Vec F S1x2048 .f32) (x2 : Vec F S1x512x2048 .f32) (x3 : Vec F S1x512x2048 .f32) (x4 : Vec F S1x128x2048 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare (k0_pay4 (k0_pay2 x0 x1) x2) ∗ owns (c : Thread nD τ) arg8 fullShare (k0_pay3 x0 x1 x4) ∗ owns (c : Thread nD τ) arg9 fullShare (k0_pay2 x0 x1)) -∗ K ⟨⟩))
      ⊢ wp frame (wpE (defs₀ (F := F)) Variants.none c none) E (cc0_norm_matmul i arg2 harg2 arg3 harg3 arg4 harg4 arg5 harg5 arg6 harg6 arg7 harg7 arg8 harg8 arg9 harg9) K := by
  simp only [cc0_norm_matmul_eq_skeleton]; unfold cc0_norm_matmul_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, Hk⟩
  obtain rfl := harg2.eq_unread hf0; obtain rfl := harg3.eq_unread hf1; obtain rfl := harg4.eq_unread hf2; obtain rfl := harg5.eq_unread hf3
  obtain rfl := harg6.eq_unread hf4
  sl_exec (disch := first | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    refine (View.read_writes_full _ _ _ _ _).trans ?_
    frame_out
  isplitl [H6]
  · iexists _; isplitr; swap; · iexact H6
    ipureintro
    refine (View.read_writes_full _ _ _ _ _).trans ?_
    frame_out
  iexists _; isplitr; swap; · iexact HS0
  ipureintro
  refine (View.read_writes_full _ _ _ _ _).trans ?_
  frame_out

set_option maxHeartbeats 1000000 in
/-- The body at the row's other points among the first six: the scratch and the second output's buffer stay, the first output ends
    with the product of what the scratch holds by the block of the first columns. -/
theorem run_left (c : Dev nD) (i : grid0.Coords) (arg2 : Memref sig .tc .vmem S1024x2048 .f32) (harg2 : arg2.IsWhole) (arg3 : Memref sig .tc .vmem S1x2048 .f32) (harg3 : arg3.IsWhole)
    (arg4 : Memref sig .tc .vmem S1x512x2048 .f32) (harg4 : arg4.IsWhole) (arg5 : Memref sig .tc .vmem S1x512x2048 .f32) (harg5 : arg5.IsWhole)
    (arg6 : Memref sig .tc .vmem S1x128x2048 .f32) (harg6 : arg6.IsWhole) (arg7 : Memref sig .tc .vmem S1024x512 .f32) (harg7 : arg7.IsWhole)
    (arg8 : Memref sig .tc .vmem S1024x128 .f32) (harg8 : arg8.IsWhole) (arg9 : Memref sig .tc .vmem S1024x2048 .bf16) (harg9 : arg9.IsWhole)
    (hc1 : ¬k0_cond1 i = 1#1) (hc2 : k0_cond2 i = 1#1) (hc3 : ¬k0_cond3 i = 1#1)
    (x0 : Vec F S1024x2048 .f32) (x1 : Vec F S1x2048 .f32) (x2 : Vec F S1x512x2048 .f32) (x3 : Vec F S1x512x2048 .f32) (x4 : Vec F S1x128x2048 .f32)
    (x6 : Vec F S1024x128 .f32) (xs : Vec F S1024x2048 .bf16)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ (∃ d, owns (c : Thread nD τ) arg7 fullShare d) ∗ owns (c : Thread nD τ) arg8 fullShare x6 ∗ owns (c : Thread nD τ) arg9 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare (k0_pay4 xs x2) ∗ owns (c : Thread nD τ) arg8 fullShare x6 ∗ owns (c : Thread nD τ) arg9 fullShare xs) -∗ K ⟨⟩))
      ⊢ wp frame (wpE (defs₀ (F := F)) Variants.none c none) E (cc0_norm_matmul i arg2 harg2 arg3 harg3 arg4 harg4 arg5 harg5 arg6 harg6 arg7 harg7 arg8 harg8 arg9 harg9) K := by
  simp only [cc0_norm_matmul_eq_skeleton]; unfold cc0_norm_matmul_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%fs0, %hfs0, HS0⟩, Hk⟩
  obtain rfl := harg2.eq_unread hf0; obtain rfl := harg3.eq_unread hf1; obtain rfl := harg4.eq_unread hf2; obtain rfl := harg5.eq_unread hf3
  obtain rfl := harg6.eq_unread hf4; obtain rfl := harg8.eq_unread hf6; obtain rfl := harg9.eq_unread hfs0
  sl_exec (disch := first | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    refine (View.read_writes_full _ _ _ _ _).trans ?_
    frame_out
  isplitl [H6]
  · iexists _; isplitr; · ipureintro; exact harg8.read_unread _
    iexact H6
  iexists _; isplitr; · ipureintro; exact harg9.read_unread _
  iexact HS0

set_option maxHeartbeats 1000000 in
/-- The body at the row's last six points: the same with the block of the columns behind the gates. -/
theorem run_right (c : Dev nD) (i : grid0.Coords) (arg2 : Memref sig .tc .vmem S1024x2048 .f32) (harg2 : arg2.IsWhole) (arg3 : Memref sig .tc .vmem S1x2048 .f32) (harg3 : arg3.IsWhole)
    (arg4 : Memref sig .tc .vmem S1x512x2048 .f32) (harg4 : arg4.IsWhole) (arg5 : Memref sig .tc .vmem S1x512x2048 .f32) (harg5 : arg5.IsWhole)
    (arg6 : Memref sig .tc .vmem S1x128x2048 .f32) (harg6 : arg6.IsWhole) (arg7 : Memref sig .tc .vmem S1024x512 .f32) (harg7 : arg7.IsWhole)
    (arg8 : Memref sig .tc .vmem S1024x128 .f32) (harg8 : arg8.IsWhole) (arg9 : Memref sig .tc .vmem S1024x2048 .bf16) (harg9 : arg9.IsWhole)
    (hc1 : ¬k0_cond1 i = 1#1) (hc2 : ¬k0_cond2 i = 1#1) (hc3 : k0_cond3 i = 1#1)
    (x0 : Vec F S1024x2048 .f32) (x1 : Vec F S1x2048 .f32) (x2 : Vec F S1x512x2048 .f32) (x3 : Vec F S1x512x2048 .f32) (x4 : Vec F S1x128x2048 .f32)
    (x6 : Vec F S1024x128 .f32) (xs : Vec F S1024x2048 .bf16)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ (∃ d, owns (c : Thread nD τ) arg7 fullShare d) ∗ owns (c : Thread nD τ) arg8 fullShare x6 ∗ owns (c : Thread nD τ) arg9 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare (k0_pay5 xs x3) ∗ owns (c : Thread nD τ) arg8 fullShare x6 ∗ owns (c : Thread nD τ) arg9 fullShare xs) -∗ K ⟨⟩))
      ⊢ wp frame (wpE (defs₀ (F := F)) Variants.none c none) E (cc0_norm_matmul i arg2 harg2 arg3 harg3 arg4 harg4 arg5 harg5 arg6 harg6 arg7 harg7 arg8 harg8 arg9 harg9) K := by
  simp only [cc0_norm_matmul_eq_skeleton]; unfold cc0_norm_matmul_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%fs0, %hfs0, HS0⟩, Hk⟩
  obtain rfl := harg2.eq_unread hf0; obtain rfl := harg3.eq_unread hf1; obtain rfl := harg4.eq_unread hf2; obtain rfl := harg5.eq_unread hf3
  obtain rfl := harg6.eq_unread hf4; obtain rfl := harg8.eq_unread hf6; obtain rfl := harg9.eq_unread hfs0
  sl_exec (disch := first | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    refine (View.read_writes_full _ _ _ _ _).trans ?_
    frame_out
  isplitl [H6]
  · iexists _; isplitr; · ipureintro; exact harg8.read_unread _
    iexact H6
  iexists _; isplitr; · ipureintro; exact harg9.read_unread _
  iexact HS0

/-! ## What holds after each point -/

theorem index0 : ∀ t : Fin cfg0.N, win0_0.index t = ![t.val / 12, 0] := (by decide +kernel : ∀ t : Fin grid0.N, _)
theorem index1 : ∀ t : Fin cfg0.N, win0_1.index t = ![0, 0] := (by decide +kernel : ∀ t : Fin grid0.N, _)
theorem index4 : ∀ t : Fin cfg0.N, win0_4.index t = ![0, 24, 0] := (by decide +kernel : ∀ t : Fin grid0.N, _)

/-- The normalised rows of the point's row of blocks. -/
def rows (c : Dev nD) (t : Fin cfg0.N) : Vec F S1024x2048 .bf16 := k0_pay2 (iblk m c 0 t) (iblk m c 1 t)
/-- Their product with the gate block of the weights. -/
def tail (c : Dev nD) (t : Fin cfg0.N) : Vec F S1024x128 .f32 := k0_pay3 (iblk m c 0 t) (iblk m c 1 t) (X0_4 m c t)

/-- Their product with the point's block of the weights. -/
def prod (c : Dev nD) (t : Fin cfg0.N) : Vec F S1024x512 .f32 :=
  if t.val % 12 < 6 then k0_pay4 (rows m c t) (X0_2 m c t) else k0_pay5 (rows m c t) (iblk m c 3 t)

/-- The point before `t`. -/
abbrev prev (t : Fin cfg0.N) : Fin cfg0.N := ⟨t.val - 1, Nat.lt_of_le_of_lt (Nat.sub_le _ _) t.isLt⟩

/-- The blocks of rows, of the norm's weights and of the gates do not move inside a row of blocks. -/
theorem iblk0_prev (c : Dev nD) (t : Fin cfg0.N) (h : ¬t.val % 12 = 0) :
    (iblk m c 0 (prev t) : Vec F S1024x2048 .f32) = iblk m c 0 t := by
  funext y
  blk_simp [iblk]
  refine congrArg (V m c main_arg0) ?_
  have ht : t.val < 96 := lt_of_lt_of_eq t.isLt N_0
  blk_ext [index0]
theorem iblk1_prev (c : Dev nD) (t : Fin cfg0.N) :
    (iblk m c 1 (prev t) : Vec F S1x2048 .f32) = iblk m c 1 t := by
  funext y
  blk_simp [iblk]
  refine congrArg (V m c main_v2) ?_
  blk_ext [index1]
theorem X0_4_prev (c : Dev nD) (t : Fin cfg0.N) : (X0_4 m c (prev t) : Vec F S1x128x2048 .f32) = X0_4 m c t := by
  funext y
  unfold X0_4 Pipeline.Window.fill
  rw [dif_pos (moved0_4 _ y), dif_pos (moved0_4 _ y)]
  blk_simp [iblk]
  refine congrArg (V m c main_v0) ?_
  blk_ext [index4]

theorem rows_prev (c : Dev nD) (t : Fin cfg0.N) (h : ¬t.val % 12 = 0) : rows m c (prev t) = rows m c t :=
  congrArg₂ (fun (a : Vec F S1024x2048 .f32) b => k0_pay2 a b) (iblk0_prev m c t h) (iblk1_prev m c t)
theorem tail_prev (c : Dev nD) (t : Fin cfg0.N) (h : ¬t.val % 12 = 0) : tail m c (prev t) = tail m c t := by
  refine (congrArg (fun a : Vec F S1024x2048 .f32 => k0_pay3 a (iblk m c 1 (prev t)) (X0_4 m c (prev t))) (iblk0_prev m c t h)).trans ?_
  exact congrArg₂ (fun (a : Vec F S1x2048 .f32) b => k0_pay3 (iblk m c 0 t) a b) (iblk1_prev m c t) (X0_4_prev m c t)

/-- The kernel's scratch. -/
abbrev scr : Memref sig .tc .vmem S1024x2048 .bf16 := Memref.whole cc0_scratch0

theorem PhiA_eq (c : Dev nD) :
    (Pipeline.ΦA spec0 c : sProp 𝕄)
      = iprop(iprop((∃ d, owns (c : Thread nD τ) scr fullShare d)) ∗ (∃ r, prngReg c r)) := by
  unfold Pipeline.ΦA; rw [scopedRest0_eq]; simp only [scr, owns_whole]; try rfl

/-- Between points the scratch holds the normalised rows of the point before. -/
def Phi (c : Dev nD) : (n : ℕ) → n ≤ cfg0.N → sProp 𝕄
  | 0, _ => Pipeline.ΦA spec0 c
  | n + 1, hn => iprop(iprop(owns (c : Thread nD τ) scr fullShare (rows m c ⟨n, hn⟩)) ∗ (∃ r, prngReg c r))

theorem Phi_zero (c : Dev nD) (n : ℕ) (h : n ≤ cfg0.N) (hz : n = 0) : Phi m c n h = Pipeline.ΦA spec0 c := by
  subst hz; rfl

theorem Phi_pos (c : Dev nD) (n : ℕ) (h : n ≤ cfg0.N) (hz : n ≠ 0) :
    Phi m c n h = iprop(iprop(owns (c : Thread nD τ) scr fullShare (rows m c ⟨n - 1, by omega⟩)) ∗ (∃ r, prngReg c r)) := by
  cases n with
  | zero => exact absurd rfl hz
  | succ n => rfl

/-- The proof data: each input's buffer at its block, the outputs' at the products, the scratch at the normalised rows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => iblk m c 3 t
    | ⟨4, _⟩ => X0_4 m c t
    | ⟨5, _⟩ => prod m c t
    | ⟨6, _⟩ => tail m c t
  Φ t := Phi m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = X0_2 m c t := by dsimp only [dats]
theorem after3 (c : Dev nD) (t : Fin cfg0.N) : (dats m 0 c).after 3 t = iblk m c 3 t := by dsimp only [dats]
theorem after4 (c : Dev nD) (t : Fin cfg0.N) : (dats m 0 c).after 4 t = X0_4 m c t := by dsimp only [dats]
theorem after5 (c : Dev nD) (t : Fin cfg0.N) : (dats m 0 c).after 5 t = prod m c t := by dsimp only [dats]
theorem after6 (c : Dev nD) (t : Fin cfg0.N) : (dats m 0 c).after 6 t = tail m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = X0_2 m c t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = X0_4 m c t :=
  before0_4_of m (dats m 0 c) (A_eq m c 4) (after4 m c) t d

/-- The second output's buffer is idle at every point but the first of a row of blocks. -/
theorem idle6 : ∀ t : Fin cfg0.N, cfg0.idle 6 (cfg0.grid.coords t) = true ↔ ¬t.val % 12 = 0 :=
  (by decide +kernel : ∀ t : Fin grid0.N, cfg0.idle 6 (grid0.coords t) = true ↔ ¬t.val % 12 = 0)
theorem fresh6 : ∀ t : Fin cfg0.N, cfg0.fresh 6 t.val = true → t.val % 12 = 0 :=
  (by decide +kernel : ∀ t : Fin grid0.N, cfg0.fresh 6 t.val = true → t.val % 12 = 0)

/-- Inside a row of blocks the second output's buffer still holds the tail product: it is written back at the row's end only. -/
theorem before6 (c : Dev nD) (t : Fin cfg0.N) (h : ¬t.val % 12 = 0) (d) : (dats m 0 c).before 6 t d = tail m c t := by
  rw [(dats m 0 c).before_out_traj 6 rfl (fun _ _ => rfl)
    (fun t _ hi _ => by rw [after6, after6]; exact (tail_prev m c t ((idle6 t).mp hi)).symm) t.val t rfl d,
    if_neg (fun e => h (fresh6 t e)), after6]
  exact tail_prev m c t h

/-- So at every point the second output's buffer may be left at the tail product. -/
theorem leaves6 (c : Dev nD) (t : Fin cfg0.N) :
    owns (c : Thread nD τ) (st0_6 t) fullShare (tail m c t) ⊢ (dats m 0 c).leavesExact 6 t := by
  unfold Dat.leavesExact
  cases hi : cfg0.idle 6 (cfg0.grid.coords t) with
  | false => exact .rfl
  | true =>
    cases hf : (cfg0.win 6).flush t with
    | true => exact .rfl
    | false =>
      simp only [before6 m c t ((idle6 t).mp hi)]
      iintro H
      iexists (tail m c t); iexact H

/-- Every point stores the first output's block. -/
theorem live5 : ∀ t : Fin cfg0.N, cfg0.idle 5 (cfg0.grid.coords t) = false :=
  (by decide +kernel : ∀ t : Fin grid0.N, cfg0.idle 5 (grid0.coords t) = false)
theorem leaves5 (c : Dev nD) (t : Fin cfg0.N) :
    owns (c : Thread nD τ) (st0_5 t) fullShare (prod m c t) ⊢ (dats m 0 c).leavesExact 5 t := by
  unfold Dat.leavesExact
  rw [live5 t]
  exact .rfl

/-! ## The body's obligation -/

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- Before any point the scratch holds something. -/
theorem Phi_any (c : Dev nD) (t : Fin cfg0.N) : Phi m c t.val (Nat.le_of_lt t.isLt)
    ⊢ iprop(iprop((∃ d, owns (c : Thread nD τ) scr fullShare d)) ∗ (∃ r, prngReg c r)) := by
  by_cases hz : t.val = 0
  · rw [Phi_zero m c _ _ hz, PhiA_eq]
  · rw [Phi_pos m c _ _ hz]
    iintro ⟨HS, Hg⟩
    isplitl [HS]; · iexists _; iexact HS
    iexact Hg

set_option maxHeartbeats 3200000 in
/-- The body at any point, by whether it is the first of its row of blocks. -/
theorem body_ok (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl, after0, after1, after2, after3, after4, after5, after6]
  rw [show (dats m 0 c).Φ t.succ
    = iprop(iprop(owns (c : Thread nD τ) scr fullShare (rows m c t)) ∗ (∃ r, prngReg c r)) from rfl]
  rw [show (dats m 0 c).Φ t.castSucc = Phi m c t.val (Nat.le_of_lt t.isLt) from by
    dsimp only [dats]; exact Pipeline.Dat.Φ_castSucc (Phi m c) t]
  by_cases h0 : t.val % 12 = 0
  · refine BIBase.Entails.trans (Q := iprop(iprop(iprop((∃ d, owns (c : Thread nD τ) scr fullShare d)) ∗ (∃ r, prngReg c r)) ∗ _)) (sep_mono (Phi_any m c t) .rfl) ?_
    have h6 : t.val % 12 < 6 := by omega
    rw [show prod m c t = k0_pay4 (rows m c t) (X0_2 m c t) from if_pos h6]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
    iapply (run_first c (grid0.coords t) _ _ _ _ _ _ _ _ _ _ _ _ _ _ _ _ ((cond1_iff t).mpr h0) ((cond2_iff t).mpr h6) (fun h => (cond3_iff t).mp h h6) (iblk m c 0 t) (iblk m c 1 t) (X0_2 m c t) (iblk m c 3 t) (X0_4 m c t) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexact HS0
    iintro ⟨H0, H1, H2, H3, H4, H5, H6, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have hz : t.val ≠ 0 := fun e => h0 (by rw [e])
    rw [Phi_pos m c _ _ hz, rows_prev m c t h0]
    simp only [before6 m c t h0]
    by_cases h6 : t.val % 12 < 6
    · rw [show prod m c t = k0_pay4 (rows m c t) (X0_2 m c t) from if_pos h6]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply (run_left c (grid0.coords t) _ _ _ _ _ _ _ _ _ _ _ _ _ _ _ _ (fun h => h0 ((cond1_iff t).mp h)) ((cond2_iff t).mpr h6) (fun h => (cond3_iff t).mp h h6) (iblk m c 0 t) (iblk m c 1 t) (X0_2 m c t) (iblk m c 3 t) (X0_4 m c t) (tail m c t) (rows m c t) Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [HS0]; · iexact HS0
      iintro ⟨H0, H1, H2, H3, H4, H5, H6, HS0⟩
      isplitl [HS0 Hg]
      · isplitl [HS0]; · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [show prod m c t = k0_pay5 (rows m c t) (iblk m c 3 t) from if_neg h6]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply (run_right c (grid0.coords t) _ _ _ _ _ _ _ _ _ _ _ _ _ _ _ _ (fun h => h0 ((cond1_iff t).mp h)) (fun h => h6 ((cond2_iff t).mp h)) ((cond3_iff t).mpr h6) (iblk m c 0 t) (iblk m c 1 t) (X0_2 m c t) (iblk m c 3 t) (X0_4 m c t) (tail m c t) (rows m c t) Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [HS0]; · iexact HS0
      iintro ⟨H0, H1, H2, H3, H4, H5, H6, HS0⟩
      isplitl [HS0 Hg]
      · isplitl [HS0]; · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

theorem body_row (t : Fin cfg0.N) :
    defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, body_row]
  refine triple_restated (body_ok m c t) rfl .rfl fun _ => ?_
  refine BIClass.sep_mono .rfl (BIClass.sep_mono .rfl (BIClass.sep_mono .rfl (BIClass.sep_mono .rfl (BIClass.sep_mono .rfl (BIClass.sep_mono .rfl (BIClass.sep_mono .rfl ?_))))))
  exact BIClass.sep_mono (leaves5 m c t) (leaves6 m c t)

theorem hin (c : Dev nD) : Pipeline.ΦA spec0 c ⊢ (dats m 0 c).Φ 0 := by
  rw [show (dats m 0 c).Φ 0 = Phi m c 0 (Nat.zero_le _) from rfl, Phi_zero m c 0 _ rfl]

theorem hout (c : Dev nD) : (dats m 0 c).Φ (Fin.last cfg0.N) ⊢ Pipeline.ΦA spec0 c := by
  have hN : cfg0.N = 96 := N_0
  rw [show (dats m 0 c).Φ (Fin.last cfg0.N) = Phi m c cfg0.N (Nat.le_refl _) from rfl, Phi_pos m c _ _ (by omega), PhiA_eq]
  iintro ⟨HS0, Hg⟩
  isplitl [HS0]
  · iexists _; iexact HS0
  iexact Hg

/-! ## The run and the frame -/

set_option backward.isDefEq.respectTransparency.types false in
/-- Every execution ends, with every array at what the proof data say and every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_quiescent m ρ)

/-- The argument arrays end unchanged and the machine is quiescent. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_quiescent m ρ))

end Cert.AbInProof

end
-- ==== Proof.AbInValue.lean ====
/-
  The normalised input projection of the attention and recurrent mixers: the two arrays the kernel leaves are the normalised rows
  times the weights' columns around the gates and times the 128 columns from the gates on, read index by index.
-/
module

public import proofs.«01_k».proof.Defs
public import proofs.«01_k».proof.Proof.Products
public import proofs.«01_k».proof.Proof.AbInBody
public import proofs.«01_k».proof.Proof.Gen.AbIn.Frame
public import proofs.«01_k».proof.Proof.Gen.AbInRefIdeal.Read
public import Idealize.ShloMosaic.Lib.Quiescent
public import Idealize.ShloMosaic.Lib.Pointwise

@[expose] public section

set_option maxRecDepth 16384

noncomputable section

namespace Cert.AbInProof

open Cert.AbInIdeal Cert.AbInIdeal.Gen Cert.Products
open Idealize.ShloMosaic hiding ix1 ix2 ix3 eq_ix2
open Idealize.ShloMosaic.TcCoe Idealize.ShloMosaic.ValueIdx Idealize.ShloMosaic.Tactic Idealize.SL.Sem
open Idealize.ShloMosaic.Pipeline (Dat)

/-! ## The frames -/

theorem frame_ideal : Cert.quiescent_AbInIdeal (hAbInIdeal := AbInIdeal.Gen.facts) := fun m ρ _ => frame_any m ρ

/-- The two programs are the same text, so the machine's own frame is the same theorem. -/
theorem frame_same : Cert.quiescent_AbIn (hAbIn := AbIn.Gen.facts) = (∀ (m : (ℓ : Loc nD τ sig) → Buf (Elt Bits) ℓ) (g : Dev nD → PrngReg), True →
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0)) := by sl_kernel_rfl
theorem frame : Cert.quiescent_AbIn (hAbIn := AbIn.Gen.facts) := frame_same ▸ fun m ρ _ => frame_any m ρ

/-! ## The payloads at an index -/

theorem rows_apply (x : Vec Ideal S1024x2048 .f32) (w : Vec Ideal S1x2048 .f32) (r : Fin 1024) (k : Fin 2048) :
    k0_pay1 x w (ix2 r k) = normed (fun j => x (ix2 r j)) (fun j => w (ix2 0 j)) k := by
  pointwise [k0_pay1, normed]
  rfl

theorem pay2_apply (x : Vec Ideal S1024x2048 .f32) (w : Vec Ideal S1x2048 .f32) (r : Fin 1024) (k : Fin 2048) :
    k0_pay2 x w (ix2 r k) = normed (fun j => x (ix2 r j)) (fun j => w (ix2 0 j)) k := by
  unfold k0_pay2
  exact (shapeCast_apply (k0_pay1 x w) _ _ (ix2 r k) rfl).trans (rows_apply x w r k)

theorem pay4_apply (x : Vec Ideal S1024x2048 .bf16) (w : Vec Ideal S1x512x2048 .f32) (r : Fin 1024) (q : Fin 512) :
    k0_pay4 x w (ix2 r q) = (∑ k : Fin 2048, x (ix2 r k) * w (ix3 0 q k) : EReal) := by
  unfold k0_pay4
  refine (matmulT_zero_apply _ rfl _ _ r q).trans (Finset.sum_congr rfl fun k _ => congrArg _ ?_)
  exact drop_apply w _ q k
theorem pay5_apply (x : Vec Ideal S1024x2048 .bf16) (w : Vec Ideal S1x512x2048 .f32) (r : Fin 1024) (q : Fin 512) :
    k0_pay5 x w (ix2 r q) = (∑ k : Fin 2048, x (ix2 r k) * w (ix3 0 q k) : EReal) := pay4_apply x w r q

theorem pay3_apply (x : Vec Ideal S1024x2048 .f32) (nw : Vec Ideal S1x2048 .f32) (w : Vec Ideal S1x128x2048 .f32) (r : Fin 1024) (q : Fin 128) :
    k0_pay3 x nw w (ix2 r q) = (∑ k : Fin 2048, normed (fun j => x (ix2 r j)) (fun j => nw (ix2 0 j)) k * w (ix3 0 q k) : EReal) := by
  unfold k0_pay3
  refine (matmulT_zero_apply _ rfl _ _ r q).trans (Finset.sum_congr rfl fun k _ => congrArg₂ (· * ·) (rows_apply x nw r k) ?_)
  exact drop_apply w _ q k

variable (m : (ℓ : Loc nD τ sig) → Buf (Elt Ideal) ℓ)

/-! ## The arrays the region finds -/

/-- The weights as the kernel reads them: columns first. -/
theorem V_v0 (c : Dev nD) (a : Fin 2) (q : Fin 6160) (k : Fin 2048) :
    V m c main_v0 (ix3 a q k) = m ((c : Thread nD τ).loc main_arg2) (ix3 a k q) := by
  have e : V m c main_v0 = transpose S2x6160x2048 [0, 2, 1] (m ((c : Thread nD τ).loc main_arg2)) transposes_S2x2048x6160_S2x6160x2048_0_2_1 := by
    funext j; rfl
  rw [e]
  exact transpose_apply _ _ _ _ _ fun b => by fin_cases b <;> rfl
/-- The columns behind the gates. -/
theorem V_v1 (c : Dev nD) (a : Fin 2) (q : Fin 3072) (k : Fin 2048) :
    V m c main_v1 (ix3 a q k) = m ((c : Thread nD τ).loc main_arg2) (ix3 a k ⟨3088 + q.val, by have := q.isLt; omega⟩) := by
  have e : V m c main_v1 = extractStridedSlice S2x3072x2048 ![0, 3088, 0] (V m c main_v0) slices_S2x6160x2048_S2x3072x2048_0_3088_0 := by
    funext j; rfl
  rw [e]
  refine Eq.trans ?_ (V_v0 m c a _ k)
  exact extractStridedSlice_apply _ _ _ _ _ fun d => match d with
    | ⟨0, _⟩ => (Nat.zero_add _).symm | ⟨1, _⟩ => rfl | ⟨2, _⟩ => (Nat.zero_add _).symm
/-- The norm's weights as one row. -/
theorem V_v2 (c : Dev nD) (k : Fin 2048) :
    V m c main_v2 (ix2 0 k) = m ((c : Thread nD τ).loc main_arg1) (ix1 k) := by
  have e : V m c main_v2 = shapeCast S1x2048 (m ((c : Thread nD τ).loc main_arg1)) shapeCasts_S2048_S1x2048 := by
    funext j; rfl
  rw [e]
  refine shapeCast_apply (s := S2048) _ _ _ _ ?_
  rw [Shape.rowMajor_val_one, Shape.rowMajor_val_two]; show k.val = 0 * 2048 + k.val; omega

theorem idx2 : ∀ t : Fin cfg0.N, win0_2.index t = ![0, min (t.val % 12) 5, 0] := (by decide +kernel : ∀ t : Fin grid0.N, _)
theorem idx3 : ∀ t : Fin cfg0.N, win0_3.index t = ![0, t.val % 12 - 6, 0] := (by decide +kernel : ∀ t : Fin grid0.N, _)
theorem idx5 : ∀ t : Fin cfg0.N, win0_5.index t = ![t.val / 12, t.val % 12] := (by decide +kernel : ∀ t : Fin grid0.N, _)
theorem idx6 : ∀ t : Fin cfg0.N, win0_6.index t = ![t.val / 12, 0] := (by decide +kernel : ∀ t : Fin grid0.N, _)

/-! ## The blocks at an index -/

theorem rows_at (c : Dev nD) (t : Fin cfg0.N) (r : Fin 1024) (k : Fin 2048) :
    (iblk m c 0 t : Vec Ideal S1024x2048 .f32) (ix2 r k)
      = m ((c : Thread nD τ).loc main_arg0) (ix2 ⟨t.val / 12 * 1024 + r.val, by have := r.isLt; have : t.val < 96 := t.isLt; omega⟩ k) := by
  have ht : t.val < 96 := t.isLt
  blk_simp [iblk]
  refine congrArg _ ?_
  blk_ext [index0, ix2_0, ix2_1]

theorem norm_at (c : Dev nD) (t : Fin cfg0.N) (k : Fin 2048) :
    (iblk m c 1 t : Vec Ideal S1x2048 .f32) (ix2 0 k) = m ((c : Thread nD τ).loc main_arg1) (ix1 k) := by
  refine Eq.trans ?_ (V_v2 m c k)
  blk_simp [iblk]
  refine congrArg (V m c main_v2) ?_
  blk_ext [index1, ix2_0, ix2_1]

theorem tail_at (c : Dev nD) (t : Fin cfg0.N) (q : Fin 128) (k : Fin 2048) :
    (X0_4 m c t : Vec Ideal S1x128x2048 .f32) (ix3 0 q k)
      = m ((c : Thread nD τ).loc main_arg2) (ix3 0 k ⟨3072 + q.val, by have := q.isLt; omega⟩) := by
  refine Eq.trans ?_ (V_v0 m c 0 _ k)
  unfold X0_4 Pipeline.Window.fill
  rw [dif_pos (moved0_4 t _)]
  blk_simp [iblk]
  refine congrArg (V m c main_v0) ?_
  blk_ext [index4, ix3_0, ix3_1, ix3_2]

/-- A block of the first columns, at the points that read it. -/
theorem left_at (c : Dev nD) (t : Fin cfg0.N) (h : t.val % 12 < 6) (q : Fin 512) (k : Fin 2048) :
    (X0_2 m c t : Vec Ideal S1x512x2048 .f32) (ix3 0 q k)
      = m ((c : Thread nD τ).loc main_arg2) (ix3 0 k ⟨t.val % 12 * 512 + q.val, by have := q.isLt; omega⟩) := by
  have hm : min (t.val % 12) 5 = t.val % 12 := by omega
  refine Eq.trans ?_ (V_v0 m c 0 _ k)
  unfold X0_2 Pipeline.Window.fill
  rw [dif_pos (moved0_2 t _)]
  blk_simp [iblk]
  refine congrArg (V m c main_v0) ?_
  blk_ext [idx2, hm, ix3_0, ix3_1, ix3_2]

/-- A block of the columns behind the gates, at the points that read it. -/
theorem right_at (c : Dev nD) (t : Fin cfg0.N) (h : ¬t.val % 12 < 6) (q : Fin 512) (k : Fin 2048) :
    (iblk m c 3 t : Vec Ideal S1x512x2048 .f32) (ix3 0 q k)
      = m ((c : Thread nD τ).loc main_arg2) (ix3 0 k ⟨t.val % 12 * 512 + q.val + 16, by have := q.isLt; omega⟩) := by
  have hq := q.isLt
  refine Eq.trans ?_ ((V_v1 m c 0 ⟨(t.val % 12 - 6) * 512 + q.val, by omega⟩ k).trans
    (congrArg (m ((c : Thread nD τ).loc main_arg2)) (congrArg (ix3 0 k) (Fin.ext (show 3088 + ((t.val % 12 - 6) * 512 + q.val) = t.val % 12 * 512 + q.val + 16 by omega)))))
  blk_simp [iblk]
  refine congrArg (V m c main_v1) ?_
  blk_ext [idx3, ix3_0, ix3_1, ix3_2]

/-! ## What the kernel leaves -/

/-- The column of the weights the first array's column is: the 16 gate columns are left out. -/
def around (q : Fin 6144) : Fin 6160 := if q.val < 3072 then ⟨q.val, by have := q.isLt; omega⟩ else ⟨q.val + 16, by have := q.isLt; omega⟩
/-- The column of the weights the second array's column is. -/
def gates (q : Fin 128) : Fin 6160 := ⟨3072 + q.val, by have := q.isLt; omega⟩

/-- The normalised rows times the weights' columns `col`. -/
def full (n : ℕ) (col : Fin n → Fin 6160) (x : S8192x2048.Idx → EReal) (nw : S2048.Idx → EReal) (w : S2x2048x6160.Idx → EReal) :
    (⟨2, ![8192, n]⟩ : Shape).Idx → EReal :=
  fun i => ∑ k : Fin 2048, normed (fun j => x (ix2 (i 0) j)) (fun j => nw (ix1 j)) k * w (ix3 0 k (col (i 1)))

/-- The normalised rows the scratch holds. -/
theorem normed_at (c : Dev nD) (t : Fin cfg0.N) (r : Fin 1024) (k : Fin 2048) :
    normed (fun j => (iblk m c 0 t : Vec Ideal S1024x2048 .f32) (ix2 r j)) (fun j => (iblk m c 1 t : Vec Ideal S1x2048 .f32) (ix2 0 j)) k
      = normed (fun j => m ((c : Thread nD τ).loc main_arg0) (ix2 ⟨t.val / 12 * 1024 + r.val, by have := r.isLt; have : t.val < 96 := t.isLt; omega⟩ j))
          (fun j => m ((c : Thread nD τ).loc main_arg1) (ix1 j)) k := by
  simp only [rows_at, norm_at]

/-- What a point's first output holds at an index. -/
theorem prod_at (c : Dev nD) (t : Fin cfg0.N) (r : Fin 1024) (q : Fin 512) :
    prod m c t (ix2 r q) = full 6144 around (m ((c : Thread nD τ).loc main_arg0)) (m ((c : Thread nD τ).loc main_arg1)) (m ((c : Thread nD τ).loc main_arg2))
      (ix2 ⟨t.val / 12 * 1024 + r.val, by have := r.isLt; have : t.val < 96 := t.isLt; omega⟩ ⟨t.val % 12 * 512 + q.val, by have := q.isLt; omega⟩) := by
  have hq := q.isLt
  unfold prod full
  by_cases h : t.val % 12 < 6
  · rw [if_pos h, pay4_apply]
    refine Finset.sum_congr (M := EReal) rfl fun k _ => congrArg₂ (· * ·) ((pay2_apply _ _ r k).trans (normed_at m c t r k)) ((left_at m c t h q k).trans ?_)
    refine congrArg _ (congrArg (ix3 0 k) ?_)
    exact (if_pos (show t.val % 12 * 512 + q.val < 3072 by omega)).symm
  · rw [if_neg h, pay5_apply]
    refine Finset.sum_congr (M := EReal) rfl fun k _ => congrArg₂ (· * ·) ((pay2_apply _ _ r k).trans (normed_at m c t r k)) ((right_at m c t h q k).trans ?_)
    refine congrArg _ (congrArg (ix3 0 k) ?_)
    exact (if_neg (show ¬t.val % 12 * 512 + q.val < 3072 by omega)).symm

/-- The first array the kernel leaves. -/
theorem final5 (c : Dev nD) : (dats m 0 c).arrAt 5 cfg0.N
    = full 6144 around (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after5]
  frame_out
  obtain ⟨r, q, rfl⟩ : ∃ (r : Fin 1024) (q : Fin 512), y = ix2 r q := ⟨y 0, y 1, eq_ix2 y⟩
  have ht : t.val < 96 := t.isLt
  have e : ((View.whole main_v3_0).slice (win0_5.rect t)).emb (ix2 r q)
      = (ix2 ⟨t.val / 12 * 1024 + r.val, by have := r.isLt; omega⟩ ⟨t.val % 12 * 512 + q.val, by have := q.isLt; omega⟩ : S8192x6144.Idx) := by
    blk_ext [idx5, ix2_0, ix2_1]
  rw [prod_at, e]

/-- The second. -/
theorem final6 (c : Dev nD) : (dats m 0 c).arrAt 6 cfg0.N
    = full 128 gates (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp
  rw [after6]
  frame_out
  obtain ⟨r, q, rfl⟩ : ∃ (r : Fin 1024) (q : Fin 128), y = ix2 r q := ⟨y 0, y 1, eq_ix2 y⟩
  have ht : t.val < 96 := t.isLt
  have e : ((View.whole main_v3_1).slice (win0_6.rect t)).emb (ix2 r q)
      = (ix2 ⟨t.val / 12 * 1024 + r.val, by have := r.isLt; omega⟩ q : S8192x128.Idx) := by
    blk_ext [idx6, ix2_0, ix2_1]
  rw [tail, pay3_apply, e]
  unfold full
  exact Finset.sum_congr (M := EReal) rfl fun k _ => congrArg₂ (· * ·) (normed_at m c t r k) (tail_at m c t q k)

/-! ## The claim -/

/-- The run, read: the results at the two products, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v3_0)
        = full 6144 around (m ((c : Thread nD τ).loc main_arg0)) (m ((c : Thread nD τ).loc main_arg1)) (m ((c : Thread nD τ).loc main_arg2))
      ∧ r.2.mem ((c : Thread nD τ).loc main_v3_1)
        = full 128 gates (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  refine (θ_run defs _ _).mono (fun r h c => ?_) (θ_run_and (run_main m ρ) (frame_any m ρ))
  exact ⟨(h.1.out_eq c 5).trans (final5 m c), (h.1.out_eq c 6).trans (final6 m c), h.2.1 c⟩

/-- The reference's normalised rows. -/
theorem ref_normed (x : S8192x2048.Idx → EReal) (nw : S2048.Idx → EReal) (r : Fin 8192) (k : Fin 2048) :
    AbInRefIdeal.Read.val_main_v12 (F := Ideal) x nw (ix2 r k) = normed (fun j => x (ix2 r j)) (fun j => nw (ix1 j)) k := by
  pointwise [AbInRefIdeal.Read.val_main_v12, AbInRefIdeal.Read.val_main_v11, AbInRefIdeal.Read.val_main_v10, AbInRefIdeal.Read.val_main_v9,
    AbInRefIdeal.Read.val_main_v8, AbInRefIdeal.Read.val_main_v7, AbInRefIdeal.Read.val_main_v6, AbInRefIdeal.Read.val_main_v5,
    AbInRefIdeal.Read.val_main_v4, AbInRefIdeal.Read.val_main_v3, AbInRefIdeal.Read.val_main_v2, AbInRefIdeal.Read.val_main_v1,
    AbInRefIdeal.Read.val_main_v0, AbInRefIdeal.Read.val_main_cst, AbInRefIdeal.Read.val_main_cst_0, AbInRefIdeal.Read.val_main_cst_1, normed]
  rfl

/-- The reference's product. -/
theorem ref_product (x : S8192x2048.Idx → EReal) (nw : S2048.Idx → EReal) (w : S2x2048x6160.Idx → EReal) (r : Fin 8192) (q : Fin 6160) :
    AbInRefIdeal.Read.val_main_v15 (F := Ideal) x nw w (ix2 r q)
      = ∑ k : Fin 2048, normed (fun j => x (ix2 r j)) (fun j => nw (ix1 j)) k * w (ix3 0 k q) := by
  rw [AbInRefIdeal.Read.val_main_v15_apply]
  refine Finset.sum_congr rfl fun k _ => congrArg₂ (· * ·) ?_ ?_
  · rw [← ref_normed]
    exact congrArg _ (funext fun d => by fin_cases d <;> rfl)
  · rw [AbInRefIdeal.Read.val_main_v14_apply, AbInRefIdeal.Read.val_main_v13_apply]
    refine congrArg w (funext fun d => Fin.ext ?_)
    have h0 : k.val < 2048 := k.isLt
    have h1 : q.val < 6160 := q.isLt
    match d with
    | ⟨0, _⟩ => rfl
    | ⟨1, _⟩ => show (k.val * 6160 + q.val) / 6160 % 2048 = k.val; omega
    | ⟨2, _⟩ => show (k.val * 6160 + q.val) % 6160 = q.val; omega

/-- Its first result, in either half of the columns. -/
theorem ref_left (x : S8192x2048.Idx → EReal) (nw : S2048.Idx → EReal) (w : S2x2048x6160.Idx → EReal) (r : Fin 8192) (q : Fin 6144) (h : q.val < 3072) :
    AbInRefIdeal.Read.val_main_v18 (F := Ideal) x nw w (ix2 r q) = AbInRefIdeal.Read.val_main_v16 (F := Ideal) x nw w (ix2 r ⟨q.val, h⟩) := by
  unfold AbInRefIdeal.Read.val_main_v18
  exact concatenate_pair_apply_left (t := S8192x6144) (s₁ := AbInRefIdeal.S8192x3072) (s₂ := AbInRefIdeal.S8192x3072) (1 : Fin 2) _ _ _ (ix2 r q) rfl
    (ix2 r ⟨q.val, h⟩) (fun d => match d with | ⟨0, _⟩ => rfl | ⟨1, _⟩ => rfl)
theorem ref_right (x : S8192x2048.Idx → EReal) (nw : S2048.Idx → EReal) (w : S2x2048x6160.Idx → EReal) (r : Fin 8192) (q : Fin 6144) (h : ¬q.val < 3072) :
    AbInRefIdeal.Read.val_main_v18 (F := Ideal) x nw w (ix2 r q)
      = AbInRefIdeal.Read.val_main_v17 (F := Ideal) x nw w (ix2 r ⟨q.val - 3072, by have := q.isLt; omega⟩) := by
  unfold AbInRefIdeal.Read.val_main_v18
  exact concatenate_pair_apply_right (t := S8192x6144) (s₁ := AbInRefIdeal.S8192x3072) (s₂ := AbInRefIdeal.S8192x3072) (1 : Fin 2) _ _ _ (ix2 r q) rfl rfl
    (ix2 r ⟨q.val - 3072, by have := q.isLt; omega⟩)
    (fun d hd => match d with | ⟨0, _⟩ => rfl | ⟨1, _⟩ => absurd rfl hd) (by show q.val - 3072 + 3072 = q.val; omega)

theorem ref_eq5 (x : S8192x2048.Idx → EReal) (nw : S2048.Idx → EReal) (w : S2x2048x6160.Idx → EReal) :
    AbInRefIdeal.Read.val_main_v18 (F := Ideal) x nw w = full 6144 around x nw w := by
  funext i
  obtain ⟨r, q, rfl⟩ : ∃ (r : Fin 8192) (q : Fin 6144), i = ix2 r q := ⟨i 0, i 1, eq_ix2 i⟩
  by_cases h : q.val < 3072
  · rw [ref_left x nw w r q h, AbInRefIdeal.Read.val_main_v16_apply]
    refine (congrArg _ ?_).trans (ref_product x nw w r (around q))
    funext d; fin_cases d
    · rfl
    · exact Fin.ext (by show q.val = (around q).val; unfold around; rw [if_pos h])
  · rw [ref_right x nw w r q h, AbInRefIdeal.Read.val_main_v17_apply]
    refine (congrArg _ ?_).trans (ref_product x nw w r (around q))
    funext d; fin_cases d
    · rfl
    · exact Fin.ext (by show 3088 + (q.val - 3072) = (around q).val; unfold around; rw [if_neg h]; show _ = q.val + 16; omega)
theorem ref_eq6 (x : S8192x2048.Idx → EReal) (nw : S2048.Idx → EReal) (w : S2x2048x6160.Idx → EReal) :
    AbInRefIdeal.Read.val_main_v19 (F := Ideal) x nw w = full 128 gates x nw w := by
  funext i
  rw [AbInRefIdeal.Read.val_main_v19_apply]
  refine (congrArg _ ?_).trans (ref_product x nw w (i 0) (gates (i 1)))
  funext d; fin_cases d <;> rfl

/-- Kernel and reference run, and from equal arguments end at the same two arrays. -/
theorem algebraic : Cert.algebraic_AbInIdeal_AbInRefIdeal (hAbInIdeal := AbInIdeal.Gen.facts) (hAbInRefIdeal := AbInRefIdeal.Gen.facts) := by
  intro m g m' g' _ hargs
  refine ⟨fun c => full 6144 around (m ((c.tc : Thread _ _).loc main_arg0)) (m ((c.tc : Thread _ _).loc main_arg1))
    (m ((c.tc : Thread _ _).loc main_arg2)), fun c => full 128 gates (m ((c.tc : Thread _ _).loc main_arg0)) (m ((c.tc : Thread _ _).loc main_arg1))
    (m ((c.tc : Thread _ _).loc main_arg2)), run m g, ?_⟩
  refine (θ_run (AbInRefIdeal.defs (F := Ideal)) _ _).mono (fun r h c => ?_) (AbInRefIdeal.Value.run (F := Ideal) m' g')
  obtain ⟨hv, hw, h0, h1, h2⟩ := h c
  refine ⟨hv.trans ?_, hw.trans ?_, h0, h1, h2⟩
  · rw [(hargs c).1, (hargs c).2.1, (hargs c).2.2]
    exact (AbInRefIdeal.Read.val_main_v18_eq _ _ _).trans (ref_eq5 _ _ _)
  · rw [(hargs c).1, (hargs c).2.1, (hargs c).2.2]
    exact (AbInRefIdeal.Read.val_main_v19_eq _ _ _).trans (ref_eq6 _ _ _)

/-- The reference's frame: its run, read at the arguments; it has no semaphore. -/
theorem frame_ref : Cert.quiescent_AbInRefIdeal (hAbInRefIdeal := AbInRefIdeal.Gen.facts) := fun m ρ _ =>
  (θ_run AbInRefIdeal.defs _ _).mono (fun r h => ⟨fun c => (h c).2.2, Idealize.ShloMosaic.sem_eq_zero_of_no_sems (by decide) r.2⟩)
    (AbInRefIdeal.Value.run (F := Ideal) m ρ)

end Cert.AbInProof

end
-- ==== Proof.FfnUpForm.lean ====
/-
  The up projection of the feed-forward block with its convolution, in closed form: the arrays kernel and reference both leave.
-/
module

public import proofs.«01_k».proof.Proof.Products
public import Idealize.ShloMosaic.Lib.IdealHost

@[expose] public section

noncomputable section

namespace Cert.FfnUpForm

open Idealize.ShloMosaic hiding ix1 ix2 ix3 eq_ix2
open Idealize.ShloMosaic.ValueIdx Cert.Products

variable (x : (⟨2, ![8192, 2048]⟩ : Shape).Idx → EReal) (nw : (⟨1, ![2048]⟩ : Shape).Idx → EReal) (w : (⟨3, ![4, 2048, 11008]⟩ : Shape).Idx → EReal)
  (cw : (⟨2, ![3, 11008]⟩ : Shape).Idx → EReal) (cb : (⟨1, ![11008]⟩ : Shape).Idx → EReal)

/-- The normalised row `r` times the weights' column `p`. -/
def prodAt (r : Fin 8192) (p : Fin 11008) : EReal :=
  ∑ k : Fin 2048, normed (fun j => x (ix2 r j)) (fun j => nw (ix1 j)) k * w (ix3 0 k p)

/-- What tap `d` of the convolution at row `r` reads: the product `2 - d` rows before, zero before the sequence's first row. -/
def padded (r : Fin 8192) (d : Fin 3) (p : Fin 11008) : EReal :=
  if 2 ≤ r.val % 4096 + d.val then prodAt x nw w ⟨r.val + d.val - 2, by have := r.isLt; have := d.isLt; omega⟩ p else 0

/-- The convolution with its bias. -/
def conv (r : Fin 8192) (p : Fin 11008) : EReal :=
  padded x nw w r 0 p * cw (ix2 0 p) + padded x nw w r 1 p * cw (ix2 1 p) + padded x nw w r 2 p * cw (ix2 2 p) + cb (ix1 p)

/-- A gate value over one plus the exponential of its negative, times an up value. -/
def swish (g u : EReal) : EReal :=
  Ideal.div g (Ideal.ofBits .f32 0x3F800000#32 + Ideal.exp (Ideal.ofBits .f32 0x00000000#32 - g)) * u

/-- A column of the up half. -/
abbrev upper (q : Fin 5504) : Fin 11008 := ⟨5504 + q.val, by have := q.isLt; omega⟩
/-- A column of the gate half. -/
abbrev lower (q : Fin 5504) : Fin 11008 := ⟨q.val, by have := q.isLt; omega⟩

/-- The activated product. -/
def activated : (⟨2, ![8192, 5504]⟩ : Shape).Idx → EReal := fun i =>
  swish (conv x nw w cw cb (i 0) (lower (i 1))) (conv x nw w cw cb (i 0) (upper (i 1)))

/-- The last eight rows of every 1024 rows of the product, in the columns `col`. -/
def lastRows (col : Fin 5504 → Fin 11008) : (⟨3, ![8, 8, 5504]⟩ : Shape).Idx → EReal := fun i =>
  prodAt x nw w ⟨(i 0).val * 1024 + 1016 + (i 1).val, by have : (i 0).val < 8 := (i 0).isLt; have : (i 1).val < 8 := (i 1).isLt; omega⟩ (col (i 2))

/-- An exponential is not negative. -/
theorem exp_nonneg (a : EReal) : 0 ≤ Ideal.exp a := by
  induction a using EReal.rec with
  | bot => exact le_refl _
  | top => exact le_top
  | coe r => exact EReal.coe_nonneg.mpr (Real.exp_pos r).le

/-- One plus an exponential is not zero. -/
theorem one_add_exp_ne (a : EReal) : (1 : EReal) + Ideal.exp a ≠ 0 :=
  ne_of_gt (lt_of_lt_of_le zero_lt_one (le_add_of_nonneg_right (exp_nonneg a)))

/-- Dividing by one plus an exponential is multiplying by its reciprocal. -/
theorem swish_eq (g u : EReal) : swish g u = g * Ideal.div 1 (1 + Ideal.exp (-g)) * u := by
  unfold swish Ideal.div
  rw [Ideal.ofBits_one_f32, Ideal.ofBits_zero_f32, zero_sub, if_neg (one_add_exp_ne _), if_neg (one_add_exp_ne _), one_mul]

end Cert.FfnUpForm

end
-- ==== Proof.FfnUpRef.lean ====
/-
  The reference of the up projection with its convolution, read index by index: the closed forms of the three arrays.
-/
module

public import proofs.«01_k».proof.Defs
public import proofs.«01_k».proof.Proof.FfnUpForm
public import proofs.«01_k».proof.Proof.Gen.FfnUpRefIdeal.Read
public import Idealize.ShloMosaic.Lib.Quiescent
public import Idealize.ShloMosaic.Lib.Pointwise

@[expose] public section

set_option maxRecDepth 16384

noncomputable section

namespace Cert.FfnUpRefProof

open Cert.FfnUpRefIdeal Cert.Products Cert.FfnUpForm Cert.FfnUpRefIdeal.Read
open Idealize.ShloMosaic hiding ix1 ix2 ix3 eq_ix2
open Idealize.ShloMosaic.TcCoe Idealize.ShloMosaic.ValueIdx Idealize.ShloMosaic.Tactic Idealize.SL.Sem

variable (x : S8192x2048.Idx → EReal) (nw : S2048.Idx → EReal) (w : S4x2048x11008.Idx → EReal) (cw : S3x11008.Idx → EReal) (cb : S11008.Idx → EReal)

/-- The reference's normalised rows. -/
theorem ref_normed (r : Fin 8192) (k : Fin 2048) :
    val_main_v12 (F := Ideal) x nw (ix2 r k) = normed (fun j => x (ix2 r j)) (fun j => nw (ix1 j)) k := by
  pointwise [val_main_v12, val_main_v11, val_main_v10, val_main_v9, val_main_v8, val_main_v7, val_main_v6, val_main_v5,
    val_main_v4, val_main_v3, val_main_v2, val_main_v1, val_main_v0, val_main_cst, val_main_cst_0, val_main_cst_1, normed]
  rfl

/-- The reference's product. -/
theorem ref_product (r : Fin 8192) (q : Fin 11008) : val_main_v15 (F := Ideal) x nw w (ix2 r q) = prodAt x nw w r q := by
  unfold prodAt
  rw [val_main_v15_apply]
  refine Finset.sum_congr rfl fun k _ => congrArg₂ (· * ·) ?_ ?_
  · rw [← ref_normed]
    exact congrArg _ (funext fun d => by fin_cases d <;> rfl)
  · rw [val_main_v14_apply, val_main_v13_apply]
    refine congrArg w (funext fun d => Fin.ext ?_)
    have h0 : k.val < 2048 := k.isLt
    have h1 : q.val < 11008 := q.isLt
    match d with
    | ⟨0, _⟩ => rfl
    | ⟨1, _⟩ => show (k.val * 11008 + q.val) / 11008 % 2048 = k.val; omega
    | ⟨2, _⟩ => show (k.val * 11008 + q.val) % 11008 = q.val; omega

/-- The product by sequence and row in it. -/
theorem ref_seq (b : Fin 2) (s : Fin 4096) (p : Fin 11008) :
    val_main_v16 (F := Ideal) x nw w (ix3 b s p) = prodAt x nw w ⟨b.val * 4096 + s.val, by have := b.isLt; have := s.isLt; omega⟩ p := by
  rw [val_main_v16_apply, ← ref_product]
  have h2 : p.val < 11008 := p.isLt
  refine congrArg _ (funext fun d => Fin.ext ?_)
  match d with
  | ⟨0, _⟩ => show ((b.val * 4096 + s.val) * 11008 + p.val) / 11008 = b.val * 4096 + s.val; omega
  | ⟨1, _⟩ => show ((b.val * 4096 + s.val) * 11008 + p.val) % 11008 = p.val; omega

/-- The padded product: two rows of zeros above every sequence. -/
theorem ref_padded (b : Fin 2) (s : Fin 4096) (d : Fin 3) (p : Fin 11008) (e : Fin 4098) (he : e.val = s.val + d.val) :
    val_main_v18 (F := Ideal) x nw w (ix3 b e p) = padded x nw w ⟨b.val * 4096 + s.val, by have := b.isLt; have := s.isLt; omega⟩ d p := by
  have hb := b.isLt; have hs := s.isLt; have hd := d.isLt
  unfold padded val_main_v18
  by_cases h : 2 ≤ s.val + d.val
  · rw [if_pos (show 2 ≤ (b.val * 4096 + s.val) % 4096 + d.val by omega)]
    refine (concatenate_pair_apply_right (t := S2x4098x11008) (s₁ := S2x2x11008) (s₂ := S2x4096x11008) (1 : Fin 3) _ _ _ (ix3 b e p) rfl rfl
      (ix3 b ⟨e.val - 2, by omega⟩ p)
      (fun d hd => match d with | ⟨0, _⟩ => rfl | ⟨1, _⟩ => absurd rfl hd | ⟨2, _⟩ => rfl) (by show e.val - 2 + 2 = e.val; omega)).trans ?_
    rw [ref_seq]
    exact congrArg (prodAt x nw w · p) (Fin.ext (by show b.val * 4096 + (e.val - 2) = b.val * 4096 + s.val + d.val - 2; omega))
  · rw [if_neg (show ¬2 ≤ (b.val * 4096 + s.val) % 4096 + d.val by omega)]
    refine (concatenate_pair_apply_left (t := S2x4098x11008) (s₁ := S2x2x11008) (s₂ := S2x4096x11008) (1 : Fin 3) _ _ _ (ix3 b e p) rfl
      (ix3 b ⟨e.val, by omega⟩ p)
      (fun d => match d with | ⟨0, _⟩ => rfl | ⟨1, _⟩ => rfl | ⟨2, _⟩ => rfl)).trans ?_
    rw [val_main_v17_apply, val_main_cst_2_apply]
    exact Ideal.ofBits_zero_f32

theorem ref_tap0 (b : Fin 2) (s : Fin 4096) (p : Fin 11008) : val_main_v19 (F := Ideal) x nw w (ix3 b s p)
    = padded x nw w ⟨b.val * 4096 + s.val, by have := b.isLt; have := s.isLt; omega⟩ 0 p := by
  rw [val_main_v19_apply, ← ref_padded x nw w b s 0 p ⟨s.val, by have := s.isLt; omega⟩ rfl]
  exact congrArg _ (funext fun d => by fin_cases d <;> rfl)
theorem ref_tap1 (b : Fin 2) (s : Fin 4096) (p : Fin 11008) : val_main_v25 (F := Ideal) x nw w (ix3 b s p)
    = padded x nw w ⟨b.val * 4096 + s.val, by have := b.isLt; have := s.isLt; omega⟩ 1 p := by
  rw [val_main_v25_apply, ← ref_padded x nw w b s 1 p ⟨1 + s.val, by have := s.isLt; omega⟩ (Nat.add_comm _ _)]
  exact congrArg _ (funext fun d => by fin_cases d <;> rfl)
theorem ref_tap2 (b : Fin 2) (s : Fin 4096) (p : Fin 11008) : val_main_v32 (F := Ideal) x nw w (ix3 b s p)
    = padded x nw w ⟨b.val * 4096 + s.val, by have := b.isLt; have := s.isLt; omega⟩ 2 p := by
  rw [val_main_v32_apply, ← ref_padded x nw w b s 2 p ⟨2 + s.val, by have := s.isLt; omega⟩ (Nat.add_comm _ _)]
  exact congrArg _ (funext fun d => by fin_cases d <;> rfl)

theorem ref_w0 (b : Fin 2) (s : Fin 4096) (p : Fin 11008) : val_main_v23 (F := Ideal) cw (ix3 b s p) = cw (ix2 0 p) := by
  rw [val_main_v23_apply, val_main_v22_apply, val_main_v21_apply, val_main_v20_apply]
  refine congrArg cw (funext fun d => Fin.ext ?_)
  match d with
  | ⟨0, _⟩ => rfl
  | ⟨1, _⟩ => exact Nat.mod_eq_of_lt p.isLt
theorem ref_w1 (b : Fin 2) (s : Fin 4096) (p : Fin 11008) : val_main_v29 (F := Ideal) cw (ix3 b s p) = cw (ix2 1 p) := by
  rw [val_main_v29_apply, val_main_v28_apply, val_main_v27_apply, val_main_v26_apply]
  refine congrArg cw (funext fun d => Fin.ext ?_)
  match d with
  | ⟨0, _⟩ => rfl
  | ⟨1, _⟩ => exact Nat.mod_eq_of_lt p.isLt
theorem ref_w2 (b : Fin 2) (s : Fin 4096) (p : Fin 11008) : val_main_v36 (F := Ideal) cw (ix3 b s p) = cw (ix2 2 p) := by
  rw [val_main_v36_apply, val_main_v35_apply, val_main_v34_apply, val_main_v33_apply]
  refine congrArg cw (funext fun d => Fin.ext ?_)
  match d with
  | ⟨0, _⟩ => rfl
  | ⟨1, _⟩ => exact Nat.mod_eq_of_lt p.isLt
theorem ref_bias (b : Fin 2) (s : Fin 4096) (p : Fin 11008) : val_main_v40 (F := Ideal) cb (ix3 b s p) = cb (ix1 p) := by
  rw [val_main_v40_apply, val_main_v39_apply]
  exact congrArg cb (funext fun d => match d with | ⟨0, _⟩ => rfl)

/-- The reference's convolution. -/
theorem ref_conv (b : Fin 2) (s : Fin 4096) (p : Fin 11008) : val_main_v41 (F := Ideal) x nw w cw cb (ix3 b s p)
    = conv x nw w cw cb ⟨b.val * 4096 + s.val, by have := b.isLt; have := s.isLt; omega⟩ p := by
  rw [val_main_v41_apply, val_main_v38_apply, val_main_v31_apply, val_main_v24_apply, val_main_v30_apply, val_main_v37_apply,
    ref_tap0, ref_tap1, ref_tap2, ref_w0, ref_w1, ref_w2, ref_bias]
  rfl

/-- Its first result. -/
theorem ref_activated : val_main_v47 (F := Ideal) x nw w cw cb = activated x nw w cw cb := by
  funext i
  obtain ⟨r, q, rfl⟩ : ∃ (r : Fin 8192) (q : Fin 5504), i = ix2 r q := ⟨i 0, i 1, eq_ix2 i⟩
  have hr := r.isLt; have hq := q.isLt
  have ei : idx_main_v47 (ix2 r q) = ix3 ⟨r.val / 4096, by omega⟩ ⟨r.val % 4096, by omega⟩ q := by
    funext d
    refine Fin.ext ?_
    match d with
    | ⟨0, _⟩ => show (r.val * 5504 + q.val) / 22544384 = r.val / 4096; omega
    | ⟨1, _⟩ => show (r.val * 5504 + q.val) / 5504 % 4096 = r.val % 4096; omega
    | ⟨2, _⟩ => show (r.val * 5504 + q.val) % 5504 = q.val; omega
  have er : (⟨r.val / 4096 * 4096 + r.val % 4096, by omega⟩ : Fin 8192) = r := Fin.ext (by show r.val / 4096 * 4096 + r.val % 4096 = r.val; omega)
  have eg : val_main_v42 (F := Ideal) x nw w cw cb (ix3 ⟨r.val / 4096, by omega⟩ ⟨r.val % 4096, by omega⟩ q) = conv x nw w cw cb r (lower q) := by
    rw [val_main_v42_apply]
    refine Eq.trans (congrArg _ ?_) ((ref_conv x nw w cw cb ⟨r.val / 4096, by omega⟩ ⟨r.val % 4096, by omega⟩ (lower q)).trans (by rw [er]))
    funext d; fin_cases d <;> rfl
  have eu : val_main_v43 (F := Ideal) x nw w cw cb (ix3 ⟨r.val / 4096, by omega⟩ ⟨r.val % 4096, by omega⟩ q) = conv x nw w cw cb r (upper q) := by
    rw [val_main_v43_apply]
    refine Eq.trans (congrArg _ ?_) ((ref_conv x nw w cw cb ⟨r.val / 4096, by omega⟩ ⟨r.val % 4096, by omega⟩ (upper q)).trans (by rw [er]))
    funext d; fin_cases d <;> rfl
  rw [val_main_v47_apply, ei, val_main_v46_apply, val_main_v45_apply, val_main_v44_apply, val_main_call0_v5_apply, val_main_call0_v4_apply,
    val_main_call0_cst_0_apply, val_main_call0_v3_apply, val_main_call0_v2_apply, val_main_call0_cst_apply, val_main_call0_v1_apply,
    val_main_call0_v0_apply, eg, eu]
  show _ = swish (conv x nw w cw cb r (lower q)) (conv x nw w cw cb r (upper q))
  rw [swish_eq]
  show conv x nw w cw cb r (lower q) * Ideal.div (Ideal.ofBits .f32 0x3F800000#32) (Ideal.ofBits .f32 0x3F800000#32 + Ideal.exp (-conv x nw w cw cb r (lower q)))
    * conv x nw w cw cb r (upper q) = _
  rw [Ideal.ofBits_one_f32]

/-- The rows its other two results are cut from. -/
theorem ref_last (a s : Fin 8) (p : Fin 11008) : val_main_v49 (F := Ideal) x nw w (ix3 a s p)
    = prodAt x nw w ⟨a.val * 1024 + 1016 + s.val, by have := a.isLt; have := s.isLt; omega⟩ p := by
  have ha := a.isLt; have hs := s.isLt; have hp := p.isLt
  rw [val_main_v49_apply, val_main_v48_apply]
  refine Eq.trans (congrArg _ ?_) ((ref_seq x nw w ⟨a.val / 4, by omega⟩ ⟨a.val % 4 * 1024 + 1016 + s.val, by omega⟩ p).trans
    (congrArg (prodAt x nw w · p) (Fin.ext (by show a.val / 4 * 4096 + (a.val % 4 * 1024 + 1016 + s.val) = a.val * 1024 + 1016 + s.val; omega))))
  funext d
  refine Fin.ext ?_
  match d with
  | ⟨0, _⟩ => show ((a.val * 1024 + (1016 + s.val)) * 11008 + p.val) / 45088768 = a.val / 4; omega
  | ⟨1, _⟩ => show ((a.val * 1024 + (1016 + s.val)) * 11008 + p.val) / 11008 % 4096 = a.val % 4 * 1024 + 1016 + s.val; omega
  | ⟨2, _⟩ => show ((a.val * 1024 + (1016 + s.val)) * 11008 + p.val) % 11008 = p.val; omega

theorem ref_lastg : val_main_v50 (F := Ideal) x nw w = lastRows x nw w lower := by
  funext i
  rw [val_main_v50_apply]
  refine Eq.trans (congrArg _ ?_) (ref_last x nw w (i 0) (i 1) (lower (i 2)))
  funext d; fin_cases d <;> rfl
theorem ref_lastu : val_main_v51 (F := Ideal) x nw w = lastRows x nw w upper := by
  funext i
  rw [val_main_v51_apply]
  refine Eq.trans (congrArg _ ?_) (ref_last x nw w (i 0) (i 1) (upper (i 2)))
  funext d; fin_cases d <;> rfl

/-- The reference's frame: its run, read at the arguments; it has no semaphore. -/
theorem frame_ref : Cert.quiescent_FfnUpRefIdeal (hFfnUpRefIdeal := FfnUpRefIdeal.Gen.facts) := fun m ρ _ =>
  (θ_run FfnUpRefIdeal.defs _ _).mono (fun r h => ⟨fun c => (h c).2.2.2, Idealize.ShloMosaic.sem_eq_zero_of_no_sems (by decide) r.2⟩)
    (FfnUpRefIdeal.Value.run (F := Ideal) m ρ)

end Cert.FfnUpRefProof

end
-- ==== Proof.FfnUpRun.lean ====
/-
  The up projection of the feed-forward block with its convolution: what the kernel's body leaves at every grid point. The first
  point of a row of blocks stores 1040 normalised rows into the kernel's scratch: the block's 1024 and, above them, the sixteen
  before it (zero where a sequence starts). Every point lays the point's five weight blocks side by side in a second scratch,
  multiplies, convolves each half of the product along the rows, and stores the activated product and the product's last rows.
  The last column of points overhangs the arrays: the columns beyond them are never moved, and no column depends on another.
-/
module

public import proofs.«01_k».proof.Defs
public import proofs.«01_k».proof.Proof.Gen.FfnUpIdeal.Frame
public import proofs.«01_k».proof.Proof.Gen.FfnUpIdeal.Skeleton
public import Idealize.ShloMosaic.Lib.Pipeline.ValueKit
public import Idealize.ShloMosaic.Lib.Pipeline.TableIdle
public import Idealize.ShloMosaic.Lib.VecWindow
public import Idealize.ShloMosaic.Lib.Pointwise

@[expose] public section

set_option maxRecDepth 16384

noncomputable section

namespace Cert.FfnUpProof

open Cert.FfnUpIdeal Cert.FfnUpIdeal.Gen
open Idealize.ShloMosaic hiding ix1 ix2 ix3 eq_ix2
open Idealize.ShloMosaic.TcCoe Idealize.ShloMosaic.ValueIdx Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two scratch buffers -/

/-- Sixteen rows above 1024. -/
def rowsOf (a : Vec F S16x2048 .bf16) (b : Vec F S1024x2048 .bf16) : Vec F S1040x2048 .bf16 := fun i =>
  if h : (i 0).val < 16 then a (ix2 ⟨(i 0).val, h⟩ (i 1)) else b (ix2 ⟨(i 0).val - 16, by have : (i 0).val < 1040 := (i 0).isLt; show _ < 1024; omega⟩ (i 1))

/-- One block of 512 columns and four of 128 side by side. -/
def colsOf (g : Vec F S2048x512 .bf16) (u0 u1 u2 u3 : Vec F S2048x128 .bf16) : Vec F S2048x1024 .bf16 := fun i =>
  if h : (i 1).val < 512 then g (ix2 (i 0) ⟨(i 1).val, h⟩)
  else if h : (i 1).val < 640 then u0 (ix2 (i 0) ⟨(i 1).val - 512, by show _ < 128; omega⟩)
  else if h : (i 1).val < 768 then u1 (ix2 (i 0) ⟨(i 1).val - 640, by show _ < 128; omega⟩)
  else if h : (i 1).val < 896 then u2 (ix2 (i 0) ⟨(i 1).val - 768, by show _ < 128; omega⟩)
  else u3 (ix2 (i 0) ⟨(i 1).val - 896, by have : (i 1).val < 1024 := (i 1).isLt; show _ < 128; omega⟩)

/-- The writes of the two row blocks, read back. -/
theorem rows_read {sp : Space} (v : View sig .tc sp S1040x2048 .bf16) (f : v.ty.Contents (Elt F)) (a : Vec F S16x2048 .bf16) (b : Vec F S1024x2048 .bf16) :
    v.read (Elt F) (v.writes (Elt F) f [⟨Rect.unit (s := S1040x2048) ![0, 0] S16x2048.size inb_S1040x2048_S16x2048_0_0, a⟩,
      ⟨Rect.unit (s := S1040x2048) ![16, 0] S1024x2048.size inb_S1040x2048_S1024x2048_16_0, b⟩]) = rowsOf a b := by
  funext i
  have hi : (i 0).val < 1040 := (i 0).isLt
  unfold rowsOf
  by_cases h : (i 0).val < 16
  · rw [dif_pos h]
    exact View.read_writes_cons_unit_of_mem v f _ _ _ i (ix2 ⟨(i 0).val, h⟩ (i 1)) rfl fun d => match d with
      | ⟨0, _⟩ => (Nat.zero_add _).symm
      | ⟨1, _⟩ => (Nat.zero_add _).symm
  · rw [dif_neg h]
    refine (View.read_writes_cons_unit_of_not_mem v f _ _ _ i rfl (0 : Fin 2) (.inr (by show 0 + 16 ≤ _; omega))).trans ?_
    exact View.read_writes_cons_unit_of_mem v f _ _ _ i (ix2 ⟨(i 0).val - 16, by show _ < 1024; omega⟩ (i 1)) rfl fun d => match d with
      | ⟨0, _⟩ => by show (i 0).val = 16 + ((i 0).val - 16); omega
      | ⟨1, _⟩ => (Nat.zero_add _).symm

/-- The writes of the five column blocks, read back. -/
theorem cols_read {sp : Space} (v : View sig .tc sp S2048x1024 .bf16) (f : v.ty.Contents (Elt F)) (g : Vec F S2048x512 .bf16) (u0 u1 u2 u3 : Vec F S2048x128 .bf16) :
    v.read (Elt F) (v.writes (Elt F) f [⟨Rect.unit (s := S2048x1024) ![0, 896] S2048x128.size inb_S2048x1024_S2048x128_0_896, u3⟩,
      ⟨Rect.unit (s := S2048x1024) ![0, 768] S2048x128.size inb_S2048x1024_S2048x128_0_768, u2⟩,
      ⟨Rect.unit (s := S2048x1024) ![0, 640] S2048x128.size inb_S2048x1024_S2048x128_0_640, u1⟩,
      ⟨Rect.unit (s := S2048x1024) ![0, 512] S2048x128.size inb_S2048x1024_S2048x128_0_512, u0⟩,
      ⟨Rect.unit (s := S2048x1024) ![0, 0] S2048x512.size inb_S2048x1024_S2048x512_0_0, g⟩]) = colsOf g u0 u1 u2 u3 := by
  funext i
  have hi : (i 1).val < 1024 := (i 1).isLt
  unfold colsOf
  by_cases h4 : (i 1).val < 896
  · refine (View.read_writes_cons_unit_of_not_mem v f _ _ _ i rfl (1 : Fin 2) (.inl (by show _ < 896; omega))).trans ?_
    by_cases h3 : (i 1).val < 768
    · refine (View.read_writes_cons_unit_of_not_mem v f _ _ _ i rfl (1 : Fin 2) (.inl (by show _ < 768; omega))).trans ?_
      by_cases h2 : (i 1).val < 640
      · refine (View.read_writes_cons_unit_of_not_mem v f _ _ _ i rfl (1 : Fin 2) (.inl (by show _ < 640; omega))).trans ?_
        by_cases h1 : (i 1).val < 512
        · refine (View.read_writes_cons_unit_of_not_mem v f _ _ _ i rfl (1 : Fin 2) (.inl (by show _ < 512; omega))).trans ?_
          rw [dif_pos h1]
          exact View.read_writes_cons_unit_of_mem v f _ _ _ i (ix2 (i 0) ⟨(i 1).val, h1⟩) rfl fun d => match d with
            | ⟨0, _⟩ => (Nat.zero_add _).symm
            | ⟨1, _⟩ => (Nat.zero_add _).symm
        · rw [dif_neg h1, dif_pos h2]
          exact View.read_writes_cons_unit_of_mem v f _ _ _ i (ix2 (i 0) ⟨(i 1).val - 512, by show _ < 128; omega⟩) rfl fun d => match d with
            | ⟨0, _⟩ => (Nat.zero_add _).symm
            | ⟨1, _⟩ => by show (i 1).val = 512 + ((i 1).val - 512); omega
      · rw [dif_neg (by omega), dif_neg h2, dif_pos h3]
        exact View.read_writes_cons_unit_of_mem v f _ _ _ i (ix2 (i 0) ⟨(i 1).val - 640, by show _ < 128; omega⟩) rfl fun d => match d with
          | ⟨0, _⟩ => (Nat.zero_add _).symm
          | ⟨1, _⟩ => by show (i 1).val = 640 + ((i 1).val - 640); omega
    · rw [dif_neg (by omega), dif_neg (by omega), dif_neg h3, dif_pos h4]
      exact View.read_writes_cons_unit_of_mem v f _ _ _ i (ix2 (i 0) ⟨(i 1).val - 768, by show _ < 128; omega⟩) rfl fun d => match d with
        | ⟨0, _⟩ => (Nat.zero_add _).symm
        | ⟨1, _⟩ => by show (i 1).val = 768 + ((i 1).val - 768); omega
  · rw [dif_neg (by omega), dif_neg (by omega), dif_neg (by omega), dif_neg h4]
    exact View.read_writes_cons_unit_of_mem v f _ _ _ i (ix2 (i 0) ⟨(i 1).val - 896, by show _ < 128; omega⟩) rfl fun d => match d with
      | ⟨0, _⟩ => (Nat.zero_add _).symm
      | ⟨1, _⟩ => by show (i 1).val = 896 + ((i 1).val - 896); omega

/-- Whether a point is the first of its row of blocks, as the body asks it. -/
abbrev firstCol (i : grid0.Coords) : Prop := (Scalar.cmpi .ne (Scalar.extui (Scalar.cmpi .eq (BitVec.ofNat 32 (i 1).val) 0#32)) 0#32) = 1#1

/-- Whether a point's row of blocks starts a sequence, as the body asks it. -/
def atStart (i : grid0.Coords) : BitVec 1 :=
  Scalar.cmpi .eq (Scalar.select (Scalar.andi (Scalar.xori (Scalar.cmpi .slt (Scalar.remsi (BitVec.ofNat 32 (i 0).val) (Scalar.select (Scalar.cmpi .eq 4#32 0#32) 1#32 4#32)) 0#32)
      (Scalar.cmpi .slt (Scalar.select (Scalar.cmpi .eq 4#32 0#32) 1#32 4#32) 0#32)) (Scalar.cmpi .ne (Scalar.remsi (BitVec.ofNat 32 (i 0).val) (Scalar.select (Scalar.cmpi .eq 4#32 0#32) 1#32 4#32)) 0#32))
    (Scalar.addi (Scalar.remsi (BitVec.ofNat 32 (i 0).val) (Scalar.select (Scalar.cmpi .eq 4#32 0#32) 1#32 4#32)) (Scalar.select (Scalar.cmpi .eq 4#32 0#32) 1#32 4#32))
    (Scalar.remsi (BitVec.ofNat 32 (i 0).val) (Scalar.select (Scalar.cmpi .eq 4#32 0#32) 1#32 4#32))) 0#32

/-- The normalised rows a row of blocks works on. -/
def normRows (z : BitVec 1) (x0 : Vec F S16x2048 .f32) (x1 : Vec F S1024x2048 .f32) (x2 : Vec F S1x2048 .f32) : Vec F S1040x2048 .bf16 :=
  rowsOf (k0_pay5 (k0_pay2 x2) z x0 (k0_pay4 x0)) (k0_pay3 x2 x1)

/-- The weight columns a point works on. -/
def wcols (x3 : Vec F S1x2048x512 .f32) (x4 x5 x6 x7 : Vec F S1x2048x128 .f32) : Vec F S2048x1024 .bf16 :=
  colsOf (k0_pay6 x3) (k0_pay7 x4) (k0_pay8 x5) (k0_pay9 x6) (k0_pay10 x7)

/-- A load of a whole buffer that holds `x` reads `x`. -/
theorem whole_load {s : Shape} {e : EltTy} {arg : Memref sig .tc .vmem s e} (h : arg.IsWhole) (x : s.Idx → Elt F e) {off : Fin s.rank → ℕ}
    (inb : ∀ a, off a + s.size a ≤ s.size a) :
    View.readAt (Elt F) arg.view (Rect.unit off s.size inb).toLoadRect (h.unread x) = x :=
  (View.readAt_full _ _ _).trans (h.read_unread x)

/-- The load of the weights' scratch after its five writes. -/
theorem cols_load {sp : Space} (v : View sig .tc sp S2048x1024 .bf16)
    {arg5 : Memref sig .tc .vmem S1x2048x512 .f32} (harg5 : arg5.IsWhole) {arg6 : Memref sig .tc .vmem S1x2048x128 .f32} (harg6 : arg6.IsWhole)
    {arg7 : Memref sig .tc .vmem S1x2048x128 .f32} (harg7 : arg7.IsWhole) {arg8 : Memref sig .tc .vmem S1x2048x128 .f32} (harg8 : arg8.IsWhole)
    {arg9 : Memref sig .tc .vmem S1x2048x128 .f32} (harg9 : arg9.IsWhole)
    (x3 : Vec F S1x2048x512 .f32) (x4 x5 x6 x7 : Vec F S1x2048x128 .f32) :
    v.readCov [⟨Rect.unit (s := S2048x1024) ![0, 896] S2048x128.size inb_S2048x1024_S2048x128_0_896, k0_pay10 (View.readAt (Elt F) arg9.view (Rect.unit (s := S1x2048x128) ![0, 0, 0] S1x2048x128.size inb_S1x2048x128_S1x2048x128_0_0_0).toLoadRect (harg9.unread x7))⟩,
      ⟨Rect.unit (s := S2048x1024) ![0, 768] S2048x128.size inb_S2048x1024_S2048x128_0_768, k0_pay9 (View.readAt (Elt F) arg8.view (Rect.unit (s := S1x2048x128) ![0, 0, 0] S1x2048x128.size inb_S1x2048x128_S1x2048x128_0_0_0).toLoadRect (harg8.unread x6))⟩,
      ⟨Rect.unit (s := S2048x1024) ![0, 640] S2048x128.size inb_S2048x1024_S2048x128_0_640, k0_pay8 (View.readAt (Elt F) arg7.view (Rect.unit (s := S1x2048x128) ![0, 0, 0] S1x2048x128.size inb_S1x2048x128_S1x2048x128_0_0_0).toLoadRect (harg7.unread x5))⟩,
      ⟨Rect.unit (s := S2048x1024) ![0, 512] S2048x128.size inb_S2048x1024_S2048x128_0_512, k0_pay7 (View.readAt (Elt F) arg6.view (Rect.unit (s := S1x2048x128) ![0, 0, 0] S1x2048x128.size inb_S1x2048x128_S1x2048x128_0_0_0).toLoadRect (harg6.unread x4))⟩,
      ⟨Rect.unit (s := S2048x1024) ![0, 0] S2048x512.size inb_S2048x1024_S2048x512_0_0, k0_pay6 (View.readAt (Elt F) arg5.view (Rect.unit (s := S1x2048x512) ![0, 0, 0] S1x2048x512.size inb_S1x2048x512_S1x2048x512_0_0_0).toLoadRect (harg5.unread x3))⟩]
      (Rect.unit (s := S2048x1024) ![0, 0] S2048x1024.size inb_S2048x1024_S2048x1024_0_0).toLoadRect = wcols x3 x4 x5 x6 x7 := by
  refine (View.readAt_full v _ _).trans ((cols_read v _ _ _ _ _ _).trans ?_)
  unfold wcols
  congr 1
  · exact congrArg k0_pay6 (whole_load harg5 x3 _)
  · exact congrArg k0_pay7 (whole_load harg6 x4 _)
  · exact congrArg k0_pay8 (whole_load harg7 x5 _)
  · exact congrArg k0_pay9 (whole_load harg8 x6 _)
  · exact congrArg k0_pay10 (whole_load harg9 x7 _)

/-- The row blocks as the body writes them. -/
theorem rows_written {arg2 : Memref sig .tc .vmem S16x2048 .f32} (harg2 : arg2.IsWhole) {arg3 : Memref sig .tc .vmem S1024x2048 .f32} (harg3 : arg3.IsWhole)
    {arg4 : Memref sig .tc .vmem S1x2048 .f32} (harg4 : arg4.IsWhole) (z : BitVec 1) (x0 : Vec F S16x2048 .f32) (x1 : Vec F S1024x2048 .f32) (x2 : Vec F S1x2048 .f32) :
    rowsOf (k0_pay5 (k0_pay2 (View.readAt (Elt F) arg4.view (Rect.unit (s := S1x2048) ![0, 0] S1x2048.size inb_S1x2048_S1x2048_0_0).toLoadRect (harg4.unread x2))) z
        (View.readAt (Elt F) arg2.view (Rect.unit (s := S16x2048) ![0, 0] S16x2048.size inb_S16x2048_S16x2048_0_0).toLoadRect (harg2.unread x0))
        (k0_pay4 (View.readAt (Elt F) arg2.view (Rect.unit (s := S16x2048) ![0, 0] S16x2048.size inb_S16x2048_S16x2048_0_0).toLoadRect (harg2.unread x0))))
      (k0_pay3 (View.readAt (Elt F) arg4.view (Rect.unit (s := S1x2048) ![0, 0] S1x2048.size inb_S1x2048_S1x2048_0_0).toLoadRect (harg4.unread x2))
        (View.readAt (Elt F) arg3.view (Rect.unit (s := S1024x2048) ![0, 0] S1024x2048.size inb_S1024x2048_S1024x2048_0_0).toLoadRect (harg3.unread x1))) = normRows z x0 x1 x2 := by
  unfold normRows
  rw [show View.readAt (Elt F) arg4.view (Rect.unit (s := S1x2048) ![0, 0] S1x2048.size inb_S1x2048_S1x2048_0_0).toLoadRect (harg4.unread x2) = x2 from whole_load harg4 x2 _,
    show View.readAt (Elt F) arg2.view (Rect.unit (s := S16x2048) ![0, 0] S16x2048.size inb_S16x2048_S16x2048_0_0).toLoadRect (harg2.unread x0) = x0 from whole_load harg2 x0 _,
    show View.readAt (Elt F) arg3.view (Rect.unit (s := S1024x2048) ![0, 0] S1024x2048.size inb_S1024x2048_S1024x2048_0_0).toLoadRect (harg3.unread x1) = x1 from whole_load harg3 x1 _]

/-- The activated product from equal parts. -/
theorem act_congr {a a' : Vec F S1040x2048 .bf16} {b b' : Vec F S2048x1024 .bf16} {x8 x8' x9 x9' : Vec F S3x512 .f32} {x10 x10' x11 x11' : Vec F S1x512 .f32}
    (ha : a = a') (hb : b = b') (h8 : x8 = x8') (h9 : x9 = x9') (h10 : x10 = x10') (h11 : x11 = x11') :
    k0_pay1 (k0_pay14 a b x8 x10) (k0_pay15 a b) x9 x11 = k0_pay1 (k0_pay14 a' b' x8' x10') (k0_pay15 a' b') x9' x11' := by
  subst ha hb h8 h9 h10 h11; rfl

set_option maxHeartbeats 4000000 in
/-- The body at the first point of a row of blocks: the scratch for the rows is filled, and every output is stored from it. -/
theorem run_first (c : Dev nD) (i : grid0.Coords)
    (arg2 : Memref sig .tc .vmem S16x2048 .f32) (harg2 : arg2.IsWhole) (arg3 : Memref sig .tc .vmem S1024x2048 .f32) (harg3 : arg3.IsWhole)
    (arg4 : Memref sig .tc .vmem S1x2048 .f32) (harg4 : arg4.IsWhole) (arg5 : Memref sig .tc .vmem S1x2048x512 .f32) (harg5 : arg5.IsWhole)
    (arg6 : Memref sig .tc .vmem S1x2048x128 .f32) (harg6 : arg6.IsWhole) (arg7 : Memref sig .tc .vmem S1x2048x128 .f32) (harg7 : arg7.IsWhole)
    (arg8 : Memref sig .tc .vmem S1x2048x128 .f32) (harg8 : arg8.IsWhole) (arg9 : Memref sig .tc .vmem S1x2048x128 .f32) (harg9 : arg9.IsWhole)
    (arg10 : Memref sig .tc .vmem S3x512 .f32) (harg10 : arg10.IsWhole) (arg11 : Memref sig .tc .vmem S3x512 .f32) (harg11 : arg11.IsWhole)
    (arg12 : Memref sig .tc .vmem S1x512 .f32) (harg12 : arg12.IsWhole) (arg13 : Memref sig .tc .vmem S1x512 .f32) (harg13 : arg13.IsWhole)
    (arg14 : Memref sig .tc .vmem S1024x512 .bf16) (harg14 : arg14.IsWhole) (arg15 : Memref sig .tc .vmem S1x8x512 .f32) (harg15 : arg15.IsWhole)
    (arg16 : Memref sig .tc .vmem S1x8x512 .f32) (harg16 : arg16.IsWhole) (arg17 : Memref sig .tc .vmem S1040x2048 .bf16) (harg17 : arg17.IsWhole)
    (arg18 : Memref sig .tc .vmem S2048x1024 .bf16) (harg18 : arg18.IsWhole)
    (hc : firstCol i)
    (x0 : Vec F S16x2048 .f32) (x1 : Vec F S1024x2048 .f32) (x2 : Vec F S1x2048 .f32) (x3 : Vec F S1x2048x512 .f32)
    (x4 : Vec F S1x2048x128 .f32) (x5 : Vec F S1x2048x128 .f32) (x6 : Vec F S1x2048x128 .f32) (x7 : Vec F S1x2048x128 .f32)
    (x8 : Vec F S3x512 .f32) (x9 : Vec F S3x512 .f32) (x10 : Vec F S1x512 .f32) (x11 : Vec F S1x512 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11
        ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11
            ∗ owns (c : Thread nD τ) arg14 fullShare (k0_pay1 (k0_pay14 (normRows (atStart i) x0 x1 x2) (wcols x3 x4 x5 x6 x7) x8 x10) (k0_pay15 (normRows (atStart i) x0 x1 x2) (wcols x3 x4 x5 x6 x7)) x9 x11) ∗ owns (c : Thread nD τ) arg15 fullShare (k0_pay13 (normRows (atStart i) x0 x1 x2) (wcols x3 x4 x5 x6 x7)) ∗ owns (c : Thread nD τ) arg16 fullShare (k0_pay16 (normRows (atStart i) x0 x1 x2) (wcols x3 x4 x5 x6 x7))
            ∗ owns (c : Thread nD τ) arg17 fullShare (normRows (atStart i) x0 x1 x2) ∗ (∃ d, owns (c : Thread nD τ) arg18 fullShare d)) -∗ K ⟨⟩))
      ⊢ wp frame (wpE (defs₀ (F := F)) Variants.none c none) E (cc0_ffn_up i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_ffn_up_eq_skeleton]; unfold cc0_ffn_up_skel
  simp only [k0_part2_eq_skeleton, k0_part1_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%ds0, %fs0, -, HS0⟩, ⟨%ds1, %fs1, -, HS1⟩, Hk⟩
  obtain rfl := harg2.eq_unread hf0; obtain rfl := harg3.eq_unread hf1; obtain rfl := harg4.eq_unread hf2; obtain rfl := harg5.eq_unread hf3; obtain rfl := harg6.eq_unread hf4
  obtain rfl := harg7.eq_unread hf5; obtain rfl := harg8.eq_unread hf6; obtain rfl := harg9.eq_unread hf7; obtain rfl := harg10.eq_unread hf8; obtain rfl := harg11.eq_unread hf9
  obtain rfl := harg12.eq_unread hf10; obtain rfl := harg13.eq_unread hf11
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [H11]
  · iexists _; isplitr; · ipureintro; exact harg13.read_unread _
    iexact H11
  isplitl [H12]
  · iexists _; isplitr; swap; · iexact H12
    ipureintro
    refine (View.read_writes_full _ _ _ _ _).trans ?_
    exact act_congr ((View.readAt_full _ _ _).trans ((rows_read _ _ _ _).trans (rows_written harg2 harg3 harg4 (atStart i) x0 x1 x2))) (cols_load _ harg5 harg6 harg7 harg8 harg9 x3 x4 x5 x6 x7) (whole_load harg10 x8 _) (whole_load harg11 x9 _) (whole_load harg12 x10 _) (whole_load harg13 x11 _)
  isplitl [H13]
  · iexists _; isplitr; swap; · iexact H13
    ipureintro
    refine (View.read_writes_full _ _ _ _ _).trans ?_
    exact congrArg₂ (fun a b => k0_pay13 a b) ((View.readAt_full _ _ _).trans ((rows_read _ _ _ _).trans (rows_written harg2 harg3 harg4 (atStart i) x0 x1 x2))) (cols_load _ harg5 harg6 harg7 harg8 harg9 x3 x4 x5 x6 x7)
  isplitl [H14]
  · iexists _; isplitr; swap; · iexact H14
    ipureintro
    refine (View.read_writes_full _ _ _ _ _).trans ?_
    exact congrArg₂ (fun a b => k0_pay16 a b) ((View.readAt_full _ _ _).trans ((rows_read _ _ _ _).trans (rows_written harg2 harg3 harg4 (atStart i) x0 x1 x2))) (cols_load _ harg5 harg6 harg7 harg8 harg9 x3 x4 x5 x6 x7)
  isplitl [HS0]
  · iexists _; isplitr; swap; · iexact HS0
    ipureintro
    exact (rows_read _ _ _ _).trans (rows_written harg2 harg3 harg4 (atStart i) x0 x1 x2)
  iexists _; iexists _; isplitr; swap; · iexact HS1
  ipureintro; rfl

set_option maxHeartbeats 4000000 in
/-- The body at the row's other points: the scratch for the rows stays as the first point left it. -/
theorem run_rest (c : Dev nD) (i : grid0.Coords)
    (arg2 : Memref sig .tc .vmem S16x2048 .f32) (harg2 : arg2.IsWhole) (arg3 : Memref sig .tc .vmem S1024x2048 .f32) (harg3 : arg3.IsWhole)
    (arg4 : Memref sig .tc .vmem S1x2048 .f32) (harg4 : arg4.IsWhole) (arg5 : Memref sig .tc .vmem S1x2048x512 .f32) (harg5 : arg5.IsWhole)
    (arg6 : Memref sig .tc .vmem S1x2048x128 .f32) (harg6 : arg6.IsWhole) (arg7 : Memref sig .tc .vmem S1x2048x128 .f32) (harg7 : arg7.IsWhole)
    (arg8 : Memref sig .tc .vmem S1x2048x128 .f32) (harg8 : arg8.IsWhole) (arg9 : Memref sig .tc .vmem S1x2048x128 .f32) (harg9 : arg9.IsWhole)
    (arg10 : Memref sig .tc .vmem S3x512 .f32) (harg10 : arg10.IsWhole) (arg11 : Memref sig .tc .vmem S3x512 .f32) (harg11 : arg11.IsWhole)
    (arg12 : Memref sig .tc .vmem S1x512 .f32) (harg12 : arg12.IsWhole) (arg13 : Memref sig .tc .vmem S1x512 .f32) (harg13 : arg13.IsWhole)
    (arg14 : Memref sig .tc .vmem S1024x512 .bf16) (harg14 : arg14.IsWhole) (arg15 : Memref sig .tc .vmem S1x8x512 .f32) (harg15 : arg15.IsWhole)
    (arg16 : Memref sig .tc .vmem S1x8x512 .f32) (harg16 : arg16.IsWhole) (arg17 : Memref sig .tc .vmem S1040x2048 .bf16) (harg17 : arg17.IsWhole)
    (arg18 : Memref sig .tc .vmem S2048x1024 .bf16) (harg18 : arg18.IsWhole)
    (hc : ¬firstCol i)
    (x0 : Vec F S16x2048 .f32) (x1 : Vec F S1024x2048 .f32) (x2 : Vec F S1x2048 .f32) (x3 : Vec F S1x2048x512 .f32)
    (x4 : Vec F S1x2048x128 .f32) (x5 : Vec F S1x2048x128 .f32) (x6 : Vec F S1x2048x128 .f32) (x7 : Vec F S1x2048x128 .f32)
    (x8 : Vec F S3x512 .f32) (x9 : Vec F S3x512 .f32) (x10 : Vec F S1x512 .f32) (x11 : Vec F S1x512 .f32)
    (xs : Vec F S1040x2048 .bf16)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11
        ∗ (∃ d, owns (c : Thread nD τ) arg14 fullShare d) ∗ (∃ d, owns (c : Thread nD τ) arg15 fullShare d) ∗ (∃ d, owns (c : Thread nD τ) arg16 fullShare d) ∗ owns (c : Thread nD τ) arg17 fullShare xs ∗ (∃ d, owns (c : Thread nD τ) arg18 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11
            ∗ owns (c : Thread nD τ) arg14 fullShare (k0_pay1 (k0_pay14 xs (wcols x3 x4 x5 x6 x7) x8 x10) (k0_pay15 xs (wcols x3 x4 x5 x6 x7)) x9 x11) ∗ owns (c : Thread nD τ) arg15 fullShare (k0_pay13 xs (wcols x3 x4 x5 x6 x7)) ∗ owns (c : Thread nD τ) arg16 fullShare (k0_pay16 xs (wcols x3 x4 x5 x6 x7))
            ∗ owns (c : Thread nD τ) arg17 fullShare xs ∗ (∃ d, owns (c : Thread nD τ) arg18 fullShare d)) -∗ K ⟨⟩))
      ⊢ wp frame (wpE (defs₀ (F := F)) Variants.none c none) E (cc0_ffn_up i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_ffn_up_eq_skeleton]; unfold cc0_ffn_up_skel
  simp only [k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%fs0, %hfs0, HS0⟩, ⟨%ds1, %fs1, -, HS1⟩, Hk⟩
  obtain rfl := harg2.eq_unread hf0; obtain rfl := harg3.eq_unread hf1; obtain rfl := harg4.eq_unread hf2; obtain rfl := harg5.eq_unread hf3; obtain rfl := harg6.eq_unread hf4
  obtain rfl := harg7.eq_unread hf5; obtain rfl := harg8.eq_unread hf6; obtain rfl := harg9.eq_unread hf7; obtain rfl := harg10.eq_unread hf8; obtain rfl := harg11.eq_unread hf9
  obtain rfl := harg12.eq_unread hf10; obtain rfl := harg13.eq_unread hf11; obtain rfl := harg17.eq_unread hfs0
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [H11]
  · iexists _; isplitr; · ipureintro; exact harg13.read_unread _
    iexact H11
  isplitl [H12]
  · iexists _; isplitr; swap; · iexact H12
    ipureintro
    refine (View.read_writes_full _ _ _ _ _).trans ?_
    exact act_congr (whole_load harg17 xs _) (cols_load _ harg5 harg6 harg7 harg8 harg9 x3 x4 x5 x6 x7) (whole_load harg10 x8 _) (whole_load harg11 x9 _) (whole_load harg12 x10 _) (whole_load harg13 x11 _)
  isplitl [H13]
  · iexists _; isplitr; swap; · iexact H13
    ipureintro
    refine (View.read_writes_full _ _ _ _ _).trans ?_
    exact congrArg₂ (fun a b => k0_pay13 a b) (whole_load harg17 xs _) (cols_load _ harg5 harg6 harg7 harg8 harg9 x3 x4 x5 x6 x7)
  isplitl [H14]
  · iexists _; isplitr; swap; · iexact H14
    ipureintro
    refine (View.read_writes_full _ _ _ _ _).trans ?_
    exact congrArg₂ (fun a b => k0_pay16 a b) (whole_load harg17 xs _) (cols_load _ harg5 harg6 harg7 harg8 harg9 x3 x4 x5 x6 x7)
  isplitl [HS0]
  · iexists _; isplitr; · ipureintro; exact harg17.read_unread _
    iexact HS0
  iexists _; iexists _; isplitr; swap; · iexact HS1
  ipureintro; rfl

end Cert.FfnUpProof

end
-- ==== Proof.FfnUpBody.lean ====
/-
  The up projection of the feed-forward block with its convolution: the whole run. Between points the first scratch holds the
  normalised rows of the point's row of blocks. Where a block overhangs its array, the buffer's columns beyond it hold anything;
  the activated product's columns inside depend only on the columns inside of the convolution's weights and bias.
-/
module

public import proofs.«01_k».proof.Proof.FfnUpRun

@[expose] public section

set_option maxRecDepth 16384

noncomputable section

namespace Cert.FfnUpProof

open Cert.FfnUpIdeal Cert.FfnUpIdeal.Gen
open Idealize.ShloMosaic hiding ix1 ix2 ix3 eq_ix2
open Idealize.ShloMosaic.TcCoe Idealize.ShloMosaic.ValueIdx Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The convolution and the activation at an index -/

/-- The three taps of the convolution of 1040 rows at row 16 + r, with the bias. -/
def tap (y : FVec F S1040x512 .f32) (cw : Vec F S3x512 .f32) (cb : Vec F S1x512 .f32) (r : Fin 1024) (q : Fin 512) : F .f32 :=
  FloatOps.addf (FloatOps.addf (FloatOps.addf (FloatOps.mulf (y (ix2 ⟨r.val + 14, by omega⟩ q)) (cw (ix2 0 q)))
    (FloatOps.mulf (y (ix2 ⟨r.val + 15, by omega⟩ q)) (cw (ix2 1 q)))) (FloatOps.mulf (y (ix2 ⟨r.val + 16, by omega⟩ q)) (cw (ix2 2 q)))) (cb (ix2 0 q))

/-- The rotations' row arithmetic: the rows the taps read. -/
theorem tap_rot (y : FVec F S1040x512 .f32) (cw : Vec F S3x512 .f32) (cb : Vec F S1x512 .f32) (r : Fin 1024) (q : Fin 512) (h1 h2 h3) :
    FloatOps.addf (FloatOps.addf (FloatOps.addf (FloatOps.mulf (y (ix2 (⟨(16 + r.val + 1040 - 2) % 1040, h1⟩ : Fin 1040) q)) (cw (ix2 0 q)))
      (FloatOps.mulf (y (ix2 (⟨(16 + r.val + 1040 - 1) % 1040, h2⟩ : Fin 1040) q)) (cw (ix2 1 q)))) (FloatOps.mulf (y (ix2 (⟨16 + r.val, h3⟩ : Fin 1040) q)) (cw (ix2 2 q)))) (cb (ix2 0 q))
      = tap y cw cb r q := by
  have e1 : (⟨(16 + r.val + 1040 - 2) % 1040, h1⟩ : Fin 1040) = ⟨r.val + 14, by omega⟩ := Fin.ext (by show (16 + r.val + 1040 - 2) % 1040 = r.val + 14; omega)
  have e2 : (⟨(16 + r.val + 1040 - 1) % 1040, h2⟩ : Fin 1040) = ⟨r.val + 15, by omega⟩ := Fin.ext (by show (16 + r.val + 1040 - 1) % 1040 = r.val + 15; omega)
  have e3 : (⟨16 + r.val, h3⟩ : Fin 1040) = ⟨r.val + 16, by omega⟩ := Fin.ext (Nat.add_comm _ _)
  rw [e1, e2, e3]; rfl

/-- The gate half after the convolution, at an index. -/
theorem gate_apply (xn : Vec F S1040x2048 .bf16) (wb : Vec F S2048x1024 .bf16) (cw : Vec F S3x512 .f32) (cb : Vec F S1x512 .f32) (r : Fin 1024) (q : Fin 512) :
    k0_pay14 xn wb cw cb (ix2 r q) = tap (k0_pay12 xn wb) cw cb r q := by
  unfold k0_pay14
  pointwise
  exact tap_rot _ _ _ _ _ _ _ _

/-- The activated product of a gate value and an up value. -/
def gated (g u : F .f32) : F .bf16 :=
  FloatOps.truncf .bf16 bitsLt_bf16_f32 (FloatOps.mulf (FloatOps.divf g (FloatOps.addf (FloatOps.ofBits .f32 0x3F800000#32) (FloatOps.exp (FloatOps.subf (FloatOps.ofBits .f32 0x00000000#32) g)))) u)

/-- The activated product at an index. -/
theorem act_apply (g : Vec F S1024x512 .f32) (y : Vec F S1040x512 .f32) (cw : Vec F S3x512 .f32) (cb : Vec F S1x512 .f32) (r : Fin 1024) (q : Fin 512) :
    k0_pay1 g y cw cb (ix2 r q) = gated (g (ix2 r q)) (tap y cw cb r q) := by
  unfold k0_pay1
  pointwise
  exact congrArg (gated (g (ix2 r q))) (tap_rot _ _ _ _ _ _ _ _)

/-- A column of the convolution depends on that column of the weights and of the bias only. -/
theorem tap_congr (y : FVec F S1040x512 .f32) {cw cw' : Vec F S3x512 .f32} {cb cb' : Vec F S1x512 .f32} (r : Fin 1024) (q : Fin 512)
    (hw : ∀ k, cw (ix2 k q) = cw' (ix2 k q)) (hb : cb (ix2 0 q) = cb' (ix2 0 q)) : tap y cw cb r q = tap y cw' cb' r q := by
  unfold tap; rw [hw, hw, hw, hb]

/-! ## What holds after each point -/

theorem first_iff : ∀ t : Fin cfg0.N, firstCol (grid0.coords t) ↔ t.val % 11 = 0 :=
  (by decide +kernel : ∀ t : Fin grid0.N, firstCol (grid0.coords t) ↔ t.val % 11 = 0)
theorem atStart_eq : ∀ t : Fin cfg0.N, atStart (grid0.coords t) = if t.val / 11 % 4 = 0 then 1#1 else 0#1 :=
  (by decide +kernel : ∀ t : Fin grid0.N, atStart (grid0.coords t) = if t.val / 11 % 4 = 0 then 1#1 else 0#1)
theorem index0 : ∀ t : Fin cfg0.N, win0_0.index t = ![t.val / 11 * 64 - 1, 0] := (by decide +kernel : ∀ t : Fin grid0.N, _)
theorem index1 : ∀ t : Fin cfg0.N, win0_1.index t = ![t.val / 11, 0] := (by decide +kernel : ∀ t : Fin grid0.N, _)
theorem index2 : ∀ t : Fin cfg0.N, win0_2.index t = ![0, 0] := (by decide +kernel : ∀ t : Fin grid0.N, _)

/-- A column inside the array at a point: the convolution's blocks are cut as the activated product's is. -/
theorem inside8 : ∀ t : Fin cfg0.N, (cfg0.win 12).xsize (cfg0.grid.coords t) 1 = (cfg0.win 8).xsize (cfg0.grid.coords t) 1 ∧ (cfg0.win 8).xsize (cfg0.grid.coords t) 0 = 3 :=
  (by decide +kernel : ∀ t : Fin grid0.N, win0_12.xsize (grid0.coords t) 1 = win0_8.xsize (grid0.coords t) 1 ∧ win0_8.xsize (grid0.coords t) 0 = 3)
theorem inside9 : ∀ t : Fin cfg0.N, (cfg0.win 12).xsize (cfg0.grid.coords t) 1 = (cfg0.win 9).xsize (cfg0.grid.coords t) 1 ∧ (cfg0.win 9).xsize (cfg0.grid.coords t) 0 = 3 :=
  (by decide +kernel : ∀ t : Fin grid0.N, win0_12.xsize (grid0.coords t) 1 = win0_9.xsize (grid0.coords t) 1 ∧ win0_9.xsize (grid0.coords t) 0 = 3)
theorem inside10 : ∀ t : Fin cfg0.N, (cfg0.win 12).xsize (cfg0.grid.coords t) 1 = (cfg0.win 10).xsize (cfg0.grid.coords t) 1 ∧ (cfg0.win 10).xsize (cfg0.grid.coords t) 0 = 1 :=
  (by decide +kernel : ∀ t : Fin grid0.N, win0_12.xsize (grid0.coords t) 1 = win0_10.xsize (grid0.coords t) 1 ∧ win0_10.xsize (grid0.coords t) 0 = 1)
theorem inside11 : ∀ t : Fin cfg0.N, (cfg0.win 12).xsize (cfg0.grid.coords t) 1 = (cfg0.win 11).xsize (cfg0.grid.coords t) 1 ∧ (cfg0.win 11).xsize (cfg0.grid.coords t) 0 = 1 :=
  (by decide +kernel : ∀ t : Fin grid0.N, win0_12.xsize (grid0.coords t) 1 = win0_11.xsize (grid0.coords t) 1 ∧ win0_11.xsize (grid0.coords t) 0 = 1)

/-- The convolution's weights and bias at a point, the columns beyond the arrays at a value nothing reads. -/
def X8 (c : Dev nD) (t : Fin cfg0.N) : Vec F S3x512 .f32 := (cfg0.win 8).fill (cfg0.grid.coords t) (fun _ => FloatOps.ofBits .f32 0x00000000#32) (iblk m c 8 t)
def X9 (c : Dev nD) (t : Fin cfg0.N) : Vec F S3x512 .f32 := (cfg0.win 9).fill (cfg0.grid.coords t) (fun _ => FloatOps.ofBits .f32 0x00000000#32) (iblk m c 9 t)
def X10 (c : Dev nD) (t : Fin cfg0.N) : Vec F S1x512 .f32 := (cfg0.win 10).fill (cfg0.grid.coords t) (fun _ => FloatOps.ofBits .f32 0x00000000#32) (iblk m c 10 t)
def X11 (c : Dev nD) (t : Fin cfg0.N) : Vec F S1x512 .f32 := (cfg0.win 11).fill (cfg0.grid.coords t) (fun _ => FloatOps.ofBits .f32 0x00000000#32) (iblk m c 11 t)

theorem cut8 (c : Dev nD) (t : Fin cfg0.N) : (cfg0.win 8).cut (cfg0.grid.coords t) (X8 m c t) = iblk m c 8 t := (cfg0.win 8).cut_fill _ _ _
theorem cut9 (c : Dev nD) (t : Fin cfg0.N) : (cfg0.win 9).cut (cfg0.grid.coords t) (X9 m c t) = iblk m c 9 t := (cfg0.win 9).cut_fill _ _ _
theorem cut10 (c : Dev nD) (t : Fin cfg0.N) : (cfg0.win 10).cut (cfg0.grid.coords t) (X10 m c t) = iblk m c 10 t := (cfg0.win 10).cut_fill _ _ _
theorem cut11 (c : Dev nD) (t : Fin cfg0.N) : (cfg0.win 11).cut (cfg0.grid.coords t) (X11 m c t) = iblk m c 11 t := (cfg0.win 11).cut_fill _ _ _

/-- The normalised rows of the point's row of blocks. -/
def rows (c : Dev nD) (t : Fin cfg0.N) : Vec F S1040x2048 .bf16 := normRows (atStart (grid0.coords t)) (iblk m c 0 t) (iblk m c 1 t) (iblk m c 2 t)
/-- The point's weight columns. -/
def cols (c : Dev nD) (t : Fin cfg0.N) : Vec F S2048x1024 .bf16 := wcols (X0_3 m c t) (iblk m c 4 t) (iblk m c 5 t) (iblk m c 6 t) (iblk m c 7 t)
/-- The activated product, -/
def act (c : Dev nD) (t : Fin cfg0.N) : Vec F S1024x512 .bf16 :=
  k0_pay1 (k0_pay14 (rows m c t) (cols m c t) (X8 m c t) (X10 m c t)) (k0_pay15 (rows m c t) (cols m c t)) (X9 m c t) (X11 m c t)
/-- and the last rows of the two halves of the product. -/
def lastg (c : Dev nD) (t : Fin cfg0.N) : Vec F S1x8x512 .f32 := k0_pay13 (rows m c t) (cols m c t)
def lastu (c : Dev nD) (t : Fin cfg0.N) : Vec F S1x8x512 .f32 := k0_pay16 (rows m c t) (cols m c t)

/-- On an index that is moved a fill does not depend on what it fills over. -/
theorem fill_moved (w : Fin cfg0.W) (t : Fin cfg0.N) {α : Type} (d d' : (cfg0.win w).block.Idx → α) (g) (j : (cfg0.win w).block.Idx)
    (h : ∀ a, (j a).val < (cfg0.win w).xsize (cfg0.grid.coords t) a) :
    (cfg0.win w).fill (cfg0.grid.coords t) d g j = (cfg0.win w).fill (cfg0.grid.coords t) d' g j := by
  have hm := ((cfg0.win w).moved_iff (cfg0.grid.coords t) j).mpr h
  unfold Pipeline.Window.fill; rw [dif_pos hm, dif_pos hm]

set_option backward.isDefEq.respectTransparency.types false in
/-- Whatever the convolution's buffers hold beyond the arrays, the activated product is the same inside. -/
theorem act_cut (c : Dev nD) (t : Fin cfg0.N) (d8 d9 d10 d11) :
    (cfg0.win 12).cut (cfg0.grid.coords t) (k0_pay1 (k0_pay14 (rows m c t) (cols m c t) ((cfg0.win 8).fill (cfg0.grid.coords t) d8 (iblk m c 8 t)) ((cfg0.win 10).fill (cfg0.grid.coords t) d10 (iblk m c 10 t)))
        (k0_pay15 (rows m c t) (cols m c t)) ((cfg0.win 9).fill (cfg0.grid.coords t) d9 (iblk m c 9 t)) ((cfg0.win 11).fill (cfg0.grid.coords t) d11 (iblk m c 11 t)))
      = (cfg0.win 12).cut (cfg0.grid.coords t) (act m c t) := by
  funext j
  have hq : (j 1).val < (cfg0.win 12).xsize (cfg0.grid.coords t) 1 := (j 1).isLt
  obtain ⟨r, q, e⟩ : ∃ (r : Fin 1024) (q : Fin 512), (cfg0.win 12).xinj (cfg0.grid.coords t) j = (ix2 r q : S1024x512.Idx) :=
    ⟨(cfg0.win 12).xinj (cfg0.grid.coords t) j 0, (cfg0.win 12).xinj (cfg0.grid.coords t) j 1, eq_ix2 _⟩
  have hj : q.val = (j 1).val := (congrArg Fin.val (congrFun e 1)).symm
  show k0_pay1 _ _ _ _ ((cfg0.win 12).xinj (cfg0.grid.coords t) j) = act m c t ((cfg0.win 12).xinj (cfg0.grid.coords t) j)
  rw [e]
  unfold act
  rw [act_apply, act_apply, gate_apply, gate_apply]
  refine congrArg₂ gated (tap_congr _ r q (fun k => ?_) ?_) (tap_congr _ r q (fun k => ?_) ?_)
  · exact fill_moved 8 t d8 _ _ (ix2 k q) fun a => match a with
      | ⟨0, _⟩ => lt_of_lt_of_eq k.isLt (inside8 t).2.symm
      | ⟨1, _⟩ => lt_of_lt_of_eq (lt_of_eq_of_lt hj hq) (inside8 t).1
  · exact fill_moved 10 t d10 _ _ (ix2 0 q) fun a => match a with
      | ⟨0, _⟩ => lt_of_lt_of_eq Nat.zero_lt_one (inside10 t).2.symm
      | ⟨1, _⟩ => lt_of_lt_of_eq (lt_of_eq_of_lt hj hq) (inside10 t).1
  · exact fill_moved 9 t d9 _ _ (ix2 k q) fun a => match a with
      | ⟨0, _⟩ => lt_of_lt_of_eq k.isLt (inside9 t).2.symm
      | ⟨1, _⟩ => lt_of_lt_of_eq (lt_of_eq_of_lt hj hq) (inside9 t).1
  · exact fill_moved 11 t d11 _ _ (ix2 0 q) fun a => match a with
      | ⟨0, _⟩ => lt_of_lt_of_eq Nat.zero_lt_one (inside11 t).2.symm
      | ⟨1, _⟩ => lt_of_lt_of_eq (lt_of_eq_of_lt hj hq) (inside11 t).1

/-- The point before `t`. -/
abbrev prev (t : Fin cfg0.N) : Fin cfg0.N := ⟨t.val - 1, Nat.lt_of_le_of_lt (Nat.sub_le _ _) t.isLt⟩

/-- The blocks of rows and of the norm's weights do not move inside a row of blocks. -/
theorem iblk0_prev (c : Dev nD) (t : Fin cfg0.N) (h : ¬t.val % 11 = 0) :
    (iblk m c 0 (prev t) : Vec F S16x2048 .f32) = iblk m c 0 t := by
  have ht : t.val < 88 := lt_of_lt_of_eq t.isLt N_0
  have hd : (t.val - 1) / 11 = t.val / 11 := by omega
  funext y
  blk_simp [iblk]
  refine congrArg (V m c main_arg0) ?_
  blk_ext [index0]
theorem iblk1_prev (c : Dev nD) (t : Fin cfg0.N) (h : ¬t.val % 11 = 0) :
    (iblk m c 1 (prev t) : Vec F S1024x2048 .f32) = iblk m c 1 t := by
  funext y
  blk_simp [iblk]
  refine congrArg (V m c main_arg0) ?_
  have ht : t.val < 88 := lt_of_lt_of_eq t.isLt N_0
  blk_ext [index1]
theorem iblk2_prev (c : Dev nD) (t : Fin cfg0.N) :
    (iblk m c 2 (prev t) : Vec F S1x2048 .f32) = iblk m c 2 t := by
  funext y
  blk_simp [iblk]
  refine congrArg (V m c main_v6) ?_
  blk_ext [index2]

theorem normRows_congr {s s' : BitVec 1} {a a' : Vec F S16x2048 .f32} {b b' : Vec F S1024x2048 .f32} {w w' : Vec F S1x2048 .f32}
    (hs : s = s') (ha : a = a') (hb : b = b') (hw : w = w') : normRows s a b w = normRows s' a' b' w' := by
  rw [hs, ha, hb, hw]

theorem atStart_prev (t : Fin cfg0.N) (h : ¬t.val % 11 = 0) : atStart (grid0.coords (prev t)) = atStart (grid0.coords t) := by
  rw [atStart_eq, atStart_eq, show (prev t).val / 11 = t.val / 11 from by show (t.val - 1) / 11 = _; omega]

theorem rows_prev (c : Dev nD) (t : Fin cfg0.N) (h : ¬t.val % 11 = 0) : rows m c (prev t) = rows m c t :=
  normRows_congr (atStart_prev t h) (iblk0_prev m c t h) (iblk1_prev m c t h) (iblk2_prev m c t)

/-- The kernel's scratch. -/
abbrev scr : Memref sig .tc .vmem S1040x2048 .bf16 := Memref.whole cc0_scratch0
abbrev scr1 : Memref sig .tc .vmem S2048x1024 .bf16 := Memref.whole cc0_scratch1

theorem PhiA_eq (c : Dev nD) :
    (Pipeline.ΦA spec0 c : sProp 𝕄)
      = iprop(iprop((∃ d, owns (c : Thread nD τ) scr fullShare d) ∗ (∃ d, owns (c : Thread nD τ) scr1 fullShare d)) ∗ (∃ r, prngReg c r)) := by
  unfold Pipeline.ΦA; rw [scopedRest0_eq]; simp only [scr, scr1, owns_whole]; try rfl

/-- Between points the first scratch holds the normalised rows of the point before. -/
def Phi (c : Dev nD) : (n : ℕ) → n ≤ cfg0.N → sProp 𝕄
  | 0, _ => Pipeline.ΦA spec0 c
  | n + 1, hn => iprop(iprop(owns (c : Thread nD τ) scr fullShare (rows m c ⟨n, hn⟩) ∗ (∃ d, owns (c : Thread nD τ) scr1 fullShare d)) ∗ (∃ r, prngReg c r))

theorem Phi_zero (c : Dev nD) (n : ℕ) (h : n ≤ cfg0.N) (hz : n = 0) : Phi m c n h = Pipeline.ΦA spec0 c := by
  subst hz; rfl

theorem Phi_pos (c : Dev nD) (n : ℕ) (h : n ≤ cfg0.N) (hz : n ≠ 0) :
    Phi m c n h = iprop(iprop(owns (c : Thread nD τ) scr fullShare (rows m c ⟨n - 1, by omega⟩) ∗ (∃ d, owns (c : Thread nD τ) scr1 fullShare d)) ∗ (∃ r, prngReg c r)) := by
  cases n with
  | zero => exact absurd rfl hz
  | succ n => rfl

/-- The proof data: each input's buffer at its block, the outputs' at the payloads, the scratch at the normalised rows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => X0_3 m c t
    | ⟨4, _⟩ => iblk m c 4 t
    | ⟨5, _⟩ => iblk m c 5 t
    | ⟨6, _⟩ => iblk m c 6 t
    | ⟨7, _⟩ => iblk m c 7 t
    | ⟨8, _⟩ => X8 m c t
    | ⟨9, _⟩ => X9 m c t
    | ⟨10, _⟩ => X10 m c t
    | ⟨11, _⟩ => X11 m c t
    | ⟨12, _⟩ => act m c t
    | ⟨13, _⟩ => lastg m c t
    | ⟨14, _⟩ => lastu m c t
  Φ t := Phi m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = X0_3 m c t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = X8 m c t := by dsimp only [dats]
theorem after9 (c : Dev nD) (t : Fin cfg0.N) : (dats m 0 c).after 9 t = X9 m c t := by dsimp only [dats]
theorem after10 (c : Dev nD) (t : Fin cfg0.N) : (dats m 0 c).after 10 t = X10 m c t := by dsimp only [dats]
theorem after11 (c : Dev nD) (t : Fin cfg0.N) : (dats m 0 c).after 11 t = X11 m c t := by dsimp only [dats]
theorem after12 (c : Dev nD) (t : Fin cfg0.N) : (dats m 0 c).after 12 t = act m c t := by dsimp only [dats]
theorem after13 (c : Dev nD) (t : Fin cfg0.N) : (dats m 0 c).after 13 t = lastg m c t := by dsimp only [dats]
theorem after14 (c : Dev nD) (t : Fin cfg0.N) : (dats m 0 c).after 14 t = lastu m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = X0_3 m c t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = (cfg0.win 8).fill (cfg0.grid.coords t) d (iblk m c 8 t) := by
  unfold Dat.before; rw [if_pos (fetch0_8 t)]; rfl
theorem before9 (c : Dev nD) (t : Fin cfg0.N) (d) : (dats m 0 c).before 9 t d = (cfg0.win 9).fill (cfg0.grid.coords t) d (iblk m c 9 t) := by
  unfold Dat.before; rw [if_pos (fetch0_9 t)]; rfl
theorem before10 (c : Dev nD) (t : Fin cfg0.N) (d) : (dats m 0 c).before 10 t d = (cfg0.win 10).fill (cfg0.grid.coords t) d (iblk m c 10 t) := by
  unfold Dat.before; rw [if_pos (fetch0_10 t)]; rfl
theorem before11 (c : Dev nD) (t : Fin cfg0.N) (d) : (dats m 0 c).before 11 t d = (cfg0.win 11).fill (cfg0.grid.coords t) d (iblk m c 11 t) := by
  unfold Dat.before; rw [if_pos (fetch0_11 t)]; rfl

/-! ## The body's obligation -/

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d)))

/-- and what it returns: a buffer whose block may overhang its array at what it holds on the part inside. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ (∃ d, owns (c : Thread nD τ) (st0_8 t) fullShare ((cfg0.win 8).fill (cfg0.grid.coords t) d ((cfg0.win 8).cut (cfg0.grid.coords t) ((dats m 0 c).after 8 t))))
    ∗ (∃ d, owns (c : Thread nD τ) (st0_9 t) fullShare ((cfg0.win 9).fill (cfg0.grid.coords t) d ((cfg0.win 9).cut (cfg0.grid.coords t) ((dats m 0 c).after 9 t))))
    ∗ (∃ d, owns (c : Thread nD τ) (st0_10 t) fullShare ((cfg0.win 10).fill (cfg0.grid.coords t) d ((cfg0.win 10).cut (cfg0.grid.coords t) ((dats m 0 c).after 10 t))))
    ∗ (∃ d, owns (c : Thread nD τ) (st0_11 t) fullShare ((cfg0.win 11).fill (cfg0.grid.coords t) d ((cfg0.win 11).cut (cfg0.grid.coords t) ((dats m 0 c).after 11 t))))
    ∗ (∃ d, owns (c : Thread nD τ) (st0_12 t) fullShare ((cfg0.win 12).fill (cfg0.grid.coords t) d ((cfg0.win 12).cut (cfg0.grid.coords t) ((dats m 0 c).after 12 t))))
    ∗ owns (c : Thread nD τ) (st0_13 t) fullShare ((dats m 0 c).after 13 t)
    ∗ owns (c : Thread nD τ) (st0_14 t) fullShare ((dats m 0 c).after 14 t))

/-- Before any point the scratch holds something. -/
theorem Phi_any (c : Dev nD) (t : Fin cfg0.N) : Phi m c t.val (Nat.le_of_lt t.isLt)
    ⊢ iprop(iprop((∃ d, owns (c : Thread nD τ) scr fullShare d) ∗ (∃ d, owns (c : Thread nD τ) scr1 fullShare d)) ∗ (∃ r, prngReg c r)) := by
  by_cases hz : t.val = 0
  · rw [Phi_zero m c _ _ hz, PhiA_eq]
  · rw [Phi_pos m c _ _ hz]
    iintro ⟨⟨HS, HT⟩, Hg⟩
    isplitl [HS HT]
    · isplitl [HS]; · iexists _; iexact HS
      iexact HT
    iexact Hg

set_option maxHeartbeats 6400000 in
/-- The body at any point, by whether it is the first of its row of blocks. -/
theorem body_ok (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11]
  rw [show (dats m 0 c).owesAt () t.succ = (dats m 0 c).owesAt () t.castSucc from rfl, after0, after1, after2, after3, after4, after5, after6, after7, after8, after9, after10, after11, after12, after13, after14]
  rw [show (dats m 0 c).Φ t.succ
    = iprop(iprop(owns (c : Thread nD τ) scr fullShare (rows m c t) ∗ (∃ d, owns (c : Thread nD τ) scr1 fullShare d)) ∗ (∃ r, prngReg c r)) from rfl]
  rw [show (dats m 0 c).Φ t.castSucc = Phi m c t.val (Nat.le_of_lt t.isLt) from by
    dsimp only [dats]; exact Pipeline.Dat.Φ_castSucc (Phi m c) t]
  by_cases h0 : t.val % 11 = 0
  · refine BIBase.Entails.trans (Q := iprop(iprop(iprop((∃ d, owns (c : Thread nD τ) scr fullShare d) ∗ (∃ d, owns (c : Thread nD τ) scr1 fullShare d)) ∗ (∃ r, prngReg c r)) ∗ _)) (sep_mono (Phi_any m c t) .rfl) ?_
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply (run_first c (grid0.coords t) _ _ _ _ _ _ _ _ _ _ _ _ _ _ _ _ _ _ _ _ _ _ _ _ _ _ _ _ _ _ _ _ _ _ ((first_iff t).mpr h0) (iblk m c 0 t) (iblk m c 1 t) (iblk m c 2 t) (X0_3 m c t) (iblk m c 4 t) (iblk m c 5 t) (iblk m c 6 t) (iblk m c 7 t) ((cfg0.win 8).fill (cfg0.grid.coords t) d8 (iblk m c 8 t)) ((cfg0.win 9).fill (cfg0.grid.coords t) d9 (iblk m c 9 t)) ((cfg0.win 10).fill (cfg0.grid.coords t) d10 (iblk m c 10 t)) ((cfg0.win 11).fill (cfg0.grid.coords t) d11 (iblk m c 11 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexists _; iexact H13
    isplitl [H14]; · iexists _; iexact H14
    isplitl [HS0]; · iexact HS0
    isplitl [HS1]; · iexact HS1
    iintro ⟨H0, H1, H2, H3, H4, H5, H6, H7, H8, H9, H10, H11, H12, H13, H14, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists d8; rw [cut8]; iexact H8
    isplitl [H9]; · iexists d9; rw [cut9]; iexact H9
    isplitl [H10]; · iexists d10; rw [cut10]; iexact H10
    isplitl [H11]; · iexists d11; rw [cut11]; iexact H11
    isplitl [H12]
    · iexists _
      rw [← act_cut m c t d8 d9 d10 d11, Pipeline.Window.fill_cut]
      iexact H12
    isplitl [H13]; · iexact H13
    iexact H14
  · have hz : t.val ≠ 0 := fun e => h0 (by rw [e])
    rw [Phi_pos m c _ _ hz, rows_prev m c t h0]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply (run_rest c (grid0.coords t) _ _ _ _ _ _ _ _ _ _ _ _ _ _ _ _ _ _ _ _ _ _ _ _ _ _ _ _ _ _ _ _ _ _ (fun h => h0 ((first_iff t).mp h)) (iblk m c 0 t) (iblk m c 1 t) (iblk m c 2 t) (X0_3 m c t) (iblk m c 4 t) (iblk m c 5 t) (iblk m c 6 t) (iblk m c 7 t) ((cfg0.win 8).fill (cfg0.grid.coords t) d8 (iblk m c 8 t)) ((cfg0.win 9).fill (cfg0.grid.coords t) d9 (iblk m c 9 t)) ((cfg0.win 10).fill (cfg0.grid.coords t) d10 (iblk m c 10 t)) ((cfg0.win 11).fill (cfg0.grid.coords t) d11 (iblk m c 11 t)) (rows m c t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexists _; iexact H13
    isplitl [H14]; · iexists _; iexact H14
    isplitl [HS0]; · iexact HS0
    isplitl [HS1]; · iexact HS1
    iintro ⟨H0, H1, H2, H3, H4, H5, H6, H7, H8, H9, H10, H11, H12, H13, H14, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists d8; rw [cut8]; iexact H8
    isplitl [H9]; · iexists d9; rw [cut9]; iexact H9
    isplitl [H10]; · iexists d10; rw [cut10]; iexact H10
    isplitl [H11]; · iexists d11; rw [cut11]; iexact H11
    isplitl [H12]
    · iexists _
      rw [← act_cut m c t d8 d9 d10 d11, Pipeline.Window.fill_cut]
      iexact H12
    isplitl [H13]; · iexact H13
    iexact H14

theorem body_row (t : Fin cfg0.N) :
    defs₀ (F := F) .tc cfg0.body (cfg0.bodyArgs t (cfg0.slots t)) = bodyAt0 t := by
  unfold defs₀; rw [Defs.onTc_tc]

theorem obligation (c : Dev nD) : BodyObligationLoose (dats (F := F) m 0 c) (defs₀ (F := F)) Variants.none () Set.univ := fun t => by
  rw [bigSep_W0, bigSep_W0, body_row]
  refine triple_restated (body_ok m c t) rfl .rfl fun _ => ?_
  exact BIClass.sep_mono .rfl (BIClass.sep_mono .rfl (BIClass.sep_mono .rfl (BIClass.sep_mono .rfl (BIClass.sep_mono .rfl (BIClass.sep_mono ((dats m 0 c).leaves_intro 3 t) (BIClass.sep_mono .rfl (BIClass.sep_mono .rfl (BIClass.sep_mono .rfl (BIClass.sep_mono .rfl (BIClass.sep_mono .rfl (BIClass.sep_mono .rfl (BIClass.sep_mono .rfl (BIClass.sep_mono .rfl (BIClass.sep_mono .rfl (BIClass.sep_mono ((dats m 0 c).leaves_intro 13 t) ((dats m 0 c).leaves_intro 14 t))))))))))))))))

theorem hin (c : Dev nD) : Pipeline.ΦA spec0 c ⊢ (dats m 0 c).Φ 0 := by
  rw [show (dats m 0 c).Φ 0 = Phi m c 0 (Nat.zero_le _) from rfl, Phi_zero m c 0 _ rfl]

theorem hout (c : Dev nD) : (dats m 0 c).Φ (Fin.last cfg0.N) ⊢ Pipeline.ΦA spec0 c := by
  have hN : cfg0.N = 88 := N_0
  rw [show (dats m 0 c).Φ (Fin.last cfg0.N) = Phi m c cfg0.N (Nat.le_refl _) from rfl, Phi_pos m c _ _ (by omega), PhiA_eq]
  iintro ⟨⟨HS0, HS1⟩, Hg⟩
  isplitl [HS0 HS1]
  · isplitl [HS0]; · iexists _; iexact HS0
    iexact HS1
  iexact Hg

/-! ## The run and the frame -/

set_option backward.isDefEq.respectTransparency.types false in
/-- Every execution ends, with every array at what the proof data say and every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := obligation m) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_quiescent m ρ)

/-- The argument arrays end unchanged and the machine is quiescent. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_quiescent m ρ))

end Cert.FfnUpProof

end
-- ==== Proof.FfnUpValue.lean ====
/-
  The up projection of the feed-forward block with its convolution: the three arrays the kernel leaves are the closed forms, read
  index by index, and so are the reference's.
-/
module

public import proofs.«01_k».proof.Defs
public import proofs.«01_k».proof.Proof.FfnUpForm
public import proofs.«01_k».proof.Proof.FfnUpRef
public import proofs.«01_k».proof.Proof.FfnUpBody
public import proofs.«01_k».proof.Proof.Gen.FfnUp.Frame
public import Idealize.ShloMosaic.Lib.Quiescent
public import Idealize.ShloMosaic.Lib.Pointwise

@[expose] public section

set_option maxRecDepth 16384

noncomputable section

namespace Cert.FfnUpProof

open Cert.FfnUpIdeal Cert.FfnUpIdeal.Gen Cert.Products Cert.FfnUpForm
open Idealize.ShloMosaic hiding ix1 ix2 ix3 eq_ix2
open Idealize.ShloMosaic.TcCoe Idealize.ShloMosaic.ValueIdx Idealize.ShloMosaic.Tactic Idealize.SL.Sem
open Idealize.ShloMosaic.Pipeline (Dat)

/-! ## The frames -/

theorem frame_ideal : Cert.quiescent_FfnUpIdeal (hFfnUpIdeal := FfnUpIdeal.Gen.facts) := fun m ρ _ => frame_any m ρ

/-- The two programs are the same text, so the machine's own frame is the same theorem. -/
theorem frame_same : Cert.quiescent_FfnUp (hFfnUp := FfnUp.Gen.facts) = (∀ (m : (ℓ : Loc nD τ sig) → Buf (Elt Bits) ℓ) (g : Dev nD → PrngReg), True →
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0)) := by sl_kernel_rfl
theorem frame : Cert.quiescent_FfnUp (hFfnUp := FfnUp.Gen.facts) := frame_same ▸ fun m ρ _ => frame_any m ρ

/-! ## The payloads at an index -/

theorem pay3_apply (w : Vec Ideal S1x2048 .f32) (x : Vec Ideal S1024x2048 .f32) (r : Fin 1024) (k : Fin 2048) :
    k0_pay3 w x (ix2 r k) = normed (fun j => x (ix2 r j)) (fun j => w (ix2 0 j)) k := by
  pointwise [k0_pay3, k0_pay2, normed]
  rfl

theorem pay5_zero (w : Vec Ideal S1x2048 .f32) (x : Vec Ideal S16x2048 .f32) (r : Fin 16) (k : Fin 2048) :
    k0_pay5 (k0_pay2 w) 1#1 x (k0_pay4 x) (ix2 r k) = (0 : EReal) := by
  pointwise [k0_pay5]

theorem pay5_apply (w : Vec Ideal S1x2048 .f32) (x : Vec Ideal S16x2048 .f32) (r : Fin 16) (k : Fin 2048) :
    k0_pay5 (k0_pay2 w) 0#1 x (k0_pay4 x) (ix2 r k) = normed (fun j => x (ix2 r j)) (fun j => w (ix2 0 j)) k := by
  pointwise [k0_pay5, k0_pay4, k0_pay2, normed]
  rfl

theorem pay6_apply (x : Vec Ideal S1x2048x512 .f32) (k : Fin 2048) (q : Fin 512) : k0_pay6 x (ix2 k q) = x (ix3 0 k q) := by
  unfold k0_pay6
  exact (shapeCast_apply (s := S2048x512) _ _ _ (ix2 k q) rfl).trans (drop_apply x _ k q)
theorem pay7_apply (x : Vec Ideal S1x2048x128 .f32) (k : Fin 2048) (q : Fin 128) : k0_pay7 x (ix2 k q) = x (ix3 0 k q) := by
  unfold k0_pay7
  exact (shapeCast_apply (s := S2048x128) _ _ _ (ix2 k q) rfl).trans (drop_apply x _ k q)

theorem pay11_apply (x : Vec Ideal S1040x2048 .bf16) (w : Vec Ideal S2048x1024 .bf16) (a : Fin 1040) (p : Fin 1024) :
    k0_pay11 x w (ix2 a p) = (∑ k : Fin 2048, x (ix2 a k) * w (ix2 k p) : EReal) := by
  unfold k0_pay11
  exact matmul_zero_apply _ rfl _ _ a p
theorem pay12_apply (x : Vec Ideal S1040x2048 .bf16) (w : Vec Ideal S2048x1024 .bf16) (a : Fin 1040) (q : Fin 512) :
    k0_pay12 x w (ix2 a q) = (∑ k : Fin 2048, x (ix2 a k) * w (ix2 k ⟨q.val, by have := q.isLt; omega⟩) : EReal) := by
  unfold k0_pay12
  refine Eq.trans ?_ (pay11_apply x w a ⟨q.val, by have := q.isLt; omega⟩)
  exact extractStridedSlice_apply _ _ _ _ _ fun d => match d with
    | ⟨0, _⟩ => (Nat.zero_add _).symm | ⟨1, _⟩ => (Nat.zero_add _).symm
theorem pay15_apply (x : Vec Ideal S1040x2048 .bf16) (w : Vec Ideal S2048x1024 .bf16) (a : Fin 1040) (q : Fin 512) :
    k0_pay15 x w (ix2 a q) = (∑ k : Fin 2048, x (ix2 a k) * w (ix2 k ⟨512 + q.val, by have := q.isLt; omega⟩) : EReal) := by
  unfold k0_pay15
  refine Eq.trans ?_ (pay11_apply x w a ⟨512 + q.val, by have := q.isLt; omega⟩)
  exact extractStridedSlice_apply _ _ _ _ _ fun d => match d with
    | ⟨0, _⟩ => (Nat.zero_add _).symm | ⟨1, _⟩ => rfl
theorem pay13_apply (x : Vec Ideal S1040x2048 .bf16) (w : Vec Ideal S2048x1024 .bf16) (z : Fin 1) (r : Fin 8) (q : Fin 512) :
    k0_pay13 x w (ix3 z r q) = k0_pay12 x w (ix2 ⟨1032 + r.val, by have := r.isLt; omega⟩ q) := by
  have hz : z.val = 0 := by have := z.isLt; omega
  unfold k0_pay13
  refine (shapeCast_apply (s := S8x512) _ _ _ (ix2 r q) ?_).trans ?_
  · rw [Shape.rowMajor_val_two, Shape.rowMajor_val_three]; show r.val * 512 + q.val = (z.val * 8 + r.val) * 512 + q.val; omega
  exact extractStridedSlice_apply _ _ _ _ _ fun d => match d with
    | ⟨0, _⟩ => rfl | ⟨1, _⟩ => (Nat.zero_add _).symm
theorem pay16_apply (x : Vec Ideal S1040x2048 .bf16) (w : Vec Ideal S2048x1024 .bf16) (z : Fin 1) (r : Fin 8) (q : Fin 512) :
    k0_pay16 x w (ix3 z r q) = k0_pay15 x w (ix2 ⟨1032 + r.val, by have := r.isLt; omega⟩ q) := by
  have hz : z.val = 0 := by have := z.isLt; omega
  unfold k0_pay16
  refine (shapeCast_apply (s := S8x512) _ _ _ (ix2 r q) ?_).trans ?_
  · rw [Shape.rowMajor_val_two, Shape.rowMajor_val_three]; show r.val * 512 + q.val = (z.val * 8 + r.val) * 512 + q.val; omega
  exact extractStridedSlice_apply _ _ _ _ _ fun d => match d with
    | ⟨0, _⟩ => rfl | ⟨1, _⟩ => (Nat.zero_add _).symm

variable (m : (ℓ : Loc nD τ sig) → Buf (Elt Ideal) ℓ)

/-! ## The arguments, and the arrays the region finds -/

abbrev argX (c : Dev nD) : S8192x2048.Idx → EReal := m ((c : Thread nD τ).loc main_arg0)
abbrev argN (c : Dev nD) : S2048.Idx → EReal := m ((c : Thread nD τ).loc main_arg1)
abbrev argW (c : Dev nD) : S4x2048x11008.Idx → EReal := m ((c : Thread nD τ).loc main_arg2)
abbrev argC (c : Dev nD) : S3x11008.Idx → EReal := m ((c : Thread nD τ).loc main_arg3)
abbrev argB (c : Dev nD) : S11008.Idx → EReal := m ((c : Thread nD τ).loc main_arg4)

theorem V_v0 (c : Dev nD) (k : Fin 3) (q : Fin 5504) : V m c main_v0 (ix2 k q) = argC m c (ix2 k (lower q)) := by
  have e : V m c main_v0 = extractStridedSlice S3x5504 ![0, 0] (m ((c : Thread nD τ).loc main_arg3)) slices_S3x11008_S3x5504_0_0 := by
    funext j; rfl
  rw [e]
  exact extractStridedSlice_apply _ _ _ _ _ fun d => match d with
    | ⟨0, _⟩ => (Nat.zero_add _).symm | ⟨1, _⟩ => (Nat.zero_add _).symm
theorem V_v1 (c : Dev nD) (k : Fin 3) (q : Fin 5504) : V m c main_v1 (ix2 k q) = argC m c (ix2 k (upper q)) := by
  have e : V m c main_v1 = extractStridedSlice S3x5504 ![0, 5504] (m ((c : Thread nD τ).loc main_arg3)) slices_S3x11008_S3x5504_0_5504 := by
    funext j; rfl
  rw [e]
  exact extractStridedSlice_apply _ _ _ _ _ fun d => match d with
    | ⟨0, _⟩ => (Nat.zero_add _).symm | ⟨1, _⟩ => rfl
theorem V_v3 (c : Dev nD) (q : Fin 5504) : V m c main_v3 (ix2 0 q) = argB m c (ix1 (lower q)) := by
  have e : V m c main_v3 = shapeCast S1x5504 (extractStridedSlice S5504 ![0] (m ((c : Thread nD τ).loc main_arg4)) slices_S11008_S5504_0) shapeCasts_S5504_S1x5504 := by
    funext j; rfl
  rw [e]
  refine (shapeCast_apply (s := S5504) _ _ _ (ix1 q) ?_).trans ?_
  · rw [Shape.rowMajor_val_one, Shape.rowMajor_val_two]; show q.val = 0 * 5504 + q.val; omega
  exact extractStridedSlice_apply _ _ _ _ _ fun d => match d with | ⟨0, _⟩ => (Nat.zero_add _).symm
theorem V_v5 (c : Dev nD) (q : Fin 5504) : V m c main_v5 (ix2 0 q) = argB m c (ix1 (upper q)) := by
  have e : V m c main_v5 = shapeCast S1x5504 (extractStridedSlice S5504 ![5504] (m ((c : Thread nD τ).loc main_arg4)) slices_S11008_S5504_5504) shapeCasts_S5504_S1x5504 := by
    funext j; rfl
  rw [e]
  refine (shapeCast_apply (s := S5504) _ _ _ (ix1 q) ?_).trans ?_
  · rw [Shape.rowMajor_val_one, Shape.rowMajor_val_two]; show q.val = 0 * 5504 + q.val; omega
  exact extractStridedSlice_apply _ _ _ _ _ fun d => match d with | ⟨0, _⟩ => rfl
theorem V_v6 (c : Dev nD) (k : Fin 2048) : V m c main_v6 (ix2 0 k) = argN m c (ix1 k) := by
  have e : V m c main_v6 = shapeCast S1x2048 (m ((c : Thread nD τ).loc main_arg1)) shapeCasts_S2048_S1x2048 := by
    funext j; rfl
  rw [e]
  refine shapeCast_apply (s := S2048) _ _ _ _ ?_
  rw [Shape.rowMajor_val_one, Shape.rowMajor_val_two]; show k.val = 0 * 2048 + k.val; omega

theorem idx3 : ∀ t : Fin cfg0.N, win0_3.index t = ![0, 0, t.val % 11] := (by decide +kernel : ∀ t : Fin grid0.N, _)
theorem idx4 : ∀ t : Fin cfg0.N, win0_4.index t = ![0, 0, 43 + min (4 * (t.val % 11)) 42] := (by decide +kernel : ∀ t : Fin grid0.N, _)
theorem idx5 : ∀ t : Fin cfg0.N, win0_5.index t = ![0, 0, 43 + min (4 * (t.val % 11) + 1) 42] := (by decide +kernel : ∀ t : Fin grid0.N, _)
theorem idx6 : ∀ t : Fin cfg0.N, win0_6.index t = ![0, 0, 43 + min (4 * (t.val % 11) + 2) 42] := (by decide +kernel : ∀ t : Fin grid0.N, _)
theorem idx7 : ∀ t : Fin cfg0.N, win0_7.index t = ![0, 0, 43 + min (4 * (t.val % 11) + 3) 42] := (by decide +kernel : ∀ t : Fin grid0.N, _)
theorem idx8 : ∀ t : Fin cfg0.N, win0_8.index t = ![0, t.val % 11] := (by decide +kernel : ∀ t : Fin grid0.N, _)
theorem idx9 : ∀ t : Fin cfg0.N, win0_9.index t = ![0, t.val % 11] := (by decide +kernel : ∀ t : Fin grid0.N, _)
theorem idx10 : ∀ t : Fin cfg0.N, win0_10.index t = ![0, t.val % 11] := (by decide +kernel : ∀ t : Fin grid0.N, _)
theorem idx11 : ∀ t : Fin cfg0.N, win0_11.index t = ![0, t.val % 11] := (by decide +kernel : ∀ t : Fin grid0.N, _)
theorem idx12 : ∀ t : Fin cfg0.N, win0_12.index t = ![t.val / 11, t.val % 11] := (by decide +kernel : ∀ t : Fin grid0.N, _)
theorem idx13 : ∀ t : Fin cfg0.N, win0_13.index t = ![t.val / 11, 0, t.val % 11] := (by decide +kernel : ∀ t : Fin grid0.N, _)
theorem idx14 : ∀ t : Fin cfg0.N, win0_14.index t = ![t.val / 11, 0, t.val % 11] := (by decide +kernel : ∀ t : Fin grid0.N, _)
/-- How many of a block's 512 columns are inside the array, -/
theorem wide12 : ∀ t : Fin cfg0.N, (cfg0.win 12).xsize (cfg0.grid.coords t) 1 = min 512 (5504 - t.val % 11 * 512) :=
  (by decide +kernel : ∀ t : Fin grid0.N, win0_12.xsize (grid0.coords t) 1 = min 512 (5504 - t.val % 11 * 512))
theorem wide13 : ∀ t : Fin cfg0.N, (cfg0.win 13).xsize (cfg0.grid.coords t) 2 = min 512 (5504 - t.val % 11 * 512) :=
  (by decide +kernel : ∀ t : Fin grid0.N, win0_13.xsize (grid0.coords t) 2 = min 512 (5504 - t.val % 11 * 512))
theorem wide14 : ∀ t : Fin cfg0.N, (cfg0.win 14).xsize (cfg0.grid.coords t) 2 = min 512 (5504 - t.val % 11 * 512) :=
  (by decide +kernel : ∀ t : Fin grid0.N, win0_14.xsize (grid0.coords t) 2 = min 512 (5504 - t.val % 11 * 512))

/-! ## The blocks at an index -/

theorem above_at (c : Dev nD) (t : Fin cfg0.N) (h : ¬t.val / 11 % 4 = 0) (r : Fin 16) (k : Fin 2048) :
    (iblk m c 0 t : Vec Ideal S16x2048 .f32) (ix2 r k)
      = argX m c (ix2 ⟨t.val / 11 * 1024 + r.val - 16, by have := r.isLt; have : t.val < 88 := t.isLt; omega⟩ k) := by
  have ht : t.val < 88 := t.isLt
  have hr := r.isLt
  blk_simp [iblk]
  refine congrArg _ ?_
  blk_ext [index0, ix2_0, ix2_1]
  show (t.val / 11 * 64 - 1) * 16 + r.val = t.val / 11 * 1024 + r.val - 16
  omega
theorem rows_at (c : Dev nD) (t : Fin cfg0.N) (r : Fin 1024) (k : Fin 2048) :
    (iblk m c 1 t : Vec Ideal S1024x2048 .f32) (ix2 r k)
      = argX m c (ix2 ⟨t.val / 11 * 1024 + r.val, by have := r.isLt; have : t.val < 88 := t.isLt; omega⟩ k) := by
  have ht : t.val < 88 := t.isLt
  blk_simp [iblk]
  refine congrArg _ ?_
  blk_ext [index1, ix2_0, ix2_1]
theorem norm_at (c : Dev nD) (t : Fin cfg0.N) (k : Fin 2048) :
    (iblk m c 2 t : Vec Ideal S1x2048 .f32) (ix2 0 k) = argN m c (ix1 k) := by
  refine Eq.trans ?_ (V_v6 m c k)
  blk_simp [iblk]
  refine congrArg (V m c main_v6) ?_
  blk_ext [index2, ix2_0, ix2_1]
theorem lower_at (c : Dev nD) (t : Fin cfg0.N) (k : Fin 2048) (q : Fin 512) :
    (X0_3 m c t : Vec Ideal S1x2048x512 .f32) (ix3 0 k q) = argW m c (ix3 0 k ⟨t.val % 11 * 512 + q.val, by have := q.isLt; omega⟩) := by
  unfold X0_3 Pipeline.Window.fill
  rw [dif_pos (moved0_3 t _)]
  blk_simp [iblk]
  refine congrArg _ ?_
  blk_ext [idx3, ix3_0, ix3_1, ix3_2]
theorem upper_at4 (c : Dev nD) (t : Fin cfg0.N) (k : Fin 2048) (q : Fin 128) (p : Fin 11008) (hp : p.val = (43 + min (4 * (t.val % 11)) 42) * 128 + q.val) :
    (iblk m c 4 t : Vec Ideal S1x2048x128 .f32) (ix3 0 k q) = argW m c (ix3 0 k p) := by
  blk_simp [iblk]
  refine congrArg _ ?_
  blk_ext [idx4, ix3_0, ix3_1, ix3_2]
  exact hp.symm
theorem upper_at5 (c : Dev nD) (t : Fin cfg0.N) (k : Fin 2048) (q : Fin 128) (p : Fin 11008) (hp : p.val = (43 + min (4 * (t.val % 11) + 1) 42) * 128 + q.val) :
    (iblk m c 5 t : Vec Ideal S1x2048x128 .f32) (ix3 0 k q) = argW m c (ix3 0 k p) := by
  blk_simp [iblk]
  refine congrArg _ ?_
  blk_ext [idx5, ix3_0, ix3_1, ix3_2]
  exact hp.symm
theorem upper_at6 (c : Dev nD) (t : Fin cfg0.N) (k : Fin 2048) (q : Fin 128) (p : Fin 11008) (hp : p.val = (43 + min (4 * (t.val % 11) + 2) 42) * 128 + q.val) :
    (iblk m c 6 t : Vec Ideal S1x2048x128 .f32) (ix3 0 k q) = argW m c (ix3 0 k p) := by
  blk_simp [iblk]
  refine congrArg _ ?_
  blk_ext [idx6, ix3_0, ix3_1, ix3_2]
  exact hp.symm
theorem upper_at7 (c : Dev nD) (t : Fin cfg0.N) (k : Fin 2048) (q : Fin 128) (p : Fin 11008) (hp : p.val = (43 + min (4 * (t.val % 11) + 3) 42) * 128 + q.val) :
    (iblk m c 7 t : Vec Ideal S1x2048x128 .f32) (ix3 0 k q) = argW m c (ix3 0 k p) := by
  blk_simp [iblk]
  refine congrArg _ ?_
  blk_ext [idx7, ix3_0, ix3_1, ix3_2]
  exact hp.symm

theorem conv_at8 (c : Dev nD) (t : Fin cfg0.N) (k : Fin 3) (q : Fin 512) (h : t.val % 11 * 512 + q.val < 5504) :
    X8 m c t (ix2 k q) = argC m c (ix2 k (lower ⟨t.val % 11 * 512 + q.val, h⟩)) := by
  have hq := q.isLt
  refine Eq.trans ?_ (V_v0 m c k ⟨t.val % 11 * 512 + q.val, h⟩)
  unfold X8 Pipeline.Window.fill
  rw [dif_pos (((cfg0.win 8).moved_iff (cfg0.grid.coords t) (ix2 k q)).mpr fun a => match a with
    | ⟨0, _⟩ => lt_of_lt_of_eq k.isLt (inside8 t).2.symm
    | ⟨1, _⟩ => lt_of_lt_of_eq (show q.val < min 512 (5504 - t.val % 11 * 512) by omega) ((wide12 t).symm.trans (inside8 t).1))]
  blk_simp [iblk]
  refine congrArg (V m c main_v0) ?_
  blk_ext [idx8, ix2_0, ix2_1]
theorem conv_at9 (c : Dev nD) (t : Fin cfg0.N) (k : Fin 3) (q : Fin 512) (h : t.val % 11 * 512 + q.val < 5504) :
    X9 m c t (ix2 k q) = argC m c (ix2 k (upper ⟨t.val % 11 * 512 + q.val, h⟩)) := by
  have hq := q.isLt
  refine Eq.trans ?_ (V_v1 m c k ⟨t.val % 11 * 512 + q.val, h⟩)
  unfold X9 Pipeline.Window.fill
  rw [dif_pos (((cfg0.win 9).moved_iff (cfg0.grid.coords t) (ix2 k q)).mpr fun a => match a with
    | ⟨0, _⟩ => lt_of_lt_of_eq k.isLt (inside9 t).2.symm
    | ⟨1, _⟩ => lt_of_lt_of_eq (show q.val < min 512 (5504 - t.val % 11 * 512) by omega) ((wide12 t).symm.trans (inside9 t).1))]
  blk_simp [iblk]
  refine congrArg (V m c main_v1) ?_
  blk_ext [idx9, ix2_0, ix2_1]
theorem bias_at10 (c : Dev nD) (t : Fin cfg0.N) (q : Fin 512) (h : t.val % 11 * 512 + q.val < 5504) :
    X10 m c t (ix2 0 q) = argB m c (ix1 (lower ⟨t.val % 11 * 512 + q.val, h⟩)) := by
  have hq := q.isLt
  refine Eq.trans ?_ (V_v3 m c ⟨t.val % 11 * 512 + q.val, h⟩)
  unfold X10 Pipeline.Window.fill
  rw [dif_pos (((cfg0.win 10).moved_iff (cfg0.grid.coords t) (ix2 0 q)).mpr fun a => match a with
    | ⟨0, _⟩ => lt_of_lt_of_eq Nat.zero_lt_one (inside10 t).2.symm
    | ⟨1, _⟩ => lt_of_lt_of_eq (show q.val < min 512 (5504 - t.val % 11 * 512) by omega) ((wide12 t).symm.trans (inside10 t).1))]
  blk_simp [iblk]
  refine congrArg (V m c main_v3) ?_
  blk_ext [idx10, ix2_0, ix2_1]
theorem bias_at11 (c : Dev nD) (t : Fin cfg0.N) (q : Fin 512) (h : t.val % 11 * 512 + q.val < 5504) :
    X11 m c t (ix2 0 q) = argB m c (ix1 (upper ⟨t.val % 11 * 512 + q.val, h⟩)) := by
  have hq := q.isLt
  refine Eq.trans ?_ (V_v5 m c ⟨t.val % 11 * 512 + q.val, h⟩)
  unfold X11 Pipeline.Window.fill
  rw [dif_pos (((cfg0.win 11).moved_iff (cfg0.grid.coords t) (ix2 0 q)).mpr fun a => match a with
    | ⟨0, _⟩ => lt_of_lt_of_eq Nat.zero_lt_one (inside11 t).2.symm
    | ⟨1, _⟩ => lt_of_lt_of_eq (show q.val < min 512 (5504 - t.val % 11 * 512) by omega) ((wide12 t).symm.trans (inside11 t).1))]
  blk_simp [iblk]
  refine congrArg (V m c main_v5) ?_
  blk_ext [idx11, ix2_0, ix2_1]

/-! ## The normalised rows and the weight columns of a point -/

/-- Above a sequence's first row there are zeros, -/
theorem rows_zero (c : Dev nD) (t : Fin cfg0.N) (h : t.val / 11 % 4 = 0) (a : Fin 1040) (ha : a.val < 16) (k : Fin 2048) :
    rows m c t (ix2 a k) = (0 : EReal) := by
  unfold rows normRows rowsOf
  rw [atStart_eq, if_pos h]
  refine (dif_pos ha).trans ?_
  exact pay5_zero _ _ ⟨a.val, ha⟩ k
/-- and everywhere else the normalised rows. -/
theorem rows_some (c : Dev nD) (t : Fin cfg0.N) (a : Fin 1040) (h : 16 ≤ a.val ∨ ¬t.val / 11 % 4 = 0) (s : Fin 8192) (hs : s.val + 16 = t.val / 11 * 1024 + a.val)
    (k : Fin 2048) : rows m c t (ix2 a k) = normed (fun j => argX m c (ix2 s j)) (fun j => argN m c (ix1 j)) k := by
  have ha := a.isLt
  unfold rows normRows rowsOf
  by_cases h16 : a.val < 16
  · have h0 : ¬t.val / 11 % 4 = 0 := by omega
    rw [atStart_eq, if_neg h0]
    refine (dif_pos h16).trans ((pay5_apply _ _ ⟨a.val, h16⟩ k).trans ?_)
    refine congrArg₂ (normed · · k) (funext fun j => (above_at m c t h0 ⟨a.val, h16⟩ j).trans ?_) (funext fun j => norm_at m c t j)
    exact congrArg (fun r => argX m c (ix2 r j)) (Fin.ext (by show t.val / 11 * 1024 + a.val - 16 = s.val; omega))
  · refine (dif_neg h16).trans ((pay3_apply _ _ ⟨a.val - 16, by omega⟩ k).trans ?_)
    refine congrArg₂ (normed · · k) (funext fun j => (rows_at m c t ⟨a.val - 16, by omega⟩ j).trans ?_) (funext fun j => norm_at m c t j)
    exact congrArg (fun r => argX m c (ix2 r j)) (Fin.ext (by show t.val / 11 * 1024 + (a.val - 16) = s.val; omega))

theorem cols_lower (c : Dev nD) (t : Fin cfg0.N) (k : Fin 2048) (q : Fin 512) (hq : q.val < 1024) :
    cols m c t (ix2 k ⟨q.val, hq⟩) = argW m c (ix3 0 k ⟨t.val % 11 * 512 + q.val, by have := q.isLt; omega⟩) := by
  unfold cols wcols colsOf
  exact (dif_pos q.isLt).trans ((pay6_apply _ k q).trans (lower_at m c t k q))

theorem cols_upper (c : Dev nD) (t : Fin cfg0.N) (k : Fin 2048) (q : Fin 512) (hq : 512 + q.val < 1024) (h : t.val % 11 * 512 + q.val < 5504) :
    cols m c t (ix2 k ⟨512 + q.val, hq⟩) = argW m c (ix3 0 k (upper ⟨t.val % 11 * 512 + q.val, h⟩)) := by
  unfold cols wcols colsOf
  refine (dif_neg (show ¬512 + q.val < 512 by omega)).trans ?_
  by_cases h1 : 512 + q.val < 640
  · refine (dif_pos h1).trans ((pay7_apply _ k ⟨512 + q.val - 512, by omega⟩).trans (upper_at4 m c t k _ _ ?_))
    show 5504 + (t.val % 11 * 512 + q.val) = (43 + min (4 * (t.val % 11)) 42) * 128 + (512 + q.val - 512); omega
  refine (dif_neg h1).trans ?_
  by_cases h2 : 512 + q.val < 768
  · refine (dif_pos h2).trans ((pay7_apply _ k ⟨512 + q.val - 640, by omega⟩).trans (upper_at5 m c t k _ _ ?_))
    show 5504 + (t.val % 11 * 512 + q.val) = (43 + min (4 * (t.val % 11) + 1) 42) * 128 + (512 + q.val - 640); omega
  refine (dif_neg h2).trans ?_
  by_cases h3 : 512 + q.val < 896
  · refine (dif_pos h3).trans ((pay7_apply _ k ⟨512 + q.val - 768, by omega⟩).trans (upper_at6 m c t k _ _ ?_))
    show 5504 + (t.val % 11 * 512 + q.val) = (43 + min (4 * (t.val % 11) + 2) 42) * 128 + (512 + q.val - 768); omega
  refine (dif_neg h3).trans ((pay7_apply _ k ⟨512 + q.val - 896, by omega⟩).trans (upper_at7 m c t k _ _ ?_))
  show 5504 + (t.val % 11 * 512 + q.val) = (43 + min (4 * (t.val % 11) + 3) 42) * 128 + (512 + q.val - 896); omega

/-! ## The two halves of the product, and the convolution -/

theorem lower_some (c : Dev nD) (t : Fin cfg0.N) (a : Fin 1040) (h : 16 ≤ a.val ∨ ¬t.val / 11 % 4 = 0) (s : Fin 8192) (hs : s.val + 16 = t.val / 11 * 1024 + a.val)
    (q : Fin 512) (hq : t.val % 11 * 512 + q.val < 5504) : k0_pay12 (rows m c t) (cols m c t) (ix2 a q) = prodAt (argX m c) (argN m c) (argW m c) s (lower ⟨t.val % 11 * 512 + q.val, hq⟩) := by
  rw [pay12_apply]
  exact Finset.sum_congr (M := EReal) rfl fun k _ => congrArg₂ (· * ·) (rows_some m c t a h s hs k) (cols_lower m c t k q _)
theorem upper_some (c : Dev nD) (t : Fin cfg0.N) (a : Fin 1040) (h : 16 ≤ a.val ∨ ¬t.val / 11 % 4 = 0) (s : Fin 8192) (hs : s.val + 16 = t.val / 11 * 1024 + a.val)
    (q : Fin 512) (hq : t.val % 11 * 512 + q.val < 5504) : k0_pay15 (rows m c t) (cols m c t) (ix2 a q) = prodAt (argX m c) (argN m c) (argW m c) s (upper ⟨t.val % 11 * 512 + q.val, hq⟩) := by
  rw [pay15_apply]
  exact Finset.sum_congr (M := EReal) rfl fun k _ => congrArg₂ (· * ·) (rows_some m c t a h s hs k) (cols_upper m c t k q _ hq)
theorem lower_zero (c : Dev nD) (t : Fin cfg0.N) (h : t.val / 11 % 4 = 0) (a : Fin 1040) (ha : a.val < 16) (q : Fin 512) :
    k0_pay12 (rows m c t) (cols m c t) (ix2 a q) = (0 : EReal) := by
  rw [pay12_apply]
  exact Finset.sum_eq_zero (M := EReal) fun k _ => by rw [rows_zero m c t h a ha k]; exact zero_mul _
theorem upper_zero (c : Dev nD) (t : Fin cfg0.N) (h : t.val / 11 % 4 = 0) (a : Fin 1040) (ha : a.val < 16) (q : Fin 512) :
    k0_pay15 (rows m c t) (cols m c t) (ix2 a q) = (0 : EReal) := by
  rw [pay15_apply]
  exact Finset.sum_eq_zero (M := EReal) fun k _ => by rw [rows_zero m c t h a ha k]; exact zero_mul _

/-- The row of the arrays a point's row is. -/
abbrev rowOf (t : Fin cfg0.N) (r : Fin 1024) : Fin 8192 := ⟨t.val / 11 * 1024 + r.val, by have := r.isLt; have : t.val < 88 := t.isLt; omega⟩

theorem lower_pad (c : Dev nD) (t : Fin cfg0.N) (r : Fin 1024) (d : Fin 3) (a : Fin 1040) (ha : a.val = r.val + 14 + d.val) (q : Fin 512) (hq : t.val % 11 * 512 + q.val < 5504) :
    k0_pay12 (rows m c t) (cols m c t) (ix2 a q) = padded (argX m c) (argN m c) (argW m c) (rowOf t r) d (lower ⟨t.val % 11 * 512 + q.val, hq⟩) := by
  have hr := r.isLt; have hd := d.isLt
  have ht : t.val < 88 := t.isLt
  unfold padded
  by_cases h : 16 ≤ a.val ∨ ¬t.val / 11 % 4 = 0
  · rw [if_pos (show 2 ≤ (t.val / 11 * 1024 + r.val) % 4096 + d.val by omega)]
    exact lower_some m c t a h _ (by show t.val / 11 * 1024 + r.val + d.val - 2 + 16 = _; omega) q hq
  · rw [if_neg (show ¬2 ≤ (t.val / 11 * 1024 + r.val) % 4096 + d.val by omega)]
    exact lower_zero m c t (by omega) a (by omega) q
theorem upper_pad (c : Dev nD) (t : Fin cfg0.N) (r : Fin 1024) (d : Fin 3) (a : Fin 1040) (ha : a.val = r.val + 14 + d.val) (q : Fin 512) (hq : t.val % 11 * 512 + q.val < 5504) :
    k0_pay15 (rows m c t) (cols m c t) (ix2 a q) = padded (argX m c) (argN m c) (argW m c) (rowOf t r) d (upper ⟨t.val % 11 * 512 + q.val, hq⟩) := by
  have hr := r.isLt; have hd := d.isLt
  have ht : t.val < 88 := t.isLt
  unfold padded
  by_cases h : 16 ≤ a.val ∨ ¬t.val / 11 % 4 = 0
  · rw [if_pos (show 2 ≤ (t.val / 11 * 1024 + r.val) % 4096 + d.val by omega)]
    exact upper_some m c t a h _ (by show t.val / 11 * 1024 + r.val + d.val - 2 + 16 = _; omega) q hq
  · rw [if_neg (show ¬2 ≤ (t.val / 11 * 1024 + r.val) % 4096 + d.val by omega)]
    exact upper_zero m c t (by omega) a (by omega) q

theorem tap_eq (y : FVec Ideal S1040x512 .f32) (cw : Vec Ideal S3x512 .f32) (cb : Vec Ideal S1x512 .f32) (r : Fin 1024) (q : Fin 512) :
    tap y cw cb r q = (y (ix2 ⟨r.val + 14, by omega⟩ q) * cw (ix2 0 q) + y (ix2 ⟨r.val + 15, by omega⟩ q) * cw (ix2 1 q)
      + y (ix2 ⟨r.val + 16, by omega⟩ q) * cw (ix2 2 q) + cb (ix2 0 q) : EReal) := rfl

theorem gate_at (c : Dev nD) (t : Fin cfg0.N) (r : Fin 1024) (q : Fin 512) (hq : t.val % 11 * 512 + q.val < 5504) :
    tap (k0_pay12 (rows m c t) (cols m c t)) (X8 m c t) (X10 m c t) r q
      = conv (argX m c) (argN m c) (argW m c) (argC m c) (argB m c) (rowOf t r) (lower ⟨t.val % 11 * 512 + q.val, hq⟩) := by
  rw [tap_eq, lower_pad m c t r 0 ⟨r.val + 14, by omega⟩ rfl q hq, lower_pad m c t r 1 ⟨r.val + 15, by omega⟩ rfl q hq,
    lower_pad m c t r 2 ⟨r.val + 16, by omega⟩ rfl q hq, conv_at8 m c t 0 q hq, conv_at8 m c t 1 q hq, conv_at8 m c t 2 q hq, bias_at10 m c t q hq]
  rfl
theorem up_at (c : Dev nD) (t : Fin cfg0.N) (r : Fin 1024) (q : Fin 512) (hq : t.val % 11 * 512 + q.val < 5504) :
    tap (k0_pay15 (rows m c t) (cols m c t)) (X9 m c t) (X11 m c t) r q
      = conv (argX m c) (argN m c) (argW m c) (argC m c) (argB m c) (rowOf t r) (upper ⟨t.val % 11 * 512 + q.val, hq⟩) := by
  rw [tap_eq, upper_pad m c t r 0 ⟨r.val + 14, by omega⟩ rfl q hq, upper_pad m c t r 1 ⟨r.val + 15, by omega⟩ rfl q hq,
    upper_pad m c t r 2 ⟨r.val + 16, by omega⟩ rfl q hq, conv_at9 m c t 0 q hq, conv_at9 m c t 1 q hq, conv_at9 m c t 2 q hq, bias_at11 m c t q hq]
  rfl

/-- What a point's first output holds at an index inside the array. -/
theorem act_at (c : Dev nD) (t : Fin cfg0.N) (r : Fin 1024) (q : Fin 512) (hq : t.val % 11 * 512 + q.val < 5504) :
    act m c t (ix2 r q) = activated (argX m c) (argN m c) (argW m c) (argC m c) (argB m c) (ix2 (rowOf t r) ⟨t.val % 11 * 512 + q.val, hq⟩) := by
  unfold act
  rw [act_apply, gate_apply, gate_at m c t r q hq, up_at m c t r q hq]
  rfl

/-! ## What the kernel leaves -/

theorem final12 (c : Dev nD) : (dats m 0 c).arrAt 12 cfg0.N = activated (argX m c) (argN m c) (argW m c) (argC m c) (argB m c) := by
  refine (dats m 0 c).arrAt_eq_of_covers 12 _ (by decide +kernel) fun t hf y => ?_
  have hy : (y 1).val < (cfg0.win 12).xsize (cfg0.grid.coords t) 1 := (y 1).isLt
  obtain ⟨r, q, e⟩ : ∃ (r : Fin 1024) (q : Fin 512), (cfg0.win 12).xinj (cfg0.grid.coords t) y = (ix2 r q : S1024x512.Idx) :=
    ⟨(cfg0.win 12).xinj (cfg0.grid.coords t) y 0, (cfg0.win 12).xinj (cfg0.grid.coords t) y 1, eq_ix2 _⟩
  have h0 : r.val = (y 0).val := (congrArg Fin.val (congrFun e 0)).symm
  have h1 : q.val = (y 1).val := (congrArg Fin.val (congrFun e 1)).symm
  have ht : t.val < 88 := t.isLt
  have hq : t.val % 11 * 512 + q.val < 5504 := by rw [wide12] at hy; omega
  rw [after12, cast_eq, e, act_at m c t r q hq]
  refine congrArg _ ?_
  blk_simp
  blk_ext [idx12, ix2_0, ix2_1, h0, h1]

theorem final13 (c : Dev nD) : (dats m 0 c).arrAt 13 cfg0.N = lastRows (argX m c) (argN m c) (argW m c) lower := by
  refine (dats m 0 c).arrAt_eq_of_covers 13 _ (by decide +kernel) fun t hf y => ?_
  have hy : (y 2).val < (cfg0.win 13).xsize (cfg0.grid.coords t) 2 := (y 2).isLt
  obtain ⟨z, r, q, e⟩ : ∃ (z : Fin 1) (r : Fin 8) (q : Fin 512), (cfg0.win 13).xinj (cfg0.grid.coords t) y = (ix3 z r q : S1x8x512.Idx) :=
    ⟨(cfg0.win 13).xinj (cfg0.grid.coords t) y 0, (cfg0.win 13).xinj (cfg0.grid.coords t) y 1, (cfg0.win 13).xinj (cfg0.grid.coords t) y 2, ValueIdx.eq_ix3 _⟩
  have hz : (y 0).val = 0 := (congrArg Fin.val (congrFun e 0)).trans (Nat.lt_one_iff.mp z.isLt)
  have h0 : r.val = (y 1).val := (congrArg Fin.val (congrFun e 1)).symm
  have h1 : q.val = (y 2).val := (congrArg Fin.val (congrFun e 2)).symm
  have ht : t.val < 88 := t.isLt
  have hr := r.isLt
  have hq : t.val % 11 * 512 + q.val < 5504 := by rw [wide13] at hy; omega
  rw [after13, cast_eq, e, lastg, pay13_apply, lower_some m c t _ (.inl (by show 16 ≤ 1032 + r.val; omega)) ⟨t.val / 11 * 1024 + 1016 + r.val, by omega⟩
    (by show t.val / 11 * 1024 + 1016 + r.val + 16 = t.val / 11 * 1024 + (1032 + r.val); omega) q hq]
  refine Eq.trans ?_ (congrArg (lastRows (argX m c) (argN m c) (argW m c) lower)
    (show (ix3 ⟨t.val / 11, by omega⟩ r ⟨t.val % 11 * 512 + q.val, hq⟩ : S8x8x5504.Idx) = _ from ?_))
  · rfl
  · blk_simp
    blk_ext [idx13, ix3_0, ix3_1, ix3_2, h0, h1, hz]

theorem final14 (c : Dev nD) : (dats m 0 c).arrAt 14 cfg0.N = lastRows (argX m c) (argN m c) (argW m c) upper := by
  refine (dats m 0 c).arrAt_eq_of_covers 14 _ (by decide +kernel) fun t hf y => ?_
  have hy : (y 2).val < (cfg0.win 14).xsize (cfg0.grid.coords t) 2 := (y 2).isLt
  obtain ⟨z, r, q, e⟩ : ∃ (z : Fin 1) (r : Fin 8) (q : Fin 512), (cfg0.win 14).xinj (cfg0.grid.coords t) y = (ix3 z r q : S1x8x512.Idx) :=
    ⟨(cfg0.win 14).xinj (cfg0.grid.coords t) y 0, (cfg0.win 14).xinj (cfg0.grid.coords t) y 1, (cfg0.win 14).xinj (cfg0.grid.coords t) y 2, ValueIdx.eq_ix3 _⟩
  have hz : (y 0).val = 0 := (congrArg Fin.val (congrFun e 0)).trans (Nat.lt_one_iff.mp z.isLt)
  have h0 : r.val = (y 1).val := (congrArg Fin.val (congrFun e 1)).symm
  have h1 : q.val = (y 2).val := (congrArg Fin.val (congrFun e 2)).symm
  have ht : t.val < 88 := t.isLt
  have hr := r.isLt
  have hq : t.val % 11 * 512 + q.val < 5504 := by rw [wide14] at hy; omega
  rw [after14, cast_eq, e, lastu, pay16_apply, upper_some m c t _ (.inl (by show 16 ≤ 1032 + r.val; omega)) ⟨t.val / 11 * 1024 + 1016 + r.val, by omega⟩
    (by show t.val / 11 * 1024 + 1016 + r.val + 16 = t.val / 11 * 1024 + (1032 + r.val); omega) q hq]
  refine Eq.trans ?_ (congrArg (lastRows (argX m c) (argN m c) (argW m c) upper)
    (show (ix3 ⟨t.val / 11, by omega⟩ r ⟨t.val % 11 * 512 + q.val, hq⟩ : S8x8x5504.Idx) = _ from ?_))
  · rfl
  · blk_simp
    blk_ext [idx14, ix3_0, ix3_1, ix3_2, h0, h1, hz]

/-! ## The claim -/

/-- The run, read: the results at the closed forms, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v7_0) = activated (argX m c) (argN m c) (argW m c) (argC m c) (argB m c)
      ∧ r.2.mem ((c : Thread nD τ).loc main_v7_1) = lastRows (argX m c) (argN m c) (argW m c) lower
      ∧ r.2.mem ((c : Thread nD τ).loc main_v7_2) = lastRows (argX m c) (argN m c) (argW m c) upper
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) := by
  refine (θ_run defs _ _).mono (fun r h c => ?_) (θ_run_and (run_main m ρ) (frame_any m ρ))
  exact ⟨(h.1.out_eq c 12).trans (final12 m c), (h.1.out_eq c 13).trans (final13 m c), (h.1.out_eq c 14).trans (final14 m c), h.2.1 c⟩

/-- Kernel and reference run, and from equal arguments end at the same three arrays. -/
theorem algebraic : Cert.algebraic_FfnUpIdeal_FfnUpRefIdeal (hFfnUpIdeal := FfnUpIdeal.Gen.facts) (hFfnUpRefIdeal := FfnUpRefIdeal.Gen.facts) := by
  intro m g m' g' _ hargs
  refine ⟨fun c => activated (argX m c) (argN m c) (argW m c) (argC m c) (argB m c), fun c => lastRows (argX m c) (argN m c) (argW m c) lower,
    fun c => lastRows (argX m c) (argN m c) (argW m c) upper, run m g, ?_⟩
  refine (θ_run (FfnUpRefIdeal.defs (F := Ideal)) _ _).mono (fun r h c => ?_) (FfnUpRefIdeal.Value.run (F := Ideal) m' g')
  obtain ⟨hv, hw, hu, h0, h1, h2, h3, h4⟩ := h c
  refine ⟨hv.trans ?_, hw.trans ?_, hu.trans ?_, h0, h1, h2, h3, h4⟩
  · rw [FfnUpRefIdeal.Read.val_main_v47_eq, (hargs c).1, (hargs c).2.1, (hargs c).2.2.1, (hargs c).2.2.2.1, (hargs c).2.2.2.2]
    exact FfnUpRefProof.ref_activated _ _ _ _ _
  · rw [(hargs c).1, (hargs c).2.1, (hargs c).2.2.1]
    exact (FfnUpRefIdeal.Read.val_main_v50_eq _ _ _).trans (FfnUpRefProof.ref_lastg _ _ _)
  · rw [(hargs c).1, (hargs c).2.1, (hargs c).2.2.1]
    exact (FfnUpRefIdeal.Read.val_main_v51_eq _ _ _).trans (FfnUpRefProof.ref_lastu _ _ _)

end Cert.FfnUpProof

end
-- ==== Proof.RopeForm.lean ====
/-
  The rotation of a head's first 32 entries by angles, as the reference writes it and as the kernels compute it: the kernels
  multiply the head by one table and the head moved round by 16 places either way by two others, tables that are one and zero
  where the head is not rotated.
-/
module

public import Idealize.ShloMosaic.Lib.ValueIdx
public import Idealize.ShloMosaic.Lib.Pipeline.ValueKit

@[expose] public section

noncomputable section

namespace Cert.RopeForm

open Idealize.ShloMosaic hiding ix1 ix2 ix3
open Idealize.ShloMosaic.ValueIdx

/-- A head's entries rotated: the first 16 against the next 16, the rest as they are. -/
def rope (x : Fin 128 → EReal) (co si : Fin 16 → EReal) (d : Fin 128) : EReal :=
  if h : d.val < 16 then x d * co ⟨d.val, h⟩ - x ⟨d.val + 16, by omega⟩ * si ⟨d.val, h⟩
  else if h' : d.val < 32 then x d * co ⟨d.val - 16, by omega⟩ + x ⟨d.val - 16, by omega⟩ * si ⟨d.val - 16, by omega⟩
  else x d

/-- The same, cut as the reference cuts it: the first 32 entries into two halves, and the rest. -/
theorem rope_split (x : Fin 128 → EReal) (co si : Fin 16 → EReal) (d : Fin 128) : rope x co si d
    = if h : d.val < 32 then
        if h' : d.val < 16 then x d * co ⟨d.val, h'⟩ - x ⟨16 + d.val, by omega⟩ * si ⟨d.val, h'⟩
        else x ⟨16 + (d.val - 16), by omega⟩ * co ⟨d.val - 16, by omega⟩ + x ⟨d.val - 16, by omega⟩ * si ⟨d.val - 16, by omega⟩
      else x ⟨32 + (d.val - 32), by omega⟩ := by
  unfold rope
  by_cases h : d.val < 16
  · have h2 : d.val < 32 := by omega
    simp only [dif_pos h, dif_pos h2, Nat.add_comm 16]
  · by_cases h' : d.val < 32
    · have e : (⟨16 + (d.val - 16), by omega⟩ : Fin 128) = d := Fin.ext (by show 16 + (d.val - 16) = d.val; omega)
      simp only [dif_neg h, dif_pos h', e]
    · have e : (⟨32 + (d.val - 32), by omega⟩ : Fin 128) = d := Fin.ext (by show 32 + (d.val - 32) = d.val; omega)
      simp only [dif_neg h, dif_neg h', e]

/-- The angle of a head's `j`-th pair at position `p`: the position times `500000` to the power `-j / 16`. -/
def angle (p : BitVec 32) (j : Fin 16) : EReal :=
  FloatOps.sitofp (F := Ideal) .f32 p
    * Ideal.pow (Ideal.ofBits .f32 0x48F42400#32)
        (Ideal.div (-FloatOps.sitofp (F := Ideal) .f32 (BitVec.ofNat 32 j.val)) (Ideal.ofBits .f32 0x41800000#32))
/-- Its cosine and its sine. -/
def cosines (p : BitVec 32) (j : Fin 16) : EReal := Ideal.cos (angle p j)
def sines (p : BitVec 32) (j : Fin 16) : EReal := Ideal.sin (angle p j)

/-- The kernels' three tables, laid side by side from pieces of 16, 16 and 96 entries. -/
def tableC (co : Fin 16 → EReal) (d : Fin 128) : EReal :=
  if h : d.val < 16 then co ⟨d.val, h⟩ else if h' : d.val - 16 < 16 then co ⟨d.val - 16, h'⟩ else 1
def tableA (si : Fin 16 → EReal) (d : Fin 128) : EReal :=
  if h : d.val < 16 then -si ⟨d.val, h⟩ else 0
def tableB (si : Fin 16 → EReal) (d : Fin 128) : EReal :=
  if d.val < 16 then 0 else if h' : d.val - 16 < 16 then si ⟨d.val - 16, h'⟩ else 0

/-- What the kernels compute from a head and three tables. -/
def rotated (x a b c : Fin 128 → EReal) (d : Fin 128) : EReal :=
  x d * a d + x ⟨(d.val + 16) % 128, Nat.mod_lt _ (by decide)⟩ * b d + x ⟨(d.val + 112) % 128, Nat.mod_lt _ (by decide)⟩ * c d

/-- From those tables it is the rotation. -/
theorem rotated_eq (x : Fin 128 → EReal) (co si : Fin 16 → EReal) (d : Fin 128) :
    rotated x (tableC co) (tableA si) (tableB si) d = rope x co si d := by
  unfold rotated tableC tableA tableB rope
  have hd := d.isLt
  by_cases h : d.val < 16
  · simp only [dif_pos h, if_pos h]
    rw [mul_zero, add_zero, mul_neg, sub_eq_add_neg]
    have e : (⟨(d.val + 16) % 128, Nat.mod_lt _ (by decide)⟩ : Fin 128) = ⟨d.val + 16, by omega⟩ := Fin.ext (by show (d.val + 16) % 128 = d.val + 16; omega)
    rw [e]
  · by_cases h' : d.val < 32
    · have h2 : d.val - 16 < 16 := by omega
      simp only [dif_neg h, if_neg h, dif_pos h', dif_pos h2]
      rw [mul_zero, add_zero]
      have e : (⟨(d.val + 112) % 128, Nat.mod_lt _ (by decide)⟩ : Fin 128) = ⟨d.val - 16, by omega⟩ := Fin.ext (by show (d.val + 112) % 128 = d.val - 16; omega)
      rw [e]
    · have h2 : ¬d.val - 16 < 16 := by omega
      simp only [dif_neg h, if_neg h, dif_neg h', dif_neg h2]
      rw [mul_zero, mul_zero, add_zero, add_zero, mul_one]

end Cert.RopeForm

end
-- ==== Proof.PrepValue.lean ====
/-
  The prompt's queries, keys and values made ready for attention: each head of the projected rows rotated by the angles of its
  row's position, which the kernel reads as three products with tables and the reference as halves rotated against one another;
  the values as they are; both again in the narrow format; and the mean of the keys over each block of 256 rows.
-/
module

public import proofs.«01_k».proof.Defs
public import proofs.«01_k».proof.Proof.RopeForm
public import proofs.«01_k».proof.Proof.Gen.PrepIdeal.Frame
public import proofs.«01_k».proof.Proof.Gen.PrepRefIdeal.Read
public import Idealize.ShloMosaic.Lib.Quiescent
public import Idealize.ShloMosaic.Lib.Pointwise

@[expose] public section

set_option maxRecDepth 16384

noncomputable section

namespace Cert.PrepProof

open Cert.PrepIdeal Cert.PrepIdeal.Gen Cert.RopeForm
open Idealize.ShloMosaic hiding ix1 ix2 ix3 eq_ix2
open Idealize.ShloMosaic.TcCoe Idealize.ShloMosaic.ValueIdx Idealize.ShloMosaic.Tactic Idealize.SL.Sem
open Idealize.ShloMosaic.Pipeline (Dat)

/-- A row's position in its prompt. -/
def posOf (r : Fin 8192) : BitVec 32 := BitVec.ofNat 32 (r.val % 4096)

/-- A head of a projected row, from the column where its group of heads begins. -/
def headAt (o : ℕ) (ho : o + 1024 ≤ 6144) (main : S8192x6144.Idx → EReal) (r : Fin 8192) (h : Fin 8) (j : Fin 128) : EReal :=
  main (ix2 r ⟨o + (h.val * 128 + j.val), by omega⟩)

/-- The rows' heads from that column on, each rotated. -/
def rotatedRows (o : ℕ) (ho : o + 1024 ≤ 6144) (main : S8192x6144.Idx → EReal) : S8192x1024.Idx → EReal := fun i =>
  rope (headAt o ho main (i 0) ⟨(i 1).val / 128, Nat.div_lt_of_lt_mul (i 1).isLt⟩) (cosines (posOf (i 0))) (sines (posOf (i 0)))
    ⟨(i 1).val % 128, Nat.mod_lt _ (by decide)⟩

/-- The rows' columns of values. -/
def values (main : S8192x6144.Idx → EReal) : S8192x1024.Idx → EReal := fun i =>
  main (ix2 (i 0) ⟨5120 + (i 1).val, by have := (i 1).isLt; change (i 1).val < 1024 at this; omega⟩)

/-- The mean of the rotated keys over each block of 256 rows, written eight times. -/
def means (main : S8192x6144.Idx → EReal) : S32x8x1024.Idx → EReal := fun i =>
  Ideal.div (∑ k : Fin 256, rotatedRows 4096 (by decide) main
      (ix2 ⟨(i 0).val * 256 + k.val, by have := (i 0).isLt; change (i 0).val < 32 at this; omega⟩ (i 2)))
    (Ideal.ofBits .f32 0x43800000#32)

/-- One head's chain of the body, at a row and an entry. -/
theorem chain (x a b c : FVec Ideal S256x128 .f32) (r : Fin 256) (d : Fin 128) :
    k0_pay6 (F := Ideal) a b c x (ix2 r d)
      = rotated (fun j => x (ix2 r j)) (fun j => a (ix2 r j)) (fun j => b (ix2 r j)) (fun j => c (ix2 r j)) d := by
  pointwise [k0_pay6, k0_pay3, k0_pay4, k0_pay5, rotated]
  rfl

/-- The head of row `r` that column `q` lies in. -/
def headOf (x : S256x1024.Idx → EReal) (r : Fin 256) (q : Fin 1024) (j : Fin 128) : EReal :=
  x (ix2 r ⟨q.val / 128 * 128 + j.val, by have := q.isLt; have := j.isLt; omega⟩)

/-- What the body computes of a block at a row and a column. -/
def rotatedBlock (x : S256x1024.Idx → EReal) (a b c : S256x128.Idx → EReal) (r : Fin 256) (q : Fin 1024) : EReal :=
  rotated (headOf x r q) (fun j => a (ix2 r j)) (fun j => b (ix2 r j)) (fun j => c (ix2 r j)) ⟨q.val % 128, Nat.mod_lt _ (by decide)⟩

/-- One head's 128 columns of an output, from the block's load of that head. -/
theorem piece {x0 : Vec Ideal S256x1024 .f32} {a b c : FVec Ideal S256x128 .f32} {x : S256x128.Idx} {r : Fin 256} {q : Fin 1024}
    (o : ℕ) (inb) (h0 : r.val = (x 0).val) (h1 : q.val = o + (x 1).val) (ho : o % 128 = 0) :
    k0_pay6 (F := Ideal) a b c (View.ld x0 (Rect.unit (s := S256x1024) ![0, o] S256x128.size inb)) x = rotatedBlock x0 a b c r q := by
  have hx : (x 1).val < 128 := (x 1).isLt
  have e : (⟨q.val % 128, Nat.mod_lt _ (by decide)⟩ : Fin 128) = x 1 := Fin.ext (by show q.val % 128 = (x 1).val; omega)
  have er : r = x 0 := Fin.ext h0
  have ex : x = ix2 (x 0) (x 1) := eq_ix2 x
  have hX : ∀ j : Fin 128, View.ld x0 (Rect.unit (s := S256x1024) ![0, o] S256x128.size inb) (ix2 (x 0) j) = headOf x0 r q j := fun j =>
    View.ld_unit_apply_of x0 _ _ _ _ _ fun d => by
      match d with
      | ⟨0, _⟩ => show r.val = 0 + (x 0).val; omega
      | ⟨1, _⟩ => show q.val / 128 * 128 + j.val = o + j.val; omega
  unfold rotatedBlock
  rw [ex]
  refine (chain _ _ _ _ _ _).trans ?_
  rw [← funext hX, e, er]

/-- The mean's chain of the body, at a column: the sum of the block's 256 rows divided by 256. -/
theorem mean_chain (x a b c : FVec Ideal S256x128 .f32) (s : Fin 8) (d : Fin 128) :
    k0_pay10 (k0_pay9 (F := Ideal) a b c x) (ix3 0 s d)
      = Ideal.div (∑ k : Fin 256, k0_pay6 (F := Ideal) a b c x (ix2 k d)) (Ideal.ofBits .f32 0x43800000#32) := by
  pointwise [k0_pay10, k0_pay9, k0_pay7, k0_pay6, k0_pay3, k0_pay4, k0_pay5]
  rfl

/-- One head's 128 columns of the mean. -/
theorem mean_piece {x0 : Vec Ideal S256x1024 .f32} {a b c : FVec Ideal S256x128 .f32} {x : S1x8x128.Idx} {q : Fin 1024}
    (o : ℕ) (inb) (h1 : q.val = o + (x 2).val) (ho : o % 128 = 0) :
    k0_pay10 (k0_pay9 (F := Ideal) a b c (View.ld x0 (Rect.unit (s := S256x1024) ![0, o] S256x128.size inb))) x
      = Ideal.div (∑ k : Fin 256, rotatedBlock x0 a b c k q) (Ideal.ofBits .f32 0x43800000#32) := by
  have ex : x = ix3 0 (x 1) (x 2) := by
    refine (ValueIdx.eq_ix3 x).trans ?_
    rw [show x 0 = (0 : Fin 1) from Fin.ext (Nat.lt_one_iff.mp (x 0).isLt)]
    rfl
  rw [ex]
  refine (mean_chain _ _ _ _ _ _).trans ?_
  exact congrArg (Ideal.div · _) (Finset.sum_congr rfl fun k _ => piece o inb rfl h1 ho)

/-- The outputs: each head of the first two blocks rotated by the tables. -/
theorem out6 (x0 x1 x2 : Vec Ideal S256x1024 .f32) (a b c : Vec Ideal S256x128 .f32) (r : Fin 256) (q : Fin 1024) :
    out0_6 x0 x1 x2 a b c (ix2 r q) = rotatedBlock x0 a b c r q := by
  canon_tiles x h
  all_goals
    replace h0 : r.val = (x 0).val := h0
    simp only [show ((ix2 r q 1 : Fin _) : ℕ) = q.val from rfl] at h1
    open_payloads
  · exact piece 896 _ h0 h1 rfl
  · exact piece 768 _ h0 h1 rfl
  · exact piece 640 _ h0 h1 rfl
  · exact piece 512 _ h0 h1 rfl
  · exact piece 384 _ h0 h1 rfl
  · exact piece 256 _ h0 h1 rfl
  · exact piece 128 _ h0 h1 rfl
  · exact piece 0 _ h0 (by omega) rfl

theorem out7 (x0 x1 x2 : Vec Ideal S256x1024 .f32) (a b c : Vec Ideal S256x128 .f32) (r : Fin 256) (q : Fin 1024) :
    out0_7 x0 x1 x2 a b c (ix2 r q) = rotatedBlock x1 a b c r q := by
  canon_tiles x h
  all_goals
    replace h0 : r.val = (x 0).val := h0
    simp only [show ((ix2 r q 1 : Fin _) : ℕ) = q.val from rfl] at h1
    open_payloads
  · exact piece 896 _ h0 h1 rfl
  · exact piece 768 _ h0 h1 rfl
  · exact piece 640 _ h0 h1 rfl
  · exact piece 512 _ h0 h1 rfl
  · exact piece 384 _ h0 h1 rfl
  · exact piece 256 _ h0 h1 rfl
  · exact piece 128 _ h0 h1 rfl
  · exact piece 0 _ h0 (by omega) rfl

/-- The third block as it is. -/
theorem out8 (x0 x1 x2 : Vec Ideal S256x1024 .f32) (a b c : Vec Ideal S256x128 .f32) : out0_8 x0 x1 x2 a b c = x2 := by
  funext i
  unfold out0_8
  frame_out

/-- The second's rotated heads and the third in the narrow format, which keeps every value. -/
theorem out9 (x0 x1 x2 : Vec Ideal S256x1024 .f32) (a b c : Vec Ideal S256x128 .f32) (r : Fin 256) (q : Fin 1024) :
    out0_9 x0 x1 x2 a b c (ix2 r q) = rotatedBlock x1 a b c r q := by
  canon_tiles x h
  all_goals
    replace h0 : r.val = (x 0).val := h0
    simp only [show ((ix2 r q 1 : Fin _) : ℕ) = q.val from rfl] at h1
    open_payloads
  · exact piece 896 _ h0 h1 rfl
  · exact piece 768 _ h0 h1 rfl
  · exact piece 640 _ h0 h1 rfl
  · exact piece 512 _ h0 h1 rfl
  · exact piece 384 _ h0 h1 rfl
  · exact piece 256 _ h0 h1 rfl
  · exact piece 128 _ h0 h1 rfl
  · exact piece 0 _ h0 (by omega) rfl

theorem out10 (x0 x1 x2 : Vec Ideal S256x1024 .f32) (a b c : Vec Ideal S256x128 .f32) : out0_10 x0 x1 x2 a b c = x2 := by
  funext i
  unfold out0_10
  frame_out
  rfl

/-- The mean of the second's rotated heads over the block's rows. -/
theorem out11 (x0 x1 x2 : Vec Ideal S256x1024 .f32) (a b c : Vec Ideal S256x128 .f32) (s : Fin 8) (q : Fin 1024) :
    out0_11 x0 x1 x2 a b c (ix3 0 s q)
      = Ideal.div (∑ k : Fin 256, rotatedBlock x1 a b c k q) (Ideal.ofBits .f32 0x43800000#32) := by
  canon_tiles x h
  all_goals
    simp only [show ((ix3 (0 : Fin 1) s q 2 : Fin _) : ℕ) = q.val from rfl] at h2
    open_payloads
  · exact mean_piece 896 _ h2 rfl
  · exact mean_piece 768 _ h2 rfl
  · exact mean_piece 640 _ h2 rfl
  · exact mean_piece 512 _ h2 rfl
  · exact mean_piece 384 _ h2 rfl
  · exact mean_piece 256 _ h2 rfl
  · exact mean_piece 128 _ h2 rfl
  · exact mean_piece 0 _ (by omega) rfl

variable (m : (ℓ : Loc nD τ sig) → Buf (Elt Ideal) ℓ)

/-- The angles as the host computes them for the tables. -/
def angles : FVec Ideal S4096x16 .f32 :=
  mulf (broadcastInDim S4096x16 ![0, 1] bcast_S4096x1_S4096x16_0_1 (broadcastInDim S4096x1 ![0] bcast_S4096_S4096x1_0 (sitofp .f32 (iotaInDim S4096 32 0))))
    (broadcastInDim S4096x16 ![0, 1] bcast_S1x16_S4096x16_0_1 (broadcastInDim S1x16 ![1] bcast_S16_S1x16_1
      (Host.powf (broadcastInDim S16 ![] bcast_S_S16 (constant S_ .f32 0x48F42400#32))
        (Host.divf (Host.negf (sitofp .f32 (iotaInDim S16 32 0))) (broadcastInDim S16 ![] bcast_S_S16 (constant S_ .f32 0x41800000#32))))))

/-- The three tables as the host lays them out, at a position. -/
theorem V_16 (c : Dev nD) (p : Fin 4096) (d : Fin 128) : V m c main_v16 (ix2 p d) = tableC (cosines (BitVec.ofNat 32 p.val)) d := by
  have e : V m c main_v16 = concatenate S4096x128 1
      [⟨S4096x16, Host.cos angles⟩, ⟨S4096x16, Host.cos angles⟩, ⟨S4096x96, broadcastInDim S4096x96 ![] bcast_S_S4096x96 (constant S_ .f32 0x3F800000#32)⟩]
      concatenates_S4096x16_S4096x16_S4096x96_S4096x128_d1 := by
    funext j; rfl
  rw [e]
  pointwise [tableC, cosines, angles, angle]
theorem V_19 (c : Dev nD) (p : Fin 4096) (d : Fin 128) : V m c main_v19 (ix2 p d) = tableA (sines (BitVec.ofNat 32 p.val)) d := by
  have e : V m c main_v19 = concatenate S4096x128 1
      [⟨S4096x16, Host.negf (Host.sin angles)⟩, ⟨S4096x112, broadcastInDim S4096x112 ![] bcast_S_S4096x112 (constant S_ .f32 0x00000000#32)⟩]
      concatenates_S4096x16_S4096x112_S4096x128_d1 := by
    funext j; rfl
  rw [e]
  pointwise [tableA, sines, angles, angle]
theorem V_22 (c : Dev nD) (p : Fin 4096) (d : Fin 128) : V m c main_v22 (ix2 p d) = tableB (sines (BitVec.ofNat 32 p.val)) d := by
  have e : V m c main_v22 = concatenate S4096x128 1
      [⟨S4096x16, broadcastInDim S4096x16 ![] bcast_S_S4096x16 (constant S_ .f32 0x00000000#32)⟩, ⟨S4096x16, Host.sin angles⟩,
        ⟨S4096x96, broadcastInDim S4096x96 ![] bcast_S_S4096x96 (constant S_ .f32 0x00000000#32)⟩]
      concatenates_S4096x16_S4096x16_S4096x96_S4096x128_d1 := by
    funext j; rfl
  rw [e]
  pointwise [tableB, sines, angles, angle]
  rfl

/-- The windows at a grid point: its rows of the three groups of heads, the tables at its place in the prompt, its rows of the
    results. -/
theorem idx0 : ∀ t : Fin cfg0.N, win0_0.index t = ![t.val, 3] := (by decide +kernel : ∀ t : Fin grid0.N, _)
theorem idx1 : ∀ t : Fin cfg0.N, win0_1.index t = ![t.val, 4] := (by decide +kernel : ∀ t : Fin grid0.N, _)
theorem idx2 : ∀ t : Fin cfg0.N, win0_2.index t = ![t.val, 5] := (by decide +kernel : ∀ t : Fin grid0.N, _)
theorem idx3 : ∀ t : Fin cfg0.N, win0_3.index t = ![t.val % 16, 0] := (by decide +kernel : ∀ t : Fin grid0.N, _)
theorem idx4 : ∀ t : Fin cfg0.N, win0_4.index t = ![t.val % 16, 0] := (by decide +kernel : ∀ t : Fin grid0.N, _)
theorem idx5 : ∀ t : Fin cfg0.N, win0_5.index t = ![t.val % 16, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)
theorem idx8 : ∀ t : Fin cfg0.N, win0_8.index t = ![t.val, 0] := (by decide +kernel : ∀ t : Fin grid0.N, _)
theorem idx9 : ∀ t : Fin cfg0.N, win0_9.index t = ![t.val, 0] := (by decide +kernel : ∀ t : Fin grid0.N, _)
theorem idx10 : ∀ t : Fin cfg0.N, win0_10.index t = ![t.val, 0] := (by decide +kernel : ∀ t : Fin grid0.N, _)
theorem idx11 : ∀ t : Fin cfg0.N, win0_11.index t = ![t.val, 0, 0] := (by decide +kernel : ∀ t : Fin grid0.N, _)

/-- A block's row in the whole. -/
def rowOf (t : Fin cfg0.N) (r : Fin 256) : Fin 8192 := ⟨t.val * 256 + r.val, by have := t.isLt; change t.val < 32 at this; omega⟩

theorem in0 (c : Dev nD) (t : Fin cfg0.N) (r : Fin 256) (q : Fin 1024) : (iblk m c 0 t : Vec Ideal S256x1024 .f32) (ix2 r q)
    = m ((c : Thread nD τ).loc main_arg0) (ix2 (rowOf t r) ⟨3072 + q.val, by omega⟩) := by
  blk_simp [iblk]
  rw [V_main_arg0]
  refine congrArg _ ?_
  blk_ext [idx0, ix2_0, ix2_1, rowOf]
theorem in1 (c : Dev nD) (t : Fin cfg0.N) (r : Fin 256) (q : Fin 1024) : (iblk m c 1 t : Vec Ideal S256x1024 .f32) (ix2 r q)
    = m ((c : Thread nD τ).loc main_arg0) (ix2 (rowOf t r) ⟨4096 + q.val, by omega⟩) := by
  blk_simp [iblk]
  rw [V_main_arg0]
  refine congrArg _ ?_
  blk_ext [idx1, ix2_0, ix2_1, rowOf]
theorem in2 (c : Dev nD) (t : Fin cfg0.N) (r : Fin 256) (q : Fin 1024) : (iblk m c 2 t : Vec Ideal S256x1024 .f32) (ix2 r q)
    = m ((c : Thread nD τ).loc main_arg0) (ix2 (rowOf t r) ⟨5120 + q.val, by omega⟩) := by
  blk_simp [iblk]
  rw [V_main_arg0]
  refine congrArg _ ?_
  blk_ext [idx2, ix2_0, ix2_1, rowOf]
theorem in3 (c : Dev nD) (t : Fin cfg0.N) (r : Fin 256) (k : Fin 128) :
    (iblk m c 3 t : Vec Ideal S256x128 .f32) (ix2 r k) = tableC (cosines (posOf (rowOf t r))) k := by
  have hp : (rowOf t r).val % 4096 = t.val % 16 * 256 + r.val := by show (t.val * 256 + r.val) % 4096 = _; omega
  unfold posOf
  rw [hp]
  refine Eq.trans ?_ (V_16 m c ⟨t.val % 16 * 256 + r.val, by omega⟩ k)
  blk_simp [iblk]
  refine congrArg (V m c main_v16) ?_
  blk_ext [idx3, ix2_0, ix2_1]
theorem in4 (c : Dev nD) (t : Fin cfg0.N) (r : Fin 256) (k : Fin 128) :
    (iblk m c 4 t : Vec Ideal S256x128 .f32) (ix2 r k) = tableA (sines (posOf (rowOf t r))) k := by
  have hp : (rowOf t r).val % 4096 = t.val % 16 * 256 + r.val := by show (t.val * 256 + r.val) % 4096 = _; omega
  unfold posOf
  rw [hp]
  refine Eq.trans ?_ (V_19 m c ⟨t.val % 16 * 256 + r.val, by omega⟩ k)
  blk_simp [iblk]
  refine congrArg (V m c main_v19) ?_
  blk_ext [idx4, ix2_0, ix2_1]
theorem in5 (c : Dev nD) (t : Fin cfg0.N) (r : Fin 256) (k : Fin 128) :
    (iblk m c 5 t : Vec Ideal S256x128 .f32) (ix2 r k) = tableB (sines (posOf (rowOf t r))) k := by
  have hp : (rowOf t r).val % 4096 = t.val % 16 * 256 + r.val := by show (t.val * 256 + r.val) % 4096 = _; omega
  unfold posOf
  rw [hp]
  refine Eq.trans ?_ (V_22 m c ⟨t.val % 16 * 256 + r.val, by omega⟩ k)
  blk_simp [iblk]
  refine congrArg (V m c main_v22) ?_
  blk_ext [idx5, ix2_0, ix2_1]

open PrepRefIdeal.Read

/-- Zero added to a word is the word. -/
theorem zero_addi (x : BitVec 32) : IntOp.addi 0#32 x = x := BitVec.zero_add x

/-- The reference's rotated heads, queries and keys. -/
theorem ref_q (main : S8192x6144.Idx → EReal) (b : Fin 2) (t : Fin 4096) (h : Fin 8) (d : Fin 128) :
    val_main_v39 (F := Ideal) main (ValueIdx.ix4 b t h d)
      = rope (headAt 3072 (by decide) main ⟨b.val * 4096 + t.val, by omega⟩ h) (cosines (BitVec.ofNat 32 t.val)) (sines (BitVec.ofNat 32 t.val)) d := by
  rw [rope_split]
  pointwise [val_main_v39, val_main_v38, val_main_v37, val_main_v36, val_main_v35, val_main_v34, val_main_v33, val_main_v32, val_main_v31,
    val_main_v30, val_main_v29, val_main_v28, val_main_v27, val_main_v26, val_main_v25, val_main_v24, val_main_v23, val_main_v22,
    val_main_v21, val_main_v20, val_main_v19, val_main_v18, val_main_v17, val_main_v16, val_main_v15, val_main_v14, val_main_v13,
    val_main_v12, val_main_cst_0, val_main_v11, val_main_v10, val_main_cst, val_main_v9, val_main_v8, val_main_v7, val_main_v6,
    val_main_v5, val_main_c, val_main_v4, val_main_v1, val_main_v0, headAt, cosines, sines, angle]
  simp only [zero_addi, ← Nat.add_assoc, Nat.reduceAdd]
  rfl
theorem ref_k (main : S8192x6144.Idx → EReal) (b : Fin 2) (t : Fin 4096) (h : Fin 8) (d : Fin 128) :
    val_main_v72 (F := Ideal) main (ValueIdx.ix4 b t h d)
      = rope (headAt 4096 (by decide) main ⟨b.val * 4096 + t.val, by omega⟩ h) (cosines (BitVec.ofNat 32 t.val)) (sines (BitVec.ofNat 32 t.val)) d := by
  rw [rope_split]
  pointwise [val_main_v72, val_main_v71, val_main_v70, val_main_v69, val_main_v68, val_main_v67, val_main_v66, val_main_v65, val_main_v64,
    val_main_v63, val_main_v62, val_main_v61, val_main_v60, val_main_v59, val_main_v58, val_main_v57, val_main_v56, val_main_v55,
    val_main_v54, val_main_v53, val_main_v52, val_main_v51, val_main_v50, val_main_v49, val_main_v48, val_main_v47, val_main_v46,
    val_main_v45, val_main_cst_2, val_main_v44, val_main_v43, val_main_cst_1, val_main_v42, val_main_v41, val_main_v40,
    val_main_v6, val_main_v5, val_main_c, val_main_v4, val_main_v2, val_main_v0, headAt, cosines, sines, angle]
  simp only [zero_addi, ← Nat.add_assoc, Nat.reduceAdd]
  rfl

/-- The same by row and column. -/
theorem ref_heads_q (main : S8192x6144.Idx → EReal) (r : Fin 8192) (q : Fin 1024) :
    val_main_v39 (F := Ideal) main (ValueIdx.ix4 ⟨r.val / 4096, Nat.div_lt_of_lt_mul r.isLt⟩ ⟨r.val % 4096, Nat.mod_lt _ (by decide)⟩
        ⟨q.val / 128, Nat.div_lt_of_lt_mul q.isLt⟩ ⟨q.val % 128, Nat.mod_lt _ (by decide)⟩)
      = rotatedRows 3072 (by decide) main (ix2 r q) := by
  refine (ref_q main _ _ _ _).trans ?_
  have e : (⟨r.val / 4096 * 4096 + r.val % 4096, by omega⟩ : Fin 8192) = r := Fin.ext (by show r.val / 4096 * 4096 + r.val % 4096 = r.val; omega)
  show rope (headAt 3072 _ main ⟨r.val / 4096 * 4096 + r.val % 4096, _⟩ _) _ _ _ = _
  rw [e]
  rfl

theorem ref_heads_k (main : S8192x6144.Idx → EReal) (r : Fin 8192) (q : Fin 1024) :
    val_main_v72 (F := Ideal) main (ValueIdx.ix4 ⟨r.val / 4096, Nat.div_lt_of_lt_mul r.isLt⟩ ⟨r.val % 4096, Nat.mod_lt _ (by decide)⟩
        ⟨q.val / 128, Nat.div_lt_of_lt_mul q.isLt⟩ ⟨q.val % 128, Nat.mod_lt _ (by decide)⟩)
      = rotatedRows 4096 (by decide) main (ix2 r q) := by
  refine (ref_k main _ _ _ _).trans ?_
  have e : (⟨r.val / 4096 * 4096 + r.val % 4096, by omega⟩ : Fin 8192) = r := Fin.ext (by show r.val / 4096 * 4096 + r.val % 4096 = r.val; omega)
  show rope (headAt 4096 _ main ⟨r.val / 4096 * 4096 + r.val % 4096, _⟩ _) _ _ _ = _
  rw [e]
  rfl
/-- The reference's rows: queries, keys, values. -/
theorem ref_row_q (main : S8192x6144.Idx → EReal) : val_main_v80 (F := Ideal) main = rotatedRows 3072 (by decide) main := by
  funext i
  obtain ⟨r, q, rfl⟩ : ∃ (r : Fin 8192) (q : Fin 1024), i = ix2 r q := ⟨i 0, i 1, eq_ix2 i⟩
  unfold val_main_v80
  refine (shapeCast_apply (s := PrepRefIdeal.S2x4096x8x128) _ _ _
    (ValueIdx.ix4 ⟨r.val / 4096, Nat.div_lt_of_lt_mul r.isLt⟩ ⟨r.val % 4096, Nat.mod_lt _ (by decide)⟩
      ⟨q.val / 128, Nat.div_lt_of_lt_mul q.isLt⟩ ⟨q.val % 128, Nat.mod_lt _ (by decide)⟩) ?_).trans (ref_heads_q main r q)
  rw [Shape.rowMajor_val_four, Shape.rowMajor_val_two]
  show ((r.val / 4096 * 4096 + r.val % 4096) * 8 + q.val / 128) * 128 + q.val % 128 = r.val * 1024 + q.val
  omega
theorem ref_row_k (main : S8192x6144.Idx → EReal) : val_main_v81 (F := Ideal) main = rotatedRows 4096 (by decide) main := by
  funext i
  obtain ⟨r, q, rfl⟩ : ∃ (r : Fin 8192) (q : Fin 1024), i = ix2 r q := ⟨i 0, i 1, eq_ix2 i⟩
  unfold val_main_v81
  refine (shapeCast_apply (s := PrepRefIdeal.S2x4096x8x128) _ _ _
    (ValueIdx.ix4 ⟨r.val / 4096, Nat.div_lt_of_lt_mul r.isLt⟩ ⟨r.val % 4096, Nat.mod_lt _ (by decide)⟩
      ⟨q.val / 128, Nat.div_lt_of_lt_mul q.isLt⟩ ⟨q.val % 128, Nat.mod_lt _ (by decide)⟩) ?_).trans (ref_heads_k main r q)
  rw [Shape.rowMajor_val_four, Shape.rowMajor_val_two]
  show ((r.val / 4096 * 4096 + r.val % 4096) * 8 + q.val / 128) * 128 + q.val % 128 = r.val * 1024 + q.val
  omega
theorem ref_row_v (main : S8192x6144.Idx → EReal) : val_main_v82 (F := Ideal) main = values main := by
  funext i
  obtain ⟨r, q, rfl⟩ : ∃ (r : Fin 8192) (q : Fin 1024), i = ix2 r q := ⟨i 0, i 1, eq_ix2 i⟩
  pointwise [val_main_v82, val_main_v73, val_main_v3, val_main_v0, values]
  exact congrArg (fun k => main (ix2 r k)) (Fin.ext (by show 3072 + (2048 + q.val) = 5120 + q.val; omega))

/-- And its means. -/
theorem ref_means (main : S8192x6144.Idx → EReal) : val_main_v79 (F := Ideal) main = means main := by
  funext i
  obtain ⟨n, s, q, rfl⟩ : ∃ (n : Fin 32) (s : Fin 8) (q : Fin 1024), i = ix3 n s q := ⟨i 0, i 1, i 2, ValueIdx.eq_ix3 i⟩
  unfold means
  simp only [← ref_heads_k]
  pointwise [val_main_v79, val_main_v78, val_main_v77, val_main_v76, val_main_cst_4, val_main_v75, val_main_cst_3, val_main_v74]
  refine congrArg (Ideal.div · _) (Finset.sum_congr rfl fun k _ => congrArg (val_main_v72 (F := Ideal) main) ?_)
  funext d
  refine Fin.ext ?_
  have hk := k.isLt
  match d with
  | ⟨0, _⟩ => show n.val / 16 = (n.val * 256 + k.val) / 4096; omega
  | ⟨1, _⟩ => show n.val % 16 * 256 + k.val = (n.val * 256 + k.val) % 4096; omega
  | ⟨2, _⟩ => rfl
  | ⟨3, _⟩ => rfl

/-- What the body computes of a point's blocks is the rotation of the row's heads. -/
theorem block_q (c : Dev nD) (t : Fin cfg0.N) (r : Fin 256) (q : Fin 1024) :
    rotatedBlock (iblk m c 0 t) (iblk m c 3 t) (iblk m c 4 t) (iblk m c 5 t) r q
      = rotatedRows 3072 (by decide) (m ((c : Thread nD τ).loc main_arg0)) (ix2 (rowOf t r) q) := by
  unfold rotatedBlock
  rw [funext (in3 m c t r), funext (in4 m c t r), funext (in5 m c t r), rotated_eq]
  exact congrArg (rope · _ _ _) (funext fun j => in0 m c t r _)
theorem block_k (c : Dev nD) (t : Fin cfg0.N) (r : Fin 256) (q : Fin 1024) :
    rotatedBlock (iblk m c 1 t) (iblk m c 3 t) (iblk m c 4 t) (iblk m c 5 t) r q
      = rotatedRows 4096 (by decide) (m ((c : Thread nD τ).loc main_arg0)) (ix2 (rowOf t r) q) := by
  unfold rotatedBlock
  rw [funext (in3 m c t r), funext (in4 m c t r), funext (in5 m c t r), rotated_eq]
  exact congrArg (rope · _ _ _) (funext fun j => in1 m c t r _)

/-- The kernel's arrays. -/
theorem final6 (c : Dev nD) : (dats m 0 c).arrAt 6 cfg0.N = rotatedRows 3072 (by decide) (m ((c : Thread nD τ).loc main_arg0)) := by
  refine (dats m 0 c).arrAt_eq_of_covers 6 _ (by decide +kernel) fun t hf y => ?_
  blk_simp
  rw [after0_6]
  obtain ⟨r, q, rfl⟩ : ∃ (r : Fin 256) (q : Fin 1024), y = ix2 r q := ⟨y 0, y 1, eq_ix2 y⟩
  have e : ((View.whole main_v23_0).slice (win0_6.rect t)).emb (ix2 r q) = (ix2 (rowOf t r) q : S8192x1024.Idx) := by
    blk_ext [idx6, ix2_0, ix2_1, rowOf]
  rw [out6, e]
  exact block_q m c t r q
theorem final7 (c : Dev nD) : (dats m 0 c).arrAt 7 cfg0.N = rotatedRows 4096 (by decide) (m ((c : Thread nD τ).loc main_arg0)) := by
  refine (dats m 0 c).arrAt_eq_of_covers 7 _ (by decide +kernel) fun t hf y => ?_
  blk_simp
  rw [after0_7]
  obtain ⟨r, q, rfl⟩ : ∃ (r : Fin 256) (q : Fin 1024), y = ix2 r q := ⟨y 0, y 1, eq_ix2 y⟩
  have e : ((View.whole main_v23_1).slice (win0_7.rect t)).emb (ix2 r q) = (ix2 (rowOf t r) q : S8192x1024.Idx) := by
    blk_ext [idx7, ix2_0, ix2_1, rowOf]
  rw [out7, e]
  exact block_k m c t r q
theorem final8 (c : Dev nD) : (dats m 0 c).arrAt 8 cfg0.N = values (m ((c : Thread nD τ).loc main_arg0)) := by
  refine (dats m 0 c).arrAt_eq_of_covers 8 _ (by decide +kernel) fun t hf y => ?_
  blk_simp
  rw [after0_8]
  obtain ⟨r, q, rfl⟩ : ∃ (r : Fin 256) (q : Fin 1024), y = ix2 r q := ⟨y 0, y 1, eq_ix2 y⟩
  have e : ((View.whole main_v23_2).slice (win0_8.rect t)).emb (ix2 r q) = (ix2 (rowOf t r) q : S8192x1024.Idx) := by
    blk_ext [idx8, ix2_0, ix2_1, rowOf]
  rw [out8, e]
  exact in2 m c t r q
theorem final9 (c : Dev nD) : (dats m 0 c).arrAt 9 cfg0.N = rotatedRows 4096 (by decide) (m ((c : Thread nD τ).loc main_arg0)) := by
  refine (dats m 0 c).arrAt_eq_of_covers 9 _ (by decide +kernel) fun t hf y => ?_
  blk_simp
  rw [after0_9]
  obtain ⟨r, q, rfl⟩ : ∃ (r : Fin 256) (q : Fin 1024), y = ix2 r q := ⟨y 0, y 1, eq_ix2 y⟩
  have e : ((View.whole main_v23_3).slice (win0_9.rect t)).emb (ix2 r q) = (ix2 (rowOf t r) q : S8192x1024.Idx) := by
    blk_ext [idx9, ix2_0, ix2_1, rowOf]
  rw [out9, e]
  exact block_k m c t r q
theorem final10 (c : Dev nD) : (dats m 0 c).arrAt 10 cfg0.N = values (m ((c : Thread nD τ).loc main_arg0)) := by
  refine (dats m 0 c).arrAt_eq_of_covers 10 _ (by decide +kernel) fun t hf y => ?_
  blk_simp
  rw [after0_10]
  obtain ⟨r, q, rfl⟩ : ∃ (r : Fin 256) (q : Fin 1024), y = ix2 r q := ⟨y 0, y 1, eq_ix2 y⟩
  have e : ((View.whole main_v23_4).slice (win0_10.rect t)).emb (ix2 r q) = (ix2 (rowOf t r) q : S8192x1024.Idx) := by
    blk_ext [idx10, ix2_0, ix2_1, rowOf]
  rw [out10, e]
  exact in2 m c t r q
theorem final11 (c : Dev nD) : (dats m 0 c).arrAt 11 cfg0.N = means (m ((c : Thread nD τ).loc main_arg0)) := by
  refine (dats m 0 c).arrAt_eq_of_covers 11 _ (by decide +kernel) fun t hf y => ?_
  blk_simp
  rw [after0_11]
  obtain ⟨z, s, q, rfl⟩ : ∃ (z : Fin 1) (s : Fin 8) (q : Fin 1024), y = ix3 z s q := ⟨y 0, y 1, y 2, ValueIdx.eq_ix3 y⟩
  obtain rfl : z = 0 := Subsingleton.elim _ _
  have e : ((View.whole main_v23_5).slice (win0_11.rect t)).emb (ix3 0 s q) = (ix3 ⟨t.val, t.isLt⟩ s q : S32x8x1024.Idx) := by
    blk_ext [idx11, ix3_0, ix3_1, ix3_2]
  rw [out11, e]
  exact congrArg (Ideal.div · _) (Finset.sum_congr rfl fun k _ => block_k m c t k q)

/-- The run, read: the six arrays, the argument unchanged. -/
theorem run (ρ : Dev nD → PrngReg) : θ_run defs (onTc (τ := τ) (main (F := Ideal))) ⟨m, fun _ => 0, ρ⟩ fun r => ∀ c : Dev nD,
      r.2.mem ((c : Thread nD τ).loc main_v23_0) = rotatedRows 3072 (by decide) (m ((c : Thread nD τ).loc main_arg0))
      ∧ r.2.mem ((c : Thread nD τ).loc main_v23_1) = rotatedRows 4096 (by decide) (m ((c : Thread nD τ).loc main_arg0))
      ∧ r.2.mem ((c : Thread nD τ).loc main_v23_2) = values (m ((c : Thread nD τ).loc main_arg0))
      ∧ r.2.mem ((c : Thread nD τ).loc main_v23_3) = rotatedRows 4096 (by decide) (m ((c : Thread nD τ).loc main_arg0))
      ∧ r.2.mem ((c : Thread nD τ).loc main_v23_4) = values (m ((c : Thread nD τ).loc main_arg0))
      ∧ r.2.mem ((c : Thread nD τ).loc main_v23_5) = means (m ((c : Thread nD τ).loc main_arg0))
      ∧ r.2.mem ((c : Thread nD τ).loc main_arg0) = m ((c : Thread nD τ).loc main_arg0) := by
  refine (θ_run defs _ _).mono (fun r h c => ?_) (θ_run_and (run_main m ρ) (Gen.frame m ρ))
  exact ⟨(h.1.out_eq c 6).trans (final6 m c), (h.1.out_eq c 7).trans (final7 m c), (h.1.out_eq c 8).trans (final8 m c),
    (h.1.out_eq c 9).trans (final9 m c), (h.1.out_eq c 10).trans (final10 m c), (h.1.out_eq c 11).trans (final11 m c), h.2.1 c⟩

/-- Kernel and reference run, and from equal arguments end at the same six arrays. -/
theorem algebraic : Cert.algebraic_PrepIdeal_PrepRefIdeal (hPrepIdeal := PrepIdeal.Gen.facts) (hPrepRefIdeal := PrepRefIdeal.Gen.facts) := by
  intro m g m' g' _ hargs
  refine ⟨fun c => rotatedRows 3072 (by decide) (m ((c.tc : Thread _ _).loc main_arg0)),
    fun c => rotatedRows 4096 (by decide) (m ((c.tc : Thread _ _).loc main_arg0)),
    fun c => values (m ((c.tc : Thread _ _).loc main_arg0)),
    fun c => rotatedRows 4096 (by decide) (m ((c.tc : Thread _ _).loc main_arg0)),
    fun c => values (m ((c.tc : Thread _ _).loc main_arg0)),
    fun c => means (m ((c.tc : Thread _ _).loc main_arg0)), run m g, ?_⟩
  refine (θ_run (PrepRefIdeal.defs (F := Ideal)) _ _).mono (fun r h c => ?_) (PrepRefIdeal.Value.run (F := Ideal) m' g')
  obtain ⟨hq, hk, hv, hkb, hvb, hm, h0⟩ := h c
  refine ⟨hq.trans ?_, hk.trans ?_, hv.trans ?_, hkb.trans ?_, hvb.trans ?_, hm.trans ?_, h0⟩
  · rw [val_main_v80_eq, hargs c]
    exact ref_row_q _
  · rw [val_main_v81_eq, hargs c]
    exact ref_row_k _
  · rw [hargs c]
    exact (val_main_v82_eq _).trans (ref_row_v _)
  · rw [val_main_v83_eq, hargs c]
    exact (show val_main_v83 (F := Ideal) _ = val_main_v81 (F := Ideal) _ from rfl).trans (ref_row_k _)
  · rw [hargs c]
    exact (val_main_v84_eq _).trans ((show val_main_v84 (F := Ideal) _ = val_main_v82 (F := Ideal) _ from rfl).trans (ref_row_v _))
  · rw [val_main_v79_eq, hargs c]
    exact ref_means _

/-- The reference's frame: its run, read at the argument; it has no semaphore. -/
theorem frame_ref : Cert.quiescent_PrepRefIdeal (hPrepRefIdeal := PrepRefIdeal.Gen.facts) := fun m ρ _ =>
  (θ_run PrepRefIdeal.defs _ _).mono (fun r h => ⟨fun c => (h c).2.2.2.2.2.2, Idealize.ShloMosaic.sem_eq_zero_of_no_sems (by decide) r.2⟩)
    (PrepRefIdeal.Value.run (F := Ideal) m ρ)

end Cert.PrepProof

end
-- ==== Proof.RopeRowsValue.lean ====
/-
  The sample's new rows of keys and values: each head of the projected row rotated by the angles of the cache's next position,
  which the kernel reads as three products with tables and the reference as halves rotated against one another; the values as
  they are.
-/
module

public import proofs.«01_k».proof.Defs
public import proofs.«01_k».proof.Proof.RopeForm
public import proofs.«01_k».proof.Proof.Gen.RopeRowsIdeal.Frame
public import proofs.«01_k».proof.Proof.Gen.RopeRowsRefIdeal.Read
public import Idealize.ShloMosaic.Lib.Quiescent
public import Idealize.ShloMosaic.Lib.Pointwise

@[expose] public section

set_option maxRecDepth 16384

noncomputable section

namespace Cert.RopeRowsProof

open Cert.RopeRowsIdeal Cert.RopeRowsIdeal.Gen Cert.RopeForm
open Idealize.ShloMosaic hiding ix1 ix2 ix3 eq_ix2
open Idealize.ShloMosaic.TcCoe Idealize.ShloMosaic.ValueIdx Idealize.ShloMosaic.Tactic Idealize.SL.Sem
open Idealize.ShloMosaic.Pipeline (Dat)

/-- One head's chain of the body, at a row and an entry. -/
theorem chain (x : FVec Ideal S8x128 .f32) (a b c : FVec Ideal S1x128 .f32) (r : Fin 8) (d : Fin 128) :
    k0_pay5 (F := Ideal) a b c x (ix2 r d)
      = rotated (fun j => x (ix2 r j)) (fun j => a (ix2 0 j)) (fun j => b (ix2 0 j)) (fun j => c (ix2 0 j)) d := by
  pointwise [k0_pay5, k0_pay2, k0_pay3, k0_pay4, rotated]
  rfl

/-- The head of row `r` that column `q` lies in. -/
def headOf (x : S8x1024.Idx → EReal) (r : Fin 8) (q : Fin 1024) (j : Fin 128) : EReal :=
  x (ix2 r ⟨q.val / 128 * 128 + j.val, by have := q.isLt; have := j.isLt; omega⟩)

/-- A head of the projected row, from the column where its group of heads begins. -/
def headAt (o : ℕ) (ho : o + 1024 ≤ 6144) (main : S8x6144.Idx → EReal) (r : Fin 8) (h : Fin 8) (j : Fin 128) : EReal :=
  main (ix2 r ⟨o + (h.val * 128 + j.val), by omega⟩)

/-- The row's heads from that column on, each rotated. -/
def rotatedRow (o : ℕ) (ho : o + 1024 ≤ 6144) (main : S8x6144.Idx → EReal) : S8x1024.Idx → EReal := fun i =>
  rope (headAt o ho main (i 0) ⟨(i 1).val / 128, Nat.div_lt_of_lt_mul (i 1).isLt⟩) (cosines 16384#32) (sines 16384#32)
    ⟨(i 1).val % 128, Nat.mod_lt _ (by decide)⟩

/-- The row's columns of values. -/
def values (main : S8x6144.Idx → EReal) : S8x1024.Idx → EReal := fun i => main (ix2 (i 0) ⟨5120 + (i 1).val, by have := (i 1).isLt; change (i 1).val < 1024 at this; omega⟩)

/-- One head's 128 columns of an output, from the block's load of that head. -/
theorem piece {x0 : Vec Ideal S8x1024 .f32} {a b c : FVec Ideal S1x128 .f32} {x : S8x128.Idx} {r : Fin 8} {q : Fin 1024}
    (o : ℕ) (inb) (h0 : r.val = (x 0).val) (h1 : q.val = o + (x 1).val) (ho : o % 128 = 0) :
    k0_pay5 (F := Ideal) a b c (View.ld x0 (Rect.unit (s := S8x1024) ![0, o] S8x128.size inb)) x
      = rotated (headOf x0 r q) (fun j => a (ix2 0 j)) (fun j => b (ix2 0 j)) (fun j => c (ix2 0 j)) ⟨q.val % 128, Nat.mod_lt _ (by decide)⟩ := by
  have hx : (x 1).val < 128 := (x 1).isLt
  have e : (⟨q.val % 128, Nat.mod_lt _ (by decide)⟩ : Fin 128) = x 1 := Fin.ext (by show q.val % 128 = (x 1).val; omega)
  have ex : x = ix2 (x 0) (x 1) := eq_ix2 x
  have hX : ∀ j : Fin 128, View.ld x0 (Rect.unit (s := S8x1024) ![0, o] S8x128.size inb) (ix2 (x 0) j) = headOf x0 r q j := fun j =>
    View.ld_unit_apply_of x0 _ _ _ _ _ fun d => by
      match d with
      | ⟨0, _⟩ => show r.val = 0 + (x 0).val; omega
      | ⟨1, _⟩ => show q.val / 128 * 128 + j.val = o + j.val; omega
  rw [ex]
  refine (chain _ _ _ _ _ _).trans ?_
  rw [← funext hX, e]

/-- The first two outputs: each head of the block rotated by the tables. -/
theorem out6 (x0 x1 x2 : Vec Ideal S8x1024 .f32) (a b c : Vec Ideal S1x128 .f32) (r : Fin 8) (q : Fin 1024) :
    out0_6 x0 x1 x2 a b c (ix2 r q)
      = rotated (headOf x0 r q) (fun j => a (ix2 0 j)) (fun j => b (ix2 0 j)) (fun j => c (ix2 0 j)) ⟨q.val % 128, Nat.mod_lt _ (by decide)⟩ := by
  canon_tiles x h
  all_goals
    replace h0 : r.val = (x 0).val := h0
    simp only [show ((ix2 r q 1 : Fin _) : ℕ) = q.val from rfl] at h1
    open_payloads
  · exact piece 896 _ h0 h1 rfl
  · exact piece 768 _ h0 h1 rfl
  · exact piece 640 _ h0 h1 rfl
  · exact piece 512 _ h0 h1 rfl
  · exact piece 384 _ h0 h1 rfl
  · exact piece 256 _ h0 h1 rfl
  · exact piece 128 _ h0 h1 rfl
  · exact piece 0 _ h0 (by omega) rfl

theorem out7 (x0 x1 x2 : Vec Ideal S8x1024 .f32) (a b c : Vec Ideal S1x128 .f32) (r : Fin 8) (q : Fin 1024) :
    out0_7 x0 x1 x2 a b c (ix2 r q)
      = rotated (headOf x1 r q) (fun j => a (ix2 0 j)) (fun j => b (ix2 0 j)) (fun j => c (ix2 0 j)) ⟨q.val % 128, Nat.mod_lt _ (by decide)⟩ := by
  canon_tiles x h
  all_goals
    replace h0 : r.val = (x 0).val := h0
    simp only [show ((ix2 r q 1 : Fin _) : ℕ) = q.val from rfl] at h1
    open_payloads
  · exact piece 896 _ h0 h1 rfl
  · exact piece 768 _ h0 h1 rfl
  · exact piece 640 _ h0 h1 rfl
  · exact piece 512 _ h0 h1 rfl
  · exact piece 384 _ h0 h1 rfl
  · exact piece 256 _ h0 h1 rfl
  · exact piece 128 _ h0 h1 rfl
  · exact piece 0 _ h0 (by omega) rfl

/-- The third: the block as it is. -/
theorem out8 (x0 x1 x2 : Vec Ideal S8x1024 .f32) (a b c : Vec Ideal S1x128 .f32) : out0_8 x0 x1 x2 a b c = x2 := by
  funext i
  unfold out0_8
  frame_out

variable (m : (ℓ : Loc nD τ sig) → Buf (Elt Ideal) ℓ)

/-- The angles as the host computes them for the tables. -/
def angles : FVec Ideal S1x16 .f32 :=
  mulf (broadcastInDim S1x16 ![0, 1] bcast_S1x1_S1x16_0_1 (broadcastInDim S1x1 ![0] bcast_S1_S1x1_0 (sitofp .f32 (broadcastInDim S1 ![] bcast_S_S1 (constantI S_ 32 16384#32)))))
    (broadcastInDim S1x16 ![1] bcast_S16_S1x16_1 (Host.powf (broadcastInDim S16 ![] bcast_S_S16 (constant S_ .f32 0x48F42400#32))
      (Host.divf (Host.negf (sitofp .f32 (iotaInDim S16 32 0))) (broadcastInDim S16 ![] bcast_S_S16 (constant S_ .f32 0x41800000#32)))))

/-- At a pair: the position's angle. -/
theorem angles_at (j : Fin 16) : angles (ix2 0 j) = angle 16384#32 j := by
  pointwise [angles, angle]

/-- The three tables as the host lays them out. -/
theorem V_15 (c : Dev nD) (d : Fin 128) : V m c main_v15 (ix2 0 d) = tableC (cosines 16384#32) d := by
  have e : V m c main_v15 = concatenate S1x128 1
      [⟨S1x16, Host.cos angles⟩, ⟨S1x16, Host.cos angles⟩, ⟨S1x96, broadcastInDim S1x96 ![] bcast_S_S1x96 (constant S_ .f32 0x3F800000#32)⟩]
      concatenates_S1x16_S1x16_S1x96_S1x128_d1 := by
    funext j; rfl
  rw [e]
  pointwise [tableC, cosines, angles, angle]
theorem V_18 (c : Dev nD) (d : Fin 128) : V m c main_v18 (ix2 0 d) = tableA (sines 16384#32) d := by
  have e : V m c main_v18 = concatenate S1x128 1
      [⟨S1x16, Host.negf (Host.sin angles)⟩, ⟨S1x112, broadcastInDim S1x112 ![] bcast_S_S1x112 (constant S_ .f32 0x00000000#32)⟩]
      concatenates_S1x16_S1x112_S1x128_d1 := by
    funext j; rfl
  rw [e]
  pointwise [tableA, sines, angles, angle]
theorem V_21 (c : Dev nD) (d : Fin 128) : V m c main_v21 (ix2 0 d) = tableB (sines 16384#32) d := by
  have e : V m c main_v21 = concatenate S1x128 1
      [⟨S1x16, broadcastInDim S1x16 ![] bcast_S_S1x16 (constant S_ .f32 0x00000000#32)⟩, ⟨S1x16, Host.sin angles⟩,
        ⟨S1x96, broadcastInDim S1x96 ![] bcast_S_S1x96 (constant S_ .f32 0x00000000#32)⟩]
      concatenates_S1x16_S1x16_S1x96_S1x128_d1 := by
    funext j; rfl
  rw [e]
  pointwise [tableB, sines, angles, angle]
  rfl

/-- Every window at the grid's one point: the row's three groups of heads, the tables whole, the results whole. -/
theorem idx0 : ∀ t : Fin cfg0.N, win0_0.index t = ![0, 3] := (by decide +kernel : ∀ t : Fin grid0.N, _)
theorem idx1 : ∀ t : Fin cfg0.N, win0_1.index t = ![0, 4] := (by decide +kernel : ∀ t : Fin grid0.N, _)
theorem idx2 : ∀ t : Fin cfg0.N, win0_2.index t = ![0, 5] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)

theorem in0 (c : Dev nD) (t : Fin cfg0.N) (r : Fin 8) (q : Fin 1024) : (iblk m c 0 t : Vec Ideal S8x1024 .f32) (ix2 r q)
    = m ((c : Thread nD τ).loc main_arg0) (ix2 r ⟨3072 + q.val, by omega⟩) := by
  blk_simp [iblk]
  rw [V_main_arg0]
  refine congrArg _ ?_
  blk_ext [idx0, ix2_0, ix2_1]
theorem in1 (c : Dev nD) (t : Fin cfg0.N) (r : Fin 8) (q : Fin 1024) : (iblk m c 1 t : Vec Ideal S8x1024 .f32) (ix2 r q)
    = m ((c : Thread nD τ).loc main_arg0) (ix2 r ⟨4096 + q.val, by omega⟩) := by
  blk_simp [iblk]
  rw [V_main_arg0]
  refine congrArg _ ?_
  blk_ext [idx1, ix2_0, ix2_1]
theorem in2 (c : Dev nD) (t : Fin cfg0.N) (r : Fin 8) (q : Fin 1024) : (iblk m c 2 t : Vec Ideal S8x1024 .f32) (ix2 r q)
    = m ((c : Thread nD τ).loc main_arg0) (ix2 r ⟨5120 + q.val, by omega⟩) := by
  blk_simp [iblk]
  rw [V_main_arg0]
  refine congrArg _ ?_
  blk_ext [idx2, ix2_0, ix2_1]
theorem in3 (c : Dev nD) (t : Fin cfg0.N) (k : Fin 128) : (iblk m c 3 t : Vec Ideal S1x128 .f32) (ix2 0 k) = tableC (cosines 16384#32) k := by
  refine Eq.trans ?_ (V_15 m c k)
  blk_simp [iblk]
  refine congrArg (V m c main_v15) ?_
  blk_ext [idx3, ix2_0, ix2_1]
theorem in4 (c : Dev nD) (t : Fin cfg0.N) (k : Fin 128) : (iblk m c 4 t : Vec Ideal S1x128 .f32) (ix2 0 k) = tableA (sines 16384#32) k := by
  refine Eq.trans ?_ (V_18 m c k)
  blk_simp [iblk]
  refine congrArg (V m c main_v18) ?_
  blk_ext [idx4, ix2_0, ix2_1]
theorem in5 (c : Dev nD) (t : Fin cfg0.N) (k : Fin 128) : (iblk m c 5 t : Vec Ideal S1x128 .f32) (ix2 0 k) = tableB (sines 16384#32) k := by
  refine Eq.trans ?_ (V_21 m c k)
  blk_simp [iblk]
  refine congrArg (V m c main_v21) ?_
  blk_ext [idx5, ix2_0, ix2_1]

open RopeRowsRefIdeal.Read

/-- The reference's rotated heads, the first group and the second. -/
theorem ref_q (main : S8x6144.Idx → EReal) (r h : Fin 8) (d : Fin 128) :
    val_main_v38 (F := Ideal) main (ValueIdx.ix4 r 0 h d)
      = rope (headAt 3072 (by decide) main r h) (cosines 16384#32) (sines 16384#32) d := by
  rw [rope_split]
  pointwise [val_main_v38, val_main_v37, val_main_v36, val_main_v35, val_main_v34, val_main_v33, val_main_v32, val_main_v31, val_main_v30,
    val_main_v29, val_main_v28, val_main_v27, val_main_v26, val_main_v25, val_main_v24, val_main_v23, val_main_v22, val_main_v21,
    val_main_v20, val_main_v19, val_main_v18, val_main_v17, val_main_v16, val_main_v15, val_main_v14, val_main_v13, val_main_v12,
    val_main_cst_0, val_main_v11, val_main_v10, val_main_cst, val_main_v9, val_main_v8, val_main_v7, val_main_v6, val_main_v5,
    val_main_c, val_main_v4, val_main_v1, val_main_v0, headAt, cosines, sines, angle]
  rfl
theorem ref_k (main : S8x6144.Idx → EReal) (r h : Fin 8) (d : Fin 128) :
    val_main_v70 (F := Ideal) main (ValueIdx.ix4 r 0 h d)
      = rope (headAt 4096 (by decide) main r h) (cosines 16384#32) (sines 16384#32) d := by
  rw [rope_split]
  pointwise [val_main_v70, val_main_v69, val_main_v68, val_main_v67, val_main_v66, val_main_v65, val_main_v64, val_main_v63, val_main_v62,
    val_main_v61, val_main_v60, val_main_v59, val_main_v58, val_main_v57, val_main_v56, val_main_v55, val_main_v54, val_main_v53,
    val_main_v52, val_main_v51, val_main_v50, val_main_v49, val_main_v48, val_main_v47, val_main_v46, val_main_v45, val_main_v44,
    val_main_cst_2, val_main_v43, val_main_v42, val_main_cst_1, val_main_v41, val_main_v40, val_main_v39, val_main_v6,
    val_main_v5, val_main_c, val_main_v4, val_main_v2, val_main_v0, headAt, cosines, sines, angle]
  simp only [← Nat.add_assoc, Nat.reduceAdd]
  rfl

/-- Its three results as rows. -/
theorem ref_row_q (main : S8x6144.Idx → EReal) : val_main_v72 (F := Ideal) main = rotatedRow 3072 (by decide) main := by
  funext i
  obtain ⟨r, q, rfl⟩ : ∃ (r : Fin 8) (q : Fin 1024), i = ix2 r q := ⟨i 0, i 1, eq_ix2 i⟩
  unfold val_main_v72
  refine (shapeCast_apply (s := RopeRowsRefIdeal.S8x1x8x128) _ _ _
    (ValueIdx.ix4 r 0 ⟨q.val / 128, Nat.div_lt_of_lt_mul q.isLt⟩ ⟨q.val % 128, Nat.mod_lt _ (by decide)⟩) ?_).trans (ref_q main r _ _)
  rw [Shape.rowMajor_val_four, Shape.rowMajor_val_two]
  show ((r.val * 1 + 0) * 8 + q.val / 128) * 128 + q.val % 128 = r.val * 1024 + q.val
  omega
theorem ref_row_k (main : S8x6144.Idx → EReal) : val_main_v73 (F := Ideal) main = rotatedRow 4096 (by decide) main := by
  funext i
  obtain ⟨r, q, rfl⟩ : ∃ (r : Fin 8) (q : Fin 1024), i = ix2 r q := ⟨i 0, i 1, eq_ix2 i⟩
  unfold val_main_v73
  refine (shapeCast_apply (s := RopeRowsRefIdeal.S8x1x8x128) _ _ _
    (ValueIdx.ix4 r 0 ⟨q.val / 128, Nat.div_lt_of_lt_mul q.isLt⟩ ⟨q.val % 128, Nat.mod_lt _ (by decide)⟩) ?_).trans (ref_k main r _ _)
  rw [Shape.rowMajor_val_four, Shape.rowMajor_val_two]
  show ((r.val * 1 + 0) * 8 + q.val / 128) * 128 + q.val % 128 = r.val * 1024 + q.val
  omega
theorem ref_row_v (main : S8x6144.Idx → EReal) : val_main_v74 (F := Ideal) main = values main := by
  funext i
  obtain ⟨r, q, rfl⟩ : ∃ (r : Fin 8) (q : Fin 1024), i = ix2 r q := ⟨i 0, i 1, eq_ix2 i⟩
  pointwise [val_main_v74, val_main_v71, val_main_v3, val_main_v0, values]
  exact congrArg (fun k => main (ix2 r k)) (Fin.ext (by show 3072 + (2048 + q.val) = 5120 + q.val; omega))

/-- The kernel's array of rotated heads, group 0. -/
theorem final6 (c : Dev nD) : (dats m 0 c).arrAt 6 cfg0.N = rotatedRow 3072 (by decide) (m ((c : Thread nD τ).loc main_arg0)) := by
  refine (dats m 0 c).arrAt_eq_of_covers 6 _ (by decide +kernel) fun t hf y => ?_
  blk_simp
  rw [after0_6]
  obtain ⟨r, q, rfl⟩ : ∃ (r : Fin 8) (q : Fin 1024), y = ix2 r q := ⟨y 0, y 1, eq_ix2 y⟩
  have e : ((View.whole main_v22_0).slice (win0_6.rect t)).emb (ix2 r q) = (ix2 r q : S8x1024.Idx) := by
    blk_ext [idx6, ix2_0, ix2_1]
  rw [out6, e, funext (in3 m c t), funext (in4 m c t), funext (in5 m c t), rotated_eq]
  exact congrArg (rope · _ _ _) (funext fun j => in0 m c t r _)
/-- The kernel's array of rotated heads, group 1. -/
theorem final7 (c : Dev nD) : (dats m 0 c).arrAt 7 cfg0.N = rotatedRow 4096 (by decide) (m ((c : Thread nD τ).loc main_arg0)) := by
  refine (dats m 0 c).arrAt_eq_of_covers 7 _ (by decide +kernel) fun t hf y => ?_
  blk_simp
  rw [after0_7]
  obtain ⟨r, q, rfl⟩ : ∃ (r : Fin 8) (q : Fin 1024), y = ix2 r q := ⟨y 0, y 1, eq_ix2 y⟩
  have e : ((View.whole main_v22_1).slice (win0_7.rect t)).emb (ix2 r q) = (ix2 r q : S8x1024.Idx) := by
    blk_ext [idx7, ix2_0, ix2_1]
  rw [out7, e, funext (in3 m c t), funext (in4 m c t), funext (in5 m c t), rotated_eq]
  exact congrArg (rope · _ _ _) (funext fun j => in1 m c t r _)
/-- And its array of values. -/
theorem final8 (c : Dev nD) : (dats m 0 c).arrAt 8 cfg0.N = values (m ((c : Thread nD τ).loc main_arg0)) := by
  refine (dats m 0 c).arrAt_eq_of_covers 8 _ (by decide +kernel) fun t hf y => ?_
  blk_simp
  rw [after0_8]
  obtain ⟨r, q, rfl⟩ : ∃ (r : Fin 8) (q : Fin 1024), y = ix2 r q := ⟨y 0, y 1, eq_ix2 y⟩
  have e : ((View.whole main_v22_2).slice (win0_8.rect t)).emb (ix2 r q) = (ix2 r q : S8x1024.Idx) := by
    blk_ext [idx8, ix2_0, ix2_1]
  rw [out8, e]
  exact in2 m c t r q

/-- The run, read: the three arrays, the argument unchanged. -/
theorem run (ρ : Dev nD → PrngReg) : θ_run defs (onTc (τ := τ) (main (F := Ideal))) ⟨m, fun _ => 0, ρ⟩ fun r => ∀ c : Dev nD,
      r.2.mem ((c : Thread nD τ).loc main_v22_0) = rotatedRow 3072 (by decide) (m ((c : Thread nD τ).loc main_arg0))
      ∧ r.2.mem ((c : Thread nD τ).loc main_v22_1) = rotatedRow 4096 (by decide) (m ((c : Thread nD τ).loc main_arg0))
      ∧ r.2.mem ((c : Thread nD τ).loc main_v22_2) = values (m ((c : Thread nD τ).loc main_arg0))
      ∧ r.2.mem ((c : Thread nD τ).loc main_arg0) = m ((c : Thread nD τ).loc main_arg0) := by
  refine (θ_run defs _ _).mono (fun r h c => ?_) (θ_run_and (run_main m ρ) (Gen.frame m ρ))
  exact ⟨(h.1.out_eq c 6).trans (final6 m c), (h.1.out_eq c 7).trans (final7 m c), (h.1.out_eq c 8).trans (final8 m c), h.2.1 c⟩

/-- Kernel and reference run, and from equal arguments end at the same three arrays. -/
theorem algebraic : Cert.algebraic_RopeRowsIdeal_RopeRowsRefIdeal (hRopeRowsIdeal := RopeRowsIdeal.Gen.facts) (hRopeRowsRefIdeal := RopeRowsRefIdeal.Gen.facts) := by
  intro m g m' g' _ hargs
  refine ⟨fun c => rotatedRow 3072 (by decide) (m ((c.tc : Thread _ _).loc main_arg0)),
    fun c => rotatedRow 4096 (by decide) (m ((c.tc : Thread _ _).loc main_arg0)),
    fun c => values (m ((c.tc : Thread _ _).loc main_arg0)), run m g, ?_⟩
  refine (θ_run (RopeRowsRefIdeal.defs (F := Ideal)) _ _).mono (fun r h c => ?_) (RopeRowsRefIdeal.Value.run (F := Ideal) m' g')
  obtain ⟨hq, hk, hv, h0⟩ := h c
  refine ⟨hq.trans ?_, hk.trans ?_, hv.trans ?_, h0⟩
  · rw [val_main_v72_eq, hargs c]
    exact ref_row_q _
  · rw [val_main_v73_eq, hargs c]
    exact ref_row_k _
  · rw [hargs c]
    exact (val_main_v74_eq _).trans (ref_row_v _)

/-- The reference's frame: its run, read at the argument; it has no semaphore. -/
theorem frame_ref : Cert.quiescent_RopeRowsRefIdeal (hRopeRowsRefIdeal := RopeRowsRefIdeal.Gen.facts) := fun m ρ _ =>
  (θ_run RopeRowsRefIdeal.defs _ _).mono (fun r h => ⟨fun c => (h c).2.2.2, Idealize.ShloMosaic.sem_eq_zero_of_no_sems (by decide) r.2⟩)
    (RopeRowsRefIdeal.Value.run (F := Ideal) m ρ)

end Cert.RopeRowsProof

end
-- ==== Proof.FfnMidValue.lean ====
/-
  The feed-forward block's middle for one token: the two arrays the kernel leaves are the activated product of the convolution's
  two halves, and the buffer moved on by one row.
-/
module

public import proofs.«01_k».proof.Defs
public import proofs.«01_k».proof.Proof.FfnUpForm
public import proofs.«01_k».proof.Proof.Gen.FfnMidIdeal.Frame
public import proofs.«01_k».proof.Proof.Gen.FfnMidRefIdeal.Read
public import Idealize.ShloMosaic.Lib.Quiescent
public import Idealize.ShloMosaic.Lib.Pointwise

@[expose] public section

set_option maxRecDepth 16384

noncomputable section

namespace Cert.FfnMidProof

open Cert.FfnMidIdeal Cert.FfnMidIdeal.Gen
open Cert.FfnUpForm (swish swish_eq upper lower)
open Idealize.ShloMosaic hiding ix1 ix2 ix3 eq_ix2
open Idealize.ShloMosaic.TcCoe Idealize.ShloMosaic.ValueIdx Idealize.ShloMosaic.Tactic Idealize.SL.Sem
open Idealize.ShloMosaic.Pipeline (Dat)

/-- The convolution of the two buffered rows and the new one, plus the bias, at a sample and a column. -/
def conv (u : S8x11008.Idx → EReal) (buf : S8x2x11008.Idx → EReal) (cw : S3x11008.Idx → EReal) (cb : Fin 11008 → EReal)
    (r : Fin 8) (q : Fin 11008) : EReal :=
  buf (ix3 r 0 q) * cw (ix2 0 q) + buf (ix3 r 1 q) * cw (ix2 1 q) + u (ix2 r q) * cw (ix2 2 q) + cb q

/-- The activated product. -/
def activated (u : S8x11008.Idx → EReal) (buf : S8x2x11008.Idx → EReal) (cw : S3x11008.Idx → EReal) (cb : Fin 11008 → EReal) :
    S8x5504.Idx → EReal := fun i =>
  swish (conv u buf cw cb (i 0) (lower (i 1))) (conv u buf cw cb (i 0) (upper (i 1)))

/-- The buffer moved on: its second row, then the new one. -/
def moved (u : S8x11008.Idx → EReal) (buf : S8x2x11008.Idx → EReal) : S8x2x11008.Idx → EReal := fun i =>
  if (i 1).val = 0 then buf (ix3 (i 0) 1 (i 2)) else u (ix2 (i 0) (i 2))

/-- The body's first output at an index. -/
theorem out_activated (u : Vec Ideal S8x11008 .f32) (buf : Vec Ideal S8x2x11008 .f32) (cw : Vec Ideal S3x11008 .f32) (cb : Vec Ideal S1x11008 .f32)
    (r : Fin 8) (q : Fin 5504) : out0_4 u buf cw cb (ix2 r q) = activated u buf cw (fun j => cb (ix2 0 j)) (ix2 r q) := by
  unfold out0_4
  frame_out
  pointwise [k0_pay1, k0_pay3, k0_pay5, k0_pay6, k0_pay7, activated, swish, conv, upper, lower]
  rfl

/-- Its second. -/
theorem out_moved (u : Vec Ideal S8x11008 .f32) (buf : Vec Ideal S8x2x11008 .f32) (cw : Vec Ideal S3x11008 .f32) (cb : Vec Ideal S1x11008 .f32)
    (r : Fin 8) (b : Fin 2) (q : Fin 11008) : out0_5 u buf cw cb (ix3 r b q) = moved u buf (ix3 r b q) := by
  have ex (x : S8x1x11008.Idx) (h0 : r.val = (x 0).val) (h1 : (x 1).val < 1) (h2 : q.val = (x 2).val) : x = ix3 r 0 q := by
    funext d
    refine Fin.ext ?_
    match d with
    | ⟨0, _⟩ => exact h0.symm
    | ⟨1, _⟩ => exact Nat.lt_one_iff.mp h1
    | ⟨2, _⟩ => exact h2.symm
  canon_tiles x h
  · obtain rfl := ex x h0 x1_lt h2
    obtain rfl : b = 1 := Fin.ext h1
    pointwise [k0_pay4, moved]
    rfl
  · obtain rfl := ex x h0 x1_lt h2
    obtain rfl : b = 0 := Fin.ext h1
    pointwise [k0_pay2, moved]
    rfl

/-- The reference's first result is the same function. -/
theorem ref_activated (u : S8x11008.Idx → EReal) (buf : S8x2x11008.Idx → EReal) (cw : S3x11008.Idx → EReal) (cb : S11008.Idx → EReal) :
    FfnMidRefIdeal.Read.val_main_v29 (F := Ideal) u buf cw cb = activated u buf cw (fun j => cb (ix1 j)) := by
  funext i
  obtain ⟨r, q, rfl⟩ : ∃ (r : Fin 8) (q : Fin 5504), i = ix2 r q := ⟨i 0, i 1, eq_ix2 i⟩
  unfold activated
  rw [swish_eq]
  pointwise [FfnMidRefIdeal.Read.val_main_v29, FfnMidRefIdeal.Read.val_main_v28, FfnMidRefIdeal.Read.val_main_v27,
    FfnMidRefIdeal.Read.val_main_call0_v5, FfnMidRefIdeal.Read.val_main_call0_v4, FfnMidRefIdeal.Read.val_main_call0_v3,
    FfnMidRefIdeal.Read.val_main_call0_v2, FfnMidRefIdeal.Read.val_main_call0_v1, FfnMidRefIdeal.Read.val_main_call0_v0,
    FfnMidRefIdeal.Read.val_main_call0_cst, FfnMidRefIdeal.Read.val_main_call0_cst_0,
    FfnMidRefIdeal.Read.val_main_v26, FfnMidRefIdeal.Read.val_main_v25, FfnMidRefIdeal.Read.val_main_v24, FfnMidRefIdeal.Read.val_main_v23,
    FfnMidRefIdeal.Read.val_main_v22, FfnMidRefIdeal.Read.val_main_v21, FfnMidRefIdeal.Read.val_main_v20, FfnMidRefIdeal.Read.val_main_v19,
    FfnMidRefIdeal.Read.val_main_v18, FfnMidRefIdeal.Read.val_main_v17, FfnMidRefIdeal.Read.val_main_v16, FfnMidRefIdeal.Read.val_main_v15,
    FfnMidRefIdeal.Read.val_main_v14, FfnMidRefIdeal.Read.val_main_v13, FfnMidRefIdeal.Read.val_main_v12, FfnMidRefIdeal.Read.val_main_v11,
    FfnMidRefIdeal.Read.val_main_v10, FfnMidRefIdeal.Read.val_main_v9, FfnMidRefIdeal.Read.val_main_v8, FfnMidRefIdeal.Read.val_main_v7,
    FfnMidRefIdeal.Read.val_main_v6, FfnMidRefIdeal.Read.val_main_v5, FfnMidRefIdeal.Read.val_main_v4, FfnMidRefIdeal.Read.val_main_v3,
    FfnMidRefIdeal.Read.val_main_v2, FfnMidRefIdeal.Read.val_main_v1, FfnMidRefIdeal.Read.val_main_v0, conv, upper, lower]
  rfl

/-- And its second. -/
theorem ref_moved (u : S8x11008.Idx → EReal) (buf : S8x2x11008.Idx → EReal) :
    FfnMidRefIdeal.Read.val_main_v30 (F := Ideal) u buf = moved u buf := by
  funext i
  obtain ⟨r, b, q, rfl⟩ : ∃ (r : Fin 8) (b : Fin 2) (q : Fin 11008), i = ix3 r b q := ⟨i 0, i 1, i 2, ValueIdx.eq_ix3 i⟩
  fin_cases b
  · pointwise [FfnMidRefIdeal.Read.val_main_v30, FfnMidRefIdeal.Read.val_main_v1, FfnMidRefIdeal.Read.val_main_v0, moved]
    rfl
  · pointwise [FfnMidRefIdeal.Read.val_main_v30, FfnMidRefIdeal.Read.val_main_v1, FfnMidRefIdeal.Read.val_main_v0, moved]
    rfl

variable (m : (ℓ : Loc nD τ sig) → Buf (Elt Ideal) ℓ)

/-- The bias as one row. -/
theorem V_v0 (c : Dev nD) (k : Fin 11008) : V m c main_v0 (ix2 0 k) = m ((c : Thread nD τ).loc main_arg3) (ix1 k) := by
  have e : V m c main_v0 = shapeCast S1x11008 (m ((c : Thread nD τ).loc main_arg3)) shapeCasts_S11008_S1x11008 := by
    funext j; rfl
  rw [e]
  refine shapeCast_apply (s := S11008) _ _ _ _ ?_
  rw [Shape.rowMajor_val_one, Shape.rowMajor_val_two]; show k.val = 0 * 11008 + k.val; omega

/-- Every window is its whole array, at the grid's one point. -/
theorem idx0 : ∀ t : Fin cfg0.N, win0_0.index t = ![0, 0] := (by decide +kernel : ∀ t : Fin grid0.N, _)
theorem idx1 : ∀ t : Fin cfg0.N, win0_1.index t = ![0, 0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0, 0] := (by decide +kernel : ∀ t : Fin grid0.N, _)

theorem u_at (c : Dev nD) (t : Fin cfg0.N) : iblk m c 0 t = m ((c : Thread nD τ).loc main_arg0) := by
  funext i
  blk_simp [iblk]
  rw [V_main_arg0]
  refine congrArg _ ?_
  blk_ext [idx0]
theorem buf_at (c : Dev nD) (t : Fin cfg0.N) : iblk m c 1 t = m ((c : Thread nD τ).loc main_arg1) := by
  funext i
  blk_simp [iblk]
  rw [V_main_arg1]
  refine congrArg _ ?_
  blk_ext [idx1]
theorem cw_at (c : Dev nD) (t : Fin cfg0.N) : iblk m c 2 t = m ((c : Thread nD τ).loc main_arg2) := by
  funext i
  blk_simp [iblk]
  rw [V_main_arg2]
  refine congrArg _ ?_
  blk_ext [idx2]
theorem cb_at (c : Dev nD) (t : Fin cfg0.N) (k : Fin 11008) :
    (iblk m c 3 t : Vec Ideal S1x11008 .f32) (ix2 0 k) = m ((c : Thread nD τ).loc main_arg3) (ix1 k) := by
  refine Eq.trans ?_ (V_v0 m c k)
  blk_simp [iblk]
  refine congrArg (V m c main_v0) ?_
  blk_ext [idx3, ix2_0, ix2_1]

/-- The first array the kernel leaves. -/
theorem final4 (c : Dev nD) : (dats m 0 c).arrAt 4 cfg0.N
    = activated (m ((c : Thread nD τ).loc main_arg0)) (m ((c : Thread nD τ).loc main_arg1)) (m ((c : Thread nD τ).loc main_arg2))
        (fun j => m ((c : Thread nD τ).loc main_arg3) (ix1 j)) := by
  refine (dats m 0 c).arrAt_eq_of_covers 4 _ (by decide +kernel) fun t hf y => ?_
  blk_simp
  rw [after0_4]
  obtain ⟨r, q, rfl⟩ : ∃ (r : Fin 8) (q : Fin 5504), y = ix2 r q := ⟨y 0, y 1, eq_ix2 y⟩
  have e : ((View.whole main_v1_0).slice (win0_4.rect t)).emb (ix2 r q) = (ix2 r q : S8x5504.Idx) := by
    blk_ext [idx4, ix2_0, ix2_1]
  rw [out_activated, e, u_at, buf_at, cw_at]
  exact congrArg (activated _ _ _ · _) (funext (cb_at m c t))

/-- The second. -/
theorem final5 (c : Dev nD) : (dats m 0 c).arrAt 5 cfg0.N
    = moved (m ((c : Thread nD τ).loc main_arg0)) (m ((c : Thread nD τ).loc main_arg1)) := by
  refine (dats m 0 c).arrAt_eq_of_covers 5 _ (by decide +kernel) fun t hf y => ?_
  blk_simp
  rw [after0_5]
  obtain ⟨r, b, q, rfl⟩ : ∃ (r : Fin 8) (b : Fin 2) (q : Fin 11008), y = ix3 r b q := ⟨y 0, y 1, y 2, ValueIdx.eq_ix3 y⟩
  have e : ((View.whole main_v1_1).slice (win0_5.rect t)).emb (ix3 r b q) = (ix3 r b q : S8x2x11008.Idx) := by
    blk_ext [idx5, ix3_0, ix3_1, ix3_2]
  rw [out_moved, e, u_at, buf_at]

/-- The run, read: the results at the activated product and the moved buffer, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v1_0)
        = activated (m ((c : Thread nD τ).loc main_arg0)) (m ((c : Thread nD τ).loc main_arg1)) (m ((c : Thread nD τ).loc main_arg2))
            (fun j => m ((c : Thread nD τ).loc main_arg3) (ix1 j))
      ∧ r.2.mem ((c : Thread nD τ).loc main_v1_1) = moved (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun r h c => ?_) (θ_run_and (run_main m ρ) (Gen.frame m ρ))
  exact ⟨(h.1.out_eq c 4).trans (final4 m c), (h.1.out_eq c 5).trans (final5 m c), h.2.1 c⟩

/-- Kernel and reference run, and from equal arguments end at the same two arrays. -/
theorem algebraic : Cert.algebraic_FfnMidIdeal_FfnMidRefIdeal (hFfnMidIdeal := FfnMidIdeal.Gen.facts) (hFfnMidRefIdeal := FfnMidRefIdeal.Gen.facts) := by
  intro m g m' g' _ hargs
  refine ⟨fun c => activated (m ((c.tc : Thread _ _).loc main_arg0)) (m ((c.tc : Thread _ _).loc main_arg1)) (m ((c.tc : Thread _ _).loc main_arg2))
      (fun j => m ((c.tc : Thread _ _).loc main_arg3) (ix1 j)),
    fun c => moved (m ((c.tc : Thread _ _).loc main_arg0)) (m ((c.tc : Thread _ _).loc main_arg1)), run m g, ?_⟩
  refine (θ_run (FfnMidRefIdeal.defs (F := Ideal)) _ _).mono (fun r h c => ?_) (FfnMidRefIdeal.Value.run (F := Ideal) m' g')
  obtain ⟨hv, hw, h0, h1, h2, h3⟩ := h c
  refine ⟨hv.trans ?_, hw.trans ?_, h0, h1, h2, h3⟩
  · rw [FfnMidRefIdeal.Read.val_main_v29_eq, (hargs c).1, (hargs c).2.1, (hargs c).2.2.1, (hargs c).2.2.2]
    exact ref_activated _ _ _ _
  · rw [(hargs c).1, (hargs c).2.1]
    exact (FfnMidRefIdeal.Read.val_main_v30_eq _ _).trans (ref_moved _ _)

/-- The reference's frame: its run, read at the arguments; it has no semaphore. -/
theorem frame_ref : Cert.quiescent_FfnMidRefIdeal (hFfnMidRefIdeal := FfnMidRefIdeal.Gen.facts) := fun m ρ _ =>
  (θ_run FfnMidRefIdeal.defs _ _).mono (fun r h => ⟨fun c => (h c).2.2, Idealize.ShloMosaic.sem_eq_zero_of_no_sems (by decide) r.2⟩)
    (FfnMidRefIdeal.Value.run (F := Ideal) m ρ)

end Cert.FfnMidProof

end
-- ==== Proof.FinalValue.lean ====
/-
  The model's last norm over the prompt rows: the array the kernel leaves is every row divided by its root mean square and weighted.
-/
module

public import proofs.«01_k».proof.Defs
public import proofs.«01_k».proof.Proof.Products
public import proofs.«01_k».proof.Proof.Gen.FinalIdeal.Frame
public import proofs.«01_k».proof.Proof.Gen.FinalRefIdeal.Read
public import Idealize.ShloMosaic.Lib.Quiescent
public import Idealize.ShloMosaic.Lib.Pointwise

@[expose] public section

set_option maxRecDepth 16384

noncomputable section

namespace Cert.FinalProof

open Cert.FinalIdeal Cert.FinalIdeal.Gen Cert.Products
open Idealize.ShloMosaic hiding ix1 ix2 ix3 eq_ix2
open Idealize.ShloMosaic.TcCoe Idealize.ShloMosaic.ValueIdx Idealize.ShloMosaic.Tactic Idealize.SL.Sem
open Idealize.ShloMosaic.Pipeline (Dat)

variable (m : (ℓ : Loc nD τ sig) → Buf (Elt Ideal) ℓ)

/-- The body's one payload at an index: the row normalised. -/
theorem pay_apply (x : Vec Ideal S1024x2048 .f32) (w : Vec Ideal S1x2048 .f32) (r : Fin 1024) (k : Fin 2048) :
    k0_pay1 x w (ix2 r k) = normed (fun j => x (ix2 r j)) (fun j => w (ix2 0 j)) k := by
  pointwise [k0_pay1, normed]
  rfl

/-- The norm's weights as one row. -/
theorem V_v0 (c : Dev nD) (k : Fin 2048) : V m c main_v0 (ix2 0 k) = m ((c : Thread nD τ).loc main_arg1) (ix1 k) := by
  have e : V m c main_v0 = shapeCast S1x2048 (m ((c : Thread nD τ).loc main_arg1)) shapeCasts_S2048_S1x2048 := by
    funext j; rfl
  rw [e]
  refine shapeCast_apply (s := S2048) _ _ _ _ ?_
  rw [Shape.rowMajor_val_one, Shape.rowMajor_val_two]; show k.val = 0 * 2048 + k.val; omega

/-- Which block each window is on at a point. -/
theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

/-- Every row normalised by its root mean square and weighted. -/
def full (x : S8192x2048.Idx → EReal) (w : S2048.Idx → EReal) : S8192x2048.Idx → EReal :=
  fun i => normed (fun j => x (ix2 (i 0) j)) (fun j => w (ix1 j)) (i 1)

/-- The array the kernel leaves. -/
theorem final (c : Dev nD) : (dats m 0 c).arrAt 2 cfg0.N
    = full (m ((c : Thread nD τ).loc main_arg0)) (m ((c : Thread nD τ).loc main_arg1)) := by
  refine (dats m 0 c).arrAt_eq_of_covers 2 _ (by decide +kernel) fun t hf y => ?_
  blk_simp
  rw [after0_2]
  frame_out
  obtain ⟨r, q, rfl⟩ : ∃ (r : Fin 1024) (q : Fin 2048), y = ix2 r q := ⟨y 0, y 1, eq_ix2 y⟩
  have ht : t.val < 8 := t.isLt
  have e : ((View.whole main_v1).slice (win0_2.rect t)).emb (ix2 r q)
      = (ix2 ⟨t.val * 1024 + r.val, by have := r.isLt; omega⟩ q : S8192x2048.Idx) := by
    blk_ext [idx2, ix2_0, ix2_1]
  rw [pay_apply, e]
  refine congrFun (congrArg₂ normed (funext fun j => ?_) (funext fun j => ?_)) q
  · blk_simp [iblk]
    rw [V_main_arg0]
    refine congrArg _ ?_
    blk_ext [idx0, ix2_0, ix2_1]
  · refine Eq.trans ?_ (V_v0 m c j)
    blk_simp [iblk]
    refine congrArg (V m c main_v0) ?_
    blk_ext [idx1, ix2_0, ix2_1]

/-- The run, read: the result at the normalised rows, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v1) = full (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun r h c => ?_) (θ_run_and (run_main m ρ) (Gen.frame m ρ))
  exact ⟨(h.1.out_eq c 2).trans (final m c), h.2.1 c⟩

/-- The reference's last value is the same function. -/
theorem ref_eq (x : S8192x2048.Idx → EReal) (w : S2048.Idx → EReal) :
    FinalRefIdeal.Read.val_main_v12 (F := Ideal) x w = full x w := by
  funext i
  obtain ⟨r, k, rfl⟩ : ∃ (r : Fin 8192) (k : Fin 2048), i = ix2 r k := ⟨i 0, i 1, eq_ix2 i⟩
  pointwise [FinalRefIdeal.Read.val_main_v12, FinalRefIdeal.Read.val_main_v11, FinalRefIdeal.Read.val_main_v10, FinalRefIdeal.Read.val_main_v9,
    FinalRefIdeal.Read.val_main_v8, FinalRefIdeal.Read.val_main_v7, FinalRefIdeal.Read.val_main_v6, FinalRefIdeal.Read.val_main_v5,
    FinalRefIdeal.Read.val_main_v4, FinalRefIdeal.Read.val_main_v3, FinalRefIdeal.Read.val_main_v2, FinalRefIdeal.Read.val_main_v1,
    FinalRefIdeal.Read.val_main_v0, FinalRefIdeal.Read.val_main_cst, FinalRefIdeal.Read.val_main_cst_0, FinalRefIdeal.Read.val_main_cst_1, full, normed]
  rfl

/-- Kernel and reference run, and from equal arguments end at the same array. -/
theorem algebraic : Cert.algebraic_FinalIdeal_FinalRefIdeal (hFinalIdeal := FinalIdeal.Gen.facts) (hFinalRefIdeal := FinalRefIdeal.Gen.facts) := by
  intro m g m' g' _ hargs
  refine ⟨fun c => full (m ((c.tc : Thread _ _).loc main_arg0)) (m ((c.tc : Thread _ _).loc main_arg1)), run m g, ?_⟩
  refine (θ_run (FinalRefIdeal.defs (F := Ideal)) _ _).mono (fun r h c => ?_) (FinalRefIdeal.Value.run (F := Ideal) m' g')
  obtain ⟨hv, h0, h1⟩ := h c
  refine ⟨hv.trans ?_, h0, h1⟩
  rw [(hargs c).1, (hargs c).2]
  exact (FinalRefIdeal.Read.val_main_v12_eq _ _).trans (ref_eq _ _)

/-- The reference's frame: its run, read at the arguments; it has no semaphore. -/
theorem frame_ref : Cert.quiescent_FinalRefIdeal (hFinalRefIdeal := FinalRefIdeal.Gen.facts) := fun m ρ _ =>
  (θ_run FinalRefIdeal.defs _ _).mono (fun r h => ⟨fun c => (h c).2, Idealize.ShloMosaic.sem_eq_zero_of_no_sems (by decide) r.2⟩)
    (FinalRefIdeal.Value.run (F := Ideal) m ρ)

end Cert.FinalProof

end
-- ==== Proof.FinalStepValue.lean ====
/-
  The model's last norm over the sample rows: the array the kernel leaves is every row divided by its root mean square and weighted.
-/
module

public import proofs.«01_k».proof.Defs
public import proofs.«01_k».proof.Proof.Products
public import proofs.«01_k».proof.Proof.Gen.FinalStepIdeal.Frame
public import proofs.«01_k».proof.Proof.Gen.FinalStepRefIdeal.Read
public import Idealize.ShloMosaic.Lib.Quiescent
public import Idealize.ShloMosaic.Lib.Pointwise

@[expose] public section

set_option maxRecDepth 16384

noncomputable section

namespace Cert.FinalStepProof

open Cert.FinalStepIdeal Cert.FinalStepIdeal.Gen Cert.Products
open Idealize.ShloMosaic hiding ix1 ix2 ix3 eq_ix2
open Idealize.ShloMosaic.TcCoe Idealize.ShloMosaic.ValueIdx Idealize.ShloMosaic.Tactic Idealize.SL.Sem
open Idealize.ShloMosaic.Pipeline (Dat)

variable (m : (ℓ : Loc nD τ sig) → Buf (Elt Ideal) ℓ)

/-- The body's one payload at an index: the row normalised. -/
theorem pay_apply (x : Vec Ideal S8x2048 .f32) (w : Vec Ideal S1x2048 .f32) (r : Fin 8) (k : Fin 2048) :
    k0_pay1 x w (ix2 r k) = normed (fun j => x (ix2 r j)) (fun j => w (ix2 0 j)) k := by
  pointwise [k0_pay1, normed]
  rfl

/-- The norm's weights as one row. -/
theorem V_v0 (c : Dev nD) (k : Fin 2048) : V m c main_v0 (ix2 0 k) = m ((c : Thread nD τ).loc main_arg1) (ix1 k) := by
  have e : V m c main_v0 = shapeCast S1x2048 (m ((c : Thread nD τ).loc main_arg1)) shapeCasts_S2048_S1x2048 := by
    funext j; rfl
  rw [e]
  refine shapeCast_apply (s := S2048) _ _ _ _ ?_
  rw [Shape.rowMajor_val_one, Shape.rowMajor_val_two]; show k.val = 0 * 2048 + k.val; omega

/-- Which block each window is on at a point. -/
theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

/-- Every row normalised by its root mean square and weighted. -/
def full (x : S8x2048.Idx → EReal) (w : S2048.Idx → EReal) : S8x2048.Idx → EReal :=
  fun i => normed (fun j => x (ix2 (i 0) j)) (fun j => w (ix1 j)) (i 1)

/-- The array the kernel leaves. -/
theorem final (c : Dev nD) : (dats m 0 c).arrAt 2 cfg0.N
    = full (m ((c : Thread nD τ).loc main_arg0)) (m ((c : Thread nD τ).loc main_arg1)) := by
  refine (dats m 0 c).arrAt_eq_of_covers 2 _ (by decide +kernel) fun t hf y => ?_
  blk_simp
  rw [after0_2]
  frame_out
  obtain ⟨r, q, rfl⟩ : ∃ (r : Fin 8) (q : Fin 2048), y = ix2 r q := ⟨y 0, y 1, eq_ix2 y⟩
  have ht : t.val < 1 := t.isLt
  have e : ((View.whole main_v1).slice (win0_2.rect t)).emb (ix2 r q)
      = (ix2 ⟨t.val * 8 + r.val, by have := r.isLt; omega⟩ q : S8x2048.Idx) := by
    blk_ext [idx2, ix2_0, ix2_1]
  rw [pay_apply, e]
  refine congrFun (congrArg₂ normed (funext fun j => ?_) (funext fun j => ?_)) q
  · blk_simp [iblk]
    rw [V_main_arg0]
    refine congrArg _ ?_
    blk_ext [idx0, ix2_0, ix2_1]
  · refine Eq.trans ?_ (V_v0 m c j)
    blk_simp [iblk]
    refine congrArg (V m c main_v0) ?_
    blk_ext [idx1, ix2_0, ix2_1]

/-- The run, read: the result at the normalised rows, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v1) = full (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun r h c => ?_) (θ_run_and (run_main m ρ) (Gen.frame m ρ))
  exact ⟨(h.1.out_eq c 2).trans (final m c), h.2.1 c⟩

/-- The reference's last value is the same function. -/
theorem ref_eq (x : S8x2048.Idx → EReal) (w : S2048.Idx → EReal) :
    FinalStepRefIdeal.Read.val_main_v12 (F := Ideal) x w = full x w := by
  funext i
  obtain ⟨r, k, rfl⟩ : ∃ (r : Fin 8) (k : Fin 2048), i = ix2 r k := ⟨i 0, i 1, eq_ix2 i⟩
  pointwise [FinalStepRefIdeal.Read.val_main_v12, FinalStepRefIdeal.Read.val_main_v11, FinalStepRefIdeal.Read.val_main_v10, FinalStepRefIdeal.Read.val_main_v9,
    FinalStepRefIdeal.Read.val_main_v8, FinalStepRefIdeal.Read.val_main_v7, FinalStepRefIdeal.Read.val_main_v6, FinalStepRefIdeal.Read.val_main_v5,
    FinalStepRefIdeal.Read.val_main_v4, FinalStepRefIdeal.Read.val_main_v3, FinalStepRefIdeal.Read.val_main_v2, FinalStepRefIdeal.Read.val_main_v1,
    FinalStepRefIdeal.Read.val_main_v0, FinalStepRefIdeal.Read.val_main_cst, FinalStepRefIdeal.Read.val_main_cst_0, FinalStepRefIdeal.Read.val_main_cst_1, full, normed]
  rfl

/-- Kernel and reference run, and from equal arguments end at the same array. -/
theorem algebraic : Cert.algebraic_FinalStepIdeal_FinalStepRefIdeal (hFinalStepIdeal := FinalStepIdeal.Gen.facts) (hFinalStepRefIdeal := FinalStepRefIdeal.Gen.facts) := by
  intro m g m' g' _ hargs
  refine ⟨fun c => full (m ((c.tc : Thread _ _).loc main_arg0)) (m ((c.tc : Thread _ _).loc main_arg1)), run m g, ?_⟩
  refine (θ_run (FinalStepRefIdeal.defs (F := Ideal)) _ _).mono (fun r h c => ?_) (FinalStepRefIdeal.Value.run (F := Ideal) m' g')
  obtain ⟨hv, h0, h1⟩ := h c
  refine ⟨hv.trans ?_, h0, h1⟩
  rw [(hargs c).1, (hargs c).2]
  exact (FinalStepRefIdeal.Read.val_main_v12_eq _ _).trans (ref_eq _ _)

/-- The reference's frame: its run, read at the arguments; it has no semaphore. -/
theorem frame_ref : Cert.quiescent_FinalStepRefIdeal (hFinalStepRefIdeal := FinalStepRefIdeal.Gen.facts) := fun m ρ _ =>
  (θ_run FinalStepRefIdeal.defs _ _).mono (fun r h => ⟨fun c => (h c).2, Idealize.ShloMosaic.sem_eq_zero_of_no_sems (by decide) r.2⟩)
    (FinalStepRefIdeal.Value.run (F := Ideal) m ρ)

end Cert.FinalStepProof

end
-- ==== Proof.MlstmStepForm.lean ====
/-
  One token of the matrix memory's recurrence in closed form: gates in log space held against a running maximum, the memory and
  its normaliser moved on, and the token's normalised and gated reading of them.
-/
module

public import proofs.«01_k».proof.Defs
public import proofs.«01_k».proof.Proof.Gen.MlstmStepRefIdeal.Read
public import Idealize.ShloMosaic.Lib.Pointwise

@[expose] public section

set_option maxRecDepth 16384

noncomputable section

namespace Cert.MlstmStepForm

open Idealize.ShloMosaic hiding ix1 ix2 ix3 eq_ix2
open Idealize.ShloMosaic.ValueIdx
open Cert.MlstmStepRefIdeal Cert.MlstmStepRefIdeal.Read

/-- The call's inputs by sample and head: query, key and value, the output gate's argument, the input and the forget gate's
    arguments, the norm's weights, and the memory, its normaliser and the running maximum as they were. -/
structure In where
  q : Fin 8 → Fin 8 → Fin 64 → EReal
  k : Fin 8 → Fin 8 → Fin 64 → EReal
  v : Fin 8 → Fin 8 → Fin 128 → EReal
  og : Fin 8 → Fin 8 → Fin 128 → EReal
  li : Fin 8 → Fin 8 → EReal
  fg : Fin 8 → Fin 8 → EReal
  w : Fin 8 → Fin 128 → EReal
  c : Fin 8 → Fin 8 → Fin 64 → Fin 128 → EReal
  n : Fin 8 → Fin 8 → Fin 64 → EReal
  m : Fin 8 → Fin 8 → EReal

/-- The logarithm of a logistic function. -/
def logSigmoid (x : EReal) : EReal :=
  -(max (-x) 0 + Ideal.log1p (Ideal.exp (-max (-x) (- -x))))

namespace In

variable (a : In) (b h : Fin 8)

/-- The old maximum after the forget gate. -/
def inter : EReal := logSigmoid (a.fg b h) + a.m b h
/-- The new maximum. -/
def mNew : EReal := max (a.inter b h) (a.li b h)
/-- The weight of what was stored. -/
def wc : EReal := Ideal.exp (a.inter b h - a.mNew b h)
/-- The weight of the token. -/
def ws : EReal := Ideal.exp (a.li b h - a.mNew b h)
/-- The scaled key. -/
def ks (d : Fin 64) : EReal := a.k b h d * Ideal.ofBits .f32 0x3E000000#32
/-- The query's product with the token's own key, weighted. -/
def s : EReal := (∑ d : Fin 64, a.q b h d * a.ks b h d) * a.ws b h
/-- The memory moved on. -/
def cNew (d : Fin 64) (e : Fin 128) : EReal := a.wc b h * a.c b h d e + a.ws b h * a.ks b h d * a.v b h e
/-- The normaliser moved on. -/
def nNew (d : Fin 64) : EReal := a.wc b h * a.n b h d + a.ws b h * a.ks b h d
/-- The reading before its normaliser. -/
def num (e : Fin 128) : EReal := a.wc b h * (∑ d : Fin 64, a.q b h d * a.c b h d e) + a.s b h * a.v b h e
/-- The reading's normaliser. -/
def den : EReal := a.wc b h * (∑ d : Fin 64, a.q b h d * a.n b h d) + a.s b h
/-- The reading. -/
def hh (e : Fin 128) : EReal :=
  Ideal.div (a.num b h e) (max (max (a.den b h) (-a.den b h)) (Ideal.exp (-a.mNew b h)))
/-- The reading divided by its root mean square, weighted, and gated. -/
def hOut (e : Fin 128) : EReal :=
  a.hh b h e * Ideal.rsqrt (Ideal.div (∑ j : Fin 128, a.hh b h j * a.hh b h j) (Ideal.ofBits .f32 0x43000000#32)
      + Ideal.ofBits .f32 0x358637BD#32) * a.w h e
    * Ideal.div 1 (1 + Ideal.exp (-a.og b h e))

end In

section arrays

variable (x0 : S8x6144.Idx → EReal) (x1 : S8x128.Idx → EReal) (x2 x3 : S8.Idx → EReal) (x4 : S1024.Idx → EReal)
  (x5 : S8x8x64x128.Idx → EReal) (x6 : S8x8x64.Idx → EReal) (x7 : S8x8.Idx → EReal)

/-- The inputs read from the call's arguments. -/
def ofArgs : In where
  q b h d := x0 (ix2 b ⟨h.val * 64 + d.val, by omega⟩)
  k b h d := x0 (ix2 b ⟨512 + (h.val * 64 + d.val), by omega⟩)
  v b h e := x0 (ix2 b ⟨1024 + (h.val * 128 + e.val), by omega⟩)
  og b h e := x0 (ix2 b ⟨2048 + (h.val * 128 + e.val), by omega⟩)
  li b h := x1 (ix2 b ⟨h.val, by omega⟩) + x2 (ix1 h)
  fg b h := x1 (ix2 b ⟨8 + h.val, by omega⟩) + x3 (ix1 h)
  w h e := x4 (ix1 ⟨h.val * 128 + e.val, by omega⟩)
  c b h d e := x5 (ValueIdx.ix4 b h d e)
  n b h d := x6 (ix3 b h d)
  m b h := x7 (ix2 b h)

/-- The rows of readings. -/
def hArr (a : In) : S8x1024.Idx → EReal := fun i =>
  a.hOut (i 0) ⟨(i 1).val / 128, Nat.div_lt_of_lt_mul (i 1).isLt⟩ ⟨(i 1).val % 128, Nat.mod_lt _ (by decide)⟩
/-- The memories. -/
def cArr (a : In) : S8x8x64x128.Idx → EReal := fun i => a.cNew (i 0) (i 1) (i 2) (i 3)
/-- The normalisers. -/
def nArr (a : In) : S8x8x64.Idx → EReal := fun i => a.nNew (i 0) (i 1) (i 2)
/-- The maxima, the lanes after the heads at zero. -/
def mArr (a : In) : S8x128.Idx → EReal := fun i =>
  if hq : (i 1).val < 8 then a.mNew (i 0) ⟨(i 1).val, hq⟩ else 0

/-- The reference's forget gate. -/
theorem ref_lf (b h : Fin 8) :
    val_main_v17 (F := Ideal) x1 x3 (ix2 b h) = logSigmoid ((ofArgs x0 x1 x2 x3 x4 x5 x6 x7).fg b h) := by
  pointwise [val_main_v17, val_main_call0_v1, val_main_call0_call0_v11, val_main_call0_call0_v10, val_main_call0_call0_v9, val_main_call0_call0_v8,
    val_main_call0_call0_v7, val_main_call0_call0_v6, val_main_call0_call0_v5, val_main_call0_call0_v4, val_main_call0_call0_v3,
    val_main_call0_call0_v2, val_main_call0_call0_v1, val_main_call0_call0_v0, val_main_call0_call0_cst, val_main_call0_v0,
    val_main_v16, val_main_v15, val_main_v14, val_main_v13, logSigmoid, ofArgs]
  rw [if_neg (not_not.mpr rfl)]
  rfl

/-- Its maximum. -/
theorem ref_m (b h : Fin 8) :
    val_main_v19 (F := Ideal) x1 x2 x3 x7 (ix2 b h) = (ofArgs x0 x1 x2 x3 x4 x5 x6 x7).mNew b h := by
  unfold In.mNew In.inter
  rw [← ref_lf]
  pointwise [val_main_v19, val_main_v18, val_main_v12, val_main_v11, val_main_v10, val_main_v9, ofArgs]
  rfl

/-- Its weights. -/
theorem ref_wc (b h : Fin 8) :
    val_main_v25 (F := Ideal) x1 x2 x3 x7 (ix2 b h) = (ofArgs x0 x1 x2 x3 x4 x5 x6 x7).wc b h := by
  unfold In.wc In.inter
  rw [← ref_m, ← ref_lf]
  pointwise [val_main_v25, val_main_v24, val_main_v18, ofArgs]
theorem ref_ws (b h : Fin 8) :
    val_main_v22 (F := Ideal) x1 x2 x3 x7 (ix2 b h) = (ofArgs x0 x1 x2 x3 x4 x5 x6 x7).ws b h := by
  unfold In.ws
  rw [← ref_m]
  pointwise [val_main_v22, val_main_v21, val_main_v12, val_main_v11, val_main_v10, val_main_v9, ofArgs]
  rfl

/-- Its scaled key. -/
theorem ref_ks (b h : Fin 8) (d : Fin 64) :
    val_main_v5 (F := Ideal) x0 (ix3 b h d) = (ofArgs x0 x1 x2 x3 x4 x5 x6 x7).ks b h d := by
  pointwise [val_main_v5, val_main_v4, val_main_cst, val_main_v3, val_main_v2, In.ks, ofArgs]
  rfl

/-- Its memory. -/
theorem ref_c : val_main_v62 (F := Ideal) x0 x1 x2 x3 x5 x7 = cArr (ofArgs x0 x1 x2 x3 x4 x5 x6 x7) := by
  funext i
  obtain ⟨b, h, d, e, rfl⟩ : ∃ (b h : Fin 8) (d : Fin 64) (e : Fin 128), i = ValueIdx.ix4 b h d e := ⟨i 0, i 1, i 2, i 3, ValueIdx.eq_ix4 i⟩
  show _ = In.cNew _ b h d e
  unfold In.cNew
  rw [← ref_wc, ← ref_ws, ← ref_ks]
  pointwise [val_main_v62, val_main_v61, val_main_v60, val_main_v59, val_main_v58, val_main_v57, val_main_v56, val_main_v55, val_main_v54,
    val_main_v53, val_main_v52, val_main_v51, val_main_v7, val_main_v6, ofArgs]
  rfl

/-- Its normaliser. -/
theorem ref_n : val_main_v69 (F := Ideal) x0 x1 x2 x3 x6 x7 = nArr (ofArgs x0 x1 x2 x3 x4 x5 x6 x7) := by
  funext i
  obtain ⟨b, h, d, rfl⟩ : ∃ (b h : Fin 8) (d : Fin 64), i = ix3 b h d := ⟨i 0, i 1, i 2, ValueIdx.eq_ix3 i⟩
  show _ = In.nNew _ b h d
  unfold In.nNew
  rw [← ref_wc, ← ref_ws, ← ref_ks]
  pointwise [val_main_v69, val_main_v68, val_main_v67, val_main_v66, val_main_v65, val_main_v64, val_main_v63, ofArgs]
  rfl

/-- Its row of maxima. -/
theorem ref_mArr : val_main_v93 (F := Ideal) x1 x2 x3 x7 = mArr (ofArgs x0 x1 x2 x3 x4 x5 x6 x7) := by
  funext i
  obtain ⟨b, q, rfl⟩ : ∃ (b : Fin 8) (q : Fin 128), i = ix2 b q := ⟨i 0, i 1, eq_ix2 i⟩
  show _ = if hq : q.val < 8 then In.mNew _ b ⟨q.val, hq⟩ else 0
  simp only [← ref_m]
  pointwise [val_main_v93, val_main_v92, val_main_cst_5]
  rfl

/-- Its reading. -/
theorem ref_hh (b h : Fin 8) (e : Fin 128) :
    val_main_v43 (F := Ideal) x0 x1 x2 x3 x5 x6 x7 (ix3 b h e) = (ofArgs x0 x1 x2 x3 x4 x5 x6 x7).hh b h e := by
  unfold In.hh In.num In.den In.s
  rw [← ref_wc, ← ref_ws, ← ref_m]
  simp only [← ref_ks]
  pointwise [val_main_v43, val_main_v42, val_main_v41, val_main_v40, val_main_v39, val_main_v38, val_main_v37, val_main_v36, val_main_v35,
    val_main_v34, val_main_v33, val_main_v32, val_main_v31, val_main_v30, val_main_v29, val_main_v28, val_main_v27, val_main_v26,
    val_main_v23, val_main_v20, val_main_v7, val_main_v6, val_main_v1, val_main_v0, ofArgs]
  rfl

/-- Its normalised reading. -/
theorem ref_normed (b h : Fin 8) (e : Fin 128) :
    val_main_v83 (F := Ideal) x0 x1 x2 x3 x4 x5 x6 x7 (ix3 b h e)
      = (ofArgs x0 x1 x2 x3 x4 x5 x6 x7).hh b h e * Ideal.rsqrt (Ideal.div (∑ j : Fin 128,
            (ofArgs x0 x1 x2 x3 x4 x5 x6 x7).hh b h j * (ofArgs x0 x1 x2 x3 x4 x5 x6 x7).hh b h j) (Ideal.ofBits .f32 0x43000000#32)
          + Ideal.ofBits .f32 0x358637BD#32) * (ofArgs x0 x1 x2 x3 x4 x5 x6 x7).w h e := by
  simp only [← ref_hh]
  pointwise [val_main_v83, val_main_v82, val_main_v81, val_main_v80, val_main_v79, val_main_v78, val_main_v77, val_main_v76, val_main_cst_2,
    val_main_v75, val_main_v74, val_main_cst_1, val_main_v73, val_main_v72, val_main_cst_0, val_main_v71, val_main_v70, ofArgs]
  rfl

/-- Its rows of readings. -/
theorem ref_h : val_main_v91 (F := Ideal) x0 x1 x2 x3 x4 x5 x6 x7 = hArr (ofArgs x0 x1 x2 x3 x4 x5 x6 x7) := by
  funext i
  obtain ⟨b, q, rfl⟩ : ∃ (b : Fin 8) (q : Fin 1024), i = ix2 b q := ⟨i 0, i 1, eq_ix2 i⟩
  show _ = In.hOut _ b ⟨q.val / 128, Nat.div_lt_of_lt_mul q.isLt⟩ ⟨q.val % 128, Nat.mod_lt _ (by decide)⟩
  unfold In.hOut
  rw [← ref_normed]
  have e : q.val / 128 * 128 + q.val % 128 = q.val := by omega
  have eo : (ofArgs x0 x1 x2 x3 x4 x5 x6 x7).og b ⟨q.val / 128, Nat.div_lt_of_lt_mul q.isLt⟩ ⟨q.val % 128, Nat.mod_lt _ (by decide)⟩
      = x0 (ix2 b ⟨2048 + q.val, by omega⟩) :=
    congrArg (fun k => x0 (ix2 b k)) (Fin.ext (by show 2048 + (q.val / 128 * 128 + q.val % 128) = 2048 + q.val; omega))
  rw [eo]
  pointwise [val_main_v91, val_main_v90, val_main_v89, val_main_cst_4, val_main_v88, val_main_v87, val_main_cst_3, val_main_v86, val_main_v85,
    val_main_v84, val_main_v8]
  rfl

end arrays

end Cert.MlstmStepForm

end
-- ==== Proof.MlstmStepBody.lean ====
/-
  One token of the matrix memory's recurrence: what one head of the kernel's body computes, in its own operations, and that each
  of its entries is the closed form's; a row is turned into a column there by a sum along a diagonal.
-/
module

public import proofs.«01_k».proof.Defs
public import proofs.«01_k».proof.Proof.MlstmStepForm
public import proofs.«01_k».proof.Proof.Gen.MlstmStepIdeal.Frame
public import Idealize.ShloMosaic.Lib.Quiescent
public import Idealize.ShloMosaic.Lib.Pointwise

@[expose] public section

set_option maxRecDepth 16384

noncomputable section

namespace Cert.MlstmStepBody

open Cert.MlstmStepIdeal Cert.MlstmStepIdeal.Gen Cert.MlstmStepForm
open Idealize.ShloMosaic hiding ix1 ix2 ix3 eq_ix2
open Idealize.ShloMosaic.TcCoe Idealize.ShloMosaic.ValueIdx Idealize.ShloMosaic.Tactic Idealize.SL.Sem
open Idealize.ShloMosaic.Pipeline (Dat)

/-! ### One head of the body, as vectors -/

section vectors

variable (x0 x1 : Vec Ideal S8x512 .f32) (x2 x3 : Vec Ideal S8x1024 .f32) (x4 : Vec Ideal S8x128 .f32) (x5 : Vec Ideal S1x128 .f32)
  (x6 : Vec Ideal S1x1024 .f32) (x7 : Vec Ideal S8x8x64x128 .f32) (x8 : Vec Ideal S8x8x64 .f32) (x9 : Vec Ideal S8x8 .f32)

theorem slices_gate {o : ℕ} (ho : o < 128) : S8x128.Slices ![0, o] S8x1 :=
  ⟨rfl, fun a => by match a with | ⟨0, _⟩ => exact le_refl _ | ⟨1, _⟩ => show o + 1 ≤ 128; omega⟩
theorem slices_col {b : ℕ} (hb : b < 8) : S8x1.Slices ![b, 0] S1x1 :=
  ⟨rfl, fun a => by match a with | ⟨0, _⟩ => show b + 1 ≤ 8; omega | ⟨1, _⟩ => exact le_refl _⟩
theorem slices_key {b : ℕ} (hb : b < 8) : S8x64.Slices ![b, 0] S1x64 :=
  ⟨rfl, fun a => by match a with | ⟨0, _⟩ => show b + 1 ≤ 8; omega | ⟨1, _⟩ => exact le_refl _⟩
theorem slices_value {b : ℕ} (hb : b < 8) : S8x128.Slices ![b, 0] S1x128 :=
  ⟨rfl, fun a => by match a with | ⟨0, _⟩ => show b + 1 ≤ 8; omega | ⟨1, _⟩ => exact le_refl _⟩

/-- The gates' arguments. -/
def gates : FVec Ideal S8x128 .f32 := k0_pay2 (View.ld x4 r0_0) (View.ld x5 r0_1)

/-- The zero column. -/
def zeros : FVec Ideal S8x1 .f32 := broadcast S8x1 (Scalar.ofBits .f32 0x00000000#32)

/-- The sum along the diagonal that turns a row into a column. -/
def column (v : FVec Ideal S1x64 .f32) : FVec Ideal S64x1 .f32 :=
  shapeCast S64x1 (multiReduction .add [1] S64
    (select (cmpi .eq (iota .tc S64x64 32 [0] iota_S64x64_d0_w32) (iota .tc S64x64 32 [1] iota_S64x64_d1_w32))
      (broadcastTo S64x64 (shapeCast S1x64 v shapeCasts_S1x64_S1x64) broadcasts_S1x64_S64x64)
      (broadcast S64x64 (Scalar.ofBits .f32 0x00000000#32))) 0x00000000#32 reduces_S64x64_S64 (.inl rfl) rfl) shapeCasts_S64_S64x1

theorem inb_max {h : ℕ} (hh : h < 8) : ∀ a, (![0, h] : Fin 2 → ℕ) a + S8x1.size a ≤ S8x8.size a := fun a => by
  match a with | ⟨0, _⟩ => exact le_refl _ | ⟨1, _⟩ => show h + 1 ≤ 8; omega
theorem inb_key {h : ℕ} (hh : h < 8) : ∀ a, (![0, 64 * h] : Fin 2 → ℕ) a + S8x64.size a ≤ S8x512.size a := fun a => by
  match a with | ⟨0, _⟩ => exact le_refl _ | ⟨1, _⟩ => show 64 * h + 64 ≤ 512; omega
theorem inb_value {h : ℕ} (hh : h < 8) : ∀ a, (![0, 128 * h] : Fin 2 → ℕ) a + S8x128.size a ≤ S8x1024.size a := fun a => by
  match a with | ⟨0, _⟩ => exact le_refl _ | ⟨1, _⟩ => show 128 * h + 128 ≤ 1024; omega
theorem inb_weight {h : ℕ} (hh : h < 8) : ∀ a, (![0, 128 * h] : Fin 2 → ℕ) a + S1x128.size a ≤ S1x1024.size a := fun a => by
  match a with | ⟨0, _⟩ => exact le_refl _ | ⟨1, _⟩ => show 128 * h + 128 ≤ 1024; omega
theorem inb_norm {h : ℕ} (hh : h < 8) : ∀ a, (![0, h, 0] : Fin 3 → ℕ) a + S8x1x64.size a ≤ S8x8x64.size a := fun a => by
  match a with | ⟨0, _⟩ => exact le_refl _ | ⟨1, _⟩ => show h + 1 ≤ 8; omega | ⟨2, _⟩ => exact le_refl _
theorem inb_mem {h : ℕ} (hh : h < 8) {b : ℕ} (hb : b < 8) : ∀ a, (![b, h, 0, 0] : Fin 4 → ℕ) a + S1x1x64x128.size a ≤ S8x8x64x128.size a := fun a => by
  match a with
  | ⟨0, _⟩ => show b + 1 ≤ 8; omega
  | ⟨1, _⟩ => show h + 1 ≤ 8; omega
  | ⟨2, _⟩ => exact le_refl _
  | ⟨3, _⟩ => exact le_refl _

/-- The body's inputs by sample and head. -/
def ofBlocks : In where
  q b h d := x0 (ix2 b ⟨64 * h.val + d.val, by omega⟩)
  k b h d := x1 (ix2 b ⟨64 * h.val + d.val, by omega⟩)
  v b h e := x2 (ix2 b ⟨128 * h.val + e.val, by omega⟩)
  og b h e := x3 (ix2 b ⟨128 * h.val + e.val, by omega⟩)
  li b h := x4 (ix2 b ⟨h.val, by omega⟩) + x5 (ix2 0 ⟨h.val, by omega⟩)
  fg b h := x4 (ix2 b ⟨8 + h.val, by omega⟩) + x5 (ix2 0 ⟨8 + h.val, by omega⟩)
  w h e := x6 (ix2 0 ⟨128 * h.val + e.val, by omega⟩)
  c b h d e := x7 (ValueIdx.ix4 b h d e)
  n b h d := x8 (ix3 b h d)
  m b h := x9 (ix2 b h)

variable {h : ℕ} (hh : h < 8)

/-- The input gate's argument. -/
def liV : FVec Ideal S8x1 .f32 := extractStridedSlice S8x1 ![0, h] (gates x4 x5) (slices_gate (by omega))
/-- The forget gate's argument, negated. -/
def nfV : FVec Ideal S8x1 .f32 := subf zeros (extractStridedSlice S8x1 ![0, 8 + h] (gates x4 x5) (slices_gate (by omega)))
/-- The logarithm of the forget gate. -/
def lfV : FVec Ideal S8x1 .f32 :=
  subf zeros (addf (maximumf (nfV x4 x5 hh) zeros) (log1p (exp (subf zeros (absf (nfV x4 x5 hh))))))
/-- The old maximum after the forget gate, and the new one. -/
def interV : FVec Ideal S8x1 .f32 := addf (lfV x4 x5 hh) (View.ld x9 (Rect.unit (s := S8x8) ![0, h] S8x1.size (inb_max hh)))
def maxV : FVec Ideal S8x1 .f32 := maximumf (interV x4 x5 x9 hh) (liV x4 x5 hh)
/-- The weight of what was stored, and of the token. -/
def wcV : FVec Ideal S8x1 .f32 := exp (subf (interV x4 x5 x9 hh) (maxV x4 x5 x9 hh))
def wsV : FVec Ideal S8x1 .f32 := exp (subf (liV x4 x5 hh) (maxV x4 x5 x9 hh))
/-- The query, the scaled key and the value. -/
def qV : FVec Ideal S8x64 .f32 := View.ld x0 (Rect.unit (s := S8x512) ![0, 64 * h] S8x64.size (inb_key hh))
def kV : FVec Ideal S8x64 .f32 :=
  mulf (View.ld x1 (Rect.unit (s := S8x512) ![0, 64 * h] S8x64.size (inb_key hh)) : FVec Ideal S8x64 .f32)
    (broadcast S8x64 (Scalar.ofBits .f32 0x3E000000#32))
def vV : FVec Ideal S8x128 .f32 := View.ld x2 (Rect.unit (s := S8x1024) ![0, 128 * h] S8x128.size (inb_value hh))
/-- The query's product with the token's own key, weighted. -/
def sV : FVec Ideal S8x1 .f32 :=
  mulf (shapeCast S8x1 (multiReduction .add [1] S8 (mulf (qV x0 hh) (kV x1 hh)) 0x00000000#32 reduces_S8x64_S8 (.inl rfl) rfl) shapeCasts_S8_S8x1)
    (wsV x4 x5 x9 hh)
/-- The weighted key. -/
def kwV : FVec Ideal S8x64 .f32 := mulf (kV x1 hh) (broadcastTo S8x64 (wsV x4 x5 x9 hh) broadcasts_S8x1_S8x64)
/-- The old normaliser. -/
def nV : FVec Ideal S8x64 .f32 :=
  shapeCast S8x64 (View.ld x8 (Rect.unit (s := S8x8x64) ![0, h, 0] S8x1x64.size (inb_norm hh)) : FVec Ideal S8x1x64 .f32) shapeCasts_S8x1x64_S8x64
/-- A sample's old memory. -/
def cV {b : ℕ} (hb : b < 8) : FVec Ideal S64x128 .f32 :=
  shapeCast S64x128 (View.ld x7 (Rect.unit (s := S8x8x64x128) ![b, h, 0, 0] S1x1x64x128.size (inb_mem hh hb)) : FVec Ideal S1x1x64x128 .f32)
    shapeCasts_S1x1x64x128_S64x128
/-- A sample's query times its old memory. -/
def qcV {b : ℕ} (hb : b < 8) : FVec Ideal S1x128 .f32 :=
  shapeCast S1x128 (multiReduction .add [0] S128
    (mulf (broadcastTo S64x128 (column (extractStridedSlice S1x64 ![b, 0] (qV x0 hh) (slices_key hb))) broadcasts_S64x1_S64x128) (cV x7 hh hb))
    0x00000000#32 reduces_S64x128_S128 (.inl rfl) rfl) shapeCasts_S128_S1x128
/-- The eight samples' products, one below another. -/
def qcsV : FVec Ideal S8x128 .f32 :=
  concatenate S8x128 0 [⟨S1x128, qcV x0 x7 hh (b := 0) (by decide)⟩, ⟨S1x128, qcV x0 x7 hh (b := 1) (by decide)⟩,
    ⟨S1x128, qcV x0 x7 hh (b := 2) (by decide)⟩, ⟨S1x128, qcV x0 x7 hh (b := 3) (by decide)⟩, ⟨S1x128, qcV x0 x7 hh (b := 4) (by decide)⟩,
    ⟨S1x128, qcV x0 x7 hh (b := 5) (by decide)⟩, ⟨S1x128, qcV x0 x7 hh (b := 6) (by decide)⟩, ⟨S1x128, qcV x0 x7 hh (b := 7) (by decide)⟩]
    concatenates_S1x128_S1x128_S1x128_S1x128_S1x128_S1x128_S1x128_S1x128_S8x128_d0
/-- A sample's new memory. -/
def cNewV {b : ℕ} (hb : b < 8) : FVec Ideal S1x1x64x128 .f32 :=
  shapeCast S1x1x64x128
    (addf (mulf (broadcastTo S64x128 (extractStridedSlice S1x1 ![b, 0] (wcV x4 x5 x9 hh) (slices_col hb)) broadcasts_S1x1_S64x128) (cV x7 hh hb))
      (mulf (broadcastTo S64x128 (column (extractStridedSlice S1x64 ![b, 0] (kwV x1 x4 x5 x9 hh) (slices_key hb))) broadcasts_S64x1_S64x128)
        (broadcastTo S64x128 (extractStridedSlice S1x128 ![b, 0] (vV x2 hh) (slices_value hb)) broadcasts_S1x128_S64x128)))
    shapeCasts_S64x128_S1x1x64x128
/-- The new normaliser. -/
def nNewV : FVec Ideal S8x1x64 .f32 :=
  shapeCast S8x1x64 (addf (mulf (broadcastTo S8x64 (wcV x4 x5 x9 hh) broadcasts_S8x1_S8x64) (nV x8 hh)) (kwV x1 x4 x5 x9 hh)) shapeCasts_S8x64_S8x1x64
/-- The reading. -/
def numV : FVec Ideal S8x128 .f32 :=
  addf (mulf (broadcastTo S8x128 (wcV x4 x5 x9 hh) broadcasts_S8x1_S8x128) (qcsV x0 x7 hh))
    (mulf (broadcastTo S8x128 (sV x0 x1 x4 x5 x9 hh) broadcasts_S8x1_S8x128) (vV x2 hh))
def denV : FVec Ideal S8x1 .f32 :=
  addf (mulf (wcV x4 x5 x9 hh) (shapeCast S8x1 (multiReduction .add [1] S8 (mulf (qV x0 hh) (nV x8 hh)) 0x00000000#32 reduces_S8x64_S8 (.inl rfl) rfl) shapeCasts_S8_S8x1))
    (sV x0 x1 x4 x5 x9 hh)
def readV : FVec Ideal S8x128 .f32 :=
  divf (numV x0 x1 x2 x4 x5 x7 x9 hh)
    (broadcastTo S8x128 (maximumf (absf (denV x0 x1 x4 x5 x8 x9 hh)) (exp (subf zeros (maxV x4 x5 x9 hh)))) broadcasts_S8x1_S8x128)
/-- A reading divided by its root mean square, weighted, and gated. -/
def gatedV (r : FVec Ideal S8x128 .f32) : FVec Ideal S8x128 .f32 :=
  mulf
    (mulf (mulf r (broadcastTo S8x128 (rsqrt (addf
        (divf (shapeCast S8x1 (multiReduction .add [1] S8 (mulf r r) 0x00000000#32 reduces_S8x128_S8 (.inl rfl) rfl) shapeCasts_S8_S8x1)
          (broadcast S8x1 (Scalar.ofBits .f32 0x43000000#32)))
        (broadcast S8x1 (Scalar.ofBits .f32 0x358637BD#32)))) broadcasts_S8x1_S8x128))
      (broadcastTo S8x128 (shapeCast S1x128 (View.ld x6 (Rect.unit (s := S1x1024) ![0, 128 * h] S1x128.size (inb_weight hh)) : FVec Ideal S1x128 .f32)
        shapeCasts_S1x128_S1x128) broadcasts_S1x128_S8x128))
    (divf (broadcast S8x128 (Scalar.ofBits .f32 0x3F800000#32)) (addf (broadcast S8x128 (Scalar.ofBits .f32 0x3F800000#32))
      (exp (subf (broadcast S8x128 (Scalar.ofBits .f32 0x00000000#32))
        (View.ld x3 (Rect.unit (s := S8x1024) ![0, 128 * h] S8x128.size (inb_value hh)) : FVec Ideal S8x128 .f32)))))
/-- A head's maximum written in its lane. -/
def laneV (w : BitVec 32) (prev : FVec Ideal S8x128 .f32) : FVec Ideal S8x128 .f32 :=
  select (cmpi .eq (iota .tc S8x128 32 [1] iota_S8x128_d1_w32) (broadcast S8x128 w))
    (broadcastTo S8x128 (shapeCast S8x1 (maxV x4 x5 x9 hh) shapeCasts_S8x1_S8x1) broadcasts_S8x1_S8x128) prev

local notation "inp" => ofBlocks x0 x1 x2 x3 x4 x5 x6 x7 x8 x9

/-- A choice by the equality of two words. -/
theorem select_word (u w : BitVec 32) (a b : EReal) : Scalar.select (IntOp.cmpi .eq u w) a b = if u = w then a else b := by
  by_cases hw : u = w
  · rw [WordCmp.cmpi_eq_eq, if_pos hw, decide_eq_true hw]
    rfl
  · rw [WordCmp.cmpi_eq_eq, if_neg hw, decide_eq_false hw]
    rfl
theorem ofNat_eq_iff {a b : ℕ} (ha : a < 4096) (hb : b < 4096) : BitVec.ofNat 32 a = BitVec.ofNat 32 b ↔ a = b := by
  refine ⟨fun e => ?_, fun e => by rw [e]⟩
  have e' := congrArg BitVec.toNat e
  rw [BitVec.toNat_ofNat, BitVec.toNat_ofNat] at e'
  omega

theorem column_at (v : FVec Ideal S1x64 .f32) (d : Fin 64) : column v (ix2 d 0) = v (ix2 0 d) := by
  pointwise [column]
  refine (Finset.sum_congr rfl fun x _ => ?_).trans (Fintype.sum_eq_single (f := fun x : Fin 64 => if d = x then v (ix2 0 x) else 0) d ?_) |>.trans ?_
  · refine (select_word _ _ _ _).trans (if_congr ?_ rfl rfl)
    exact (ofNat_eq_iff (by omega) (by omega)).trans Fin.ext_iff.symm
  · intro x hx
    exact if_neg (Ne.symm hx)
  · exact if_pos rfl

theorem li_at (b : Fin 8) : liV x4 x5 hh (ix2 b 0) = (inp).li b ⟨h, hh⟩ := by
  pointwise [liV, gates, k0_pay2, ofBlocks]
  rfl
theorem lf_at (b : Fin 8) : lfV x4 x5 hh (ix2 b 0) = logSigmoid ((inp).fg b ⟨h, hh⟩) := by
  pointwise [lfV, nfV, zeros, gates, k0_pay2, logSigmoid, ofBlocks]
  simp only [zero_sub]
  rfl
theorem inter_at (b : Fin 8) : interV x4 x5 x9 hh (ix2 b 0) = (inp).inter b ⟨h, hh⟩ := by
  unfold In.inter
  rw [← lf_at]
  pointwise [interV, ofBlocks]
  rfl
theorem max_at (b : Fin 8) : maxV x4 x5 x9 hh (ix2 b 0) = (inp).mNew b ⟨h, hh⟩ := by
  unfold In.mNew
  rw [← inter_at, ← li_at]
  rfl
theorem wc_at (b : Fin 8) : wcV x4 x5 x9 hh (ix2 b 0) = (inp).wc b ⟨h, hh⟩ := by
  unfold In.wc
  rw [← inter_at, ← max_at]
  rfl
theorem ws_at (b : Fin 8) : wsV x4 x5 x9 hh (ix2 b 0) = (inp).ws b ⟨h, hh⟩ := by
  unfold In.ws
  rw [← li_at, ← max_at]
  rfl
theorem k_at (b : Fin 8) (d : Fin 64) : kV x1 hh (ix2 b d) = (inp).ks b ⟨h, hh⟩ d := by
  pointwise [kV, In.ks, ofBlocks]
  rfl
theorem q_at (b : Fin 8) (d : Fin 64) : qV x0 hh (ix2 b d) = (inp).q b ⟨h, hh⟩ d := by
  pointwise [qV, ofBlocks]
  rfl
theorem v_at (b : Fin 8) (e : Fin 128) : vV x2 hh (ix2 b e) = (inp).v b ⟨h, hh⟩ e := by
  pointwise [vV, ofBlocks]
  rfl
theorem n_at (b : Fin 8) (d : Fin 64) : nV x8 hh (ix2 b d) = (inp).n b ⟨h, hh⟩ d := by
  pointwise [nV, ofBlocks]
  rfl
theorem flat_at (v : FVec Ideal S1x1x64x128 .f32) (d : Fin 64) (e : Fin 128) :
    shapeCast S64x128 v shapeCasts_S1x1x64x128_S64x128 (ix2 d e) = v (ValueIdx.ix4 0 0 d e) := by
  pointwise []
  rfl
theorem c_at (b : Fin 8) (d : Fin 64) (e : Fin 128) : cV x7 hh b.isLt (ix2 d e) = (inp).c b ⟨h, hh⟩ d e := by
  refine (flat_at _ d e).trans (congrArg x7 (funext fun a => Fin.ext ?_))
  match a with
  | ⟨0, _⟩ => exact Nat.add_zero _
  | ⟨1, _⟩ => exact Nat.add_zero _
  | ⟨2, _⟩ => show 0 + 1 * d.val = d.val; omega
  | ⟨3, _⟩ => show 0 + 1 * e.val = e.val; omega
theorem s_at (b : Fin 8) : sV x0 x1 x4 x5 x9 hh (ix2 b 0) = (inp).s b ⟨h, hh⟩ := by
  unfold In.s
  rw [← ws_at]
  refine Eq.trans ?_ (congrArg (· * wsV x4 x5 x9 hh (ix2 b 0)) (Finset.sum_congr rfl fun d _ =>
    congrArg₂ (· * ·) (q_at x0 x1 x2 x3 x4 x5 x6 x7 x8 x9 hh b d) (k_at x0 x1 x2 x3 x4 x5 x6 x7 x8 x9 hh b d)))
  pointwise [sV]
  rfl
theorem kw_at (b : Fin 8) (d : Fin 64) : kwV x1 x4 x5 x9 hh (ix2 b d) = (inp).ws b ⟨h, hh⟩ * (inp).ks b ⟨h, hh⟩ d := by
  rw [mul_comm]
  simp only [← k_at, ← ws_at]
  pointwise [kwV]
  rfl
theorem qc_at (b : Fin 8) (e : Fin 128) :
    qcV x0 x7 hh b.isLt (ix2 0 e) = ∑ d : Fin 64, (inp).q b ⟨h, hh⟩ d * (inp).c b ⟨h, hh⟩ d e := by
  have ec (d : Fin 64) : (inp).q b ⟨h, hh⟩ d
      = column (extractStridedSlice S1x64 ![b.val, 0] (qV x0 hh) (slices_key b.isLt)) (ix2 d 0) := by
    rw [column_at, ← q_at]
    pointwise []
    rfl
  simp only [ec, ← c_at]
  pointwise [qcV]
  rfl
theorem qcs_at (b : Fin 8) (e : Fin 128) :
    qcsV x0 x7 hh (ix2 b e) = ∑ d : Fin 64, (inp).q b ⟨h, hh⟩ d * (inp).c b ⟨h, hh⟩ d e := by
  rw [← qc_at]
  fin_cases b <;> rfl
theorem cNew_at (b : Fin 8) (d : Fin 64) (e : Fin 128) :
    cNewV x1 x2 x4 x5 x7 x9 hh b.isLt (ValueIdx.ix4 0 0 d e) = (inp).cNew b ⟨h, hh⟩ d e := by
  have ec : (inp).ws b ⟨h, hh⟩ * (inp).ks b ⟨h, hh⟩ d
      = column (extractStridedSlice S1x64 ![b.val, 0] (kwV x1 x4 x5 x9 hh) (slices_key b.isLt)) (ix2 d 0) := by
    rw [column_at, ← kw_at]
    pointwise []
    rfl
  unfold In.cNew
  rw [ec, ← c_at, ← v_at, ← wc_at]
  pointwise [cNewV]
  rfl
theorem nNew_at (b : Fin 8) (d : Fin 64) : nNewV x1 x4 x5 x8 x9 hh (ix3 b 0 d) = (inp).nNew b ⟨h, hh⟩ d := by
  unfold In.nNew
  rw [← kw_at, ← n_at, ← wc_at]
  pointwise [nNewV]
  rfl
theorem num_at (b : Fin 8) (e : Fin 128) : numV x0 x1 x2 x4 x5 x7 x9 hh (ix2 b e) = (inp).num b ⟨h, hh⟩ e := by
  unfold In.num
  rw [← qcs_at, ← wc_at, ← s_at, ← v_at]
  pointwise [numV]
  rfl
theorem den_at (b : Fin 8) : denV x0 x1 x4 x5 x8 x9 hh (ix2 b 0) = (inp).den b ⟨h, hh⟩ := by
  unfold In.den
  simp only [← q_at, ← n_at, ← wc_at, ← s_at]
  pointwise [denV]
  rfl
theorem read_at (b : Fin 8) (e : Fin 128) : readV x0 x1 x2 x4 x5 x7 x8 x9 hh (ix2 b e) = (inp).hh b ⟨h, hh⟩ e := by
  unfold In.hh
  rw [← num_at, ← den_at, ← max_at]
  pointwise [readV, zeros]
  simp only [zero_sub]
  rfl
theorem gated_at (b : Fin 8) (e : Fin 128) :
    gatedV x3 x6 hh (readV x0 x1 x2 x4 x5 x7 x8 x9 hh) (ix2 b e) = (inp).hOut b ⟨h, hh⟩ e := by
  unfold In.hOut
  simp only [← read_at]
  pointwise [gatedV, ofBlocks]
  simp only [zero_sub]
  rfl

theorem lane_at (prev : FVec Ideal S8x128 .f32) (b : Fin 8) (q : Fin 128) :
    laneV x4 x5 x9 hh (BitVec.ofNat 32 h) prev (ix2 b q) = if q.val = h then (inp).mNew b ⟨h, hh⟩ else prev (ix2 b q) := by
  rw [← max_at]
  pointwise [laneV]
  refine (select_word _ _ _ _).trans (if_congr ?_ rfl rfl)
  exact ofNat_eq_iff (by omega) (by omega)

end vectors

end Cert.MlstmStepBody

end
-- ==== Proof.MlstmStepValue.lean ====
/-
  One token of the matrix memory's recurrence: what the kernel's body stores, piece by piece, is the closed form of its blocks;
  the blocks are the call's arguments; so kernel and reference leave the same four arrays.
-/
module

public import proofs.«01_k».proof.Defs
public import proofs.«01_k».proof.Proof.MlstmStepBody
public import proofs.«01_k».proof.Proof.Gen.MlstmStep.Frame
public import proofs.«01_k».proof.Proof.Gen.MlstmStepRefIdeal.Read
public import Idealize.ShloMosaic.Lib.Pipeline.ValueKit

@[expose] public section

set_option maxRecDepth 16384

noncomputable section

namespace Cert.MlstmStepProof

open Cert.MlstmStepIdeal Cert.MlstmStepIdeal.Gen Cert.MlstmStepForm Cert.MlstmStepBody
open Idealize.ShloMosaic hiding ix1 ix2 ix3 eq_ix2
open Idealize.ShloMosaic.TcCoe Idealize.ShloMosaic.ValueIdx Idealize.ShloMosaic.Tactic Idealize.SL.Sem
open Idealize.ShloMosaic.Pipeline (Dat)

section pieces

variable (x0 x1 : Vec Ideal S8x512 .f32) (x2 x3 : Vec Ideal S8x1024 .f32) (x4 : Vec Ideal S8x128 .f32) (x5 : Vec Ideal S1x128 .f32)
  (x6 : Vec Ideal S1x1024 .f32) (x7 : Vec Ideal S8x8x64x128 .f32) (x8 : Vec Ideal S8x8x64 .f32) (x9 : Vec Ideal S8x8 .f32)

local notation "inp" => ofBlocks x0 x1 x2 x3 x4 x5 x6 x7 x8 x9

/-- A sample's and a head's piece of the memories. -/
theorem cPiece (b' h' : ℕ) (hb : b' < 8) (hh : h' < 8) {x : S1x1x64x128.Idx} {b h : Fin 8} {d : Fin 64} {e : Fin 128}
    (h0 : b.val = b' + (x 0).val) (h1 : h.val = h' + (x 1).val) (h2 : d.val = (x 2).val) (h3 : e.val = (x 3).val) :
    cNewV x1 x2 x4 x5 x7 x9 hh hb x = (inp).cNew b h d e := by
  have z0 : x 0 = (0 : Fin 1) := Fin.ext (Nat.lt_one_iff.mp (x 0).isLt)
  have z1 : x 1 = (0 : Fin 1) := Fin.ext (Nat.lt_one_iff.mp (x 1).isLt)
  have eb : b = ⟨b', hb⟩ := Fin.ext (by rw [h0, z0]; rfl)
  have eh : h = ⟨h', hh⟩ := Fin.ext (by rw [h1, z1]; rfl)
  have ex : x = ValueIdx.ix4 0 0 d e := by
    refine (ValueIdx.eq_ix4 x).trans ?_
    rw [z0, z1, show x 2 = d from Fin.ext h2.symm, show x 3 = e from Fin.ext h3.symm]
    rfl
  rw [ex, eb, eh]
  exact cNew_at x0 x1 x2 x3 x4 x5 x6 x7 x8 x9 hh ⟨b', hb⟩ d e

/-- A head's piece of the normalisers. -/
theorem nPiece (h' : ℕ) (hh : h' < 8) {x : S8x1x64.Idx} {b h : Fin 8} {d : Fin 64}
    (h0 : b.val = (x 0).val) (h1 : h.val = h' + (x 1).val) (h2 : d.val = (x 2).val) :
    nNewV x1 x4 x5 x8 x9 hh x = (inp).nNew b h d := by
  have z1 : x 1 = (0 : Fin 1) := Fin.ext (Nat.lt_one_iff.mp (x 1).isLt)
  have eh : h = ⟨h', hh⟩ := Fin.ext (by rw [h1, z1]; rfl)
  have ex : x = ix3 b 0 d := by
    refine (ValueIdx.eq_ix3 x).trans ?_
    rw [z1, show x 0 = b from Fin.ext h0.symm, show x 2 = d from Fin.ext h2.symm]
    rfl
  rw [ex, eh]
  exact nNew_at x0 x1 x2 x3 x4 x5 x6 x7 x8 x9 hh b d

/-- A head's 128 columns of the readings. -/
theorem hPiece (h' : ℕ) (hh : h' < 8) {x : S8x128.Idx} {b : Fin 8} {q : Fin 1024}
    (h0 : b.val = (x 0).val) (h1 : q.val = 128 * h' + (x 1).val) :
    gatedV x3 x6 hh (readV x0 x1 x2 x4 x5 x7 x8 x9 hh) x
      = (inp).hOut b ⟨q.val / 128, Nat.div_lt_of_lt_mul q.isLt⟩ ⟨q.val % 128, Nat.mod_lt _ (by decide)⟩ := by
  have hx : (x 1).val < 128 := (x 1).isLt
  have eh : (⟨q.val / 128, Nat.div_lt_of_lt_mul q.isLt⟩ : Fin 8) = ⟨h', hh⟩ := Fin.ext (by show q.val / 128 = h'; omega)
  have ee : (⟨q.val % 128, Nat.mod_lt _ (by decide)⟩ : Fin 128) = x 1 := Fin.ext (by show q.val % 128 = (x 1).val; omega)
  have ex : x = ix2 b (x 1) := by
    refine (eq_ix2 x).trans ?_
    rw [show x 0 = b from Fin.ext h0.symm]
    rfl
  rw [eh, ee]
  exact (congrArg _ ex).trans (gated_at x0 x1 x2 x3 x4 x5 x6 x7 x8 x9 hh b (x 1))

/-- What the body leaves: its normalisers. -/
theorem out_n : out0_12 x0 x1 x2 x3 x4 x5 x6 x7 x8 x9 = nArr inp := by
  funext i
  obtain ⟨b, h, d, rfl⟩ : ∃ (b h : Fin 8) (d : Fin 64), i = ix3 b h d := ⟨i 0, i 1, i 2, ValueIdx.eq_ix3 i⟩
  show _ = (inp).nNew b h d
  canon_tiles x t
  all_goals
    replace t0 : b.val = (x 0).val := t0
    simp only [show ((ix3 b h d 1 : Fin _) : ℕ) = h.val from rfl] at t1
    replace t2 : d.val = (x 2).val := t2
  · exact nPiece x0 x1 x2 x3 x4 x5 x6 x7 x8 x9 7 (by decide) t0 t1 t2
  · exact nPiece x0 x1 x2 x3 x4 x5 x6 x7 x8 x9 6 (by decide) t0 t1 t2
  · exact nPiece x0 x1 x2 x3 x4 x5 x6 x7 x8 x9 5 (by decide) t0 t1 t2
  · exact nPiece x0 x1 x2 x3 x4 x5 x6 x7 x8 x9 4 (by decide) t0 t1 t2
  · exact nPiece x0 x1 x2 x3 x4 x5 x6 x7 x8 x9 3 (by decide) t0 t1 t2
  · exact nPiece x0 x1 x2 x3 x4 x5 x6 x7 x8 x9 2 (by decide) t0 t1 t2
  · exact nPiece x0 x1 x2 x3 x4 x5 x6 x7 x8 x9 1 (by decide) t0 t1 t2
  · exact nPiece x0 x1 x2 x3 x4 x5 x6 x7 x8 x9 0 (by decide) t0 (by omega) t2

/-- Its rows of readings. -/
theorem out_h : out0_10 x0 x1 x2 x3 x4 x5 x6 x7 x8 x9 = hArr inp := by
  funext i
  obtain ⟨b, q, rfl⟩ : ∃ (b : Fin 8) (q : Fin 1024), i = ix2 b q := ⟨i 0, i 1, eq_ix2 i⟩
  show _ = (inp).hOut b ⟨q.val / 128, Nat.div_lt_of_lt_mul q.isLt⟩ ⟨q.val % 128, Nat.mod_lt _ (by decide)⟩
  canon_tiles x t
  all_goals
    replace t0 : b.val = (x 0).val := t0
    simp only [show ((ix2 b q 1 : Fin _) : ℕ) = q.val from rfl] at t1
  · exact hPiece x0 x1 x2 x3 x4 x5 x6 x7 x8 x9 7 (by decide) t0 t1
  · exact hPiece x0 x1 x2 x3 x4 x5 x6 x7 x8 x9 6 (by decide) t0 t1
  · exact hPiece x0 x1 x2 x3 x4 x5 x6 x7 x8 x9 5 (by decide) t0 t1
  · exact hPiece x0 x1 x2 x3 x4 x5 x6 x7 x8 x9 4 (by decide) t0 t1
  · exact hPiece x0 x1 x2 x3 x4 x5 x6 x7 x8 x9 3 (by decide) t0 t1
  · exact hPiece x0 x1 x2 x3 x4 x5 x6 x7 x8 x9 2 (by decide) t0 t1
  · exact hPiece x0 x1 x2 x3 x4 x5 x6 x7 x8 x9 1 (by decide) t0 t1
  · exact hPiece x0 x1 x2 x3 x4 x5 x6 x7 x8 x9 0 (by decide) t0 (by omega)

set_option maxHeartbeats 4000000 in
/-- Its memories, 64 pieces. -/
theorem out_c : out0_11 x0 x1 x2 x3 x4 x5 x6 x7 x8 x9 = cArr inp := by
  funext i
  obtain ⟨b, h, d, e, rfl⟩ : ∃ (b h : Fin 8) (d : Fin 64) (e : Fin 128), i = ValueIdx.ix4 b h d e := ⟨i 0, i 1, i 2, i 3, ValueIdx.eq_ix4 i⟩
  show _ = (inp).cNew b h d e
  canon_tiles x t
  all_goals
    simp only [show ((ValueIdx.ix4 b h d e 0 : Fin _) : ℕ) = b.val from rfl] at t0
    simp only [show ((ValueIdx.ix4 b h d e 1 : Fin _) : ℕ) = h.val from rfl] at t1
    replace t2 : d.val = (x 2).val := t2
    replace t3 : e.val = (x 3).val := t3
    first
    | have e := cPiece x0 x1 x2 x3 x4 x5 x6 x7 x8 x9 _ _ (by decide) (by decide) t0 t1 t2 t3; exact e
    | have e := cPiece x0 x1 x2 x3 x4 x5 x6 x7 x8 x9 0 _ (by decide) (by decide) (t0.trans (Nat.zero_add _).symm) t1 t2 t3; exact e
    | have e := cPiece x0 x1 x2 x3 x4 x5 x6 x7 x8 x9 _ 0 (by decide) (by decide) t0 (t1.trans (Nat.zero_add _).symm) t2 t3; exact e
    | have e := cPiece x0 x1 x2 x3 x4 x5 x6 x7 x8 x9 0 0 (by decide) (by decide) (t0.trans (Nat.zero_add _).symm) (t1.trans (Nat.zero_add _).symm) t2 t3; exact e

/-- Its row of maxima. -/
theorem out_m : out0_13 x0 x1 x2 x3 x4 x5 x6 x7 x8 x9 = mArr inp := by
  have e : out0_13 x0 x1 x2 x3 x4 x5 x6 x7 x8 x9
      = laneV x4 x5 x9 (h := 7) (by decide) 7#32 (laneV x4 x5 x9 (h := 6) (by decide) 6#32 (laneV x4 x5 x9 (h := 5) (by decide) 5#32 (laneV x4 x5 x9 (h := 4) (by decide) 4#32 (laneV x4 x5 x9 (h := 3) (by decide) 3#32 (laneV x4 x5 x9 (h := 2) (by decide) 2#32 (laneV x4 x5 x9 (h := 1) (by decide) 1#32 (laneV x4 x5 x9 (h := 0) (by decide) 0#32 (broadcast S8x128 (Scalar.ofBits .f32 0x00000000#32))))))))) := by
    funext i
    unfold out0_13
    frame_out
    rfl
  funext i
  obtain ⟨b, q, rfl⟩ : ∃ (b : Fin 8) (q : Fin 128), i = ix2 b q := ⟨i 0, i 1, eq_ix2 i⟩
  show _ = if hq : q.val < 8 then (inp).mNew b ⟨q.val, hq⟩ else 0
  rw [e]
  simp only [lane_at x0 x1 x2 x3 x4 x5 x6 x7 x8 x9]
  by_cases hq : q.val < 8
  · rw [dif_pos hq]
    obtain ⟨p, hp⟩ := q
    replace hq : p < 8 := hq
    interval_cases p <;> rfl
  · rw [dif_neg hq]
    iterate 8 rw [if_neg (by omega)]
    exact Ideal.ofBits_zero_f32

end pieces

variable (m : (ℓ : Loc nD τ sig) → Buf (Elt Ideal) ℓ)

/-- The gates' biases as the host lays them out. -/
theorem V_2 (c : Dev nD) (h : Fin 8) :
    V m c main_v2 (ix2 0 ⟨h.val, by omega⟩) = m ((c : Thread nD τ).loc main_arg2) (ix1 h)
    ∧ V m c main_v2 (ix2 0 ⟨8 + h.val, by omega⟩) = m ((c : Thread nD τ).loc main_arg3) (ix1 h) := by
  have e : V m c main_v2 = shapeCast S1x128 (concatenate S128 0 [⟨S8, (m ((c : Thread nD τ).loc main_arg2) : FVec Ideal S8 .f32)⟩,
      ⟨S8, (m ((c : Thread nD τ).loc main_arg3) : FVec Ideal S8 .f32)⟩,
      ⟨S112, (broadcastInDim S112 ![] bcast_S_S112 (constant S_ .f32 0x00000000#32 : FVec Ideal S_ .f32) : FVec Ideal S112 .f32)⟩] concatenates_S8_S8_S112_S128_d0) shapeCasts_S128_S1x128 := by
    funext j; rfl
  rw [e]
  constructor
  · pointwise []
    rfl
  · pointwise []
    rfl
theorem V_3 (c : Dev nD) (j : Fin 1024) : V m c main_v3 (ix2 0 j) = m ((c : Thread nD τ).loc main_arg4) (ix1 j) := by
  have e : V m c main_v3 = shapeCast S1x1024 (m ((c : Thread nD τ).loc main_arg4) : FVec Ideal S1024 .f32) shapeCasts_S1024_S1x1024 := by
    funext j; rfl
  rw [e]
  pointwise []
  rfl

/-- The windows: each array whole, but the four parts of the projection. -/
theorem idx0 : ∀ t : Fin cfg0.N, win0_0.index t = ![0, 0] := (by decide +kernel : ∀ t : Fin grid0.N, _)
theorem idx1 : ∀ t : Fin cfg0.N, win0_1.index t = ![0, 1] := (by decide +kernel : ∀ t : Fin grid0.N, _)
theorem idx2 : ∀ t : Fin cfg0.N, win0_2.index t = ![0, 1] := (by decide +kernel : ∀ t : Fin grid0.N, _)
theorem idx3 : ∀ t : Fin cfg0.N, win0_3.index t = ![0, 2] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0, 0, 0] := (by decide +kernel : ∀ t : Fin grid0.N, _)
theorem idx8 : ∀ t : Fin cfg0.N, win0_8.index t = ![0, 0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![0, 0] := (by decide +kernel : ∀ t : Fin grid0.N, _)
theorem idx11 : ∀ t : Fin cfg0.N, win0_11.index t = ![0, 0, 0, 0] := (by decide +kernel : ∀ t : Fin grid0.N, _)
theorem idx12 : ∀ t : Fin cfg0.N, win0_12.index t = ![0, 0, 0] := (by decide +kernel : ∀ t : Fin grid0.N, _)
theorem idx13 : ∀ t : Fin cfg0.N, win0_13.index t = ![0, 0] := (by decide +kernel : ∀ t : Fin grid0.N, _)

theorem in0 (c : Dev nD) (t : Fin cfg0.N) (b : Fin 8) (j : Fin 512) : (iblk m c 0 t : Vec Ideal S8x512 .f32) (ix2 b j)
    = m ((c : Thread nD τ).loc main_arg0) (ix2 b ⟨j.val, by omega⟩) := by
  blk_simp [iblk]
  rw [V_main_arg0]
  refine congrArg _ ?_
  blk_ext [idx0, ix2_0, ix2_1]
theorem in1 (c : Dev nD) (t : Fin cfg0.N) (b : Fin 8) (j : Fin 512) : (iblk m c 1 t : Vec Ideal S8x512 .f32) (ix2 b j)
    = m ((c : Thread nD τ).loc main_arg0) (ix2 b ⟨512 + j.val, by omega⟩) := by
  blk_simp [iblk]
  rw [V_main_arg0]
  refine congrArg _ ?_
  blk_ext [idx1, ix2_0, ix2_1]
theorem in2 (c : Dev nD) (t : Fin cfg0.N) (b : Fin 8) (j : Fin 1024) : (iblk m c 2 t : Vec Ideal S8x1024 .f32) (ix2 b j)
    = m ((c : Thread nD τ).loc main_arg0) (ix2 b ⟨1024 + j.val, by omega⟩) := by
  blk_simp [iblk]
  rw [V_main_arg0]
  refine congrArg _ ?_
  blk_ext [idx2, ix2_0, ix2_1]
theorem in3 (c : Dev nD) (t : Fin cfg0.N) (b : Fin 8) (j : Fin 1024) : (iblk m c 3 t : Vec Ideal S8x1024 .f32) (ix2 b j)
    = m ((c : Thread nD τ).loc main_arg0) (ix2 b ⟨2048 + j.val, by omega⟩) := by
  blk_simp [iblk]
  rw [V_main_arg0]
  refine congrArg _ ?_
  blk_ext [idx3, ix2_0, ix2_1]
theorem in4 (c : Dev nD) (t : Fin cfg0.N) : iblk m c 4 t = m ((c : Thread nD τ).loc main_arg1) := by
  funext i
  blk_simp [iblk]
  rw [V_main_arg1]
  refine congrArg _ ?_
  blk_ext [idx4]
theorem in5 (c : Dev nD) (t : Fin cfg0.N) : iblk m c 5 t = V m c main_v2 := by
  funext i
  blk_simp [iblk]
  refine congrArg (V m c main_v2) ?_
  blk_ext [idx5]
theorem in6 (c : Dev nD) (t : Fin cfg0.N) : iblk m c 6 t = V m c main_v3 := by
  funext i
  blk_simp [iblk]
  refine congrArg (V m c main_v3) ?_
  blk_ext [idx6]
theorem in7 (c : Dev nD) (t : Fin cfg0.N) : iblk m c 7 t = m ((c : Thread nD τ).loc main_arg5) := by
  funext i
  blk_simp [iblk]
  rw [V_main_arg5]
  refine congrArg _ ?_
  blk_ext [idx7]
theorem in8 (c : Dev nD) (t : Fin cfg0.N) : iblk m c 8 t = m ((c : Thread nD τ).loc main_arg6) := by
  funext i
  blk_simp [iblk]
  rw [V_main_arg6]
  refine congrArg _ ?_
  blk_ext [idx8]
theorem in9 (c : Dev nD) (t : Fin cfg0.N) : iblk m c 9 t = m ((c : Thread nD τ).loc main_arg7) := by
  funext i
  blk_simp [iblk]
  rw [V_main_arg7]
  refine congrArg _ ?_
  blk_ext [idx9]

/-- The inputs read from a device's arguments. -/
def args (c : Dev nD) : In :=
  ofArgs (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

/-- The blocks hold them. -/
theorem blocks (c : Dev nD) (t : Fin cfg0.N) :
    ofBlocks (iblk m c 0 t) (iblk m c 1 t) (iblk m c 2 t) (iblk m c 3 t) (iblk m c 4 t) (iblk m c 5 t) (iblk m c 6 t) (iblk m c 7 t)
      (iblk m c 8 t) (iblk m c 9 t) = args m c := by
  unfold ofBlocks args ofArgs
  rw [in4, in5, in6, in7, in8, in9]
  refine In.mk.injEq .. |>.mpr ⟨?_, ?_, ?_, ?_, ?_, ?_, ?_, rfl, rfl, rfl⟩
  · funext b h d
    exact (in0 m c t b _).trans (congrArg (fun k => m ((c : Thread nD τ).loc main_arg0) (ix2 b k)) (Fin.ext (by show 64 * h.val + d.val = h.val * 64 + d.val; omega)))
  · funext b h d
    exact (in1 m c t b _).trans (congrArg (fun k => m ((c : Thread nD τ).loc main_arg0) (ix2 b k)) (Fin.ext (by show 512 + (64 * h.val + d.val) = 512 + (h.val * 64 + d.val); omega)))
  · funext b h e
    exact (in2 m c t b _).trans (congrArg (fun k => m ((c : Thread nD τ).loc main_arg0) (ix2 b k)) (Fin.ext (by show 1024 + (128 * h.val + e.val) = 1024 + (h.val * 128 + e.val); omega)))
  · funext b h e
    exact (in3 m c t b _).trans (congrArg (fun k => m ((c : Thread nD τ).loc main_arg0) (ix2 b k)) (Fin.ext (by show 2048 + (128 * h.val + e.val) = 2048 + (h.val * 128 + e.val); omega)))
  · funext b h
    exact congrArg (@HAdd.hAdd EReal EReal EReal _ (m ((c : Thread nD τ).loc main_arg1) (ix2 b ⟨h.val, by omega⟩))) (V_2 m c h).1
  · funext b h
    exact congrArg (@HAdd.hAdd EReal EReal EReal _ (m ((c : Thread nD τ).loc main_arg1) (ix2 b ⟨8 + h.val, by omega⟩))) (V_2 m c h).2
  · funext h e
    exact (V_3 m c _).trans (congrArg (fun k => m ((c : Thread nD τ).loc main_arg4) (ix1 k)) (Fin.ext (by show 128 * h.val + e.val = h.val * 128 + e.val; omega)))

/-- The results' arrays after the grid. -/
theorem final10 (c : Dev nD) : (dats m 0 c).arrAt 10 cfg0.N = hArr (args m c) := by
  refine (dats m 0 c).arrAt_eq_of_covers 10 _ (by decide +kernel) fun t hf y => ?_
  blk_simp
  rw [after0_10, out_h, blocks]
  refine congrArg _ ?_
  blk_ext [idx10]
theorem final11 (c : Dev nD) : (dats m 0 c).arrAt 11 cfg0.N = cArr (args m c) := by
  refine (dats m 0 c).arrAt_eq_of_covers 11 _ (by decide +kernel) fun t hf y => ?_
  blk_simp
  rw [after0_11, out_c, blocks]
  refine congrArg _ ?_
  blk_ext [idx11]
theorem final12 (c : Dev nD) : (dats m 0 c).arrAt 12 cfg0.N = nArr (args m c) := by
  refine (dats m 0 c).arrAt_eq_of_covers 12 _ (by decide +kernel) fun t hf y => ?_
  blk_simp
  rw [after0_12, out_n, blocks]
  refine congrArg _ ?_
  blk_ext [idx12]
theorem final13 (c : Dev nD) : (dats m 0 c).arrAt 13 cfg0.N = mArr (args m c) := by
  refine (dats m 0 c).arrAt_eq_of_covers 13 _ (by decide +kernel) fun t hf y => ?_
  blk_simp
  rw [after0_13, out_m, blocks]
  refine congrArg _ ?_
  blk_ext [idx13]

/-- The run, read: the results at the closed form's arrays, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v4_0) = hArr (args m c)
      ∧ r.2.mem ((c : Thread nD τ).loc main_v4_1) = cArr (args m c)
      ∧ r.2.mem ((c : Thread nD τ).loc main_v4_2) = nArr (args m c)
      ∧ r.2.mem ((c : Thread nD τ).loc main_v4_3) = mArr (args m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) := by
  refine (θ_run defs _ _).mono (fun r h c => ?_) (θ_run_and (run_main m ρ) (Gen.frame m ρ))
  exact ⟨(h.1.out_eq c 10).trans (final10 m c), (h.1.out_eq c 11).trans (final11 m c), (h.1.out_eq c 12).trans (final12 m c),
    (h.1.out_eq c 13).trans (final13 m c), h.2.1 c⟩

/-- Kernel and reference run, and from equal arguments end at the same four arrays. -/
theorem algebraic : Cert.algebraic_MlstmStepIdeal_MlstmStepRefIdeal (hMlstmStepIdeal := MlstmStepIdeal.Gen.facts)
    (hMlstmStepRefIdeal := MlstmStepRefIdeal.Gen.facts) := by
  intro m g m' g' _ hargs
  refine ⟨fun c => hArr (args m c), fun c => cArr (args m c), fun c => nArr (args m c), fun c => mArr (args m c), run m g, ?_⟩
  refine (θ_run (MlstmStepRefIdeal.defs (F := Ideal)) _ _).mono (fun r h c => ?_) (MlstmStepRefIdeal.Value.run (F := Ideal) m' g')
  obtain ⟨hh, hc, hn, hm, hrest⟩ := h c
  obtain ⟨a0, a1, a2, a3, a4, a5, a6, a7⟩ := hargs c
  refine ⟨hh.trans ?_, hc.trans ?_, hn.trans ?_, hm.trans ?_, hrest⟩
  · rw [MlstmStepRefIdeal.Read.val_main_v91_eq, a0, a1, a2, a3, a4, a5, a6, a7]
    exact ref_h _ _ _ _ _ _ _ _
  · rw [MlstmStepRefIdeal.Read.val_main_v62_eq, a0, a1, a2, a3, a5, a7]
    exact ref_c _ _ _ _ _ _ _ _
  · rw [MlstmStepRefIdeal.Read.val_main_v69_eq, a0, a1, a2, a3, a6, a7]
    exact ref_n _ _ _ _ _ _ _ _
  · rw [a1, a2, a3, a7]
    exact (MlstmStepRefIdeal.Read.val_main_v93_eq _ _ _ _).trans (ref_mArr _ _ _ _ _ _ _ _)

/-- The reference's frame: its run, read at the arguments; it has no semaphore. -/
theorem frame_ref : Cert.quiescent_MlstmStepRefIdeal (hMlstmStepRefIdeal := MlstmStepRefIdeal.Gen.facts) := fun m ρ _ =>
  (θ_run MlstmStepRefIdeal.defs _ _).mono (fun r h => ⟨fun c => (h c).2.2.2.2, Idealize.ShloMosaic.sem_eq_zero_of_no_sems (by decide) r.2⟩)
    (MlstmStepRefIdeal.Value.run (F := Ideal) m ρ)

end Cert.MlstmStepProof

end
-- ==== Proof.GdnStepForm.lean ====
/-
  One token of the gated delta rule's recurrence in closed form, for one sample: a causal convolution over the buffered rows, keys
  and queries of length one, the memory's decay and correction, and the token's normalised and gated reading.
-/
module

public import proofs.«01_k».proof.Defs
public import Idealize.ShloMosaic.Lib.Pointwise

@[expose] public section

set_option maxRecDepth 16384

noncomputable section

namespace Cert.GdnStepForm

open Idealize.ShloMosaic hiding ix1 ix2 ix3 eq_ix2
open Idealize.ShloMosaic.ValueIdx

/-- One sample's inputs: the projected row, the arguments of the correction's and of the decay's gate with the decay's rates, the
    buffered rows, the convolution's and the norm's weights, and the memories as they were. -/
structure In where
  x : Fin 12288 → EReal
  bt : Fin 32 → EReal
  gt : Fin 32 → EReal
  al : Fin 32 → EReal
  buf : Fin 3 → Fin 8192 → EReal
  cw : Fin 4 → Fin 8192 → EReal
  w : Fin 128 → EReal
  s : Fin 32 → Fin 128 → Fin 128 → EReal

/-- The logarithm of one plus an exponential. -/
def softplus (x : EReal) : EReal := max x 0 + Ideal.log1p (Ideal.exp (-max x (-x)))
/-- The logistic function. -/
def sigmoid (x : EReal) : EReal := Ideal.div 1 (1 + Ideal.exp (-x))

/-- The query and key head that a value head reads. -/
abbrev pair (h : Fin 32) : Fin 16 := ⟨h.val / 2, by omega⟩

namespace In

variable (a : In)

/-- The row in the buffer's columns. -/
def row (q : Fin 8192) : EReal := a.x ⟨q.val, by omega⟩
/-- The convolution. -/
def conv (q : Fin 8192) : EReal :=
  a.buf 0 q * a.cw 0 q + a.buf 1 q * a.cw 1 q + a.buf 2 q * a.cw 2 q + a.row q * a.cw 3 q
/-- The convolution activated. -/
def y (q : Fin 8192) : EReal := a.conv q * sigmoid (a.conv q)
/-- The buffer moved on by the row. -/
def bufNew (r : Fin 3) (q : Fin 8192) : EReal := if hr : r.val < 2 then a.buf ⟨r.val + 1, by omega⟩ q else a.row q
/-- The query, the key and the value. -/
def q (j : Fin 16) (d : Fin 128) : EReal := a.y ⟨j.val * 128 + d.val, by omega⟩
def k (j : Fin 16) (d : Fin 128) : EReal := a.y ⟨2048 + (j.val * 128 + d.val), by omega⟩
def v (h : Fin 32) (e : Fin 128) : EReal := a.y ⟨4096 + (h.val * 128 + e.val), by omega⟩
/-- The output gate's argument. -/
def z (h : Fin 32) (e : Fin 128) : EReal := a.x ⟨8192 + (h.val * 128 + e.val), by omega⟩
/-- The query and the key at length one, the query scaled. -/
def qn (j : Fin 16) (d : Fin 128) : EReal :=
  a.q j d * Ideal.rsqrt ((∑ i : Fin 128, a.q j i * a.q j i) + Ideal.ofBits .f32 0x358637BD#32) * Ideal.ofBits .f32 0x3DB504F3#32
def kn (j : Fin 16) (d : Fin 128) : EReal :=
  a.k j d * Ideal.rsqrt ((∑ i : Fin 128, a.k j i * a.k j i) + Ideal.ofBits .f32 0x358637BD#32)
/-- The correction's gate. -/
def beta (h : Fin 32) : EReal := sigmoid (a.bt h)
/-- The decay's logarithm, and the decay. -/
def g (h : Fin 32) : EReal := -Ideal.exp (a.al h) * softplus (a.gt h)
def eg (h : Fin 32) : EReal := Ideal.exp (a.g h)
/-- The corrected value. -/
def vNew (h : Fin 32) (e : Fin 128) : EReal :=
  a.v h e * a.beta h - ∑ d : Fin 128, a.kn (pair h) d * a.beta h * a.eg h * a.s h d e
/-- The query's product with the token's own key. -/
def attn (h : Fin 32) : EReal := ∑ d : Fin 128, a.qn (pair h) d * a.kn (pair h) d
/-- The reading. -/
def o (h : Fin 32) (e : Fin 128) : EReal := (∑ d : Fin 128, a.qn (pair h) d * a.eg h * a.s h d e) + a.attn h * a.vNew h e
/-- The memory moved on. -/
def sNew (h : Fin 32) (d e : Fin 128) : EReal := a.eg h * a.s h d e + a.kn (pair h) d * a.vNew h e
/-- The reading divided by its root mean square, weighted, and gated. -/
def out (h : Fin 32) (e : Fin 128) : EReal :=
  a.o h e * Ideal.rsqrt (Ideal.div (∑ i : Fin 128, a.o h i * a.o h i) (Ideal.ofBits .f32 0x43000000#32)
      + Ideal.ofBits .f32 0x358637BD#32) * a.w e * (a.z h e * sigmoid (a.z h e))

end In

/-! ### Factors out of sums, and the gates' ranges -/

/-- An exponential is not negative. -/
theorem exp_nonneg (a : EReal) : 0 ≤ Ideal.exp a := by
  induction a using EReal.rec with
  | bot => exact le_refl _
  | top => exact le_top
  | coe r => exact EReal.coe_nonneg.mpr (Real.exp_pos r).le
/-- One plus an exponential is at least one. -/
theorem one_le_one_add_exp (a : EReal) : (1 : EReal) ≤ 1 + Ideal.exp a := le_add_of_nonneg_right (exp_nonneg a)
theorem one_add_exp_ne (a : EReal) : (1 : EReal) + Ideal.exp a ≠ 0 :=
  ne_of_gt (lt_of_lt_of_le zero_lt_one (one_le_one_add_exp a))
/-- Dividing by one plus an exponential is multiplying by its reciprocal. -/
theorem div_eq (x : EReal) : Ideal.div x (1 + Ideal.exp (-x)) = x * sigmoid x := by
  unfold sigmoid Ideal.div
  rw [if_neg (one_add_exp_ne _), if_neg (one_add_exp_ne _), one_mul]
theorem sigmoid_nonneg (x : EReal) : 0 ≤ sigmoid x := by
  unfold sigmoid Ideal.div
  rw [if_neg (one_add_exp_ne _), one_mul]
  exact EReal.inv_nonneg_of_nonneg (zero_le_one.trans (one_le_one_add_exp _))
theorem sigmoid_ne_top (x : EReal) : sigmoid x ≠ ⊤ := by
  unfold sigmoid Ideal.div
  rw [if_neg (one_add_exp_ne _), one_mul]
  exact (EReal.inv_lt_top _).ne

/-- The logarithm of one plus something not negative is not negative. -/
theorem log1p_nonneg {x : EReal} (hx : 0 ≤ x) : 0 ≤ Ideal.log1p x := by
  unfold Ideal.log1p
  induction x using EReal.rec with
  | bot => exact absurd hx (by simp)
  | top => exact le_top
  | coe r =>
    have hr : 0 ≤ r := EReal.coe_nonneg.mp hx
    rw [show (1 : EReal) + (r : EReal) = ((1 + r : ℝ) : EReal) from rfl]
    show (0 : EReal) ≤ if 1 + r ≤ 0 then ⊥ else (Real.log (1 + r) : EReal)
    rw [if_neg (by linarith)]
    exact EReal.coe_nonneg.mpr (Real.log_nonneg (by linarith))
theorem softplus_nonneg (x : EReal) : 0 ≤ softplus x := add_nonneg (le_max_right _ _) (log1p_nonneg (exp_nonneg _))

theorem exp_ne_top {x : EReal} (hx : x ≤ 0) : Ideal.exp x ≠ ⊤ := by
  induction x using EReal.rec with
  | bot => exact EReal.zero_ne_top
  | top => exact absurd hx (by simp)
  | coe r => exact EReal.coe_ne_top _

/-- The decay is finite. -/
theorem In.eg_ne_top (a : In) (h : Fin 32) : a.eg h ≠ ⊤ := by
  refine exp_ne_top ?_
  unfold In.g
  rw [EReal.neg_mul]
  exact EReal.neg_le_zero.mpr (EReal.mul_nonneg (exp_nonneg _) (softplus_nonneg _))
theorem In.eg_nonneg (a : In) (h : Fin 32) : 0 ≤ a.eg h := exp_nonneg _

/-- A finite factor that is not negative comes out of a sum. -/
theorem mul_sum_of {n : ℕ} {c : EReal} (h0 : 0 ≤ c) (hT : c ≠ ⊤) (f : Fin n → EReal) : c * ∑ d : Fin n, f d = ∑ d : Fin n, c * f d := by
  classical
  induction (Finset.univ : Finset (Fin n)) using Finset.induction_on with
  | empty => simp
  | insert x s hx ih => rw [Finset.sum_insert hx, Finset.sum_insert hx, EReal.left_distrib_of_nonneg_of_ne_top h0 hT, ih]

/-- The correction, its two factors before the sum. -/
theorem In.vNew_eq (a : In) (h : Fin 32) (e : Fin 128) :
    a.vNew h e = a.v h e * a.beta h - a.beta h * a.eg h * ∑ d : Fin 128, a.kn (pair h) d * a.s h d e := by
  unfold In.vNew
  rw [mul_assoc (a.beta h), mul_sum_of (a.eg_nonneg h) (a.eg_ne_top h),
    mul_sum_of (c := a.beta h) (sigmoid_nonneg _) (sigmoid_ne_top _)]
  refine congrArg (a.v h e * a.beta h - ·) (Finset.sum_congr rfl fun d _ => ?_)
  ac_rfl
/-- The reading, its factor before the sum. -/
theorem In.o_eq (a : In) (h : Fin 32) (e : Fin 128) :
    a.o h e = a.eg h * (∑ d : Fin 128, a.qn (pair h) d * a.s h d e) + a.attn h * a.vNew h e := by
  unfold In.o
  rw [mul_sum_of (a.eg_nonneg h) (a.eg_ne_top h)]
  refine congrArg (· + a.attn h * a.vNew h e) (Finset.sum_congr rfl fun d _ => ?_)
  ac_rfl

end Cert.GdnStepForm

end
-- ==== Proof.GdnStepBody.lean ====
/-
  One token of the gated delta rule: what one value head of the kernel's body computes, in its own operations, and that each of its
  entries is the closed form's; a row is turned into a column there by a sum along a diagonal.
-/
module

public import proofs.«01_k».proof.Defs
public import proofs.«01_k».proof.Proof.GdnStepForm
public import proofs.«01_k».proof.Proof.Gen.GdnStepIdeal.Frame
public import Idealize.ShloMosaic.Lib.Quiescent
public import Idealize.ShloMosaic.Lib.Pointwise

@[expose] public section

set_option maxRecDepth 16384

noncomputable section

namespace Cert.GdnStepBody

open Cert.GdnStepIdeal Cert.GdnStepIdeal.Gen Cert.GdnStepForm
open Idealize.ShloMosaic hiding ix1 ix2 ix3 eq_ix2
open Idealize.ShloMosaic.TcCoe Idealize.ShloMosaic.ValueIdx Idealize.ShloMosaic.Tactic Idealize.SL.Sem
open Idealize.ShloMosaic.Pipeline (Dat)

theorem slices_y {o : ℕ} (ho : o + 128 ≤ 8192) : S1x8192.Slices ![0, o] S1x128 :=
  ⟨rfl, fun a => by match a with | ⟨0, _⟩ => exact le_refl _ | ⟨1, _⟩ => exact ho⟩
theorem slices_x {o : ℕ} (ho : o + 128 ≤ 12288) : S1x12288.Slices ![0, o] S1x128 :=
  ⟨rfl, fun a => by match a with | ⟨0, _⟩ => exact le_refl _ | ⟨1, _⟩ => exact ho⟩
theorem slices_g {o : ℕ} (ho : o + 1 ≤ 64) : S1x64.Slices ![0, o] S1x1 :=
  ⟨rfl, fun a => by match a with | ⟨0, _⟩ => exact le_refl _ | ⟨1, _⟩ => exact ho⟩
theorem inb_mem {h : ℕ} (hh : h < 32) : ∀ a, (![0, h, 0, 0] : Fin 4 → ℕ) a + S1x1x128x128.size a ≤ S1x32x128x128.size a := fun a => by
  match a with
  | ⟨0, _⟩ => exact le_refl _
  | ⟨1, _⟩ => show h + 1 ≤ 32; omega
  | ⟨2, _⟩ => exact le_refl _
  | ⟨3, _⟩ => exact le_refl _

/-! ### One head of the body, as vectors -/

section vectors

variable (x0 : Vec Ideal S1x1x12288 .f32) (x1 : Vec Ideal S1x1x64 .f32) (x2 : Vec Ideal S1x3x8192 .f32) (x3 : Vec Ideal S4x8192 .f32)
  (x4 x5 : Vec Ideal S1x64 .f32) (x6 : Vec Ideal S1x128 .f32) (x7 : Vec Ideal S1x32x128x128 .f32)

/-- The body's inputs. -/
def ofBlocks : In where
  x q := x0 (ix3 0 0 q)
  bt h := x1 (ix3 0 0 ⟨h.val, by omega⟩)
  gt h := x1 (ix3 0 0 ⟨32 + h.val, by omega⟩) + x5 (ix2 0 ⟨32 + h.val, by omega⟩)
  al h := x4 (ix2 0 ⟨32 + h.val, by omega⟩)
  buf r q := x2 (ix3 0 r q)
  cw r q := x3 (ix2 r q)
  w e := x6 (ix2 0 e)
  s h d e := x7 (ValueIdx.ix4 0 h d e)

local notation "inp" => ofBlocks x0 x1 x2 x3 x4 x5 x6 x7

/-- The row, the convolution activated, the gates and the norm's weights. -/
def xV : FVec Ideal S1x12288 .f32 := k0_pay3 (View.ld x0 r0_0)
def yV : FVec Ideal S1x8192 .f32 := k0_pay6 (View.ld x0 r0_0) (View.ld x2 r0_1) (View.ld x3 r0_2)
def gV : FVec Ideal S1x64 .f32 :=
  k0_pay11 (k0_pay8 (View.ld x1 r0_3)) k0_pay9 (k0_pay10 (View.ld x1 r0_3)) (Scalar.ofBits .f32 0x3F800000#32) (View.ld x4 r0_4) (View.ld x5 r0_4)
def wV : FVec Ideal S1x128 .f32 := k0_pay12 (View.ld x6 r0_5)

/-- The sum of two rows' products. -/
def dotV (u v : FVec Ideal S1x128 .f32) : FVec Ideal S1x1 .f32 :=
  shapeCast S1x1 (multiReduction .add [1] S1 (mulf u v) 0x00000000#32 reduces_S1x128_S1 (.inl rfl) rfl) shapeCasts_S1_S1x1
/-- A row at length one. -/
def unitV (v : FVec Ideal S1x128 .f32) : FVec Ideal S1x128 .f32 :=
  mulf v (broadcastTo S1x128 (rsqrt (addf (dotV v v) (broadcast S1x1 (Scalar.ofBits .f32 0x358637BD#32)))) broadcasts_S1x1_S1x128)
/-- The sum along the diagonal that turns a row into a column. -/
def column (v : FVec Ideal S1x128 .f32) : FVec Ideal S128x1 .f32 :=
  shapeCast S128x1 (multiReduction .add [1] S128
    (select (cmpi .eq (iota .tc S128x128 32 [0] iota_S128x128_d0_w32) (iota .tc S128x128 32 [1] iota_S128x128_d1_w32))
      (broadcastTo S128x128 (shapeCast S1x128 v shapeCasts_S1x128_S1x128) broadcasts_S1x128_S128x128)
      (broadcast S128x128 (Scalar.ofBits .f32 0x00000000#32))) 0x00000000#32 reduces_S128x128_S128 (.inl rfl) rfl) shapeCasts_S128_S128x1
/-- A row times a memory. -/
def timesV (v : FVec Ideal S1x128 .f32) (s : FVec Ideal S128x128 .f32) : FVec Ideal S1x128 .f32 :=
  shapeCast S1x128 (multiReduction .add [0] S128 (mulf (broadcastTo S128x128 (column v) broadcasts_S128x1_S128x128) s)
    0x00000000#32 reduces_S128x128_S128_2 (.inl rfl) rfl) shapeCasts_S128_S1x128

/-- A key head's query and key. -/
def qV {j : ℕ} (hj : j < 16) : FVec Ideal S1x128 .f32 :=
  mulf (unitV (extractStridedSlice S1x128 ![0, 128 * j] (yV x0 x2 x3) (slices_y (by omega)))) (broadcast S1x128 (Scalar.ofBits .f32 0x3DB504F3#32))
def kV {j : ℕ} (hj : j < 16) : FVec Ideal S1x128 .f32 :=
  unitV (extractStridedSlice S1x128 ![0, 2048 + 128 * j] (yV x0 x2 x3) (slices_y (by omega)))
/-- A value head's correction gate, decay and old memory. -/
def btV {h : ℕ} (hh : h < 32) : FVec Ideal S1x1 .f32 := extractStridedSlice S1x1 ![0, h] (gV x1 x4 x5) (slices_g (by omega))
def egV {h : ℕ} (hh : h < 32) : FVec Ideal S1x1 .f32 := exp (extractStridedSlice S1x1 ![0, 32 + h] (gV x1 x4 x5) (slices_g (by omega)))
def sV {h : ℕ} (hh : h < 32) : FVec Ideal S128x128 .f32 :=
  shapeCast S128x128 (View.ld x7 (Rect.unit (s := S1x32x128x128) ![0, h, 0, 0] S1x1x128x128.size (inb_mem hh)) : FVec Ideal S1x1x128x128 .f32)
    shapeCasts_S1x1x128x128_S128x128
/-- The corrected value. -/
def vNewV {j h : ℕ} (hj : j < 16) (hh : h < 32) : FVec Ideal S1x128 .f32 :=
  subf (mulf (extractStridedSlice S1x128 ![0, 4096 + 128 * h] (yV x0 x2 x3) (slices_y (by omega))) (broadcastTo S1x128 (btV x1 x4 x5 hh) broadcasts_S1x1_S1x128))
    (mulf (broadcastTo S1x128 (mulf (btV x1 x4 x5 hh) (egV x1 x4 x5 hh)) broadcasts_S1x1_S1x128) (timesV (kV x0 x2 x3 hj) (sV x7 hh)))
/-- The reading. -/
def oV {j h : ℕ} (hj : j < 16) (hh : h < 32) : FVec Ideal S1x128 .f32 :=
  addf (mulf (broadcastTo S1x128 (egV x1 x4 x5 hh) broadcasts_S1x1_S1x128) (timesV (qV x0 x2 x3 hj) (sV x7 hh)))
    (mulf (broadcastTo S1x128 (dotV (qV x0 x2 x3 hj) (kV x0 x2 x3 hj)) broadcasts_S1x1_S1x128) (vNewV x0 x1 x2 x3 x4 x5 x7 hj hh))
/-- The memory moved on. -/
def sNewV {j h : ℕ} (hj : j < 16) (hh : h < 32) : FVec Ideal S1x1x128x128 .f32 :=
  shapeCast S1x1x128x128
    (addf (mulf (broadcastTo S128x128 (egV x1 x4 x5 hh) broadcasts_S1x1_S128x128) (sV x7 hh))
      (mulf (broadcastTo S128x128 (column (kV x0 x2 x3 hj)) broadcasts_S128x1_S128x128)
        (broadcastTo S128x128 (vNewV x0 x1 x2 x3 x4 x5 x7 hj hh) broadcasts_S1x128_S128x128))) shapeCasts_S128x128_S1x1x128x128
/-- A reading divided by its root mean square, weighted, and gated. -/
def outV {h : ℕ} (hh : h < 32) (o : FVec Ideal S1x128 .f32) : FVec Ideal S1x1x128 .f32 :=
  shapeCast S1x1x128
    (mulf (mulf (mulf o (broadcastTo S1x128 (rsqrt (addf (divf (dotV o o) (broadcast S1x1 (Scalar.ofBits .f32 0x43000000#32)))
        (broadcast S1x1 (Scalar.ofBits .f32 0x358637BD#32)))) broadcasts_S1x1_S1x128)) (wV x6))
      (divf (extractStridedSlice S1x128 ![0, 8192 + 128 * h] (xV x0) (slices_x (by omega)))
        (addf (broadcast S1x128 (Scalar.ofBits .f32 0x3F800000#32)) (exp (subf (broadcast S1x128 (Scalar.ofBits .f32 0x00000000#32))
          (extractStridedSlice S1x128 ![0, 8192 + 128 * h] (xV x0) (slices_x (by omega)))))))) shapeCasts_S1x128_S1x1x128

/-! ### Their entries -/

/-- A choice by the equality of two words, and by their order. -/
theorem select_word (u w : BitVec 32) (a b : EReal) : Scalar.select (IntOp.cmpi .eq u w) a b = if u = w then a else b := by
  by_cases hw : u = w
  · rw [WordCmp.cmpi_eq_eq, if_pos hw, decide_eq_true hw]
    rfl
  · rw [WordCmp.cmpi_eq_eq, if_neg hw, decide_eq_false hw]
    rfl
theorem ofNat_eq_iff {a b : ℕ} (ha : a < 4096) (hb : b < 4096) : BitVec.ofNat 32 a = BitVec.ofNat 32 b ↔ a = b := by
  refine ⟨fun e => ?_, fun e => by rw [e]⟩
  have e' := congrArg BitVec.toNat e
  rw [BitVec.toNat_ofNat, BitVec.toNat_ofNat] at e'
  omega

theorem dot_at (u v : FVec Ideal S1x128 .f32) : dotV u v (ix2 0 0) = ∑ d : Fin 128, u (ix2 0 d) * v (ix2 0 d) := by
  pointwise [dotV]
  rfl
theorem unit_at (v : FVec Ideal S1x128 .f32) (d : Fin 128) :
    unitV v (ix2 0 d) = v (ix2 0 d) * Ideal.rsqrt ((∑ i : Fin 128, v (ix2 0 i) * v (ix2 0 i)) + Ideal.ofBits .f32 0x358637BD#32) := by
  rw [← dot_at]
  pointwise [unitV]
  rfl
theorem column_at (v : FVec Ideal S1x128 .f32) (d : Fin 128) : column v (ix2 d 0) = v (ix2 0 d) := by
  pointwise [column]
  refine (Finset.sum_congr rfl fun x _ => ?_).trans (Fintype.sum_eq_single (f := fun x : Fin 128 => if d = x then v (ix2 0 x) else 0) d ?_) |>.trans ?_
  · refine (select_word _ _ _ _).trans (if_congr ?_ rfl rfl)
    exact (ofNat_eq_iff (by omega) (by omega)).trans Fin.ext_iff.symm
  · intro x hx
    exact if_neg (Ne.symm hx)
  · exact if_pos rfl
theorem times_at (v : FVec Ideal S1x128 .f32) (s : FVec Ideal S128x128 .f32) (e : Fin 128) :
    timesV v s (ix2 0 e) = ∑ d : Fin 128, v (ix2 0 d) * s (ix2 d e) := by
  simp only [← column_at v]
  pointwise [timesV]
  rfl

theorem x_at (q : Fin 12288) : xV x0 (ix2 0 q) = (inp).x q := by
  pointwise [xV, k0_pay3, ofBlocks]
  rfl
theorem y_at (q : Fin 8192) : yV x0 x2 x3 (ix2 0 q) = (inp).y q := by
  unfold In.y
  rw [← div_eq]
  pointwise [yV, k0_pay6, k0_pay5, k0_pay4, k0_pay3, In.conv, In.row, ofBlocks]
  simp only [zero_sub]
  rfl
theorem w_at (e : Fin 128) : wV x6 (ix2 0 e) = (inp).w e := by
  pointwise [wV, k0_pay12, ofBlocks]
  rfl
theorem flat_at (v : FVec Ideal S1x1x128x128 .f32) (d e : Fin 128) :
    shapeCast S128x128 v shapeCasts_S1x1x128x128_S128x128 (ix2 d e) = v (ValueIdx.ix4 0 0 d e) := by
  pointwise []
  rfl
theorem s_at {h : ℕ} (hh : h < 32) (d e : Fin 128) : sV x7 hh (ix2 d e) = (inp).s ⟨h, hh⟩ d e := by
  refine (flat_at _ d e).trans (congrArg x7 (funext fun a => Fin.ext ?_))
  match a with
  | ⟨0, _⟩ => rfl
  | ⟨1, _⟩ => exact Nat.add_zero _
  | ⟨2, _⟩ => show 0 + 1 * d.val = d.val; omega
  | ⟨3, _⟩ => show 0 + 1 * e.val = e.val; omega
theorem bt_at {h : ℕ} (hh : h < 32) : btV x1 x4 x5 hh (ix2 0 0) = (inp).beta ⟨h, hh⟩ := by
  have ho : h < 64 := by omega
  have e : btV x1 x4 x5 hh (ix2 0 0) = gV x1 x4 x5 (ix2 0 ⟨h, ho⟩) := by
    pointwise [btV]
    rfl
  rw [e]
  pointwise [gV, k0_pay11, k0_pay10, k0_pay9, k0_pay8, In.beta, sigmoid, ofBlocks]
  simp only [zero_sub]
  rw [show IntOp.cmpi .slt (BitVec.ofNat 32 h) 32#32 = 1#1 from by interval_cases h <;> rfl]
  rfl
theorem eg_at {h : ℕ} (hh : h < 32) : egV x1 x4 x5 hh (ix2 0 0) = (inp).eg ⟨h, hh⟩ := by
  have ho : 32 + h < 64 := by omega
  have e : egV x1 x4 x5 hh (ix2 0 0) = Ideal.exp (gV x1 x4 x5 (ix2 0 ⟨32 + h, ho⟩)) := by
    pointwise [egV]
    rfl
  rw [e]
  refine congrArg Ideal.exp ?_
  pointwise [gV, k0_pay11, k0_pay10, k0_pay9, k0_pay8, In.g, softplus, ofBlocks]
  simp only [zero_sub]
  rw [show IntOp.cmpi .slt (BitVec.ofNat 32 (32 + h)) 32#32 = 0#1 from by interval_cases h <;> rfl]
  rfl

theorem slice_at {o : ℕ} (ho : o + 128 ≤ 8192) (d : Fin 128) :
    extractStridedSlice S1x128 ![0, o] (yV x0 x2 x3) (slices_y ho) (ix2 0 d) = (inp).y ⟨o + d.val, by omega⟩ := by
  rw [← y_at]
  pointwise []
  rfl
theorem sliceq_at {j : ℕ} (hj : j < 16) (d : Fin 128) :
    extractStridedSlice S1x128 ![0, 128 * j] (yV x0 x2 x3) (slices_y (by omega)) (ix2 0 d) = (inp).q ⟨j, hj⟩ d :=
  (slice_at x0 x1 x2 x3 x4 x5 x6 x7 (by omega) d).trans (congrArg (inp).y (Fin.ext (by show 128 * j + d.val = j * 128 + d.val; omega)))
theorem slicek_at {j : ℕ} (hj : j < 16) (d : Fin 128) :
    extractStridedSlice S1x128 ![0, 2048 + 128 * j] (yV x0 x2 x3) (slices_y (by omega)) (ix2 0 d) = (inp).k ⟨j, hj⟩ d :=
  (slice_at x0 x1 x2 x3 x4 x5 x6 x7 (by omega) d).trans (congrArg (inp).y (Fin.ext (by show 2048 + 128 * j + d.val = 2048 + (j * 128 + d.val); omega)))
theorem slicev_at {h : ℕ} (hh : h < 32) (e : Fin 128) :
    extractStridedSlice S1x128 ![0, 4096 + 128 * h] (yV x0 x2 x3) (slices_y (by omega)) (ix2 0 e) = (inp).v ⟨h, hh⟩ e :=
  (slice_at x0 x1 x2 x3 x4 x5 x6 x7 (by omega) e).trans (congrArg (inp).y (Fin.ext (by show 4096 + 128 * h + e.val = 4096 + (h * 128 + e.val); omega)))
theorem slicez_at {h : ℕ} (hh : h < 32) (e : Fin 128) :
    extractStridedSlice S1x128 ![0, 8192 + 128 * h] (xV x0) (slices_x (by omega)) (ix2 0 e) = (inp).z ⟨h, hh⟩ e := by
  have e' : extractStridedSlice S1x128 ![0, 8192 + 128 * h] (xV x0) (slices_x (by omega)) (ix2 0 e) = xV x0 (ix2 0 ⟨8192 + 128 * h + e.val, by omega⟩) := by
    pointwise []
    rfl
  exact e'.trans ((x_at x0 x1 x2 x3 x4 x5 x6 x7 _).trans (congrArg (inp).x (Fin.ext (by show 8192 + 128 * h + e.val = 8192 + (h * 128 + e.val); omega))))

theorem k_at {j : ℕ} (hj : j < 16) (d : Fin 128) : kV x0 x2 x3 hj (ix2 0 d) = (inp).kn ⟨j, hj⟩ d := by
  unfold kV In.kn
  rw [unit_at]
  simp only [slicek_at x0 x1 x2 x3 x4 x5 x6 x7 hj]
theorem q_at {j : ℕ} (hj : j < 16) (d : Fin 128) : qV x0 x2 x3 hj (ix2 0 d) = (inp).qn ⟨j, hj⟩ d := by
  unfold In.qn
  simp only [← sliceq_at x0 x1 x2 x3 x4 x5 x6 x7 hj]
  rw [← unit_at]
  rfl

variable {j h : ℕ} (hj : j < 16) (hh : h < 32) (hp : h / 2 = j)

theorem vNew_at {j h : ℕ} (hj : j < 16) (hh : h < 32) (hp : h / 2 = j) (e : Fin 128) :
    vNewV x0 x1 x2 x3 x4 x5 x7 hj hh (ix2 0 e) = (inp).vNew ⟨h, hh⟩ e := by
  subst hp
  rw [In.vNew_eq]
  have et : (∑ d : Fin 128, (inp).kn (pair ⟨h, hh⟩) d * (inp).s ⟨h, hh⟩ d e) = timesV (kV x0 x2 x3 hj) (sV x7 hh) (ix2 0 e) := by
    rw [times_at]
    exact Finset.sum_congr rfl fun d _ => congrArg₂ (· * ·) (k_at x0 x1 x2 x3 x4 x5 x6 x7 hj d).symm (s_at x0 x1 x2 x3 x4 x5 x6 x7 hh d e).symm
  rw [et, ← slicev_at, ← bt_at, ← eg_at]
  pointwise [vNewV]
  rfl
theorem o_at {j h : ℕ} (hj : j < 16) (hh : h < 32) (hp : h / 2 = j) (e : Fin 128) :
    oV x0 x1 x2 x3 x4 x5 x7 hj hh (ix2 0 e) = (inp).o ⟨h, hh⟩ e := by
  have ev := vNew_at x0 x1 x2 x3 x4 x5 x6 x7 hj hh hp e
  subst hp
  rw [In.o_eq, ← ev]
  have et : (∑ d : Fin 128, (inp).qn (pair ⟨h, hh⟩) d * (inp).s ⟨h, hh⟩ d e) = timesV (qV x0 x2 x3 hj) (sV x7 hh) (ix2 0 e) := by
    rw [times_at]
    exact Finset.sum_congr rfl fun d _ => congrArg₂ (· * ·) (q_at x0 x1 x2 x3 x4 x5 x6 x7 hj d).symm (s_at x0 x1 x2 x3 x4 x5 x6 x7 hh d e).symm
  have ea : (inp).attn ⟨h, hh⟩ = dotV (qV x0 x2 x3 hj) (kV x0 x2 x3 hj) (ix2 0 0) := by
    rw [dot_at]
    exact Finset.sum_congr rfl fun d _ => congrArg₂ (· * ·) (q_at x0 x1 x2 x3 x4 x5 x6 x7 hj d).symm (k_at x0 x1 x2 x3 x4 x5 x6 x7 hj d).symm
  rw [et, ea, ← eg_at]
  pointwise [oV]
  rfl
theorem sNew_at {j h : ℕ} (hj : j < 16) (hh : h < 32) (hp : h / 2 = j) (d e : Fin 128) :
    sNewV x0 x1 x2 x3 x4 x5 x7 hj hh (ValueIdx.ix4 0 0 d e) = (inp).sNew ⟨h, hh⟩ d e := by
  have ev := vNew_at x0 x1 x2 x3 x4 x5 x6 x7 hj hh hp e
  subst hp
  unfold In.sNew
  have ek : (inp).kn (pair ⟨h, hh⟩) d = column (kV x0 x2 x3 hj) (ix2 d 0) := by
    rw [column_at]
    exact (k_at x0 x1 x2 x3 x4 x5 x6 x7 hj d).symm
  rw [← ev, ek, ← eg_at, ← s_at]
  pointwise [sNewV]
  rfl
theorem out_at {j h : ℕ} (hj : j < 16) (hh : h < 32) (hp : h / 2 = j) (e : Fin 128) :
    outV x0 x6 hh (oV x0 x1 x2 x3 x4 x5 x7 hj hh) (ix3 0 0 e) = (inp).out ⟨h, hh⟩ e := by
  unfold In.out
  simp only [← o_at x0 x1 x2 x3 x4 x5 x6 x7 hj hh hp]
  rw [← div_eq, ← w_at, ← slicez_at, ← dot_at]
  generalize oV x0 x1 x2 x3 x4 x5 x7 hj hh = o
  pointwise [outV]
  simp only [zero_sub]
  rfl

end vectors

end Cert.GdnStepBody

end
-- ==== Proof.GdnStepOut.lean ====
/-
  One token of the gated delta rule: what the kernel's body stores for a sample, piece by piece, is the closed form of its blocks.
-/
module

public import proofs.«01_k».proof.Defs
public import proofs.«01_k».proof.Proof.GdnStepBody
public import Idealize.ShloMosaic.Lib.Pipeline.ValueKit

@[expose] public section

set_option maxRecDepth 16384

noncomputable section

namespace Cert.GdnStepBody

open Cert.GdnStepIdeal Cert.GdnStepIdeal.Gen Cert.GdnStepForm Cert.GdnStepBody
open Idealize.ShloMosaic hiding ix1 ix2 ix3 eq_ix2
open Idealize.ShloMosaic.TcCoe Idealize.ShloMosaic.ValueIdx Idealize.ShloMosaic.Tactic Idealize.SL.Sem
open Idealize.ShloMosaic.Pipeline (Dat)

section pieces

variable (x0 : Vec Ideal S1x1x12288 .f32) (x1 : Vec Ideal S1x1x64 .f32) (x2 : Vec Ideal S1x3x8192 .f32) (x3 : Vec Ideal S4x8192 .f32)
  (x4 x5 : Vec Ideal S1x64 .f32) (x6 : Vec Ideal S1x128 .f32) (x7 : Vec Ideal S1x32x128x128 .f32)

local notation "inp" => ofBlocks x0 x1 x2 x3 x4 x5 x6 x7

/-- A head's piece of the memories. -/
theorem sPiece (j' h' : ℕ) (hj : j' < 16) (hh : h' < 32) (hp : h' / 2 = j') {x : S1x1x128x128.Idx} {h : Fin 32} {d e : Fin 128}
    (h1 : h.val = h' + (x 1).val) (h2 : d.val = (x 2).val) (h3 : e.val = (x 3).val) :
    sNewV x0 x1 x2 x3 x4 x5 x7 hj hh x = (inp).sNew h d e := by
  have z0 : x 0 = (0 : Fin 1) := Fin.ext (Nat.lt_one_iff.mp (x 0).isLt)
  have z1 : x 1 = (0 : Fin 1) := Fin.ext (Nat.lt_one_iff.mp (x 1).isLt)
  have eh : h = ⟨h', hh⟩ := Fin.ext (by rw [h1, z1]; rfl)
  have ex : x = ValueIdx.ix4 0 0 d e := by
    refine (ValueIdx.eq_ix4 x).trans ?_
    rw [z0, z1, show x 2 = d from Fin.ext h2.symm, show x 3 = e from Fin.ext h3.symm]
    rfl
  rw [ex, eh]
  exact sNew_at x0 x1 x2 x3 x4 x5 x6 x7 hj hh hp d e

/-- A head's 128 columns of the readings. -/
theorem oPiece (j' h' : ℕ) (hj : j' < 16) (hh : h' < 32) (hp : h' / 2 = j') {x : S1x1x128.Idx} {q : Fin 4096}
    (h2 : q.val = 128 * h' + (x 2).val) :
    outV x0 x6 hh (oV x0 x1 x2 x3 x4 x5 x7 hj hh) x
      = (inp).out ⟨q.val / 128, Nat.div_lt_of_lt_mul q.isLt⟩ ⟨q.val % 128, Nat.mod_lt _ (by decide)⟩ := by
  have hx : (x 2).val < 128 := (x 2).isLt
  have z0 : x 0 = (0 : Fin 1) := Fin.ext (Nat.lt_one_iff.mp (x 0).isLt)
  have z1 : x 1 = (0 : Fin 1) := Fin.ext (Nat.lt_one_iff.mp (x 1).isLt)
  have eh : (⟨q.val / 128, Nat.div_lt_of_lt_mul q.isLt⟩ : Fin 32) = ⟨h', hh⟩ := Fin.ext (by show q.val / 128 = h'; omega)
  have ee : (⟨q.val % 128, Nat.mod_lt _ (by decide)⟩ : Fin 128) = x 2 := Fin.ext (by show q.val % 128 = (x 2).val; omega)
  have ex : x = ix3 0 0 (x 2) := by
    refine (ValueIdx.eq_ix3 x).trans ?_
    rw [z0, z1]
    rfl
  rw [eh, ee]
  exact (congrArg _ ex).trans (out_at x0 x1 x2 x3 x4 x5 x6 x7 hj hh hp (x 2))

/-- What the body leaves: the buffer moved on. -/
theorem out_buf (r : Fin 3) (q : Fin 8192) : out0_9 x0 x1 x2 x3 x4 x5 x6 x7 (ix3 0 r q) = (inp).bufNew r q := by
  have e : out0_9 x0 x1 x2 x3 x4 x5 x6 x7 = k0_pay7 (View.ld x0 r0_0) (View.ld x2 r0_1) := by
    funext i
    unfold out0_9
    frame_out
  rw [e]
  unfold In.bufNew
  by_cases hr : r.val < 2
  · rw [dif_pos hr]
    obtain ⟨p, hp⟩ := r
    replace hr : p < 2 := hr
    interval_cases p
    all_goals
      pointwise [k0_pay7, k0_pay5, k0_pay4, k0_pay3, ofBlocks]
      rfl
  · rw [dif_neg hr]
    obtain rfl : r = 2 := Fin.ext (by show r.val = 2; omega)
    pointwise [k0_pay7, k0_pay5, k0_pay4, k0_pay3, In.row, ofBlocks]
    rfl

set_option maxHeartbeats 4000000 in
/-- Its row of readings, 32 pieces. -/
theorem out_o (q : Fin 4096) : out0_8 x0 x1 x2 x3 x4 x5 x6 x7 (ix3 0 0 q)
    = (inp).out ⟨q.val / 128, Nat.div_lt_of_lt_mul q.isLt⟩ ⟨q.val % 128, Nat.mod_lt _ (by decide)⟩ := by
  canon_tiles x t
  all_goals
    simp only [show ((ix3 (0 : Fin 1) (0 : Fin 1) q 2 : Fin _) : ℕ) = q.val from rfl] at t2
  · have e := oPiece x0 x1 x2 x3 x4 x5 x6 x7 15 31 (by decide) (by decide) rfl (x := x) (q := q) t2; exact e
  · have e := oPiece x0 x1 x2 x3 x4 x5 x6 x7 15 30 (by decide) (by decide) rfl (x := x) (q := q) t2; exact e
  · have e := oPiece x0 x1 x2 x3 x4 x5 x6 x7 14 29 (by decide) (by decide) rfl (x := x) (q := q) t2; exact e
  · have e := oPiece x0 x1 x2 x3 x4 x5 x6 x7 14 28 (by decide) (by decide) rfl (x := x) (q := q) t2; exact e
  · have e := oPiece x0 x1 x2 x3 x4 x5 x6 x7 13 27 (by decide) (by decide) rfl (x := x) (q := q) t2; exact e
  · have e := oPiece x0 x1 x2 x3 x4 x5 x6 x7 13 26 (by decide) (by decide) rfl (x := x) (q := q) t2; exact e
  · have e := oPiece x0 x1 x2 x3 x4 x5 x6 x7 12 25 (by decide) (by decide) rfl (x := x) (q := q) t2; exact e
  · have e := oPiece x0 x1 x2 x3 x4 x5 x6 x7 12 24 (by decide) (by decide) rfl (x := x) (q := q) t2; exact e
  · have e := oPiece x0 x1 x2 x3 x4 x5 x6 x7 11 23 (by decide) (by decide) rfl (x := x) (q := q) t2; exact e
  · have e := oPiece x0 x1 x2 x3 x4 x5 x6 x7 11 22 (by decide) (by decide) rfl (x := x) (q := q) t2; exact e
  · have e := oPiece x0 x1 x2 x3 x4 x5 x6 x7 10 21 (by decide) (by decide) rfl (x := x) (q := q) t2; exact e
  · have e := oPiece x0 x1 x2 x3 x4 x5 x6 x7 10 20 (by decide) (by decide) rfl (x := x) (q := q) t2; exact e
  · have e := oPiece x0 x1 x2 x3 x4 x5 x6 x7 9 19 (by decide) (by decide) rfl (x := x) (q := q) t2; exact e
  · have e := oPiece x0 x1 x2 x3 x4 x5 x6 x7 9 18 (by decide) (by decide) rfl (x := x) (q := q) t2; exact e
  · have e := oPiece x0 x1 x2 x3 x4 x5 x6 x7 8 17 (by decide) (by decide) rfl (x := x) (q := q) t2; exact e
  · have e := oPiece x0 x1 x2 x3 x4 x5 x6 x7 8 16 (by decide) (by decide) rfl (x := x) (q := q) t2; exact e
  · have e := oPiece x0 x1 x2 x3 x4 x5 x6 x7 7 15 (by decide) (by decide) rfl (x := x) (q := q) t2; exact e
  · have e := oPiece x0 x1 x2 x3 x4 x5 x6 x7 7 14 (by decide) (by decide) rfl (x := x) (q := q) t2; exact e
  · have e := oPiece x0 x1 x2 x3 x4 x5 x6 x7 6 13 (by decide) (by decide) rfl (x := x) (q := q) t2; exact e
  · have e := oPiece x0 x1 x2 x3 x4 x5 x6 x7 6 12 (by decide) (by decide) rfl (x := x) (q := q) t2; exact e
  · have e := oPiece x0 x1 x2 x3 x4 x5 x6 x7 5 11 (by decide) (by decide) rfl (x := x) (q := q) t2; exact e
  · have e := oPiece x0 x1 x2 x3 x4 x5 x6 x7 5 10 (by decide) (by decide) rfl (x := x) (q := q) t2; exact e
  · have e := oPiece x0 x1 x2 x3 x4 x5 x6 x7 4 9 (by decide) (by decide) rfl (x := x) (q := q) t2; exact e
  · have e := oPiece x0 x1 x2 x3 x4 x5 x6 x7 4 8 (by decide) (by decide) rfl (x := x) (q := q) t2; exact e
  · have e := oPiece x0 x1 x2 x3 x4 x5 x6 x7 3 7 (by decide) (by decide) rfl (x := x) (q := q) t2; exact e
  · have e := oPiece x0 x1 x2 x3 x4 x5 x6 x7 3 6 (by decide) (by decide) rfl (x := x) (q := q) t2; exact e
  · have e := oPiece x0 x1 x2 x3 x4 x5 x6 x7 2 5 (by decide) (by decide) rfl (x := x) (q := q) t2; exact e
  · have e := oPiece x0 x1 x2 x3 x4 x5 x6 x7 2 4 (by decide) (by decide) rfl (x := x) (q := q) t2; exact e
  · have e := oPiece x0 x1 x2 x3 x4 x5 x6 x7 1 3 (by decide) (by decide) rfl (x := x) (q := q) t2; exact e
  · have e := oPiece x0 x1 x2 x3 x4 x5 x6 x7 1 2 (by decide) (by decide) rfl (x := x) (q := q) t2; exact e
  · have e := oPiece x0 x1 x2 x3 x4 x5 x6 x7 0 1 (by decide) (by decide) rfl (x := x) (q := q) t2; exact e
  · have e := oPiece x0 x1 x2 x3 x4 x5 x6 x7 0 0 (by decide) (by decide) rfl (x := x) (q := q) (by omega); exact e

set_option maxHeartbeats 4000000 in
/-- Its memories, 32 pieces. -/
theorem out_s (h : Fin 32) (d e : Fin 128) : out0_10 x0 x1 x2 x3 x4 x5 x6 x7 (ValueIdx.ix4 0 h d e) = (inp).sNew h d e := by
  canon_tiles x t
  all_goals
    simp only [show ((ValueIdx.ix4 (0 : Fin 1) h d e 1 : Fin _) : ℕ) = h.val from rfl] at t1
    replace t2 : d.val = (x 2).val := t2
    replace t3 : e.val = (x 3).val := t3
  · have e := sPiece x0 x1 x2 x3 x4 x5 x6 x7 15 31 (by decide) (by decide) rfl (x := x) t1 t2 t3; exact e
  · have e := sPiece x0 x1 x2 x3 x4 x5 x6 x7 15 30 (by decide) (by decide) rfl (x := x) t1 t2 t3; exact e
  · have e := sPiece x0 x1 x2 x3 x4 x5 x6 x7 14 29 (by decide) (by decide) rfl (x := x) t1 t2 t3; exact e
  · have e := sPiece x0 x1 x2 x3 x4 x5 x6 x7 14 28 (by decide) (by decide) rfl (x := x) t1 t2 t3; exact e
  · have e := sPiece x0 x1 x2 x3 x4 x5 x6 x7 13 27 (by decide) (by decide) rfl (x := x) t1 t2 t3; exact e
  · have e := sPiece x0 x1 x2 x3 x4 x5 x6 x7 13 26 (by decide) (by decide) rfl (x := x) t1 t2 t3; exact e
  · have e := sPiece x0 x1 x2 x3 x4 x5 x6 x7 12 25 (by decide) (by decide) rfl (x := x) t1 t2 t3; exact e
  · have e := sPiece x0 x1 x2 x3 x4 x5 x6 x7 12 24 (by decide) (by decide) rfl (x := x) t1 t2 t3; exact e
  · have e := sPiece x0 x1 x2 x3 x4 x5 x6 x7 11 23 (by decide) (by decide) rfl (x := x) t1 t2 t3; exact e
  · have e := sPiece x0 x1 x2 x3 x4 x5 x6 x7 11 22 (by decide) (by decide) rfl (x := x) t1 t2 t3; exact e
  · have e := sPiece x0 x1 x2 x3 x4 x5 x6 x7 10 21 (by decide) (by decide) rfl (x := x) t1 t2 t3; exact e
  · have e := sPiece x0 x1 x2 x3 x4 x5 x6 x7 10 20 (by decide) (by decide) rfl (x := x) t1 t2 t3; exact e
  · have e := sPiece x0 x1 x2 x3 x4 x5 x6 x7 9 19 (by decide) (by decide) rfl (x := x) t1 t2 t3; exact e
  · have e := sPiece x0 x1 x2 x3 x4 x5 x6 x7 9 18 (by decide) (by decide) rfl (x := x) t1 t2 t3; exact e
  · have e := sPiece x0 x1 x2 x3 x4 x5 x6 x7 8 17 (by decide) (by decide) rfl (x := x) t1 t2 t3; exact e
  · have e := sPiece x0 x1 x2 x3 x4 x5 x6 x7 8 16 (by decide) (by decide) rfl (x := x) t1 t2 t3; exact e
  · have e := sPiece x0 x1 x2 x3 x4 x5 x6 x7 7 15 (by decide) (by decide) rfl (x := x) t1 t2 t3; exact e
  · have e := sPiece x0 x1 x2 x3 x4 x5 x6 x7 7 14 (by decide) (by decide) rfl (x := x) t1 t2 t3; exact e
  · have e := sPiece x0 x1 x2 x3 x4 x5 x6 x7 6 13 (by decide) (by decide) rfl (x := x) t1 t2 t3; exact e
  · have e := sPiece x0 x1 x2 x3 x4 x5 x6 x7 6 12 (by decide) (by decide) rfl (x := x) t1 t2 t3; exact e
  · have e := sPiece x0 x1 x2 x3 x4 x5 x6 x7 5 11 (by decide) (by decide) rfl (x := x) t1 t2 t3; exact e
  · have e := sPiece x0 x1 x2 x3 x4 x5 x6 x7 5 10 (by decide) (by decide) rfl (x := x) t1 t2 t3; exact e
  · have e := sPiece x0 x1 x2 x3 x4 x5 x6 x7 4 9 (by decide) (by decide) rfl (x := x) t1 t2 t3; exact e
  · have e := sPiece x0 x1 x2 x3 x4 x5 x6 x7 4 8 (by decide) (by decide) rfl (x := x) t1 t2 t3; exact e
  · have e := sPiece x0 x1 x2 x3 x4 x5 x6 x7 3 7 (by decide) (by decide) rfl (x := x) t1 t2 t3; exact e
  · have e := sPiece x0 x1 x2 x3 x4 x5 x6 x7 3 6 (by decide) (by decide) rfl (x := x) t1 t2 t3; exact e
  · have e := sPiece x0 x1 x2 x3 x4 x5 x6 x7 2 5 (by decide) (by decide) rfl (x := x) t1 t2 t3; exact e
  · have e := sPiece x0 x1 x2 x3 x4 x5 x6 x7 2 4 (by decide) (by decide) rfl (x := x) t1 t2 t3; exact e
  · have e := sPiece x0 x1 x2 x3 x4 x5 x6 x7 1 3 (by decide) (by decide) rfl (x := x) t1 t2 t3; exact e
  · have e := sPiece x0 x1 x2 x3 x4 x5 x6 x7 1 2 (by decide) (by decide) rfl (x := x) t1 t2 t3; exact e
  · have e := sPiece x0 x1 x2 x3 x4 x5 x6 x7 0 1 (by decide) (by decide) rfl (x := x) t1 t2 t3; exact e
  · have e := sPiece x0 x1 x2 x3 x4 x5 x6 x7 0 0 (by decide) (by decide) rfl (x := x) (h := h) (by omega) t2 t3; exact e

end pieces

end Cert.GdnStepBody

end
-- ==== Proof.GdnStepRef.lean ====
/-
  One token of the gated delta rule: the reference, operation by operation, is the closed form of each sample's inputs.
-/
module

public import proofs.«01_k».proof.Defs
public import proofs.«01_k».proof.Proof.GdnStepForm
public import proofs.«01_k».proof.Proof.Gen.GdnStepRefIdeal.Read
public import Idealize.ShloMosaic.Lib.Pointwise

@[expose] public section

set_option maxRecDepth 16384

noncomputable section

namespace Cert.GdnStepForm

open Idealize.ShloMosaic hiding ix1 ix2 ix3 eq_ix2
open Idealize.ShloMosaic.ValueIdx
open Cert.GdnStepRefIdeal Cert.GdnStepRefIdeal.Read

variable (x0 : S8x12288.Idx → EReal) (x1 : S8x64.Idx → EReal) (x2 : S8x3x8192.Idx → EReal) (x3 : S4x8192.Idx → EReal)
  (x4 x5 : S32.Idx → EReal) (x6 : S128.Idx → EReal) (x7 : S8x32x128x128.Idx → EReal)

/-- A sample's inputs read from the call's arguments. -/
def ofArgs (b : Fin 8) : In where
  x q := x0 (ix2 b q)
  bt h := x1 (ix2 b ⟨h.val, by omega⟩)
  gt h := x1 (ix2 b ⟨32 + h.val, by omega⟩) + x5 (ix1 h)
  al h := x4 (ix1 h)
  buf r q := x2 (ix3 b r q)
  cw r q := x3 (ix2 r q)
  w e := x6 (ix1 e)
  s h d e := x7 (ValueIdx.ix4 b h d e)

/-- The rows of readings. -/
def outArr (a : Fin 8 → In) : S8x4096.Idx → EReal := fun i =>
  (a (i 0)).out ⟨(i 1).val / 128, Nat.div_lt_of_lt_mul (i 1).isLt⟩ ⟨(i 1).val % 128, Nat.mod_lt _ (by decide)⟩
/-- The memories. -/
def sArr (a : Fin 8 → In) : S8x32x128x128.Idx → EReal := fun i => (a (i 0)).sNew (i 1) (i 2) (i 3)
/-- The buffers. -/
def bufArr (a : Fin 8 → In) : S8x3x8192.Idx → EReal := fun i => (a (i 0)).bufNew (i 1) (i 2)

local notation "inp" => ofArgs x0 x1 x2 x3 x4 x5 x6 x7

/-- The buffered rows and the row after them. -/
theorem ref_ext (b : Fin 8) (r : Fin 4) (q : Fin 8192) :
    val_main_v3 (F := Ideal) x0 x2 (ix3 b r q) = if hr : r.val < 3 then (inp b).buf ⟨r.val, hr⟩ q else (inp b).row q := by
  by_cases hr : r.val < 3
  · rw [dif_pos hr]
    pointwise [val_main_v3, ofArgs]
    rw [dif_pos hr]
    rfl
  · rw [dif_neg hr]
    obtain rfl : r = 3 := Fin.ext (by show r.val = 3; omega)
    pointwise [val_main_v3, val_main_v2, val_main_v0, ofArgs, In.row]
    rfl

/-- The reference's buffer. -/
theorem ref_buf : val_main_v32 (F := Ideal) x0 x2 = bufArr inp := by
  funext i
  obtain ⟨b, r, q, rfl⟩ : ∃ (b : Fin 8) (r : Fin 3) (q : Fin 8192), i = ix3 b r q := ⟨i 0, i 1, i 2, ValueIdx.eq_ix3 i⟩
  have e : val_main_v32 (F := Ideal) x0 x2 (ix3 b r q) = val_main_v3 (F := Ideal) x0 x2 (ix3 b ⟨1 + r.val, by omega⟩ q) := by
    pointwise [val_main_v32]
    rfl
  rw [e, ref_ext x0 x1 x2 x3 x4 x5 x6 x7]
  show _ = (inp b).bufNew r q
  unfold In.bufNew
  by_cases hr : r.val < 2
  · rw [dif_pos hr, dif_pos (by show 1 + r.val < 3; omega)]
    exact congrArg (fun k => (inp b).buf k q) (Fin.ext (Nat.add_comm _ _))
  · rw [dif_neg hr, dif_neg (by show ¬ 1 + r.val < 3; omega)]

/-- Its convolution. -/
theorem ref_conv (b : Fin 8) (q : Fin 8192) : val_main_v30 (F := Ideal) x0 x2 x3 (ix3 b 0 q) = (inp b).conv q := by
  unfold In.conv
  have e0 : (inp b).buf 0 q = val_main_v3 (F := Ideal) x0 x2 (ix3 b 0 q) := (ref_ext x0 x1 x2 x3 x4 x5 x6 x7 b 0 q).symm
  have e1 : (inp b).buf 1 q = val_main_v3 (F := Ideal) x0 x2 (ix3 b 1 q) := (ref_ext x0 x1 x2 x3 x4 x5 x6 x7 b 1 q).symm
  have e2 : (inp b).buf 2 q = val_main_v3 (F := Ideal) x0 x2 (ix3 b 2 q) := (ref_ext x0 x1 x2 x3 x4 x5 x6 x7 b 2 q).symm
  have e3 : (inp b).row q = val_main_v3 (F := Ideal) x0 x2 (ix3 b 3 q) := (ref_ext x0 x1 x2 x3 x4 x5 x6 x7 b 3 q).symm
  rw [e0, e1, e2, e3]
  generalize hv : val_main_v3 (F := Ideal) x0 x2 = v
  pointwise [val_main_v30, val_main_v29, val_main_v28, val_main_v27, val_main_v26, val_main_v25, val_main_v24, val_main_v23, val_main_v22,
    val_main_v21, val_main_v20, val_main_v19, val_main_v18, val_main_v17, val_main_v16, val_main_v15, val_main_v14, val_main_v13, val_main_v12,
    val_main_v11, val_main_v10, val_main_v9, val_main_v8, val_main_v7, val_main_v6, val_main_v5, val_main_v4, ofArgs, hv]
  rfl
/-- It activated. -/
theorem ref_y (b : Fin 8) (q : Fin 8192) : val_main_v31 (F := Ideal) x0 x2 x3 (ix3 b 0 q) = (inp b).y q := by
  unfold In.y
  rw [← ref_conv]
  generalize hv : val_main_v30 (F := Ideal) x0 x2 x3 = v
  pointwise [val_main_v31, val_main_call0_v5, val_main_call0_v4, val_main_call0_cst_0, val_main_call0_v3, val_main_call0_v2, val_main_call0_cst,
    val_main_call0_v1, val_main_call0_v0, sigmoid, hv]

/-- Its queries, keys and values before the norms. -/
theorem ref_q0 (b : Fin 8) (j : Fin 16) (d : Fin 128) : val_main_v36 (F := Ideal) x0 x2 x3 (ix3 b j d) = (inp b).q j d := by
  unfold In.q
  rw [← ref_y]
  generalize hv : val_main_v31 (F := Ideal) x0 x2 x3 = v
  pointwise [val_main_v36, val_main_v33, hv]
  rfl
theorem ref_k0 (b : Fin 8) (j : Fin 16) (d : Fin 128) : val_main_v49 (F := Ideal) x0 x2 x3 (ix3 b j d) = (inp b).k j d := by
  unfold In.k
  rw [← ref_y]
  generalize hv : val_main_v31 (F := Ideal) x0 x2 x3 = v
  pointwise [val_main_v49, val_main_v34, hv]
  rfl
theorem ref_v (b : Fin 8) (h : Fin 32) (e : Fin 128) : val_main_v60 (F := Ideal) x0 x2 x3 (ix3 b h e) = (inp b).v h e := by
  unfold In.v
  rw [← ref_y]
  generalize hv : val_main_v31 (F := Ideal) x0 x2 x3 = v
  pointwise [val_main_v60, val_main_v35, hv]
  rfl
/-- Its queries and keys. -/
theorem ref_q1 (b : Fin 8) (j : Fin 16) (d : Fin 128) : val_main_v46 (F := Ideal) x0 x2 x3 (ix3 b j d) = (inp b).qn j d := by
  unfold In.qn
  simp only [← ref_q0]
  generalize hv : val_main_v36 (F := Ideal) x0 x2 x3 = v
  pointwise [val_main_v46, val_main_v45, val_main_cst_1, val_main_v44, val_main_v43, val_main_v42, val_main_v41, val_main_v40, val_main_cst_0,
    val_main_v39, val_main_v38, val_main_cst, val_main_v37, hv]
  rfl
theorem ref_k1 (b : Fin 8) (j : Fin 16) (d : Fin 128) : val_main_v57 (F := Ideal) x0 x2 x3 (ix3 b j d) = (inp b).kn j d := by
  unfold In.kn
  simp only [← ref_k0]
  generalize hv : val_main_v49 (F := Ideal) x0 x2 x3 = v
  pointwise [val_main_v57, val_main_v56, val_main_v55, val_main_v54, val_main_v53, val_main_cst_3, val_main_v52, val_main_v51, val_main_cst_2,
    val_main_v50, hv]
  rfl
theorem ref_q (b : Fin 8) (h : Fin 32) (d : Fin 128) : val_main_v48 (F := Ideal) x0 x2 x3 (ix3 b h d) = (inp b).qn (pair h) d := by
  rw [← ref_q1]
  generalize hv : val_main_v46 (F := Ideal) x0 x2 x3 = v
  pointwise [val_main_v48, val_main_v47, hv]
  rfl
theorem ref_k (b : Fin 8) (h : Fin 32) (d : Fin 128) : val_main_v59 (F := Ideal) x0 x2 x3 (ix3 b h d) = (inp b).kn (pair h) d := by
  rw [← ref_k1]
  generalize hv : val_main_v57 (F := Ideal) x0 x2 x3 = v
  pointwise [val_main_v59, val_main_v58, hv]
  rfl

/-- Its gates. -/
theorem ref_beta (b : Fin 8) (h : Fin 32) : val_main_v67 (F := Ideal) x1 (ix2 b h) = (inp b).beta h := by
  unfold In.beta sigmoid
  pointwise [val_main_v67, val_main_v66, val_main_cst_5, val_main_v65, val_main_v64, val_main_cst_4, val_main_v63, val_main_v62, val_main_v61, ofArgs]
  rfl
theorem ref_g (b : Fin 8) (h : Fin 32) : val_main_v77 (F := Ideal) x1 x4 x5 (ix2 b h) = (inp b).g h := by
  unfold In.g softplus
  pointwise [val_main_v77, val_main_v76, val_main_v75, val_main_v74, val_main_call1_v11, val_main_call1_v10, val_main_call1_v9, val_main_call1_v8,
    val_main_call1_v7, val_main_call1_v6, val_main_call1_v5, val_main_call1_v4, val_main_call1_v3, val_main_call1_v2, val_main_call1_v1,
    val_main_call1_v0, val_main_call1_cst, val_main_v73, val_main_v72, val_main_v71, val_main_v70, val_main_v69, val_main_v68, ofArgs]
  rw [if_neg (not_not.mpr rfl)]
  rfl

/-- Its corrected value. -/
theorem ref_vNew (b : Fin 8) (h : Fin 32) (e : Fin 128) :
    val_main_v89 (F := Ideal) x0 x1 x2 x3 x4 x5 x7 (ix3 b h e) = (inp b).vNew h e := by
  unfold In.vNew In.eg
  simp only [← ref_k, ← ref_beta, ← ref_g, ← ref_v]
  generalize hk : val_main_v59 (F := Ideal) x0 x2 x3 = k
  generalize hb : val_main_v67 (F := Ideal) x1 = bt
  generalize hg : val_main_v77 (F := Ideal) x1 x4 x5 = g
  generalize hv : val_main_v60 (F := Ideal) x0 x2 x3 = v
  pointwise [val_main_v89, val_main_v88, val_main_v87, val_main_v86, val_main_v85, val_main_v84, val_main_v83, val_main_v82, val_main_v81,
    val_main_v80, val_main_v79, val_main_v78, hk, hb, hg, hv, ofArgs]
  rfl
/-- Its reading. -/
theorem ref_o (b : Fin 8) (h : Fin 32) (e : Fin 128) :
    val_main_v99 (F := Ideal) x0 x1 x2 x3 x4 x5 x7 (ix3 b h e) = (inp b).o h e := by
  unfold In.o In.eg In.attn
  simp only [← ref_k, ← ref_q, ← ref_g, ← ref_vNew]
  generalize hk : val_main_v59 (F := Ideal) x0 x2 x3 = k
  generalize hq : val_main_v48 (F := Ideal) x0 x2 x3 = q
  generalize hg : val_main_v77 (F := Ideal) x1 x4 x5 = g
  generalize hv : val_main_v89 (F := Ideal) x0 x1 x2 x3 x4 x5 x7 = v
  pointwise [val_main_v99, val_main_v98, val_main_v97, val_main_v96, val_main_v95, val_main_v94, val_main_v93, val_main_v92, val_main_v91,
    val_main_v90, hk, hq, hg, hv, ofArgs]
  rfl
/-- Its memory. -/
theorem ref_s : val_main_v109 (F := Ideal) x0 x1 x2 x3 x4 x5 x7 = sArr inp := by
  funext i
  obtain ⟨b, h, d, e, rfl⟩ : ∃ (b : Fin 8) (h : Fin 32) (d e : Fin 128), i = ValueIdx.ix4 b h d e := ⟨i 0, i 1, i 2, i 3, ValueIdx.eq_ix4 i⟩
  show _ = (inp b).sNew h d e
  unfold In.sNew In.eg
  rw [← ref_k, ← ref_g, ← ref_vNew]
  generalize hk : val_main_v59 (F := Ideal) x0 x2 x3 = k
  generalize hg : val_main_v77 (F := Ideal) x1 x4 x5 = g
  generalize hv : val_main_v89 (F := Ideal) x0 x1 x2 x3 x4 x5 x7 = v
  pointwise [val_main_v109, val_main_v108, val_main_v107, val_main_v106, val_main_v105, val_main_v104, val_main_v103, val_main_v102, val_main_v101,
    val_main_v100, hk, hg, hv, ofArgs]
  rfl
/-- Its reading normalised and gated. -/
theorem ref_gated (b : Fin 8) (h : Fin 32) (e : Fin 128) :
    val_main_v125 (F := Ideal) x0 x1 x2 x3 x4 x5 x6 x7 (ix3 b h e) = (inp b).out h e := by
  unfold In.out sigmoid
  simp only [← ref_o]
  have ez : (inp b).z h e = val_main_v123 (F := Ideal) x0 (ix3 b h e) := by
    symm
    pointwise [val_main_v123, val_main_v1, In.z, ofArgs]
    rfl
  rw [ez]
  generalize ho : val_main_v99 (F := Ideal) x0 x1 x2 x3 x4 x5 x7 = o
  generalize hz : val_main_v123 (F := Ideal) x0 = z
  pointwise [val_main_v125, val_main_v124, val_main_call2_v5, val_main_call2_v4, val_main_call2_cst_0, val_main_call2_v3, val_main_call2_v2,
    val_main_call2_cst, val_main_call2_v1, val_main_call2_v0, val_main_v122, val_main_v121, val_main_v120, val_main_v119, val_main_v118,
    val_main_v117, val_main_v116, val_main_v115, val_main_cst_8, val_main_v114, val_main_v113, val_main_cst_7, val_main_v112, val_main_v111,
    val_main_cst_6, val_main_v110, ho, hz, ofArgs]
  rfl
/-- Its rows of readings. -/
theorem ref_out : val_main_v126 (F := Ideal) x0 x1 x2 x3 x4 x5 x6 x7 = outArr inp := by
  funext i
  obtain ⟨b, q, rfl⟩ : ∃ (b : Fin 8) (q : Fin 4096), i = ix2 b q := ⟨i 0, i 1, eq_ix2 i⟩
  show _ = (inp b).out ⟨q.val / 128, Nat.div_lt_of_lt_mul q.isLt⟩ ⟨q.val % 128, Nat.mod_lt _ (by decide)⟩
  rw [← ref_gated]
  generalize hv : val_main_v125 (F := Ideal) x0 x1 x2 x3 x4 x5 x6 x7 = v
  pointwise [val_main_v126, hv]
  rfl

end Cert.GdnStepForm

end
-- ==== Proof.GdnStepValue.lean ====
/-
  One token of the gated delta rule: the blocks of a grid point are a sample's arguments, so kernel and reference leave the same
  three arrays: the rows of readings, the memories and the buffers.
-/
module

public import proofs.«01_k».proof.Defs
public import proofs.«01_k».proof.Proof.GdnStepOut
public import proofs.«01_k».proof.Proof.GdnStepRef
public import proofs.«01_k».proof.Proof.Gen.GdnStep.Frame
public import Idealize.ShloMosaic.Lib.Pipeline.ValueKit

@[expose] public section

set_option maxRecDepth 16384

noncomputable section

namespace Cert.GdnStepProof

open Cert.GdnStepIdeal Cert.GdnStepIdeal.Gen Cert.GdnStepForm Cert.GdnStepBody
open Idealize.ShloMosaic hiding ix1 ix2 ix3 eq_ix2
open Idealize.ShloMosaic.TcCoe Idealize.ShloMosaic.ValueIdx Idealize.ShloMosaic.Tactic Idealize.SL.Sem
open Idealize.ShloMosaic.Pipeline (Dat)

variable (m : (ℓ : Loc nD τ sig) → Buf (Elt Ideal) ℓ)

/-- The decay's rates and offsets as the host lays them out, after the zeros of the correction's lanes. -/
theorem V_2 (c : Dev nD) (h : Fin 32) : V m c main_v2 (ix2 0 ⟨32 + h.val, by omega⟩) = m ((c : Thread nD τ).loc main_arg4) (ix1 h) := by
  have e : V m c main_v2 = shapeCast S1x64 (concatenate S64 0 [⟨S32, (broadcastInDim S32 ![] bcast_S_S32 (constant S_ .f32 0x00000000#32 : FVec Ideal S_ .f32) : FVec Ideal S32 .f32)⟩,
      ⟨S32, (m ((c : Thread nD τ).loc main_arg4) : FVec Ideal S32 .f32)⟩] concatenates_S32_S32_S64_d0) shapeCasts_S64_S1x64 := by
    funext j; rfl
  rw [e]
  pointwise []
  rfl
theorem V_4 (c : Dev nD) (h : Fin 32) : V m c main_v4 (ix2 0 ⟨32 + h.val, by omega⟩) = m ((c : Thread nD τ).loc main_arg5) (ix1 h) := by
  have e : V m c main_v4 = shapeCast S1x64 (concatenate S64 0 [⟨S32, (broadcastInDim S32 ![] bcast_S_S32 (constant S_ .f32 0x00000000#32 : FVec Ideal S_ .f32) : FVec Ideal S32 .f32)⟩,
      ⟨S32, (m ((c : Thread nD τ).loc main_arg5) : FVec Ideal S32 .f32)⟩] concatenates_S32_S32_S64_d0) shapeCasts_S64_S1x64 := by
    funext j; rfl
  rw [e]
  pointwise []
  rfl
theorem V_5 (c : Dev nD) (b : Fin 8) (q : Fin 12288) : V m c main_v5 (ix3 b 0 q) = m ((c : Thread nD τ).loc main_arg0) (ix2 b q) := by
  have e : V m c main_v5 = shapeCast S8x1x12288 (m ((c : Thread nD τ).loc main_arg0) : FVec Ideal S8x12288 .f32) shapeCasts_S8x12288_S8x1x12288 := by
    funext j; rfl
  rw [e]
  refine shapeCast_apply (s := S8x12288) _ _ _ _ ?_
  rw [Shape.rowMajor_val_two, Shape.rowMajor_val_three]
  show b.val * 12288 + q.val = (b.val * 1 + 0) * 12288 + q.val
  omega
theorem V_6 (c : Dev nD) (b : Fin 8) (q : Fin 64) : V m c main_v6 (ix3 b 0 q) = m ((c : Thread nD τ).loc main_arg1) (ix2 b q) := by
  have e : V m c main_v6 = shapeCast S8x1x64 (m ((c : Thread nD τ).loc main_arg1) : FVec Ideal S8x64 .f32) shapeCasts_S8x64_S8x1x64 := by
    funext j; rfl
  rw [e]
  pointwise []
  rfl
theorem V_7 (c : Dev nD) (e : Fin 128) : V m c main_v7 (ix2 0 e) = m ((c : Thread nD τ).loc main_arg6) (ix1 e) := by
  have e' : V m c main_v7 = shapeCast S1x128 (m ((c : Thread nD τ).loc main_arg6) : FVec Ideal S128 .f32) shapeCasts_S128_S1x128 := by
    funext j; rfl
  rw [e']
  pointwise []
  rfl

/-- The windows: a sample's part of an array, or the array whole. -/
theorem idx0 : ∀ t : Fin cfg0.N, win0_0.index t = ![t.val, 0, 0] := (by decide +kernel : ∀ t : Fin grid0.N, _)
theorem idx1 : ∀ t : Fin cfg0.N, win0_1.index t = ![t.val, 0, 0] := (by decide +kernel : ∀ t : Fin grid0.N, _)
theorem idx2 : ∀ t : Fin cfg0.N, win0_2.index t = ![t.val, 0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![t.val, 0, 0, 0] := (by decide +kernel : ∀ t : Fin grid0.N, _)
theorem idx8 : ∀ t : Fin cfg0.N, win0_8.index t = ![t.val, 0, 0] := (by decide +kernel : ∀ t : Fin grid0.N, _)
theorem idx9 : ∀ t : Fin cfg0.N, win0_9.index t = ![t.val, 0, 0] := (by decide +kernel : ∀ t : Fin grid0.N, _)
theorem idx10 : ∀ t : Fin cfg0.N, win0_10.index t = ![t.val, 0, 0, 0] := (by decide +kernel : ∀ t : Fin grid0.N, _)

/-- A grid point's sample. -/
def smp (t : Fin cfg0.N) : Fin 8 := ⟨t.val, lt_of_lt_of_eq t.isLt (show grid0.N = 8 by decide +kernel)⟩

theorem in0 (c : Dev nD) (t : Fin cfg0.N) (q : Fin 12288) : (iblk m c 0 t : Vec Ideal S1x1x12288 .f32) (ix3 0 0 q)
    = m ((c : Thread nD τ).loc main_arg0) (ix2 (smp t) q) := by
  refine Eq.trans ?_ (V_5 m c (smp t) q)
  blk_simp [iblk]
  refine congrArg (V m c main_v5) ?_
  blk_ext [idx0, smp, ix3_0, ix3_1, ix3_2]
theorem in1 (c : Dev nD) (t : Fin cfg0.N) (q : Fin 64) : (iblk m c 1 t : Vec Ideal S1x1x64 .f32) (ix3 0 0 q)
    = m ((c : Thread nD τ).loc main_arg1) (ix2 (smp t) q) := by
  refine Eq.trans ?_ (V_6 m c (smp t) q)
  blk_simp [iblk]
  refine congrArg (V m c main_v6) ?_
  blk_ext [idx1, smp, ix3_0, ix3_1, ix3_2]
theorem in2 (c : Dev nD) (t : Fin cfg0.N) (r : Fin 3) (q : Fin 8192) : (iblk m c 2 t : Vec Ideal S1x3x8192 .f32) (ix3 0 r q)
    = m ((c : Thread nD τ).loc main_arg2) (ix3 (smp t) r q) := by
  blk_simp [iblk]
  rw [V_main_arg2]
  refine congrArg _ ?_
  blk_ext [idx2, smp, ix3_0, ix3_1, ix3_2]
theorem in3 (c : Dev nD) (t : Fin cfg0.N) : iblk m c 3 t = m ((c : Thread nD τ).loc main_arg3) := by
  funext i
  blk_simp [iblk]
  rw [V_main_arg3]
  refine congrArg _ ?_
  blk_ext [idx3]
theorem in4 (c : Dev nD) (t : Fin cfg0.N) : iblk m c 4 t = V m c main_v2 := by
  funext i
  blk_simp [iblk]
  refine congrArg (V m c main_v2) ?_
  blk_ext [idx4]
theorem in5 (c : Dev nD) (t : Fin cfg0.N) : iblk m c 5 t = V m c main_v4 := by
  funext i
  blk_simp [iblk]
  refine congrArg (V m c main_v4) ?_
  blk_ext [idx5]
theorem in6 (c : Dev nD) (t : Fin cfg0.N) : iblk m c 6 t = V m c main_v7 := by
  funext i
  blk_simp [iblk]
  refine congrArg (V m c main_v7) ?_
  blk_ext [idx6]
theorem in7 (c : Dev nD) (t : Fin cfg0.N) (h : Fin 32) (d e : Fin 128) : (iblk m c 7 t : Vec Ideal S1x32x128x128 .f32) (ValueIdx.ix4 0 h d e)
    = m ((c : Thread nD τ).loc main_arg7) (ValueIdx.ix4 (smp t) h d e) := by
  blk_simp [iblk]
  rw [V_main_arg7]
  refine congrArg _ ?_
  funext a
  apply Fin.ext
  refine (Pipeline.Window.rect_emb_val win0_7 t (ValueIdx.ix4 0 h d e) a (Eq.refl _)).trans ?_
  rw [idx7]
  fin_cases a
  · show t.val * 1 + 0 = t.val
    omega
  · show 0 * 32 + h.val = h.val
    omega
  · show 0 * 128 + d.val = d.val
    omega
  · show 0 * 128 + e.val = e.val
    omega

/-- The samples' inputs read from a device's arguments. -/
def args (c : Dev nD) : Fin 8 → In :=
  ofArgs (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

/-- A grid point's blocks hold its sample's. -/
theorem blocks (c : Dev nD) (t : Fin cfg0.N) :
    ofBlocks (iblk m c 0 t) (iblk m c 1 t) (iblk m c 2 t) (iblk m c 3 t) (iblk m c 4 t) (iblk m c 5 t) (iblk m c 6 t) (iblk m c 7 t)
      = args m c (smp t) := by
  unfold ofBlocks args ofArgs
  rw [in3, in4, in5, in6]
  refine In.mk.injEq .. |>.mpr ⟨?_, ?_, ?_, ?_, ?_, rfl, ?_, ?_⟩
  · funext q
    exact in0 m c t q
  · funext h
    exact in1 m c t _
  · funext h
    exact congrArg₂ (@HAdd.hAdd EReal EReal EReal _) (in1 m c t _) (V_4 m c h)
  · funext h
    exact V_2 m c h
  · funext r q
    exact in2 m c t r q
  · funext e
    exact V_7 m c e
  · funext h d e
    exact in7 m c t h d e

/-- The rows of readings with an axis of one row. -/
def rowsArr (a : Fin 8 → In) : FVec Ideal S8x1x4096 .f32 := fun i =>
  (a (i 0)).out ⟨(i 2).val / 128, Nat.div_lt_of_lt_mul (i 2).isLt⟩ ⟨(i 2).val % 128, Nat.mod_lt _ (by decide)⟩

/-- The results' arrays after the grid. -/
theorem final8 (c : Dev nD) : (dats m 0 c).arrAt 8 cfg0.N = rowsArr (args m c) := by
  refine (dats m 0 c).arrAt_eq_of_covers 8 _ (by decide +kernel) fun t hf y => ?_
  blk_simp
  rw [after0_8]
  obtain ⟨q, rfl⟩ : ∃ q : Fin 4096, y = ix3 0 0 q := ⟨y 2, by
    refine (ValueIdx.eq_ix3 y).trans ?_
    rw [show y 0 = (0 : Fin 1) from Fin.ext (Nat.lt_one_iff.mp (y 0).isLt), show y 1 = (0 : Fin 1) from Fin.ext (Nat.lt_one_iff.mp (y 1).isLt)]
    rfl⟩
  have e : ((View.whole main_v8_0).slice (win0_8.rect t)).emb (ix3 0 0 q) = (ix3 (smp t) 0 q : S8x1x4096.Idx) := by
    blk_ext [idx8, smp, ix3_0, ix3_1, ix3_2]
  rw [out_o, blocks, e]
  rfl
theorem final9 (c : Dev nD) : (dats m 0 c).arrAt 9 cfg0.N = bufArr (args m c) := by
  refine (dats m 0 c).arrAt_eq_of_covers 9 _ (by decide +kernel) fun t hf y => ?_
  blk_simp
  rw [after0_9]
  obtain ⟨r, q, rfl⟩ : ∃ (r : Fin 3) (q : Fin 8192), y = ix3 0 r q := ⟨y 1, y 2, by
    refine (ValueIdx.eq_ix3 y).trans ?_
    rw [show y 0 = (0 : Fin 1) from Fin.ext (Nat.lt_one_iff.mp (y 0).isLt)]
    rfl⟩
  have e : ((View.whole main_v8_1).slice (win0_9.rect t)).emb (ix3 0 r q) = (ix3 (smp t) r q : S8x3x8192.Idx) := by
    blk_ext [idx9, smp, ix3_0, ix3_1, ix3_2]
  rw [out_buf, blocks, e]
  rfl
theorem final10 (c : Dev nD) : (dats m 0 c).arrAt 10 cfg0.N = sArr (args m c) := by
  refine (dats m 0 c).arrAt_eq_of_covers 10 _ (by decide +kernel) fun t hf y => ?_
  blk_simp
  rw [after0_10]
  obtain ⟨h, d, k, rfl⟩ : ∃ (h : Fin 32) (d k : Fin 128), y = ValueIdx.ix4 0 h d k := ⟨y 1, y 2, y 3, by
    refine (ValueIdx.eq_ix4 y).trans ?_
    rw [show y 0 = (0 : Fin 1) from Fin.ext (Nat.lt_one_iff.mp (y 0).isLt)]
    rfl⟩
  have e : ((View.whole main_v8_2).slice (win0_10.rect t)).emb (ValueIdx.ix4 0 h d k) = (ValueIdx.ix4 (smp t) h d k : S8x32x128x128.Idx) := by
    funext a
    apply Fin.ext
    refine (Pipeline.Window.rect_emb_val win0_10 t (ValueIdx.ix4 0 h d k) a (Eq.refl _)).trans ?_
    rw [idx10]
    fin_cases a
    · show t.val * 1 + 0 = t.val
      omega
    · show 0 * 32 + h.val = h.val
      omega
    · show 0 * 128 + d.val = d.val
      omega
    · show 0 * 128 + k.val = k.val
      omega
  rw [out_s, blocks, e]
  rfl

/-- The first result is the readings' array without its axis of one row. -/
theorem tail9 (c : Dev nD) : Pipeline.afterTail₀ cfgs (dats m) 0 (V0 m) [hostOps1] c main_v9 = outArr (args m c) := by
  have e : ∀ W : Valuation τ sig (Elt Ideal), StableHlo.after [hostOps1].flatten W (Proc.devRef .tc main_v9)
      = shapeCast S8x4096 (W (Proc.devRef .tc main_v8_0) : FVec Ideal S8x1x4096 .f32) shapeCasts_S8x1x4096_S8x4096 := fun W => by
    funext j
    rfl
  have e' := Pipeline.withArrays_arr spec0 launch0.win.arr_inj c (V0 m c) (fun w => (dats m 0 c).arrAt w cfg0.N) 8
  refine (e _).trans ((congrArg (fun x : FVec Ideal S8x1x4096 .f32 => shapeCast S8x4096 x shapeCasts_S8x1x4096_S8x4096) (e'.trans (final8 m c))).trans ?_)
  funext i
  obtain ⟨b, q, rfl⟩ : ∃ (b : Fin 8) (q : Fin 4096), i = ix2 b q := ⟨i 0, i 1, eq_ix2 i⟩
  pointwise [outArr, rowsArr]

/-- The run, read: the results at the closed form's arrays, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v9) = outArr (args m c)
      ∧ r.2.mem ((c : Thread nD τ).loc main_v8_2) = sArr (args m c)
      ∧ r.2.mem ((c : Thread nD τ).loc main_v8_1) = bufArr (args m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) := by
  refine (θ_run defs _ _).mono (fun r h c => ?_) (θ_run_and (run_main m ρ) (Gen.frame m ρ))
  exact ⟨(h.1.rest_eq c main_v9 (Pipeline.mem_restRefs_of main_v9 (by decide) (by decide))).trans (tail9 m c),
    (h.1.out_eq c 10).trans (final10 m c), (h.1.out_eq c 9).trans (final9 m c), h.2.1 c⟩

/-- Kernel and reference run, and from equal arguments end at the same three arrays. -/
theorem algebraic : Cert.algebraic_GdnStepIdeal_GdnStepRefIdeal (hGdnStepIdeal := GdnStepIdeal.Gen.facts)
    (hGdnStepRefIdeal := GdnStepRefIdeal.Gen.facts) := by
  intro m g m' g' _ hargs
  refine ⟨fun c => outArr (args m c), fun c => sArr (args m c), fun c => bufArr (args m c), run m g, ?_⟩
  refine (θ_run (GdnStepRefIdeal.defs (F := Ideal)) _ _).mono (fun r h c => ?_) (GdnStepRefIdeal.Value.run (F := Ideal) m' g')
  obtain ⟨ho, hs, hb, hrest⟩ := h c
  obtain ⟨a0, a1, a2, a3, a4, a5, a6, a7⟩ := hargs c
  refine ⟨ho.trans ?_, hs.trans ?_, hb.trans ?_, hrest⟩
  · refine (GdnStepRefIdeal.Read.val_main_v126_eq _).trans ?_
    show GdnStepRefIdeal.Read.val_main_v126 (F := Ideal)
      (m' ((c : Thread GdnStepRefIdeal.nD GdnStepRefIdeal.τ).loc GdnStepRefIdeal.main_arg0))
      (m' ((c : Thread GdnStepRefIdeal.nD GdnStepRefIdeal.τ).loc GdnStepRefIdeal.main_arg1))
      (m' ((c : Thread GdnStepRefIdeal.nD GdnStepRefIdeal.τ).loc GdnStepRefIdeal.main_arg2))
      (m' ((c : Thread GdnStepRefIdeal.nD GdnStepRefIdeal.τ).loc GdnStepRefIdeal.main_arg3))
      (m' ((c : Thread GdnStepRefIdeal.nD GdnStepRefIdeal.τ).loc GdnStepRefIdeal.main_arg4))
      (m' ((c : Thread GdnStepRefIdeal.nD GdnStepRefIdeal.τ).loc GdnStepRefIdeal.main_arg5))
      (m' ((c : Thread GdnStepRefIdeal.nD GdnStepRefIdeal.τ).loc GdnStepRefIdeal.main_arg6))
      (m' ((c : Thread GdnStepRefIdeal.nD GdnStepRefIdeal.τ).loc GdnStepRefIdeal.main_arg7)) = outArr (args m c)
    rw [a0, a1, a2, a3, a4, a5, a6, a7]
    exact ref_out _ _ _ _ _ _ _ _
  · refine (GdnStepRefIdeal.Read.val_main_v109_eq _).trans ?_
    show GdnStepRefIdeal.Read.val_main_v109 (F := Ideal)
      (m' ((c : Thread GdnStepRefIdeal.nD GdnStepRefIdeal.τ).loc GdnStepRefIdeal.main_arg0))
      (m' ((c : Thread GdnStepRefIdeal.nD GdnStepRefIdeal.τ).loc GdnStepRefIdeal.main_arg1))
      (m' ((c : Thread GdnStepRefIdeal.nD GdnStepRefIdeal.τ).loc GdnStepRefIdeal.main_arg2))
      (m' ((c : Thread GdnStepRefIdeal.nD GdnStepRefIdeal.τ).loc GdnStepRefIdeal.main_arg3))
      (m' ((c : Thread GdnStepRefIdeal.nD GdnStepRefIdeal.τ).loc GdnStepRefIdeal.main_arg4))
      (m' ((c : Thread GdnStepRefIdeal.nD GdnStepRefIdeal.τ).loc GdnStepRefIdeal.main_arg5))
      (m' ((c : Thread GdnStepRefIdeal.nD GdnStepRefIdeal.τ).loc GdnStepRefIdeal.main_arg7)) = sArr (args m c)
    rw [a0, a1, a2, a3, a4, a5, a7]
    exact ref_s _ _ _ _ _ _ _ _
  · refine (GdnStepRefIdeal.Read.val_main_v32_eq _).trans ?_
    show GdnStepRefIdeal.Read.val_main_v32 (F := Ideal)
      (m' ((c : Thread GdnStepRefIdeal.nD GdnStepRefIdeal.τ).loc GdnStepRefIdeal.main_arg0))
      (m' ((c : Thread GdnStepRefIdeal.nD GdnStepRefIdeal.τ).loc GdnStepRefIdeal.main_arg2)) = bufArr (args m c)
    rw [a0, a2]
    exact ref_buf _ _ _ _ _ _ _ _

/-- The reference's frame: its run, read at the arguments; it has no semaphore. -/
theorem frame_ref : Cert.quiescent_GdnStepRefIdeal (hGdnStepRefIdeal := GdnStepRefIdeal.Gen.facts) := fun m ρ _ =>
  (θ_run GdnStepRefIdeal.defs _ _).mono (fun r h => ⟨fun c => (h c).2.2.2, Idealize.ShloMosaic.sem_eq_zero_of_no_sems (by decide) r.2⟩)
    (GdnStepRefIdeal.Value.run (F := Ideal) m ρ)

end Cert.GdnStepProof

end
-- ==== Proof.lean ====
/-
  The proof of `Cert.Claim`: the programs' stated facts, then for each call the frames of its kernel, of the kernel's ideal
  reading and of its reference, and then for each call that the ideal reading rewrote nothing and that kernel and reference end
  at the same arrays.
-/
module

public import proofs.«01_k».proof.Defs
public import proofs.«01_k».proof.Proof.Gen.Down.Frame
public import proofs.«01_k».proof.Proof.DownValue
public import proofs.«01_k».proof.Proof.Gen.COut.Frame
public import proofs.«01_k».proof.Proof.COutValue
public import proofs.«01_k».proof.Proof.Gen.AbOut.Frame
public import proofs.«01_k».proof.Proof.AbOutValue
public import proofs.«01_k».proof.Proof.Gen.CIn.Frame
public import proofs.«01_k».proof.Proof.CInValue
public import proofs.«01_k».proof.Proof.Gen.AbIn.Frame
public import proofs.«01_k».proof.Proof.AbInValue
public import proofs.«01_k».proof.Proof.Gen.FfnUp.Frame
public import proofs.«01_k».proof.Proof.FfnUpValue
public import proofs.«01_k».proof.Proof.Gen.Prep.Frame
public import proofs.«01_k».proof.Proof.PrepValue
public import proofs.«01_k».proof.Proof.Gen.RopeRows.Frame
public import proofs.«01_k».proof.Proof.RopeRowsValue
public import proofs.«01_k».proof.Proof.Gen.FfnMid.Frame
public import proofs.«01_k».proof.Proof.FfnMidValue
public import proofs.«01_k».proof.Proof.Gen.Final.Frame
public import proofs.«01_k».proof.Proof.FinalValue
public import proofs.«01_k».proof.Proof.Gen.FinalStep.Frame
public import proofs.«01_k».proof.Proof.FinalStepValue
public import proofs.«01_k».proof.Proof.Gen.MlstmStep.Frame
public import proofs.«01_k».proof.Proof.MlstmStepValue
public import proofs.«01_k».proof.Proof.Gen.GdnStep.Frame
public import proofs.«01_k».proof.Proof.GdnStepValue

@[expose] public section

noncomputable section

namespace Cert.Proof

theorem claim : Cert.Claim :=
  ⟨Down.Gen.facts, DownIdeal.Gen.facts, DownRefIdeal.Gen.facts,
    COut.Gen.facts, COutIdeal.Gen.facts, COutRefIdeal.Gen.facts,
    AbOut.Gen.facts, AbOutIdeal.Gen.facts, AbOutRefIdeal.Gen.facts,
    CIn.Gen.facts, CInIdeal.Gen.facts, CInRefIdeal.Gen.facts,
    AbIn.Gen.facts, AbInIdeal.Gen.facts, AbInRefIdeal.Gen.facts,
    FfnUp.Gen.facts, FfnUpIdeal.Gen.facts, FfnUpRefIdeal.Gen.facts,
    Prep.Gen.facts, PrepIdeal.Gen.facts, PrepRefIdeal.Gen.facts,
    RopeRows.Gen.facts, RopeRowsIdeal.Gen.facts, RopeRowsRefIdeal.Gen.facts,
    FfnMid.Gen.facts, FfnMidIdeal.Gen.facts, FfnMidRefIdeal.Gen.facts,
    Final.Gen.facts, FinalIdeal.Gen.facts, FinalRefIdeal.Gen.facts,
    FinalStep.Gen.facts, FinalStepIdeal.Gen.facts, FinalStepRefIdeal.Gen.facts,
    MlstmStep.Gen.facts, MlstmStepIdeal.Gen.facts, MlstmStepRefIdeal.Gen.facts,
    GdnStep.Gen.facts, GdnStepIdeal.Gen.facts, GdnStepRefIdeal.Gen.facts,
    fun m g _ => Down.Gen.frame m g, fun m g _ => DownIdeal.Gen.frame m g, DownProof.frame_ref,
    fun m g _ => COut.Gen.frame m g, fun m g _ => COutIdeal.Gen.frame m g, COutProof.frame_ref,
    fun m g _ => AbOut.Gen.frame m g, fun m g _ => AbOutIdeal.Gen.frame m g, AbOutProof.frame_ref,
    CInProof.frame, CInProof.frame_ideal, CInProof.frame_ref,
    AbInProof.frame, AbInProof.frame_ideal, AbInProof.frame_ref,
    FfnUpProof.frame, FfnUpProof.frame_ideal, FfnUpRefProof.frame_ref,
    fun m g _ => Prep.Gen.frame m g, fun m g _ => PrepIdeal.Gen.frame m g, PrepProof.frame_ref,
    fun m g _ => RopeRows.Gen.frame m g, fun m g _ => RopeRowsIdeal.Gen.frame m g, RopeRowsProof.frame_ref,
    fun m g _ => FfnMid.Gen.frame m g, fun m g _ => FfnMidIdeal.Gen.frame m g, FfnMidProof.frame_ref,
    fun m g _ => Final.Gen.frame m g, fun m g _ => FinalIdeal.Gen.frame m g, FinalProof.frame_ref,
    fun m g _ => FinalStep.Gen.frame m g, fun m g _ => FinalStepIdeal.Gen.frame m g, FinalStepProof.frame_ref,
    fun m g _ => MlstmStep.Gen.frame m g, fun m g _ => MlstmStepIdeal.Gen.frame m g, MlstmStepProof.frame_ref,
    fun m g _ => GdnStep.Gen.frame m g, fun m g _ => GdnStepIdeal.Gen.frame m g, GdnStepProof.frame_ref,
    trivial, DownProof.algebraic,
    trivial, COutProof.algebraic,
    trivial, AbOutProof.algebraic,
    trivial, CInProof.algebraic,
    trivial, AbInProof.algebraic,
    trivial, FfnUpProof.algebraic,
    trivial, PrepProof.algebraic,
    trivial, RopeRowsProof.algebraic,
    trivial, FfnMidProof.algebraic,
    trivial, FinalProof.algebraic,
    trivial, FinalStepProof.algebraic,
    trivial, MlstmStepProof.algebraic,
    trivial, GdnStepProof.algebraic⟩

end Cert.Proof

end
